-- ==== Defs.lean ====
def Pre_Kernel [hPre_prompt_fits : Cert.Pre_prompt_fits.Facts] (m : (ℓ : Loc Cert.Kernel.nD Cert.Kernel.τ Cert.Kernel.sig) → Buf (Elt Bits) ℓ) : Prop :=
  ∀ c : Dev Cert.Kernel.nD,
    (Cert.Pre_prompt_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_prompt_fits : Cert.Pre_prompt_fits.Facts] (m : (ℓ : Loc Cert.KernelIdeal.nD Cert.KernelIdeal.τ Cert.KernelIdeal.sig) → Buf (Elt Ideal) ℓ) : Prop :=
  ∀ c : Dev Cert.KernelIdeal.nD,
    (Cert.Pre_prompt_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prompt_fits [hPre_prompt_fits : Cert.Pre_prompt_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prompt_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_prompt_fits : Cert.Pre_prompt_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_prompt_fits : Cert.Pre_prompt_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_prompt_fits [hReferenceIdeal : Cert.ReferenceIdeal.Facts] [hPre_prompt_fits : Cert.Pre_prompt_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prompt_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "score_scale_log2e" .f32 0x3E0293EE#32 (((11863283 / 134217728) * (Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] [hPre_prompt_fits : Cert.Pre_prompt_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_prompt_fits : Cert.Pre_prompt_fits.Facts),
    quiescent_Kernel (hKernel := hKernel) (hPre_prompt_fits := hPre_prompt_fits)
    ∧ quiescent_KernelIdeal (hKernelIdeal := hKernelIdeal) (hPre_prompt_fits := hPre_prompt_fits)
    ∧ quiescent_ReferenceIdeal (hReferenceIdeal := hReferenceIdeal)
    ∧ quiescent_ReferenceIdeal_pre_prompt_fits (hReferenceIdeal := hReferenceIdeal) (hPre_prompt_fits := hPre_prompt_fits)
    ∧ preserves_Kernel_KernelIdeal
    ∧ algebraic_KernelIdeal_ReferenceIdeal (hKernelIdeal := hKernelIdeal) (hReferenceIdeal := hReferenceIdeal) (hPre_prompt_fits := hPre_prompt_fits)
-- ==== Pre_prompt_fits.lean ====
abbrev S6x2048x64x128 : Shape := ⟨4, ![6, 2048, 64, 128]⟩
abbrev S6x2048x64 : Shape := ⟨3, ![6, 2048, 64]⟩
abbrev S14336x4x128 : Shape := ⟨3, ![14336, 4, 128]⟩
abbrev S14336x4 : Shape := ⟨2, ![14336, 4]⟩
abbrev S6x2048x4x128 : Shape := ⟨4, ![6, 2048, 4, 128]⟩
abbrev S6x2048x4 : Shape := ⟨3, ![6, 2048, 4]⟩
abbrev S1 : Shape := ⟨1, ![1]⟩
abbrev S6 : Shape := ⟨1, ![6]⟩
abbrev S_ : Shape := ⟨0, ![]⟩

class Facts : Prop where
  shapeCasts_S1_S_ : S1.ShapeCasts S_

variable [Facts]

def fn {F : FTy → Type} [FloatOps F] (main_arg0 : FVec F S6x2048x64x128 .fp8e4m3) (main_arg1 : FVec F S6x2048x64 .f32) (main_arg2 : FVec F S14336x4x128 .fp8e4m3) (main_arg3 : FVec F S14336x4x128 .fp8e4m3) (main_arg4 : FVec F S14336x4 .f32) (main_arg5 : FVec F S14336x4 .f32) (main_arg6 : FVec F S6x2048x4x128 .fp8e4m3) (main_arg7 : FVec F S6x2048x4x128 .fp8e4m3) (main_arg8 : FVec F S6x2048x4 .f32) (main_arg9 : FVec F S6x2048x4 .f32) (main_arg10 : IVec S1 32) (main_arg11 : IVec S6 32) : IVec S_ 1 :=
  let main_v0 : IVec S_ 32 := shapeCast S_ main_arg10 shapeCasts_S1_S_
  let main_c : IVec S_ 32 := constantI S_ 32 14336#32
  let main_v1 : IVec S_ 1 := cmpi .sle main_v0 main_c
  main_v1
-- ==== Kernel.lean ====
abbrev S6x2048x64x128 : Shape := ⟨4, ![6, 2048, 64, 128]⟩
abbrev S6x2048x64 : Shape := ⟨3, ![6, 2048, 64]⟩
abbrev S14336x4x128 : Shape := ⟨3, ![14336, 4, 128]⟩
abbrev S14336x4 : Shape := ⟨2, ![14336, 4]⟩
abbrev S6x2048x4x128 : Shape := ⟨4, ![6, 2048, 4, 128]⟩
abbrev S6x2048x4 : Shape := ⟨3, ![6, 2048, 4]⟩
abbrev S1 : Shape := ⟨1, ![1]⟩
abbrev S6 : Shape := ⟨1, ![6]⟩
abbrev S6x2048x4x16x128 : Shape := ⟨5, ![6, 2048, 4, 16, 128]⟩
abbrev S4x6x2048x16x128 : Shape := ⟨5, ![4, 6, 2048, 16, 128]⟩
abbrev S4x6x32768x128 : Shape := ⟨4, ![4, 6, 32768, 128]⟩
abbrev S6x2048x4x16 : Shape := ⟨4, ![6, 2048, 4, 16]⟩
abbrev S4x6x2048x16 : Shape := ⟨4, ![4, 6, 2048, 16]⟩
abbrev S4x6x1x32768 : Shape := ⟨4, ![4, 6, 1, 32768]⟩
abbrev S4x14336x128 : Shape := ⟨3, ![4, 14336, 128]⟩
abbrev S4x128x14336 : Shape := ⟨3, ![4, 128, 14336]⟩
abbrev S4x14336 : Shape := ⟨2, ![4, 14336]⟩
abbrev S4x1x14336 : Shape := ⟨3, ![4, 1, 14336]⟩
abbrev S4x6x2048x128 : Shape := ⟨4, ![4, 6, 2048, 128]⟩
abbrev S4x6x128x2048 : Shape := ⟨4, ![4, 6, 128, 2048]⟩
abbrev S4x6x2048 : Shape := ⟨3, ![4, 6, 2048]⟩
abbrev S4x6x1x2048 : Shape := ⟨4, ![4, 6, 1, 2048]⟩
abbrev S6x2048x8192 : Shape := ⟨3, ![6, 2048, 8192]⟩
abbrev S1x1x8192x128 : Shape := ⟨4, ![1, 1, 8192, 128]⟩
abbrev S1x1x1x8192 : Shape := ⟨4, ![1, 1, 1, 8192]⟩
abbrev S1x14336x128 : Shape := ⟨3, ![1, 14336, 128]⟩
abbrev S1x128x14336 : Shape := ⟨3, ![1, 128, 14336]⟩
abbrev S1x1x14336 : Shape := ⟨3, ![1, 1, 14336]⟩
abbrev S1x1x2048x128 : Shape := ⟨4, ![1, 1, 2048, 128]⟩
abbrev S1x1x128x2048 : Shape := ⟨4, ![1, 1, 128, 2048]⟩
abbrev S1x1x1x2048 : Shape := ⟨4, ![1, 1, 1, 2048]⟩
abbrev S1x512x2048 : Shape := ⟨3, ![1, 512, 2048]⟩
abbrev S14336x128 : Shape := ⟨2, ![14336, 128]⟩
abbrev S128x14336 : Shape := ⟨2, ![128, 14336]⟩
abbrev S2048x128 : Shape := ⟨2, ![2048, 128]⟩
abbrev S128x2048 : Shape := ⟨2, ![128, 2048]⟩
abbrev S512x128 : Shape := ⟨2, ![512, 128]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩
abbrev S1x1x1x128 : Shape := ⟨4, ![1, 1, 1, 128]⟩
abbrev S1x1x128x128 : Shape := ⟨4, ![1, 1, 128, 128]⟩
abbrev S1x512 : Shape := ⟨2, ![1, 512]⟩
abbrev S1x1x512x128 : Shape := ⟨4, ![1, 1, 512, 128]⟩
abbrev S1x1x1x512 : Shape := ⟨4, ![1, 1, 1, 512]⟩
abbrev S128x512 : Shape := ⟨2, ![128, 512]⟩
abbrev S1x256x128 : Shape := ⟨3, ![1, 256, 128]⟩
abbrev S256x128 : Shape := ⟨2, ![256, 128]⟩
abbrev S256x512 : Shape := ⟨2, ![256, 512]⟩
abbrev S512 : Shape := ⟨1, ![512]⟩
abbrev S128x256 : Shape := ⟨2, ![128, 256]⟩
abbrev S1x1x256x128 : Shape := ⟨4, ![1, 1, 256, 128]⟩
abbrev S32x128 : Shape := ⟨2, ![32, 128]⟩
abbrev S1x32x128 : Shape := ⟨3, ![1, 32, 128]⟩
abbrev S32x2048 : Shape := ⟨2, ![32, 2048]⟩
abbrev S1x32x2048 : Shape := ⟨3, ![1, 32, 2048]⟩
abbrev S2048 : Shape := ⟨1, ![2048]⟩
abbrev S1x2048 : Shape := ⟨2, ![1, 2048]⟩
abbrev S6x1 : Shape := ⟨2, ![6, 1]⟩
abbrev S6x2048 : Shape := ⟨2, ![6, 2048]⟩
abbrev S6x2048x1 : Shape := ⟨3, ![6, 2048, 1]⟩
abbrev S_ : Shape := ⟨0, ![]⟩
abbrev S1x2048x1 : Shape := ⟨3, ![1, 2048, 1]⟩

abbrev nBuf : Space → Nat
  | .hbm => 67
  | .vmem => 31
  | .smem => 2
  | _ => 0

abbrev bufTy : (tb : Table) → Fin (tcTables nBuf tb) → BufTy
  | .hbm, ⟨0, _⟩ => ⟨S6x2048x64x128, .fp8e4m3⟩
  | .hbm, ⟨1, _⟩ => ⟨S6x2048x64, .f32⟩
  | .hbm, ⟨2, _⟩ => ⟨S14336x4x128, .fp8e4m3⟩
  | .hbm, ⟨3, _⟩ => ⟨S14336x4x128, .fp8e4m3⟩
  | .hbm, ⟨4, _⟩ => ⟨S14336x4, .f32⟩
  | .hbm, ⟨5, _⟩ => ⟨S14336x4, .f32⟩
  | .hbm, ⟨6, _⟩ => ⟨S6x2048x4x128, .fp8e4m3⟩
  | .hbm, ⟨7, _⟩ => ⟨S6x2048x4x128, .fp8e4m3⟩
  | .hbm, ⟨8, _⟩ => ⟨S6x2048x4, .f32⟩
  | .hbm, ⟨9, _⟩ => ⟨S6x2048x4, .f32⟩
  | .hbm, ⟨10, _⟩ => ⟨S6x2048x4x16x128, .fp8e4m3⟩
  | .hbm, ⟨11, _⟩ => ⟨S4x6x2048x16x128, .fp8e4m3⟩
  | .hbm, ⟨12, _⟩ => ⟨S4x6x32768x128, .fp8e4m3⟩
  | .hbm, ⟨13, _⟩ => ⟨S6x2048x4x16, .f32⟩
  | .hbm, ⟨14, _⟩ => ⟨S4x6x2048x16, .f32⟩
  | .hbm, ⟨15, _⟩ => ⟨S4x6x1x32768, .f32⟩
  | .hbm, ⟨16, _⟩ => ⟨S4x14336x128, .fp8e4m3⟩
  | .hbm, ⟨17, _⟩ => ⟨S4x128x14336, .fp8e4m3⟩
  | .hbm, ⟨18, _⟩ => ⟨S4x14336, .f32⟩
  | .hbm, ⟨19, _⟩ => ⟨S4x1x14336, .f32⟩
  | .hbm, ⟨20, _⟩ => ⟨S4x14336, .f32⟩
  | .hbm, ⟨21, _⟩ => ⟨S4x1x14336, .f32⟩
  | .hbm, ⟨22, _⟩ => ⟨S4x6x2048x128, .fp8e4m3⟩
  | .hbm, ⟨23, _⟩ => ⟨S4x6x128x2048, .fp8e4m3⟩
  | .hbm, ⟨24, _⟩ => ⟨S4x6x2048, .f32⟩
  | .hbm, ⟨25, _⟩ => ⟨S4x6x1x2048, .f32⟩
  | .hbm, ⟨26, _⟩ => ⟨S4x6x2048, .f32⟩
  | .hbm, ⟨27, _⟩ => ⟨S4x6x1x2048, .f32⟩
  | .hbm, ⟨28, _⟩ => ⟨S6x2048x8192, .bf16⟩
  | .hbm, ⟨29, _⟩ => ⟨S4x6x1x32768, .f32⟩
  | .hbm, ⟨30, _⟩ => ⟨S4x6x1x32768, .f32⟩
  | .hbm, ⟨31, _⟩ => ⟨S2048, .i32⟩
  | .hbm, ⟨32, _⟩ => ⟨S1x2048, .i32⟩
  | .hbm, ⟨33, _⟩ => ⟨S6x1, .i32⟩
  | .hbm, ⟨34, _⟩ => ⟨S6x2048, .i32⟩
  | .hbm, ⟨35, _⟩ => ⟨S6x2048, .i32⟩
  | .hbm, ⟨36, _⟩ => ⟨S6x2048, .i1⟩
  | .hbm, ⟨37, _⟩ => ⟨S6x2048x1, .i1⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S1x2048x1, .f32⟩
  | .hbm, ⟨44, _⟩ => ⟨S4x6x2048x16, .f32⟩
  | .hbm, ⟨45, _⟩ => ⟨S6x2048x4x16, .f32⟩
  | .hbm, ⟨46, _⟩ => ⟨S6x2048x64, .f32⟩
  | .hbm, ⟨47, _⟩ => ⟨S_, .i32⟩
  | .hbm, ⟨48, _⟩ => ⟨S_, .f32⟩
  | .hbm, ⟨49, _⟩ => ⟨S_, .f32⟩
  | .hbm, ⟨50, _⟩ => ⟨S6x2048x64, .f32⟩
  | .hbm, ⟨51, _⟩ => ⟨S6x2048x64, .f32⟩
  | .hbm, ⟨52, _⟩ => ⟨S_, .f32⟩
  | .hbm, ⟨53, _⟩ => ⟨S_, .f32⟩
  | .hbm, ⟨54, _⟩ => ⟨S6x2048x64, .i1⟩
  | .hbm, ⟨55, _⟩ => ⟨S6x2048x64, .f32⟩
  | .hbm, ⟨56, _⟩ => ⟨S6x2048x64, .f32⟩
  | .hbm, ⟨57, _⟩ => ⟨S4x6x2048x16, .f32⟩
  | .hbm, ⟨58, _⟩ => ⟨S6x2048x4x16, .f32⟩
  | .hbm, ⟨59, _⟩ => ⟨S6x2048x64, .f32⟩
  | .hbm, ⟨60, _⟩ => ⟨S6x2048x64, .f32⟩
  | .hbm, ⟨61, _⟩ => ⟨S6x2048x64, .f32⟩
  | .hbm, ⟨62, _⟩ => ⟨S_, .f32⟩
  | .hbm, ⟨63, _⟩ => ⟨S_, .f32⟩
  | .hbm, ⟨64, _⟩ => ⟨S6x2048x64, .i1⟩
  | .hbm, ⟨65, _⟩ => ⟨S6x2048x64, .f32⟩
  | .hbm, ⟨66, _⟩ => ⟨S6x2048x64, .f32⟩
  | .local _ .vmem, ⟨0, _⟩ => ⟨S1x1x8192x128, .fp8e4m3⟩
  | .local _ .vmem, ⟨1, _⟩ => ⟨S1x1x8192x128, .fp8e4m3⟩
  | .local _ .vmem, ⟨2, _⟩ => ⟨S1x1x1x8192, .f32⟩
  | .local _ .vmem, ⟨3, _⟩ => ⟨S1x1x1x8192, .f32⟩
  | .local _ .vmem, ⟨4, _⟩ => ⟨S1x14336x128, .fp8e4m3⟩
  | .local _ .vmem, ⟨5, _⟩ => ⟨S1x14336x128, .fp8e4m3⟩
  | .local _ .vmem, ⟨6, _⟩ => ⟨S1x128x14336, .fp8e4m3⟩
  | .local _ .vmem, ⟨7, _⟩ => ⟨S1x128x14336, .fp8e4m3⟩
  | .local _ .vmem, ⟨8, _⟩ => ⟨S1x1x14336, .f32⟩
  | .local _ .vmem, ⟨9, _⟩ => ⟨S1x1x14336, .f32⟩
  | .local _ .vmem, ⟨10, _⟩ => ⟨S1x1x14336, .f32⟩
  | .local _ .vmem, ⟨11, _⟩ => ⟨S1x1x14336, .f32⟩
  | .local _ .vmem, ⟨12, _⟩ => ⟨S1x1x2048x128, .fp8e4m3⟩
  | .local _ .vmem, ⟨13, _⟩ => ⟨S1x1x2048x128, .fp8e4m3⟩
  | .local _ .vmem, ⟨14, _⟩ => ⟨S1x1x128x2048, .fp8e4m3⟩
  | .local _ .vmem, ⟨15, _⟩ => ⟨S1x1x128x2048, .fp8e4m3⟩
  | .local _ .vmem, ⟨16, _⟩ => ⟨S1x1x1x2048, .f32⟩
  | .local _ .vmem, ⟨17, _⟩ => ⟨S1x1x1x2048, .f32⟩
  | .local _ .vmem, ⟨18, _⟩ => ⟨S1x1x1x2048, .f32⟩
  | .local _ .vmem, ⟨19, _⟩ => ⟨S1x1x1x2048, .f32⟩
  | .local _ .vmem, ⟨20, _⟩ => ⟨S1x512x2048, .bf16⟩
  | .local _ .vmem, ⟨21, _⟩ => ⟨S1x512x2048, .bf16⟩
  | .local _ .vmem, ⟨22, _⟩ => ⟨S1x1x1x8192, .f32⟩
  | .local _ .vmem, ⟨23, _⟩ => ⟨S1x1x1x8192, .f32⟩
  | .local _ .vmem, ⟨24, _⟩ => ⟨S1x1x1x8192, .f32⟩
  | .local _ .vmem, ⟨25, _⟩ => ⟨S1x1x1x8192, .f32⟩
  | .local _ .vmem, ⟨26, _⟩ => ⟨S14336x128, .f32⟩
  | .local _ .vmem, ⟨27, _⟩ => ⟨S128x14336, .bf16⟩
  | .local _ .vmem, ⟨28, _⟩ => ⟨S2048x128, .f32⟩
  | .local _ .vmem, ⟨29, _⟩ => ⟨S128x2048, .bf16⟩
  | .local _ .vmem, ⟨30, _⟩ => ⟨S512x128, .f32⟩
  | .local _ .smem, ⟨0, _⟩ => ⟨S6, .i32⟩
  | .local _ .smem, ⟨1, _⟩ => ⟨S1, .i32⟩
  | _, _ => ⟨S6x2048x64x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_0 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_1 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v45 : Ref sig .tc := ⟨.hbm, 66, rfl⟩
abbrev main_arg11 : Ref sig .tc := ⟨.smem, 0, rfl⟩
abbrev main_arg10 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![4, 6, 4], ![false, false, false]⟩

abbrev pre0 : Pipeline.Prefetch sig := ⟨2, ![main_arg11.idx, main_arg10.idx], fun | 0 => main_arg11.names | 1 => main_arg10.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_6 : BitVec 32 := 0#32
  let c112_i32 : BitVec 32 := 112#32
  let v12 : BitVec 32 := Scalar.addi c0_i32_6 c112_i32
  let c1_i32_7 : BitVec 32 := 1#32
  ⟨c0_i32_6, v12, c1_i32_7⟩
def k0_mult1 (k0_t1 : Fin k0_t1_loop.trips) : BitVec 32 :=
  let c0_i32_6 : BitVec 32 := 0#32
  let c1_i32_7 : BitVec 32 := 1#32
  let arg23 : BitVec 32 := Scf.iv c0_i32_6 c1_i32_7 k0_t1
  let c128_i32 : BitVec 32 := 128#32
  let v13 : BitVec 32 := Scalar.muli arg23 c128_i32
  v13
def k0_off1 (k0_t1 : Fin k0_t1_loop.trips) : Fin 3 → Nat :=
  let c0_9 : Index := 0#32
  let c0_10 : Index := 0#32
  let c0_i32_6 : BitVec 32 := 0#32
  let c1_i32_7 : BitVec 32 := 1#32
  let arg23 : BitVec 32 := Scf.iv c0_i32_6 c1_i32_7 k0_t1
  let c128_i32 : BitVec 32 := 128#32
  let v13 : BitVec 32 := Scalar.muli arg23 c128_i32
  let v14 : BitVec 32 := v13
  let v15 : Index := Scalar.indexCast v14
  ![0, 0, v15.toNat]
def k0_off2 (k0_t1 : Fin k0_t1_loop.trips) : Fin 2 → Nat :=
  let c0_i32_6 : BitVec 32 := 0#32
  let c1_i32_7 : BitVec 32 := 1#32
  let arg23 : BitVec 32 := Scf.iv c0_i32_6 c1_i32_7 k0_t1
  let c128_i32 : BitVec 32 := 128#32
  let v13 : BitVec 32 := Scalar.muli arg23 c128_i32
  let v14 : BitVec 32 := v13
  let v23 : Index := Scalar.indexCast v14
  let c0_11 : Index := 0#32
  ![v23.toNat, 0]
def k0_off3 (k0_t1 : Fin k0_t1_loop.trips) : Fin 3 → Nat :=
  let c0_12 : Index := 0#32
  let c0_13 : Index := 0#32
  let c0_i32_6 : BitVec 32 := 0#32
  let c1_i32_7 : BitVec 32 := 1#32
  let arg23 : BitVec 32 := Scf.iv c0_i32_6 c1_i32_7 k0_t1
  let c128_i32 : BitVec 32 := 128#32
  let v13 : BitVec 32 := Scalar.muli arg23 c128_i32
  let v14 : BitVec 32 := v13
  let v27 : Index := Scalar.indexCast v14
  ![0, 0, v27.toNat]
def k0_off4 (k0_t1 : Fin k0_t1_loop.trips) : Fin 2 → Nat :=
  let c0_16 : Index := 0#32
  let c0_i32_6 : BitVec 32 := 0#32
  let c1_i32_7 : BitVec 32 := 1#32
  let arg23 : BitVec 32 := Scf.iv c0_i32_6 c1_i32_7 k0_t1
  let c128_i32 : BitVec 32 := 128#32
  let v13 : BitVec 32 := Scalar.muli arg23 c128_i32
  let v14 : BitVec 32 := v13
  let v37 : Index := Scalar.indexCast v14
  ![0, v37.toNat]
def k0_cond2 (i : grid0.Coords) : BitVec 1 :=
  let arg2 : BitVec 32 := BitVec.ofNat 32 (i 2).val
  let c0_i32_2 : BitVec 32 := 0#32
  let v5 : BitVec 1 := Scalar.cmpi .eq arg2 c0_i32_2
  let v6 : BitVec 32 := Scalar.extui v5
  let c0_i32_3 : BitVec 32 := 0#32
  let v7 : BitVec 1 := Scalar.cmpi .ne v6 c0_i32_3
  v7

@[reducible] def k0_t2_loop : Scf.Loop 32 :=
  let c0_i32_6 : BitVec 32 := 0#32
  let c16_i32_7 : BitVec 32 := 16#32
  let v12 : BitVec 32 := Scalar.addi c0_i32_6 c16_i32_7
  let c1_i32_8 : BitVec 32 := 1#32
  ⟨c0_i32_6, v12, c1_i32_8⟩
def k0_mult2 (k0_t2 : Fin k0_t2_loop.trips) : BitVec 32 :=
  let c0_i32_6 : BitVec 32 := 0#32
  let c1_i32_8 : BitVec 32 := 1#32
  let arg23 : BitVec 32 := Scf.iv c0_i32_6 c1_i32_8 k0_t2
  let c128_i32 : BitVec 32 := 128#32
  let v13 : BitVec 32 := Scalar.muli arg23 c128_i32
  v13
def k0_off5 (k0_t2 : Fin k0_t2_loop.trips) : Fin 4 → Nat :=
  let c0_10 : Index := 0#32
  let c0_11 : Index := 0#32
  let c0_12 : Index := 0#32
  let c0_i32_6 : BitVec 32 := 0#32
  let c1_i32_8 : BitVec 32 := 1#32
  let arg23 : BitVec 32 := Scf.iv c0_i32_6 c1_i32_8 k0_t2
  let c128_i32 : BitVec 32 := 128#32
  let v13 : BitVec 32 := Scalar.muli arg23 c128_i32
  let v14 : BitVec 32 := v13
  let v15 : Index := Scalar.indexCast v14
  ![0, 0, 0, v15.toNat]
def k0_off6 (k0_t2 : Fin k0_t2_loop.trips) : Fin 2 → Nat :=
  let c0_i32_6 : BitVec 32 := 0#32
  let c1_i32_8 : BitVec 32 := 1#32
  let arg23 : BitVec 32 := Scf.iv c0_i32_6 c1_i32_8 k0_t2
  let c128_i32 : BitVec 32 := 128#32
  let v13 : BitVec 32 := Scalar.muli arg23 c128_i32
  let v14 : BitVec 32 := v13
  let v23 : Index := Scalar.indexCast v14
  let c0_13 : Index := 0#32
  ![v23.toNat, 0]
def k0_off7 (k0_t2 : Fin k0_t2_loop.trips) : Fin 4 → Nat :=
  let c0_14 : Index := 0#32
  let c0_15 : Index := 0#32
  let c0_16 : Index := 0#32
  let c0_i32_6 : BitVec 32 := 0#32
  let c1_i32_8 : BitVec 32 := 1#32
  let arg23 : BitVec 32 := Scf.iv c0_i32_6 c1_i32_8 k0_t2
  let c128_i32 : BitVec 32 := 128#32
  let v13 : BitVec 32 := Scalar.muli arg23 c128_i32
  let v14 : BitVec 32 := v13
  let v27 : Index := Scalar.indexCast v14
  ![0, 0, 0, v27.toNat]
def k0_off8 (k0_t2 : Fin k0_t2_loop.trips) : Fin 2 → Nat :=
  let c0_20 : Index := 0#32
  let c0_i32_6 : BitVec 32 := 0#32
  let c1_i32_8 : BitVec 32 := 1#32
  let arg23 : BitVec 32 := Scf.iv c0_i32_6 c1_i32_8 k0_t2
  let c128_i32 : BitVec 32 := 128#32
  let v13 : BitVec 32 := Scalar.muli arg23 c128_i32
  let v14 : BitVec 32 := v13
  let v37 : Index := Scalar.indexCast v14
  ![0, v37.toNat]
def k0_off9 (i : grid0.Coords) : Fin 1 → Nat :=
  let arg1 : BitVec 32 := BitVec.ofNat 32 (i 1).val
  let v8 : Index := Scalar.indexCast arg1
  ![v8.toNat]
@[reducible] def k0_t3_loop : Scf.Loop 32 :=
  let c0_i32_4 : BitVec 32 := 0#32
  let c16_i32 : BitVec 32 := 16#32
  let v11 : BitVec 32 := Scalar.addi c0_i32_4 c16_i32
  let c1_i32 : BitVec 32 := 1#32
  ⟨c0_i32_4, v11, c1_i32⟩
def k0_mult3 (k0_t3 : Fin k0_t3_loop.trips) : BitVec 32 :=
  let c0_i32_4 : BitVec 32 := 0#32
  let c1_i32 : BitVec 32 := 1#32
  let arg23 : BitVec 32 := Scf.iv c0_i32_4 c1_i32 k0_t3
  let c512_i32_6 : BitVec 32 := 512#32
  let v15 : BitVec 32 := Scalar.muli arg23 c512_i32_6
  v15
def k0_mult4 (k0_t3 : Fin k0_t3_loop.trips) : BitVec 32 :=
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  v17
def k0_off10 (k0_t3 : Fin k0_t3_loop.trips) : Fin 4 → Nat :=
  let c0_17 : Index := 0#32
  let c0_18 : Index := 0#32
  let c0_i32_4 : BitVec 32 := 0#32
  let c1_i32 : BitVec 32 := 1#32
  let arg23 : BitVec 32 := Scf.iv c0_i32_4 c1_i32 k0_t3
  let c512_i32_6 : BitVec 32 := 512#32
  let v15 : BitVec 32 := Scalar.muli arg23 c512_i32_6
  let v16 : BitVec 32 := v15
  let v52 : Index := Scalar.indexCast v16
  let c0_19 : Index := 0#32
  ![0, 0, v52.toNat, 0]
def k0_off11 (k0_t3 : Fin k0_t3_loop.trips) : Fin 4 → Nat :=
  let c0_20 : Index := 0#32
  let c0_21 : Index := 0#32
  let c0_22 : Index := 0#32
  let c0_i32_4 : BitVec 32 := 0#32
  let c1_i32 : BitVec 32 := 1#32
  let arg23 : BitVec 32 := Scf.iv c0_i32_4 c1_i32 k0_t3
  let c512_i32_6 : BitVec 32 := 512#32
  let v15 : BitVec 32 := Scalar.muli arg23 c512_i32_6
  let v16 : BitVec 32 := v15
  let v55 : Index := Scalar.indexCast v16
  ![0, 0, 0, v55.toNat]
@[reducible] def k0_t4_loop (v10 : BitVec 32) : Scf.Loop 32 :=
  let c0_i32_26 : BitVec 32 := 0#32
  let c255_i32 : BitVec 32 := 255#32
  let v58 : BitVec 32 := Scalar.addi v10 c255_i32
  let c256_i32 : BitVec 32 := 256#32
  let v59 : BitVec 32 := Scalar.divsi v58 c256_i32
  let v64 : BitVec 32 := Scalar.subi v59 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_28 : BitVec 32 := 1#32
  ⟨c0_i32_26, v68, c1_i32_28⟩
def k0_cond3 (i : grid0.Coords) (v9 : BitVec 32) (k0_t3 : Fin k0_t3_loop.trips) : BitVec 1 :=
  let arg2 : BitVec 32 := BitVec.ofNat 32 (i 2).val
  let c512_i32 : BitVec 32 := 512#32
  let v12 : BitVec 32 := Scalar.muli arg2 c512_i32
  let c0_i32_4 : BitVec 32 := 0#32
  let c1_i32 : BitVec 32 := 1#32
  let arg23 : BitVec 32 := Scf.iv c0_i32_4 c1_i32 k0_t3
  let c32_i32 : BitVec 32 := 32#32
  let v13 : BitVec 32 := Scalar.muli arg23 c32_i32
  let v14 : BitVec 32 := Scalar.addi v12 v13
  let v19 : BitVec 1 := Scalar.cmpi .slt v14 v9
  let v47 : BitVec 32 := Scalar.extui v19
  let c0_i32_15 : BitVec 32 := 0#32
  let v48 : BitVec 1 := Scalar.cmpi .ne v47 c0_i32_15
  v48

def k0_mult5 (v10 : BitVec 32) (k0_t4 : Fin (k0_t4_loop v10).trips) : BitVec 32 :=
  let c0_i32_26 : BitVec 32 := 0#32
  let c1_i32_28 : BitVec 32 := 1#32
  let arg24 : BitVec 32 := Scf.iv c0_i32_26 c1_i32_28 k0_t4
  let c256_i32_87 : BitVec 32 := 256#32
  let v225 : BitVec 32 := Scalar.muli arg24 c256_i32_87
  v225
def k0_off12 (v10 : BitVec 32) (k0_t4 : Fin (k0_t4_loop v10).trips) : Fin 3 → Nat :=
  let c0_88 : Index := 0#32
  let c0_i32_26 : BitVec 32 := 0#32
  let c1_i32_28 : BitVec 32 := 1#32
  let arg24 : BitVec 32 := Scf.iv c0_i32_26 c1_i32_28 k0_t4
  let c256_i32_87 : BitVec 32 := 256#32
  let v225 : BitVec 32 := Scalar.muli arg24 c256_i32_87
  let v226 : BitVec 32 := v225
  let v227 : Index := Scalar.indexCast v226
  let c0_89 : Index := 0#32
  ![0, v227.toNat, 0]
def k0_off13 (v10 : BitVec 32) (k0_t4 : Fin (k0_t4_loop v10).trips) : Fin 2 → Nat :=
  let c0_i32_26 : BitVec 32 := 0#32
  let c1_i32_28 : BitVec 32 := 1#32
  let arg24 : BitVec 32 := Scf.iv c0_i32_26 c1_i32_28 k0_t4
  let c256_i32_87 : BitVec 32 := 256#32
  let v225 : BitVec 32 := Scalar.muli arg24 c256_i32_87
  let v226 : BitVec 32 := v225
  let v231 : Index := Scalar.indexCast v226
  let c0_91 : Index := 0#32
  ![v231.toNat, 0]
def k0_off14 (v10 : BitVec 32) (k0_t4 : Fin (k0_t4_loop v10).trips) : Fin 2 → Nat :=
  let c0_95 : Index := 0#32
  let c0_i32_26 : BitVec 32 := 0#32
  let c1_i32_28 : BitVec 32 := 1#32
  let arg24 : BitVec 32 := Scf.iv c0_i32_26 c1_i32_28 k0_t4
  let c256_i32_87 : BitVec 32 := 256#32
  let v225 : BitVec 32 := Scalar.muli arg24 c256_i32_87
  let v226 : BitVec 32 := v225
  let v256 : Index := Scalar.indexCast v226
  ![0, v256.toNat]
@[reducible] def k0_t5_loop (v10 : BitVec 32) : Scf.Loop 32 :=
  let c0_i32_26 : BitVec 32 := 0#32
  let c255_i32 : BitVec 32 := 255#32
  let v58 : BitVec 32 := Scalar.addi v10 c255_i32
  let c256_i32 : BitVec 32 := 256#32
  let v59 : BitVec 32 := Scalar.divsi v58 c256_i32
  let v64 : BitVec 32 := Scalar.subi v59 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let v65 : BitVec 32 := Scalar.addi c0_i32_26 v64
  let c1_i32_29 : BitVec 32 := 1#32
  ⟨v68, v65, c1_i32_29⟩
def k0_mult6 (v10 : BitVec 32) (k0_t5 : Fin (k0_t5_loop v10).trips) : BitVec 32 :=
  let c0_i32_26 : BitVec 32 := 0#32
  let c255_i32 : BitVec 32 := 255#32
  let v58 : BitVec 32 := Scalar.addi v10 c255_i32
  let c256_i32 : BitVec 32 := 256#32
  let v59 : BitVec 32 := Scalar.divsi v58 c256_i32
  let v64 : BitVec 32 := Scalar.subi v59 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg24 : BitVec 32 := Scf.iv v68 c1_i32_29 k0_t5
  let c256_i32_87 : BitVec 32 := 256#32
  let v225 : BitVec 32 := Scalar.muli arg24 c256_i32_87
  v225
def k0_off15 (v10 : BitVec 32) (k0_t5 : Fin (k0_t5_loop v10).trips) : Fin 3 → Nat :=
  let c0_88 : Index := 0#32
  let c0_i32_26 : BitVec 32 := 0#32
  let c255_i32 : BitVec 32 := 255#32
  let v58 : BitVec 32 := Scalar.addi v10 c255_i32
  let c256_i32 : BitVec 32 := 256#32
  let v59 : BitVec 32 := Scalar.divsi v58 c256_i32
  let v64 : BitVec 32 := Scalar.subi v59 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg24 : BitVec 32 := Scf.iv v68 c1_i32_29 k0_t5
  let c256_i32_87 : BitVec 32 := 256#32
  let v225 : BitVec 32 := Scalar.muli arg24 c256_i32_87
  let v226 : BitVec 32 := v225
  let v227 : Index := Scalar.indexCast v226
  let c0_89 : Index := 0#32
  ![0, v227.toNat, 0]
def k0_off16 (v10 : BitVec 32) (k0_t5 : Fin (k0_t5_loop v10).trips) : Fin 2 → Nat :=
  let c0_i32_26 : BitVec 32 := 0#32
  let c255_i32 : BitVec 32 := 255#32
  let v58 : BitVec 32 := Scalar.addi v10 c255_i32
  let c256_i32 : BitVec 32 := 256#32
  let v59 : BitVec 32 := Scalar.divsi v58 c256_i32
  let v64 : BitVec 32 := Scalar.subi v59 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg24 : BitVec 32 := Scf.iv v68 c1_i32_29 k0_t5
  let c256_i32_87 : BitVec 32 := 256#32
  let v225 : BitVec 32 := Scalar.muli arg24 c256_i32_87
  let v226 : BitVec 32 := v225
  let v231 : Index := Scalar.indexCast v226
  let c0_91 : Index := 0#32
  ![v231.toNat, 0]
def k0_off17 (v10 : BitVec 32) (k0_t5 : Fin (k0_t5_loop v10).trips) : Fin 2 → Nat :=
  let c0_95 : Index := 0#32
  let c0_i32_26 : BitVec 32 := 0#32
  let c255_i32 : BitVec 32 := 255#32
  let v58 : BitVec 32 := Scalar.addi v10 c255_i32
  let c256_i32 : BitVec 32 := 256#32
  let v59 : BitVec 32 := Scalar.divsi v58 c256_i32
  let v64 : BitVec 32 := Scalar.subi v59 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg24 : BitVec 32 := Scf.iv v68 c1_i32_29 k0_t5
  let c256_i32_87 : BitVec 32 := 256#32
  let v225 : BitVec 32 := Scalar.muli arg24 c256_i32_87
  let v226 : BitVec 32 := v225
  let v256 : Index := Scalar.indexCast v226
  ![0, v256.toNat]

def k0_chk1 (i : grid0.Coords) (v9 : BitVec 32) (v10 : BitVec 32) : Prop :=
  (∀ k0_t3 : Fin k0_t3_loop.trips, ∀ (k0_h3 : k0_cond3 i v9 k0_t3 = 1#1), (k0_t4_loop v10).OK) ∧
  (∀ (k0_t3 : Fin k0_t3_loop.trips) (k0_t4 : Fin (k0_t4_loop v10).trips), ∀ (k0_h3 : k0_cond3 i v9 k0_t3 = 1#1), 256 ∣ (k0_mult5 v10 k0_t4).toNat) ∧
  (∀ (k0_t3 : Fin k0_t3_loop.trips) (k0_t4 : Fin (k0_t4_loop v10).trips), ∀ (k0_h3 : k0_cond3 i v9 k0_t3 = 1#1), ∀ a, (k0_off12 v10 k0_t4) a + S1x256x128.size a ≤ S1x14336x128.size a) ∧
  (∀ (k0_t3 : Fin k0_t3_loop.trips) (k0_t4 : Fin (k0_t4_loop v10).trips), ∀ (k0_h3 : k0_cond3 i v9 k0_t3 = 1#1), ∀ a, (k0_off13 v10 k0_t4) a + S256x128.size a ≤ S14336x128.size a) ∧
  (∀ (k0_t3 : Fin k0_t3_loop.trips) (k0_t4 : Fin (k0_t4_loop v10).trips), ∀ (k0_h3 : k0_cond3 i v9 k0_t3 = 1#1), ∀ a, (k0_off14 v10 k0_t4) a + S128x256.size a ≤ S128x14336.size a) ∧
  (∀ k0_t3 : Fin k0_t3_loop.trips, ∀ (k0_h3 : k0_cond3 i v9 k0_t3 = 1#1), (k0_t5_loop v10).OK) ∧
  (∀ (k0_t3 : Fin k0_t3_loop.trips) (k0_t5 : Fin (k0_t5_loop v10).trips), ∀ (k0_h3 : k0_cond3 i v9 k0_t3 = 1#1), 256 ∣ (k0_mult6 v10 k0_t5).toNat) ∧
  (∀ (k0_t3 : Fin k0_t3_loop.trips) (k0_t5 : Fin (k0_t5_loop v10).trips), ∀ (k0_h3 : k0_cond3 i v9 k0_t3 = 1#1), ∀ a, (k0_off15 v10 k0_t5) a + S1x256x128.size a ≤ S1x14336x128.size a) ∧
  (∀ (k0_t3 : Fin k0_t3_loop.trips) (k0_t5 : Fin (k0_t5_loop v10).trips), ∀ (k0_h3 : k0_cond3 i v9 k0_t3 = 1#1), ∀ a, (k0_off16 v10 k0_t5) a + S256x128.size a ≤ S14336x128.size a) ∧
  (∀ (k0_t3 : Fin k0_t3_loop.trips) (k0_t5 : Fin (k0_t5_loop v10).trips), ∀ (k0_h3 : k0_cond3 i v9 k0_t3 = 1#1), ∀ a, (k0_off17 v10 k0_t5) a + S128x256.size a ≤ S128x14336.size a)
theorem k0_t4_ok : ∀ (i : grid0.Coords) (v9 : BitVec 32) (v10 : BitVec 32) (k0_hw1 : k0_chk1 i v9 v10) (k0_t3 : Fin k0_t3_loop.trips), ∀ (k0_h3 : k0_cond3 i v9 k0_t3 = 1#1), (k0_t4_loop v10).OK := fun i v9 v10 k0_hw1 k0_t3 k0_h3 => k0_hw1.1 k0_t3 k0_h3
theorem k0_mult5_dvd : ∀ (i : grid0.Coords) (v9 : BitVec 32) (v10 : BitVec 32) (k0_hw1 : k0_chk1 i v9 v10) (k0_t3 : Fin k0_t3_loop.trips) (k0_t4 : Fin (k0_t4_loop v10).trips), ∀ (k0_h3 : k0_cond3 i v9 k0_t3 = 1#1), 256 ∣ (k0_mult5 v10 k0_t4).toNat := fun i v9 v10 k0_hw1 k0_t3 k0_t4 k0_h3 => k0_hw1.2.1 k0_t3 k0_t4 k0_h3
theorem k0_off12_inb : ∀ (i : grid0.Coords) (v9 : BitVec 32) (v10 : BitVec 32) (k0_hw1 : k0_chk1 i v9 v10) (k0_t3 : Fin k0_t3_loop.trips) (k0_t4 : Fin (k0_t4_loop v10).trips), ∀ (k0_h3 : k0_cond3 i v9 k0_t3 = 1#1), ∀ a, (k0_off12 v10 k0_t4) a + S1x256x128.size a ≤ S1x14336x128.size a := fun i v9 v10 k0_hw1 k0_t3 k0_t4 k0_h3 => k0_hw1.2.2.1 k0_t3 k0_t4 k0_h3
theorem k0_off13_inb : ∀ (i : grid0.Coords) (v9 : BitVec 32) (v10 : BitVec 32) (k0_hw1 : k0_chk1 i v9 v10) (k0_t3 : Fin k0_t3_loop.trips) (k0_t4 : Fin (k0_t4_loop v10).trips), ∀ (k0_h3 : k0_cond3 i v9 k0_t3 = 1#1), ∀ a, (k0_off13 v10 k0_t4) a + S256x128.size a ≤ S14336x128.size a := fun i v9 v10 k0_hw1 k0_t3 k0_t4 k0_h3 => k0_hw1.2.2.2.1 k0_t3 k0_t4 k0_h3
theorem k0_off14_inb : ∀ (i : grid0.Coords) (v9 : BitVec 32) (v10 : BitVec 32) (k0_hw1 : k0_chk1 i v9 v10) (k0_t3 : Fin k0_t3_loop.trips) (k0_t4 : Fin (k0_t4_loop v10).trips), ∀ (k0_h3 : k0_cond3 i v9 k0_t3 = 1#1), ∀ a, (k0_off14 v10 k0_t4) a + S128x256.size a ≤ S128x14336.size a := fun i v9 v10 k0_hw1 k0_t3 k0_t4 k0_h3 => k0_hw1.2.2.2.2.1 k0_t3 k0_t4 k0_h3
theorem k0_t5_ok : ∀ (i : grid0.Coords) (v9 : BitVec 32) (v10 : BitVec 32) (k0_hw1 : k0_chk1 i v9 v10) (k0_t3 : Fin k0_t3_loop.trips), ∀ (k0_h3 : k0_cond3 i v9 k0_t3 = 1#1), (k0_t5_loop v10).OK := fun i v9 v10 k0_hw1 k0_t3 k0_h3 => k0_hw1.2.2.2.2.2.1 k0_t3 k0_h3
theorem k0_mult6_dvd : ∀ (i : grid0.Coords) (v9 : BitVec 32) (v10 : BitVec 32) (k0_hw1 : k0_chk1 i v9 v10) (k0_t3 : Fin k0_t3_loop.trips) (k0_t5 : Fin (k0_t5_loop v10).trips), ∀ (k0_h3 : k0_cond3 i v9 k0_t3 = 1#1), 256 ∣ (k0_mult6 v10 k0_t5).toNat := fun i v9 v10 k0_hw1 k0_t3 k0_t5 k0_h3 => k0_hw1.2.2.2.2.2.2.1 k0_t3 k0_t5 k0_h3
theorem k0_off15_inb : ∀ (i : grid0.Coords) (v9 : BitVec 32) (v10 : BitVec 32) (k0_hw1 : k0_chk1 i v9 v10) (k0_t3 : Fin k0_t3_loop.trips) (k0_t5 : Fin (k0_t5_loop v10).trips), ∀ (k0_h3 : k0_cond3 i v9 k0_t3 = 1#1), ∀ a, (k0_off15 v10 k0_t5) a + S1x256x128.size a ≤ S1x14336x128.size a := fun i v9 v10 k0_hw1 k0_t3 k0_t5 k0_h3 => k0_hw1.2.2.2.2.2.2.2.1 k0_t3 k0_t5 k0_h3
theorem k0_off16_inb : ∀ (i : grid0.Coords) (v9 : BitVec 32) (v10 : BitVec 32) (k0_hw1 : k0_chk1 i v9 v10) (k0_t3 : Fin k0_t3_loop.trips) (k0_t5 : Fin (k0_t5_loop v10).trips), ∀ (k0_h3 : k0_cond3 i v9 k0_t3 = 1#1), ∀ a, (k0_off16 v10 k0_t5) a + S256x128.size a ≤ S14336x128.size a := fun i v9 v10 k0_hw1 k0_t3 k0_t5 k0_h3 => k0_hw1.2.2.2.2.2.2.2.2.1 k0_t3 k0_t5 k0_h3
theorem k0_off17_inb : ∀ (i : grid0.Coords) (v9 : BitVec 32) (v10 : BitVec 32) (k0_hw1 : k0_chk1 i v9 v10) (k0_t3 : Fin k0_t3_loop.trips) (k0_t5 : Fin (k0_t5_loop v10).trips), ∀ (k0_h3 : k0_cond3 i v9 k0_t3 = 1#1), ∀ a, (k0_off17 v10 k0_t5) a + S128x256.size a ≤ S128x14336.size a := fun i v9 v10 k0_hw1 k0_t3 k0_t5 k0_h3 => k0_hw1.2.2.2.2.2.2.2.2.2 k0_t3 k0_t5 k0_h3

@[reducible] def k0_t6_loop (i : grid0.Coords) (k0_t3 : Fin k0_t3_loop.trips) : Scf.Loop 32 :=
  let c0_i32_36 : BitVec 32 := 0#32
  let arg2 : BitVec 32 := BitVec.ofNat 32 (i 2).val
  let c512_i32 : BitVec 32 := 512#32
  let v12 : BitVec 32 := Scalar.muli arg2 c512_i32
  let c0_i32_4 : BitVec 32 := 0#32
  let c1_i32 : BitVec 32 := 1#32
  let arg23 : BitVec 32 := Scf.iv c0_i32_4 c1_i32 k0_t3
  let c32_i32 : BitVec 32 := 32#32
  let v13 : BitVec 32 := Scalar.muli arg23 c32_i32
  let v14 : BitVec 32 := Scalar.addi v12 v13
  let c32_i32_30 : BitVec 32 := 32#32
  let v71 : BitVec 32 := Scalar.addi v14 c32_i32_30
  let c255_i32_31 : BitVec 32 := 255#32
  let v72 : BitVec 32 := Scalar.addi v71 c255_i32_31
  let c256_i32_32 : BitVec 32 := 256#32
  let v73 : BitVec 32 := Scalar.divsi v72 c256_i32_32
  let v77 : BitVec 32 := Scalar.subi v73 c0_i32_36
  let c1_i32_37 : BitVec 32 := 1#32
  let v79 : BitVec 32 := Scalar.divsi v77 c1_i32_37
  let v80 : BitVec 32 := Scalar.muli v79 c1_i32_37
  let v81 : BitVec 32 := Scalar.addi c0_i32_36 v80
  let c1_i32_38 : BitVec 32 := 1#32
  ⟨c0_i32_36, v81, c1_i32_38⟩
def k0_mult7 (i : grid0.Coords) (k0_t3 : Fin k0_t3_loop.trips) (k0_t6 : Fin (k0_t6_loop i k0_t3).trips) : BitVec 32 :=
  let c0_i32_36 : BitVec 32 := 0#32
  let c1_i32_38 : BitVec 32 := 1#32
  let arg24 : BitVec 32 := Scf.iv c0_i32_36 c1_i32_38 k0_t6
  let c256_i32_87 : BitVec 32 := 256#32
  let v225 : BitVec 32 := Scalar.muli arg24 c256_i32_87
  v225
def k0_off18 (i : grid0.Coords) (k0_t3 : Fin k0_t3_loop.trips) (k0_t6 : Fin (k0_t6_loop i k0_t3).trips) : Fin 4 → Nat :=
  let c0_88 : Index := 0#32
  let c0_89 : Index := 0#32
  let c0_i32_36 : BitVec 32 := 0#32
  let c1_i32_38 : BitVec 32 := 1#32
  let arg24 : BitVec 32 := Scf.iv c0_i32_36 c1_i32_38 k0_t6
  let c256_i32_87 : BitVec 32 := 256#32
  let v225 : BitVec 32 := Scalar.muli arg24 c256_i32_87
  let v226 : BitVec 32 := v225
  let v227 : Index := Scalar.indexCast v226
  let c0_90 : Index := 0#32
  ![0, 0, v227.toNat, 0]
def k0_off19 (i : grid0.Coords) (k0_t3 : Fin k0_t3_loop.trips) (k0_t6 : Fin (k0_t6_loop i k0_t3).trips) : Fin 2 → Nat :=
  let c0_i32_36 : BitVec 32 := 0#32
  let c1_i32_38 : BitVec 32 := 1#32
  let arg24 : BitVec 32 := Scf.iv c0_i32_36 c1_i32_38 k0_t6
  let c256_i32_87 : BitVec 32 := 256#32
  let v225 : BitVec 32 := Scalar.muli arg24 c256_i32_87
  let v226 : BitVec 32 := v225
  let v231 : Index := Scalar.indexCast v226
  let c0_92 : Index := 0#32
  ![v231.toNat, 0]
def k0_off20 (i : grid0.Coords) (k0_t3 : Fin k0_t3_loop.trips) (k0_t6 : Fin (k0_t6_loop i k0_t3).trips) : Fin 2 → Nat :=
  let c0_96 : Index := 0#32
  let c0_i32_36 : BitVec 32 := 0#32
  let c1_i32_38 : BitVec 32 := 1#32
  let arg24 : BitVec 32 := Scf.iv c0_i32_36 c1_i32_38 k0_t6
  let c256_i32_87 : BitVec 32 := 256#32
  let v225 : BitVec 32 := Scalar.muli arg24 c256_i32_87
  let v226 : BitVec 32 := v225
  let v256 : Index := Scalar.indexCast v226
  ![0, v256.toNat]
@[reducible] def k0_t7_loop (i : grid0.Coords) (k0_t3 : Fin k0_t3_loop.trips) : Scf.Loop 32 :=
  let c0_i32_36 : BitVec 32 := 0#32
  let arg2 : BitVec 32 := BitVec.ofNat 32 (i 2).val
  let c512_i32 : BitVec 32 := 512#32
  let v12 : BitVec 32 := Scalar.muli arg2 c512_i32
  let c0_i32_4 : BitVec 32 := 0#32
  let c1_i32 : BitVec 32 := 1#32
  let arg23 : BitVec 32 := Scf.iv c0_i32_4 c1_i32 k0_t3
  let c32_i32 : BitVec 32 := 32#32
  let v13 : BitVec 32 := Scalar.muli arg23 c32_i32
  let v14 : BitVec 32 := Scalar.addi v12 v13
  let c32_i32_30 : BitVec 32 := 32#32
  let v71 : BitVec 32 := Scalar.addi v14 c32_i32_30
  let c255_i32_31 : BitVec 32 := 255#32
  let v72 : BitVec 32 := Scalar.addi v71 c255_i32_31
  let c256_i32_32 : BitVec 32 := 256#32
  let v73 : BitVec 32 := Scalar.divsi v72 c256_i32_32
  let v77 : BitVec 32 := Scalar.subi v73 c0_i32_36
  let c1_i32_37 : BitVec 32 := 1#32
  let v79 : BitVec 32 := Scalar.divsi v77 c1_i32_37
  let v80 : BitVec 32 := Scalar.muli v79 c1_i32_37
  let v81 : BitVec 32 := Scalar.addi c0_i32_36 v80
  let v78 : BitVec 32 := Scalar.addi c0_i32_36 v77
  let c1_i32_39 : BitVec 32 := 1#32
  ⟨v81, v78, c1_i32_39⟩
def k0_mult8 (i : grid0.Coords) (k0_t3 : Fin k0_t3_loop.trips) (k0_t7 : Fin (k0_t7_loop i k0_t3).trips) : BitVec 32 :=
  let c0_i32_36 : BitVec 32 := 0#32
  let arg2 : BitVec 32 := BitVec.ofNat 32 (i 2).val
  let c512_i32 : BitVec 32 := 512#32
  let v12 : BitVec 32 := Scalar.muli arg2 c512_i32
  let c0_i32_4 : BitVec 32 := 0#32
  let c1_i32 : BitVec 32 := 1#32
  let arg23 : BitVec 32 := Scf.iv c0_i32_4 c1_i32 k0_t3
  let c32_i32 : BitVec 32 := 32#32
  let v13 : BitVec 32 := Scalar.muli arg23 c32_i32
  let v14 : BitVec 32 := Scalar.addi v12 v13
  let c32_i32_30 : BitVec 32 := 32#32
  let v71 : BitVec 32 := Scalar.addi v14 c32_i32_30
  let c255_i32_31 : BitVec 32 := 255#32
  let v72 : BitVec 32 := Scalar.addi v71 c255_i32_31
  let c256_i32_32 : BitVec 32 := 256#32
  let v73 : BitVec 32 := Scalar.divsi v72 c256_i32_32
  let v77 : BitVec 32 := Scalar.subi v73 c0_i32_36
  let c1_i32_37 : BitVec 32 := 1#32
  let v79 : BitVec 32 := Scalar.divsi v77 c1_i32_37
  let v80 : BitVec 32 := Scalar.muli v79 c1_i32_37
  let v81 : BitVec 32 := Scalar.addi c0_i32_36 v80
  let c1_i32_39 : BitVec 32 := 1#32
  let arg24 : BitVec 32 := Scf.iv v81 c1_i32_39 k0_t7
  let c256_i32_87 : BitVec 32 := 256#32
  let v225 : BitVec 32 := Scalar.muli arg24 c256_i32_87
  v225
def k0_off21 (i : grid0.Coords) (k0_t3 : Fin k0_t3_loop.trips) (k0_t7 : Fin (k0_t7_loop i k0_t3).trips) : Fin 4 → Nat :=
  let c0_88 : Index := 0#32
  let c0_89 : Index := 0#32
  let c0_i32_36 : BitVec 32 := 0#32
  let arg2 : BitVec 32 := BitVec.ofNat 32 (i 2).val
  let c512_i32 : BitVec 32 := 512#32
  let v12 : BitVec 32 := Scalar.muli arg2 c512_i32
  let c0_i32_4 : BitVec 32 := 0#32
  let c1_i32 : BitVec 32 := 1#32
  let arg23 : BitVec 32 := Scf.iv c0_i32_4 c1_i32 k0_t3
  let c32_i32 : BitVec 32 := 32#32
  let v13 : BitVec 32 := Scalar.muli arg23 c32_i32
  let v14 : BitVec 32 := Scalar.addi v12 v13
  let c32_i32_30 : BitVec 32 := 32#32
  let v71 : BitVec 32 := Scalar.addi v14 c32_i32_30
  let c255_i32_31 : BitVec 32 := 255#32
  let v72 : BitVec 32 := Scalar.addi v71 c255_i32_31
  let c256_i32_32 : BitVec 32 := 256#32
  let v73 : BitVec 32 := Scalar.divsi v72 c256_i32_32
  let v77 : BitVec 32 := Scalar.subi v73 c0_i32_36
  let c1_i32_37 : BitVec 32 := 1#32
  let v79 : BitVec 32 := Scalar.divsi v77 c1_i32_37
  let v80 : BitVec 32 := Scalar.muli v79 c1_i32_37
  let v81 : BitVec 32 := Scalar.addi c0_i32_36 v80
  let c1_i32_39 : BitVec 32 := 1#32
  let arg24 : BitVec 32 := Scf.iv v81 c1_i32_39 k0_t7
  let c256_i32_87 : BitVec 32 := 256#32
  let v225 : BitVec 32 := Scalar.muli arg24 c256_i32_87
  let v226 : BitVec 32 := v225
  let v227 : Index := Scalar.indexCast v226
  let c0_90 : Index := 0#32
  ![0, 0, v227.toNat, 0]
def k0_off22 (i : grid0.Coords) (k0_t3 : Fin k0_t3_loop.trips) (k0_t7 : Fin (k0_t7_loop i k0_t3).trips) : Fin 2 → Nat :=
  let c0_i32_36 : BitVec 32 := 0#32
  let arg2 : BitVec 32 := BitVec.ofNat 32 (i 2).val
  let c512_i32 : BitVec 32 := 512#32
  let v12 : BitVec 32 := Scalar.muli arg2 c512_i32
  let c0_i32_4 : BitVec 32 := 0#32
  let c1_i32 : BitVec 32 := 1#32
  let arg23 : BitVec 32 := Scf.iv c0_i32_4 c1_i32 k0_t3
  let c32_i32 : BitVec 32 := 32#32
  let v13 : BitVec 32 := Scalar.muli arg23 c32_i32
  let v14 : BitVec 32 := Scalar.addi v12 v13
  let c32_i32_30 : BitVec 32 := 32#32
  let v71 : BitVec 32 := Scalar.addi v14 c32_i32_30
  let c255_i32_31 : BitVec 32 := 255#32
  let v72 : BitVec 32 := Scalar.addi v71 c255_i32_31
  let c256_i32_32 : BitVec 32 := 256#32
  let v73 : BitVec 32 := Scalar.divsi v72 c256_i32_32
  let v77 : BitVec 32 := Scalar.subi v73 c0_i32_36
  let c1_i32_37 : BitVec 32 := 1#32
  let v79 : BitVec 32 := Scalar.divsi v77 c1_i32_37
  let v80 : BitVec 32 := Scalar.muli v79 c1_i32_37
  let v81 : BitVec 32 := Scalar.addi c0_i32_36 v80
  let c1_i32_39 : BitVec 32 := 1#32
  let arg24 : BitVec 32 := Scf.iv v81 c1_i32_39 k0_t7
  let c256_i32_87 : BitVec 32 := 256#32
  let v225 : BitVec 32 := Scalar.muli arg24 c256_i32_87
  let v226 : BitVec 32 := v225
  let v231 : Index := Scalar.indexCast v226
  let c0_92 : Index := 0#32
  ![v231.toNat, 0]
def k0_off23 (i : grid0.Coords) (k0_t3 : Fin k0_t3_loop.trips) (k0_t7 : Fin (k0_t7_loop i k0_t3).trips) : Fin 2 → Nat :=
  let c0_96 : Index := 0#32
  let c0_i32_36 : BitVec 32 := 0#32
  let arg2 : BitVec 32 := BitVec.ofNat 32 (i 2).val
  let c512_i32 : BitVec 32 := 512#32
  let v12 : BitVec 32 := Scalar.muli arg2 c512_i32
  let c0_i32_4 : BitVec 32 := 0#32
  let c1_i32 : BitVec 32 := 1#32
  let arg23 : BitVec 32 := Scf.iv c0_i32_4 c1_i32 k0_t3
  let c32_i32 : BitVec 32 := 32#32
  let v13 : BitVec 32 := Scalar.muli arg23 c32_i32
  let v14 : BitVec 32 := Scalar.addi v12 v13
  let c32_i32_30 : BitVec 32 := 32#32
  let v71 : BitVec 32 := Scalar.addi v14 c32_i32_30
  let c255_i32_31 : BitVec 32 := 255#32
  let v72 : BitVec 32 := Scalar.addi v71 c255_i32_31
  let c256_i32_32 : BitVec 32 := 256#32
  let v73 : BitVec 32 := Scalar.divsi v72 c256_i32_32
  let v77 : BitVec 32 := Scalar.subi v73 c0_i32_36
  let c1_i32_37 : BitVec 32 := 1#32
  let v79 : BitVec 32 := Scalar.divsi v77 c1_i32_37
  let v80 : BitVec 32 := Scalar.muli v79 c1_i32_37
  let v81 : BitVec 32 := Scalar.addi c0_i32_36 v80
  let c1_i32_39 : BitVec 32 := 1#32
  let arg24 : BitVec 32 := Scf.iv v81 c1_i32_39 k0_t7
  let c256_i32_87 : BitVec 32 := 256#32
  let v225 : BitVec 32 := Scalar.muli arg24 c256_i32_87
  let v226 : BitVec 32 := v225
  let v256 : Index := Scalar.indexCast v226
  ![0, v256.toNat]
def k0_off24 (k0_t3 : Fin k0_t3_loop.trips) : Fin 3 → Nat :=
  let c0_45 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v111 : Index := Scalar.indexCast v18
  let c0_46 : Index := 0#32
  ![0, v111.toNat, 0]
def k0_off25 (k0_t3 : Fin k0_t3_loop.trips) : Fin 3 → Nat :=
  let c0_48 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v117 : Index := Scalar.indexCast v18
  let c128 : Index := 128#32
  ![0, v117.toNat, 128]
def k0_off26 (k0_t3 : Fin k0_t3_loop.trips) : Fin 3 → Nat :=
  let c0_50 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v123 : Index := Scalar.indexCast v18
  let c256 : Index := 256#32
  ![0, v123.toNat, 256]
def k0_off27 (k0_t3 : Fin k0_t3_loop.trips) : Fin 3 → Nat :=
  let c0_52 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v129 : Index := Scalar.indexCast v18
  let c384 : Index := 384#32
  ![0, v129.toNat, 384]
def k0_off28 (k0_t3 : Fin k0_t3_loop.trips) : Fin 3 → Nat :=
  let c0_54 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v135 : Index := Scalar.indexCast v18
  let c512 : Index := 512#32
  ![0, v135.toNat, 512]
def k0_off29 (k0_t3 : Fin k0_t3_loop.trips) : Fin 3 → Nat :=
  let c0_56 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v141 : Index := Scalar.indexCast v18
  let c640 : Index := 640#32
  ![0, v141.toNat, 640]
def k0_off30 (k0_t3 : Fin k0_t3_loop.trips) : Fin 3 → Nat :=
  let c0_58 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v147 : Index := Scalar.indexCast v18
  let c768 : Index := 768#32
  ![0, v147.toNat, 768]
def k0_off31 (k0_t3 : Fin k0_t3_loop.trips) : Fin 3 → Nat :=
  let c0_60 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v153 : Index := Scalar.indexCast v18
  let c896 : Index := 896#32
  ![0, v153.toNat, 896]
def k0_off32 (k0_t3 : Fin k0_t3_loop.trips) : Fin 3 → Nat :=
  let c0_62 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v159 : Index := Scalar.indexCast v18
  let c1024 : Index := 1024#32
  ![0, v159.toNat, 1024]
def k0_off33 (k0_t3 : Fin k0_t3_loop.trips) : Fin 3 → Nat :=
  let c0_64 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v165 : Index := Scalar.indexCast v18
  let c1152 : Index := 1152#32
  ![0, v165.toNat, 1152]
def k0_off34 (k0_t3 : Fin k0_t3_loop.trips) : Fin 3 → Nat :=
  let c0_66 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v171 : Index := Scalar.indexCast v18
  let c1280 : Index := 1280#32
  ![0, v171.toNat, 1280]
def k0_off35 (k0_t3 : Fin k0_t3_loop.trips) : Fin 3 → Nat :=
  let c0_68 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v177 : Index := Scalar.indexCast v18
  let c1408 : Index := 1408#32
  ![0, v177.toNat, 1408]
def k0_off36 (k0_t3 : Fin k0_t3_loop.trips) : Fin 3 → Nat :=
  let c0_70 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v183 : Index := Scalar.indexCast v18
  let c1536 : Index := 1536#32
  ![0, v183.toNat, 1536]
def k0_off37 (k0_t3 : Fin k0_t3_loop.trips) : Fin 3 → Nat :=
  let c0_72 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v189 : Index := Scalar.indexCast v18
  let c1664 : Index := 1664#32
  ![0, v189.toNat, 1664]
def k0_off38 (k0_t3 : Fin k0_t3_loop.trips) : Fin 3 → Nat :=
  let c0_74 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v195 : Index := Scalar.indexCast v18
  let c1792 : Index := 1792#32
  ![0, v195.toNat, 1792]
def k0_off39 (k0_t3 : Fin k0_t3_loop.trips) : Fin 3 → Nat :=
  let c0_76 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v201 : Index := Scalar.indexCast v18
  let c1920 : Index := 1920#32
  ![0, v201.toNat, 1920]
def k0_off40 (k0_t3 : Fin k0_t3_loop.trips) : Fin 4 → Nat :=
  let c0_79 : Index := 0#32
  let c0_80 : Index := 0#32
  let c0_81 : Index := 0#32
  let c0_i32_4 : BitVec 32 := 0#32
  let c1_i32 : BitVec 32 := 1#32
  let arg23 : BitVec 32 := Scf.iv c0_i32_4 c1_i32 k0_t3
  let c512_i32_6 : BitVec 32 := 512#32
  let v15 : BitVec 32 := Scalar.muli arg23 c512_i32_6
  let v16 : BitVec 32 := v15
  let v211 : Index := Scalar.indexCast v16
  ![0, 0, 0, v211.toNat]
def k0_off41 (k0_t3 : Fin k0_t3_loop.trips) : Fin 3 → Nat :=
  let c0_17 : Index := 0#32
  let c0_i32_4 : BitVec 32 := 0#32
  let c1_i32 : BitVec 32 := 1#32
  let arg23 : BitVec 32 := Scf.iv c0_i32_4 c1_i32 k0_t3
  let c32_i32_7 : BitVec 32 := 32#32
  let v17 : BitVec 32 := Scalar.muli arg23 c32_i32_7
  let v18 : BitVec 32 := v17
  let v53 : Index := Scalar.indexCast v18
  let c0_18 : Index := 0#32
  ![0, v53.toNat, 0]
def k0_off42 (k0_t3 : Fin k0_t3_loop.trips) : Fin 4 → Nat :=
  let c0_20 : Index := 0#32
  let c0_21 : Index := 0#32
  let c0_22 : Index := 0#32
  let c0_i32_4 : BitVec 32 := 0#32
  let c1_i32 : BitVec 32 := 1#32
  let arg23 : BitVec 32 := Scf.iv c0_i32_4 c1_i32 k0_t3
  let c512_i32_6 : BitVec 32 := 512#32
  let v15 : BitVec 32 := Scalar.muli arg23 c512_i32_6
  let v16 : BitVec 32 := v15
  let v58 : Index := Scalar.indexCast v16
  ![0, 0, 0, v58.toNat]
def k0_cond4 (i : grid0.Coords) (v9 : BitVec 32) (k0_t3 : Fin k0_t3_loop.trips) : BitVec 1 :=
  let arg2 : BitVec 32 := BitVec.ofNat 32 (i 2).val
  let c512_i32 : BitVec 32 := 512#32
  let v12 : BitVec 32 := Scalar.muli arg2 c512_i32
  let c0_i32_4 : BitVec 32 := 0#32
  let c1_i32 : BitVec 32 := 1#32
  let arg23 : BitVec 32 := Scf.iv c0_i32_4 c1_i32 k0_t3
  let c32_i32 : BitVec 32 := 32#32
  let v13 : BitVec 32 := Scalar.muli arg23 c32_i32
  let v14 : BitVec 32 := Scalar.addi v12 v13
  let v19 : BitVec 1 := Scalar.cmpi .slt v14 v9
  let v_true : BitVec 1 := 1#1
  let v49 : BitVec 1 := Scalar.xori v19 v_true
  let v50 : BitVec 32 := Scalar.extui v49
  let c0_i32_16 : BitVec 32 := 0#32
  let v51 : BitVec 1 := Scalar.cmpi .ne v50 c0_i32_16
  v51

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x8192x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x14336x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x128x14336 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x14336 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x14336 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x128x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x1x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x1x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== KernelIdeal.lean ====
variable {F : FTy → Type} [FloatOps F] [Named F]
def κ : String → Option EReal := fun
  | "ln2" => some ((Real.log 2 : ℝ) : EReal)
  | "score_scale_log2e" => some (((11863283 / 134217728) * (Real.log 2)⁻¹ : ℝ) : EReal)
  | _ => none
-- ==== ReferenceIdeal.lean ====
abbrev S6x2048x64x128 : Shape := ⟨4, ![6, 2048, 64, 128]⟩
abbrev S6x2048x64 : Shape := ⟨3, ![6, 2048, 64]⟩
abbrev S14336x4x128 : Shape := ⟨3, ![14336, 4, 128]⟩
abbrev S14336x4 : Shape := ⟨2, ![14336, 4]⟩
abbrev S6x2048x4x128 : Shape := ⟨4, ![6, 2048, 4, 128]⟩
abbrev S6x2048x4 : Shape := ⟨3, ![6, 2048, 4]⟩
abbrev S1 : Shape := ⟨1, ![1]⟩
abbrev S6 : Shape := ⟨1, ![6]⟩
abbrev S6x2048x4x16x128 : Shape := ⟨5, ![6, 2048, 4, 16, 128]⟩
abbrev S4x6x2048x16x128 : Shape := ⟨5, ![4, 6, 2048, 16, 128]⟩
abbrev S6x2048x4x16 : Shape := ⟨4, ![6, 2048, 4, 16]⟩
abbrev S4x6x2048x16 : Shape := ⟨4, ![4, 6, 2048, 16]⟩
abbrev S4x6x2048x16x1 : Shape := ⟨5, ![4, 6, 2048, 16, 1]⟩
abbrev S4x14336 : Shape := ⟨2, ![4, 14336]⟩
abbrev S_ : Shape := ⟨0, ![]⟩
abbrev S4x1x1x1x14336 : Shape := ⟨5, ![4, 1, 1, 1, 14336]⟩
abbrev S4x6x2048x16x14336 : Shape := ⟨5, ![4, 6, 2048, 16, 14336]⟩
abbrev S14336 : Shape := ⟨1, ![14336]⟩
abbrev S4x6x2048 : Shape := ⟨3, ![4, 6, 2048]⟩
abbrev S4x6x1x1x2048 : Shape := ⟨5, ![4, 6, 1, 1, 2048]⟩
abbrev S4x6x2048x16x2048 : Shape := ⟨5, ![4, 6, 2048, 16, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x1x2048 : Shape := ⟨5, ![1, 1, 2048, 1, 2048]⟩
abbrev S6x1 : Shape := ⟨2, ![6, 1]⟩
abbrev S6x2048 : Shape := ⟨2, ![6, 2048]⟩
abbrev S6x2048x1x1x1 : Shape := ⟨5, ![6, 2048, 1, 1, 1]⟩
abbrev S6x2048x8192 : Shape := ⟨3, ![6, 2048, 8192]⟩
abbrev S1x2048x1 : Shape := ⟨3, ![1, 2048, 1]⟩
abbrev S6x2048x1 : Shape := ⟨3, ![6, 2048, 1]⟩

abbrev nBuf : Space → Nat
  | .hbm => 161
  | .vmem => 10
  | .smem => 0
  | _ => 0

abbrev hbmTy0_0 (i : Nat) : BufTy := match i % 128 with
  | 0 => ⟨S6x2048x64x128, .fp8e4m3⟩
  | 1 => ⟨S6x2048x64, .f32⟩
  | 2 => ⟨S14336x4x128, .fp8e4m3⟩
  | 3 => ⟨S14336x4x128, .fp8e4m3⟩
  | 4 => ⟨S14336x4, .f32⟩
  | 5 => ⟨S14336x4, .f32⟩
  | 6 => ⟨S6x2048x4x128, .fp8e4m3⟩
  | 7 => ⟨S6x2048x4x128, .fp8e4m3⟩
  | 8 => ⟨S6x2048x4, .f32⟩
  | 9 => ⟨S6x2048x4, .f32⟩
  | 10 => ⟨S1, .i32⟩
  | 11 => ⟨S6, .i32⟩
  | 12 => ⟨S6x2048x64x128, .f32⟩
  | 13 => ⟨S14336x4x128, .f32⟩
  | 14 => ⟨S14336x4x128, .bf16⟩
  | 15 => ⟨S6x2048x4x128, .f32⟩
  | 16 => ⟨S6x2048x4x128, .bf16⟩
  | 17 => ⟨S6x2048x4x16x128, .f32⟩
  | 18 => ⟨S4x6x2048x16x128, .f32⟩
  | 19 => ⟨S6x2048x4x16, .f32⟩
  | 20 => ⟨S4x6x2048x16, .f32⟩
  | 21 => ⟨S4x6x2048x16x1, .f32⟩
  | 22 => ⟨S4x14336, .f32⟩
  | 23 => ⟨S_, .f32⟩
  | 24 => ⟨S4x14336, .f32⟩
  | 25 => ⟨S4x14336, .f32⟩
  | 26 => ⟨S4x1x1x1x14336, .f32⟩
  | 27 => ⟨S4x14336, .f32⟩
  | 28 => ⟨S4x1x1x1x14336, .f32⟩
  | 29 => ⟨S4x6x2048x16x14336, .f32⟩
  | 30 => ⟨S14336, .i32⟩
  | 31 => ⟨S_, .i32⟩
  | 32 => ⟨S14336, .i32⟩
  | 33 => ⟨S14336, .i1⟩
  | 34 => ⟨S4x6x2048x16x14336, .f32⟩
  | 35 => ⟨S4x6x2048x16x14336, .f32⟩
  | 36 => ⟨S4x6x2048x16x14336, .f32⟩
  | 37 => ⟨S4x6x2048x16x14336, .f32⟩
  | 38 => ⟨S_, .f32⟩
  | 39 => ⟨S_, .f32⟩
  | 40 => ⟨S4x6x2048x16x14336, .i1⟩
  | 41 => ⟨S4x6x2048x16x14336, .f32⟩
  | 42 => ⟨S4x6x2048x16x14336, .f32⟩
  | 43 => ⟨S_, .f32⟩
  | 44 => ⟨S4x6x2048x16, .f32⟩
  | 45 => ⟨S4x6x2048x16x1, .f32⟩
  | 46 => ⟨S4x6x2048x16x14336, .f32⟩
  | 47 => ⟨S4x6x2048x16x14336, .f32⟩
  | 48 => ⟨S4x6x2048x16x14336, .f32⟩
  | 49 => ⟨S_, .f32⟩
  | 50 => ⟨S4x6x2048x16, .f32⟩
  | 51 => ⟨S4x6x2048x16x1, .f32⟩
  | 52 => ⟨S4x6x2048x16x1, .f32⟩
  | 53 => ⟨S4x6x2048x16x1, .f32⟩
  | 54 => ⟨S4x6x2048x16, .f32⟩
  | 55 => ⟨S4x6x2048, .f32⟩
  | 56 => ⟨S_, .f32⟩
  | 57 => ⟨S4x6x2048, .f32⟩
  | 58 => ⟨S4x6x2048, .f32⟩
  | 59 => ⟨S4x6x1x1x2048, .f32⟩
  | 60 => ⟨S4x6x2048, .f32⟩
  | 61 => ⟨S4x6x1x1x2048, .f32⟩
  | 62 => ⟨S4x6x2048x16x2048, .f32⟩
  | 63 => ⟨S2048, .i32⟩
  | 64 => ⟨S1x2048, .i32⟩
  | 65 => ⟨S2048, .i32⟩
  | 66 => ⟨S2048x1, .i32⟩
  | 67 => ⟨S2048x2048, .i32⟩
  | 68 => ⟨S2048x2048, .i32⟩
  | 69 => ⟨S2048x2048, .i1⟩
  | 70 => ⟨S1x1x2048x1x2048, .i1⟩
  | 71 => ⟨S4x6x2048x16x2048, .f32⟩
  | 72 => ⟨S4x6x2048x16x2048, .f32⟩
  | 73 => ⟨S4x6x2048x16x2048, .f32⟩
  | 74 => ⟨S4x6x2048x16x2048, .f32⟩
  | 75 => ⟨S_, .f32⟩
  | 76 => ⟨S_, .f32⟩
  | 77 => ⟨S4x6x2048x16x2048, .i1⟩
  | 78 => ⟨S4x6x2048x16x2048, .f32⟩
  | 79 => ⟨S4x6x2048x16x2048, .f32⟩
  | 80 => ⟨S_, .f32⟩
  | 81 => ⟨S4x6x2048x16, .f32⟩
  | 82 => ⟨S4x6x2048x16x1, .f32⟩
  | 83 => ⟨S4x6x2048x16x2048, .f32⟩
  | 84 => ⟨S4x6x2048x16x2048, .f32⟩
  | 85 => ⟨S4x6x2048x16x2048, .f32⟩
  | 86 => ⟨S_, .f32⟩
  | 87 => ⟨S4x6x2048x16, .f32⟩
  | 88 => ⟨S4x6x2048x16x1, .f32⟩
  | 89 => ⟨S4x6x2048x16x1, .f32⟩
  | 90 => ⟨S4x6x2048x16x1, .f32⟩
  | 91 => ⟨S4x6x2048x16, .f32⟩
  | 92 => ⟨S4x6x2048x16x1, .f32⟩
  | 93 => ⟨S4x6x2048x16x14336, .f32⟩
  | 94 => ⟨S4x6x2048x16x14336, .f32⟩
  | 95 => ⟨S4x6x2048x16x14336, .f32⟩
  | 96 => ⟨S4x6x2048x16x2048, .f32⟩
  | 97 => ⟨S4x6x2048x16x2048, .f32⟩
  | 98 => ⟨S4x6x2048x16x2048, .f32⟩
  | 99 => ⟨S_, .f32⟩
  | 100 => ⟨S4x6x2048x16, .f32⟩
  | 101 => ⟨S4x6x2048x16x1, .f32⟩
  | 102 => ⟨S_, .f32⟩
  | 103 => ⟨S4x6x2048x16, .f32⟩
  | 104 => ⟨S4x6x2048x16x1, .f32⟩
  | 105 => ⟨S4x6x2048x16x1, .f32⟩
  | 106 => ⟨S4x6x2048x16x14336, .f32⟩
  | 107 => ⟨S4x6x2048x16x14336, .f32⟩
  | 108 => ⟨S4x6x2048x16x14336, .bf16⟩
  | 109 => ⟨S4x6x2048x16x128, .f32⟩
  | 110 => ⟨S4x6x2048x16x2048, .f32⟩
  | 111 => ⟨S4x6x2048x16x2048, .f32⟩
  | 112 => ⟨S4x6x2048x16x2048, .bf16⟩
  | 113 => ⟨S4x6x2048x16x128, .f32⟩
  | 114 => ⟨S4x6x2048x16x128, .f32⟩
  | 115 => ⟨S4x6x2048x16x128, .f32⟩
  | 116 => ⟨S4x6x2048x16x128, .f32⟩
  | 117 => ⟨S6x2048x4x16x128, .f32⟩
  | 118 => ⟨S2048, .i32⟩
  | 119 => ⟨S1x2048, .i32⟩
  | 120 => ⟨S6x1, .i32⟩
  | 121 => ⟨S6x2048, .i32⟩
  | 122 => ⟨S6x2048, .i32⟩
  | 123 => ⟨S6x2048, .i1⟩
  | 124 => ⟨S6x2048x1x1x1, .i1⟩
  | 125 => ⟨S_, .f32⟩
  | 126 => ⟨S_, .f32⟩
  | 127 => ⟨S6x2048x4x16x128, .i1⟩
  | _ => ⟨S6x2048x64x128, .fp8e4m3⟩

abbrev hbmTy0_1 (i : Nat) : BufTy := match i % 128 with
  | 0 => ⟨S6x2048x4x16x128, .f32⟩
  | 1 => ⟨S6x2048x4x16x128, .f32⟩
  | 2 => ⟨S6x2048x8192, .f32⟩
  | 3 => ⟨S6x2048x8192, .bf16⟩
  | 4 => ⟨S2048, .f32⟩
  | 5 => ⟨S_, .f32⟩
  | 6 => ⟨S2048, .f32⟩
  | 7 => ⟨S2048, .f32⟩
  | 8 => ⟨S2048, .f32⟩
  | 9 => ⟨S1x2048x1, .f32⟩
  | 10 => ⟨S6x2048x1, .i1⟩
  | 11 => ⟨S6x2048x4x16, .f32⟩
  | 12 => ⟨S6x2048x64, .f32⟩
  | 13 => ⟨S_, .i32⟩
  | 14 => ⟨S_, .f32⟩
  | 15 => ⟨S_, .f32⟩
  | 16 => ⟨S6x2048x64, .f32⟩
  | 17 => ⟨S6x2048x64, .f32⟩
  | 18 => ⟨S_, .f32⟩
  | 19 => ⟨S_, .f32⟩
  | 20 => ⟨S6x2048x64, .i1⟩
  | 21 => ⟨S6x2048x64, .f32⟩
  | 22 => ⟨S6x2048x64, .f32⟩
  | 23 => ⟨S6x2048x1, .i1⟩
  | 24 => ⟨S6x2048x4x16, .f32⟩
  | 25 => ⟨S6x2048x64, .f32⟩
  | 26 => ⟨S6x2048x64, .f32⟩
  | 27 => ⟨S6x2048x64, .f32⟩
  | 28 => ⟨S_, .f32⟩
  | 29 => ⟨S_, .f32⟩
  | 30 => ⟨S6x2048x64, .i1⟩
  | 31 => ⟨S6x2048x64, .f32⟩
  | 32 => ⟨S6x2048x64, .f32⟩
  | _ => ⟨S6x2048x64x128, .fp8e4m3⟩

abbrev hbmTy (i : Nat) : BufTy := match i / 128 with
  | 0 => hbmTy0_0 i
  | 1 => hbmTy0_1 i
  | _ => ⟨S6x2048x64x128, .fp8e4m3⟩

abbrev bufTy : (tb : Table) → Fin (tcTables nBuf tb) → BufTy
  | .hbm, ⟨i, _⟩ => hbmTy i
  | .local _ .vmem, ⟨0, _⟩ => ⟨S6x2048x64x128, .fp8e4m3⟩
  | .local _ .vmem, ⟨1, _⟩ => ⟨S14336x4x128, .fp8e4m3⟩
  | .local _ .vmem, ⟨2, _⟩ => ⟨S14336x4x128, .fp8e4m3⟩
  | .local _ .vmem, ⟨3, _⟩ => ⟨S6x2048x4x128, .fp8e4m3⟩
  | .local _ .vmem, ⟨4, _⟩ => ⟨S6x2048x4x128, .fp8e4m3⟩
  | .local _ .vmem, ⟨5, _⟩ => ⟨S6x2048x64x128, .f32⟩
  | .local _ .vmem, ⟨6, _⟩ => ⟨S14336x4x128, .f32⟩
  | .local _ .vmem, ⟨7, _⟩ => ⟨S14336x4x128, .bf16⟩
  | .local _ .vmem, ⟨8, _⟩ => ⟨S6x2048x4x128, .f32⟩
  | .local _ .vmem, ⟨9, _⟩ => ⟨S6x2048x4x128, .bf16⟩
  | _, _ => ⟨S6x2048x64x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_4 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v51 : Ref sig .tc := ⟨.hbm, 79, rfl⟩
abbrev main_cst_5 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_7 : Ref sig .tc := ⟨.hbm, 99, rfl⟩
abbrev main_v69 : Ref sig .tc := ⟨.hbm, 100, rfl⟩
abbrev main_v70 : Ref sig .tc := ⟨.hbm, 101, rfl⟩
abbrev main_cst_8 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_9 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_10 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_11 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_12 : Ref sig .tc := ⟨.hbm, 156, rfl⟩
abbrev main_call4_v0 : Ref sig .tc := ⟨.hbm, 157, rfl⟩
abbrev main_call4_v1 : Ref sig .tc := ⟨.hbm, 158, rfl⟩
abbrev main_call4_v2 : Ref sig .tc := ⟨.hbm, 159, rfl⟩
abbrev main_v115 : Ref sig .tc := ⟨.hbm, 160, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x2048x64x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x2048x4x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2048x4x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2048x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14336x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14336x4x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x2048x4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x2048x4x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KTile.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Lib.Pipeline.Frame

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the frame kit. -/
local notation "𝕄G" => MT nD τ sig Unit (Elt F) ℕ (UR sig nD τ) ℕ
abbrev 𝒱₀ : Variants := Variants.none

/-- A tile whose first row is live runs the first branch only. -/
theorem cond4_of_cond3 (i : grid0.Coords) (v9 : BitVec 32) (k : Fin k0_t3_loop.trips) (h : k0_cond3 i v9 k = 1#1) :
    ¬ k0_cond4 i v9 k = 1#1 := by
  unfold k0_cond3 at h
  unfold k0_cond4
  simp only [Scalar.cmpi, Scalar.extui, Scalar.xori] at h ⊢
  revert h
  generalize IntOp.cmpi CmpIPredicate.slt _ _ = b
  revert b; decide

/-- What one tile touches: what it reads at its contents, what it writes at any. -/
abbrev TileRes (c : Dev nD) (arg5 : Memref sig .tc .vmem S1x1x8192x128 .fp8e4m3) (arg6 : Memref sig .tc .vmem S1x1x1x8192 .f32) (arg7 : Memref sig .tc .vmem S1x14336x128 .fp8e4m3) (arg11 : Memref sig .tc .vmem S1x1x2048x128 .fp8e4m3) (arg15 : Memref sig .tc .vmem S1x512x2048 .bf16) (arg16 : Memref sig .tc .vmem S1x1x1x8192 .f32) (arg17 : Memref sig .tc .vmem S1x1x1x8192 .f32) (arg18 : Memref sig .tc .vmem S14336x128 .f32) (arg19 : Memref sig .tc .vmem S128x14336 .bf16) (arg20 : Memref sig .tc .vmem S2048x128 .f32) (arg21 : Memref sig .tc .vmem S128x2048 .bf16) (arg22 : Memref sig .tc .vmem S512x128 .f32) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (f_arg15 : BufTy.Contents (Elt F) arg15.view.ty) (f_arg16 : BufTy.Contents (Elt F) arg16.view.ty) (f_arg17 : BufTy.Contents (Elt F) arg17.view.ty) (f_arg22 : BufTy.Contents (Elt F) arg22.view.ty) : sProp 𝕄G :=
  iprop((arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg11.view.loc (c : Thread nD τ) ↦[arg11.view.set]{fullShare} X_arg11) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg22.view.loc (c : Thread nD τ) ↦[arg22.view.set]{fullShare} f_arg22))

variable (c : Dev nD) (i : grid0.Coords) (arg3 : Memref sig .tc .smem S6 .i32) (harg3 : arg3.IsWhole) (arg4 : Memref sig .tc .smem S1 .i32) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x14336x128 .fp8e4m3) (harg7 : arg7.IsWhole) (arg8 : Memref sig .tc .vmem S1x128x14336 .fp8e4m3) (harg8 : arg8.IsWhole) (arg9 : Memref sig .tc .vmem S1x1x14336 .f32) (harg9 : arg9.IsWhole) (arg10 : Memref sig .tc .vmem S1x1x14336 .f32) (harg10 : arg10.IsWhole) (arg11 : Memref sig .tc .vmem S1x1x2048x128 .fp8e4m3) (harg11 : arg11.IsWhole) (arg12 : Memref sig .tc .vmem S1x1x128x2048 .fp8e4m3) (harg12 : arg12.IsWhole) (arg13 : Memref sig .tc .vmem S1x1x1x2048 .f32) (harg13 : arg13.IsWhole) (arg14 : Memref sig .tc .vmem S1x1x1x2048 .f32) (harg14 : arg14.IsWhole) (arg15 : Memref sig .tc .vmem S1x512x2048 .bf16) (harg15 : arg15.IsWhole) (arg16 : Memref sig .tc .vmem S1x1x1x8192 .f32) (harg16 : arg16.IsWhole) (arg17 : Memref sig .tc .vmem S1x1x1x8192 .f32) (harg17 : arg17.IsWhole) (arg18 : Memref sig .tc .vmem S14336x128 .f32) (harg18 : arg18.IsWhole) (arg19 : Memref sig .tc .vmem S128x14336 .bf16) (harg19 : arg19.IsWhole) (arg20 : Memref sig .tc .vmem S2048x128 .f32) (harg20 : arg20.IsWhole) (arg21 : Memref sig .tc .vmem S128x2048 .bf16) (harg21 : arg21.IsWhole) (arg22 : Memref sig .tc .vmem S512x128 .f32) (harg22 : arg22.IsWhole)

set_option maxHeartbeats 4000000 in
/-- One live tile, run at a symbolic trip. -/
@[irreducible] def tripLive (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t3_loop.trips) (k0_h3 : k0_cond3 i v9 k = 1#1) :
    Σ' (L_arg15 : List (View.Piece (Elt F) S1x512x2048 .bf16)) (L_arg16 : List (View.Piece (Elt F) S1x1x1x8192 .f32)) (L_arg17 : List (View.Piece (Elt F) S1x1x1x8192 .f32)), { L_arg22 : List (View.Piece (Elt F) S512x128 .f32) // ∀ (E : Set ℕ) (f_arg15 : BufTy.Contents (Elt F) arg15.view.ty) (f_arg16 : BufTy.Contents (Elt F) arg16.view.ty) (f_arg17 : BufTy.Contents (Elt F) arg17.view.ty) (f_arg22 : BufTy.Contents (Elt F) arg22.view.ty),
      TileRes (F := F) c arg5 arg6 arg7 arg11 arg15 arg16 arg17 arg18 arg19 arg20 arg21 arg22 X_arg5 X_arg6 X_arg7 X_arg11 X_arg18 X_arg19 X_arg20 X_arg21 f_arg15 f_arg16 f_arg17 f_arg22
      ⊢ wp frame (wpE (defs₀ (F := F)) 𝒱₀ (c : Thread nD τ) none) E (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 k PUnit.unit)
          (fun _ => TileRes (F := F) c arg5 arg6 arg7 arg11 arg15 arg16 arg17 arg18 arg19 arg20 arg21 arg22 X_arg5 X_arg6 X_arg7 X_arg11 X_arg18 X_arg19 X_arg20 X_arg21 (arg15.view.writes (Elt F) f_arg15 L_arg15) (arg16.view.writes (Elt F) f_arg16 L_arg16) (arg17.view.writes (Elt F) f_arg17 L_arg17) (arg22.view.writes (Elt F) f_arg22 L_arg22)) } := by
  have hk : k.val < 16 := Nat.lt_of_lt_of_le k.isLt k0_t3_abs.2.1
  have k0_h4 := cond4_of_cond3 i v9 k k0_h3
  refine ⟨?_, ?_, ?_, ?_, fun E f_arg15 f_arg16 f_arg17 f_arg22 => ?run⟩
  case run =>
    sl_unfold [k0_t3_body]
    iintro ⟨HR_arg5, HR_arg6, HR_arg7, HR_arg11, HR_arg18, HR_arg19, HR_arg20, HR_arg21, HW_arg15, HW_arg16, HW_arg17, HW_arg22⟩
    sl_exec
    sl_step
    sl_close

/-- A tile whose first row is not live runs the second branch. -/
theorem cond4_of_not (i : grid0.Coords) (v9 : BitVec 32) (k : Fin k0_t3_loop.trips) (h : ¬ k0_cond3 i v9 k = 1#1) :
    k0_cond4 i v9 k = 1#1 := by
  unfold k0_cond3 at h
  unfold k0_cond4
  simp only [Scalar.cmpi, Scalar.extui, Scalar.xori] at h ⊢
  revert h
  generalize IntOp.cmpi CmpIPredicate.slt _ _ = b
  revert b; decide

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

set_option maxHeartbeats 4000000 in
/-- One dead tile, run at a symbolic trip. -/
@[irreducible] def tripDead (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t3_loop.trips) (k0_h3 : ¬ k0_cond3 i v9 k = 1#1) :
    Σ' (L_arg15 : List (View.Piece (Elt F) S1x512x2048 .bf16)) (L_arg16 : List (View.Piece (Elt F) S1x1x1x8192 .f32)), { L_arg17 : List (View.Piece (Elt F) S1x1x1x8192 .f32) // ∀ (E : Set ℕ) (f_arg15 : BufTy.Contents (Elt F) arg15.view.ty) (f_arg16 : BufTy.Contents (Elt F) arg16.view.ty) (f_arg17 : BufTy.Contents (Elt F) arg17.view.ty) (f_arg22 : BufTy.Contents (Elt F) arg22.view.ty),
      TileRes (F := F) c arg5 arg6 arg7 arg11 arg15 arg16 arg17 arg18 arg19 arg20 arg21 arg22 X_arg5 X_arg6 X_arg7 X_arg11 X_arg18 X_arg19 X_arg20 X_arg21 f_arg15 f_arg16 f_arg17 f_arg22
      ⊢ wp frame (wpE (defs₀ (F := F)) 𝒱₀ (c : Thread nD τ) none) E (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 k PUnit.unit)
          (fun _ => TileRes (F := F) c arg5 arg6 arg7 arg11 arg15 arg16 arg17 arg18 arg19 arg20 arg21 arg22 X_arg5 X_arg6 X_arg7 X_arg11 X_arg18 X_arg19 X_arg20 X_arg21 (arg15.view.writes (Elt F) f_arg15 L_arg15) (arg16.view.writes (Elt F) f_arg16 L_arg16) (arg17.view.writes (Elt F) f_arg17 L_arg17) f_arg22) } := by
  have hk : k.val < 16 := Nat.lt_of_lt_of_le k.isLt k0_t3_abs.2.1
  have k0_h4 := cond4_of_not i v9 k k0_h3
  refine ⟨?_, ?_, ?_, fun E f_arg15 f_arg16 f_arg17 f_arg22 => ?run⟩
  case run =>
    sl_unfold [k0_t3_body]
    iintro ⟨HR_arg5, HR_arg6, HR_arg7, HR_arg11, HR_arg18, HR_arg19, HR_arg20, HR_arg21, HW_arg15, HW_arg16, HW_arg17, HW_arg22⟩
    sl_exec
    sl_step
    sl_close

/-- What one tile stores into the three outputs. -/
def tripP (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t3_loop.trips) : List (View.Piece (Elt F) S1x512x2048 .bf16) × List (View.Piece (Elt F) S1x1x1x8192 .f32) × List (View.Piece (Elt F) S1x1x1x8192 .f32) :=
  if h : k0_cond3 i v9 k = 1#1 then
    ((tripLive (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).1, (tripLive (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.1, (tripLive (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.2.1)
  else
    ((tripDead (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).1, (tripDead (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.1, (tripDead (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.2.1)

/-- One tile, live or not. -/
theorem trip (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t3_loop.trips) (E : Set ℕ) (f_arg15 : BufTy.Contents (Elt F) arg15.view.ty) (f_arg16 : BufTy.Contents (Elt F) arg16.view.ty) (f_arg17 : BufTy.Contents (Elt F) arg17.view.ty) (f_arg22 : BufTy.Contents (Elt F) arg22.view.ty) :
    TileRes (F := F) c arg5 arg6 arg7 arg11 arg15 arg16 arg17 arg18 arg19 arg20 arg21 arg22 X_arg5 X_arg6 X_arg7 X_arg11 X_arg18 X_arg19 X_arg20 X_arg21 f_arg15 f_arg16 f_arg17 f_arg22
      ⊢ wp frame (wpE (defs₀ (F := F)) 𝒱₀ (c : Thread nD τ) none) E (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 k PUnit.unit)
          (fun _ => iprop(∃ g, TileRes (F := F) c arg5 arg6 arg7 arg11 arg15 arg16 arg17 arg18 arg19 arg20 arg21 arg22 X_arg5 X_arg6 X_arg7 X_arg11 X_arg18 X_arg19 X_arg20 X_arg21 (arg15.view.writes (Elt F) f_arg15 (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1) (arg16.view.writes (Elt F) f_arg16 (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1) (arg17.view.writes (Elt F) f_arg17 (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2) g)) := by
  by_cases h : k0_cond3 i v9 k = 1#1
  · unfold tripP
    simp only [dif_pos h]
    refine ((tripLive (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.2.2.2 E f_arg15 f_arg16 f_arg17 f_arg22).trans (wp_mono _ _ _ fun _ => ?_)
    iintro H
    iexists _
    iexact H
  · unfold tripP
    simp only [dif_neg h]
    refine ((tripDead (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.2.2 E f_arg15 f_arg16 f_arg17 f_arg22).trans (wp_mono _ _ _ fun _ => ?_)
    iintro H
    iexists _
    iexact H

/-- Trip `k`'s pieces in front of those before it. -/
@[irreducible] def pb_k0_t3Step (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : ℕ) (prev : List (View.Piece (Elt F) S1x512x2048 .bf16) × List (View.Piece (Elt F) S1x1x1x8192 .f32) × List (View.Piece (Elt F) S1x1x1x8192 .f32)) : List (View.Piece (Elt F) S1x512x2048 .bf16) × List (View.Piece (Elt F) S1x1x1x8192 .f32) × List (View.Piece (Elt F) S1x1x1x8192 .f32) :=
  if h : k < k0_t3_loop.trips then
    ((tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 ⟨k, h⟩).1 ++ prev.1, (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 ⟨k, h⟩).2.1 ++ prev.2.1, (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 ⟨k, h⟩).2.2 ++ prev.2.2)
  else prev

end

/-- What the tiles before `k` stored (last first). -/
def pb_k0_t3 (c : Dev nD) (i : grid0.Coords) (arg3 : Memref sig .tc .smem S6 .i32) (harg3 : arg3.IsWhole) (arg4 : Memref sig .tc .smem S1 .i32) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x14336x128 .fp8e4m3) (harg7 : arg7.IsWhole) (arg8 : Memref sig .tc .vmem S1x128x14336 .fp8e4m3) (harg8 : arg8.IsWhole) (arg9 : Memref sig .tc .vmem S1x1x14336 .f32) (harg9 : arg9.IsWhole) (arg10 : Memref sig .tc .vmem S1x1x14336 .f32) (harg10 : arg10.IsWhole) (arg11 : Memref sig .tc .vmem S1x1x2048x128 .fp8e4m3) (harg11 : arg11.IsWhole) (arg12 : Memref sig .tc .vmem S1x1x128x2048 .fp8e4m3) (harg12 : arg12.IsWhole) (arg13 : Memref sig .tc .vmem S1x1x1x2048 .f32) (harg13 : arg13.IsWhole) (arg14 : Memref sig .tc .vmem S1x1x1x2048 .f32) (harg14 : arg14.IsWhole) (arg15 : Memref sig .tc .vmem S1x512x2048 .bf16) (harg15 : arg15.IsWhole) (arg16 : Memref sig .tc .vmem S1x1x1x8192 .f32) (harg16 : arg16.IsWhole) (arg17 : Memref sig .tc .vmem S1x1x1x8192 .f32) (harg17 : arg17.IsWhole) (arg18 : Memref sig .tc .vmem S14336x128 .f32) (harg18 : arg18.IsWhole) (arg19 : Memref sig .tc .vmem S128x14336 .bf16) (harg19 : arg19.IsWhole) (arg20 : Memref sig .tc .vmem S2048x128 .f32) (harg20 : arg20.IsWhole) (arg21 : Memref sig .tc .vmem S128x2048 .bf16) (harg21 : arg21.IsWhole) (arg22 : Memref sig .tc .vmem S512x128 .f32) (harg22 : arg22.IsWhole) (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) : ℕ → List (View.Piece (Elt F) S1x512x2048 .bf16) × List (View.Piece (Elt F) S1x1x1x8192 .f32) × List (View.Piece (Elt F) S1x1x1x8192 .f32)
  | 0 => ([], [], [])
  | k + 1 => pb_k0_t3Step (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k (pb_k0_t3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem pb_k0_t3_succ (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t3_loop.trips) :
    (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 (k.val + 1)) = ((tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1 ++ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k.val).1, (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1 ++ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k.val).2.1, (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2 ++ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k.val).2.2) := by
  rw [pb_k0_t3.eq_2]; unfold pb_k0_t3Step; exact dif_pos k.isLt

/-- The invariant of the tile loop. -/
abbrev inv_k0_t3 (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (G_arg15 : BufTy.Contents (Elt F) arg15.view.ty) (G_arg16 : BufTy.Contents (Elt F) arg16.view.ty) (G_arg17 : BufTy.Contents (Elt F) arg17.view.ty) (k : ℕ) (_u : PUnit) : sProp 𝕄G :=
  iprop((arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg11.view.loc (c : Thread nD τ) ↦[arg11.view.set]{fullShare} X_arg11) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (∃ f, (arg15.view.loc (c : Thread nD τ) ↦[arg15.view.set]{fullShare} f) ∗ ⌜f = arg15.view.writes (Elt F) G_arg15 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1⌝) ∗ (∃ f, (arg16.view.loc (c : Thread nD τ) ↦[arg16.view.set]{fullShare} f) ∗ ⌜f = arg16.view.writes (Elt F) G_arg16 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1⌝) ∗ (∃ f, (arg17.view.loc (c : Thread nD τ) ↦[arg17.view.set]{fullShare} f) ∗ ⌜f = arg17.view.writes (Elt F) G_arg17 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2⌝) ∗ (∃ f, (arg22.view.loc (c : Thread nD τ) ↦[arg22.view.set]{fullShare} f)))

set_option warn.classDefReducibility false in
@[sl_loop] def loopInv_k0_t3 (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (G_arg15 : BufTy.Contents (Elt F) arg15.view.ty) (G_arg16 : BufTy.Contents (Elt F) arg16.view.ty) (G_arg17 : BufTy.Contents (Elt F) arg17.view.ty) :
    LoopInvTy_k0_t3 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 where
  inv := inv_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 G_arg15 G_arg16 G_arg17
  step k acc := by
    iintro ⟨HR_arg5, HR_arg6, HR_arg7, HR_arg11, HR_arg18, HR_arg19, HR_arg20, HR_arg21, ⟨%f_arg15, HW_arg15, %h_arg15⟩, ⟨%f_arg16, HW_arg16, %h_arg16⟩, ⟨%f_arg17, HW_arg17, %h_arg17⟩, ⟨%f_arg22, HW_arg22⟩⟩
    iapply (wp_wand_r Idealize.ShloMosaic.frame (wpE (defs₀ (F := F)) 𝒱₀ (c : Thread nD τ) none) Set.univ)
    isplitl [HR_arg5 HR_arg6 HR_arg7 HR_arg11 HR_arg18 HR_arg19 HR_arg20 HR_arg21 HW_arg15 HW_arg16 HW_arg17 HW_arg22]
    · iapply (trip (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k Set.univ f_arg15 f_arg16 f_arg17 f_arg22)
      isplitl [HR_arg5]; · iexact HR_arg5
      isplitl [HR_arg6]; · iexact HR_arg6
      isplitl [HR_arg7]; · iexact HR_arg7
      isplitl [HR_arg11]; · iexact HR_arg11
      isplitl [HR_arg18]; · iexact HR_arg18
      isplitl [HR_arg19]; · iexact HR_arg19
      isplitl [HR_arg20]; · iexact HR_arg20
      isplitl [HR_arg21]; · iexact HR_arg21
      isplitl [HW_arg15]; · iexact HW_arg15
      isplitl [HW_arg16]; · iexact HW_arg16
      isplitl [HW_arg17]; · iexact HW_arg17
      iexact HW_arg22
    · iintro %u ⟨%g, HR_arg5, HR_arg6, HR_arg7, HR_arg11, HR_arg18, HR_arg19, HR_arg20, HR_arg21, HW_arg15, HW_arg16, HW_arg17, HW_arg22⟩
      isplitl [HR_arg5]; · iexact HR_arg5
      isplitl [HR_arg6]; · iexact HR_arg6
      isplitl [HR_arg7]; · iexact HR_arg7
      isplitl [HR_arg11]; · iexact HR_arg11
      isplitl [HR_arg18]; · iexact HR_arg18
      isplitl [HR_arg19]; · iexact HR_arg19
      isplitl [HR_arg20]; · iexact HR_arg20
      isplitl [HR_arg21]; · iexact HR_arg21
      rw [pb_k0_t3_succ]
      isplitl [HW_arg15]
      · iexists _
        isplitl [HW_arg15]
        · iexact HW_arg15
        · ipureintro; rw [h_arg15, ← View.writes_append]
      isplitl [HW_arg16]
      · iexists _
        isplitl [HW_arg16]
        · iexact HW_arg16
        · ipureintro; rw [h_arg16, ← View.writes_append]
      isplitl [HW_arg17]
      · iexists _
        isplitl [HW_arg17]
        · iexact HW_arg17
        · ipureintro; rw [h_arg17, ← View.writes_append]
      iexists _
      iexact HW_arg22

end

end Cert.Proof.Kernel
-- ==== Proof.KChk.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Lib.Pipeline.Frame
public import proofs.«01_k».proof.Proof.KTile

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the frame kit. -/
local notation "𝕄G" => MT nD τ sig Unit (Elt F) ℕ (UR sig nD τ) ℕ

/-- The number of prompt chunks, as the kernel computes it, as an integer. -/
theorem chunks_word (v : BitVec 32) (h : v.toInt ≤ 14336) :
    ∃ e : Int, Affine.IsInt (Scalar.divsi (Scalar.addi v 255#32) 256#32) e ∧ e ≤ 56 ∧ -2 ^ 31 ≤ e ∧ e.toNat = (v.toInt + 255).toNat / 256 := by
  have h_255 : Affine.IsInt 255#32 (255) := Affine.ofNat _ (by omega)
  have h_256 : Affine.IsInt 256#32 (256) := Affine.ofNat _ (by omega)
  have r_n : -2 ^ 31 ≤ v.toInt ∧ v.toInt < 2 ^ 31 := Affine.word_range v
  have h_n : Affine.IsInt v v.toInt := Affine.word v
  have h_s : Affine.IsInt _ (v.toInt + 255) := Affine.addi h_n h_255 (by omega)
  by_cases h0 : 0 ≤ v.toInt + 255
  · exact ⟨_, Affine.divsi h_s h_256 (e := (v.toInt + 255) / 256) ⟨rfl, h0, by omega⟩, by omega, by omega, by omega⟩
  · have hq : (Scalar.divsi (Scalar.addi v 255#32) 256#32).toInt ≤ 0 := by
      have hs : (Scalar.addi v 255#32).toInt ≤ 0 := Affine.le_of h_s 0 (by omega)
      have hd : Scalar.divsi (Scalar.addi v 255#32) 256#32 = (Scalar.addi v 255#32).sdiv 256#32 := by
        unfold Scalar.divsi IntOp.divsi
        rw [if_neg]
        rintro (h0 | ⟨-, h1⟩)
        · exact absurd h0 (by decide)
        · exact absurd h1 (by decide)
      rw [hd, BitVec.toInt_sdiv_of_ne_or_ne _ _ (Or.inr (by decide))]
      have : (256#32).toInt = 256 := by decide
      rw [this, ← neg_neg (Scalar.addi v 255#32).toInt, Int.neg_tdiv]
      have := Int.tdiv_nonneg (a := -(Scalar.addi v 255#32).toInt) (b := 256) (by omega) (by omega)
      omega
    refine ⟨_, Affine.word _, by omega, (Affine.word_range _).1, ?_⟩
    omega

/-- The prompt loop has a meaning and its number of trips. -/
theorem t4_facts (v : BitVec 32) (h : v.toInt ≤ 14336) :
    (k0_t4_loop v).OK ∧ (k0_t4_loop v).trips = (v.toInt + 255).toNat / 256 := by
  obtain ⟨e, h_q, he, he', hn⟩ := chunks_word v h
  have h_c0 : Affine.IsInt 0#32 (0) := Affine.ofNat _ (by omega)
  have h_c1 : Affine.IsInt 1#32 (1) := Affine.ofNat _ (by omega)
  have h_v64 : Affine.IsInt _ e := Affine.subi h_q h_c0 (by omega)
  have h_v66 : Affine.IsInt _ e := Affine.divsi_one h_v64 h_c1 (by omega)
  have h_v67 : Affine.IsInt _ e := Affine.muli h_v66 h_c1 (by omega)
  have h_v68 : Affine.IsInt _ e := Affine.addi h_c0 h_v67 (by omega)
  exact ⟨Affine.ok h_c0 h_v68 h_c1 (by omega), by
    by_cases h0 : 0 ≤ e
    · exact Affine.trips_eq h_c0 h_v68 h_c1 _ (by omega)
    · exact (Nat.le_zero.mp (Affine.trips_le h_c0 h_v68 h_c1 0 (by omega))).trans (by omega)⟩

/-- The prompt loop's remainder copy has a meaning and runs no trip. -/
theorem t5_facts (v : BitVec 32) (h : v.toInt ≤ 14336) : (k0_t5_loop v).OK ∧ (k0_t5_loop v).trips ≤ 0 := by
  obtain ⟨e, h_q, he, he', hn⟩ := chunks_word v h
  have h_c0 : Affine.IsInt 0#32 (0) := Affine.ofNat _ (by omega)
  have h_c1 : Affine.IsInt 1#32 (1) := Affine.ofNat _ (by omega)
  have h_v64 : Affine.IsInt _ e := Affine.subi h_q h_c0 (by omega)
  have h_v66 : Affine.IsInt _ e := Affine.divsi_one h_v64 h_c1 (by omega)
  have h_v67 : Affine.IsInt _ e := Affine.muli h_v66 h_c1 (by omega)
  have h_v68 : Affine.IsInt _ e := Affine.addi h_c0 h_v67 (by omega)
  have h_v65 : Affine.IsInt _ e := Affine.addi h_c0 h_v64 (by omega)
  exact ⟨Affine.ok h_v68 h_v65 h_c1 (by omega), Affine.trips_le h_v68 h_v65 h_c1 _ (by omega)⟩

/-- A prompt that fits meets the side condition the kernel assumes. -/
theorem chk_of_le (i : grid0.Coords) (v9 v : BitVec 32) (h : v.toInt ≤ 14336) : k0_chk1 i v9 v := by
  have h_c0 : Affine.IsInt 0#32 (0) := Affine.ofNat _ (by omega)
  have h_c1 : Affine.IsInt 1#32 (1) := Affine.ofNat _ (by omega)
  have h_256 : Affine.IsInt 256#32 (256) := Affine.ofNat _ (by omega)
  have hT := (t4_facts v h).2
  have hv (k : Fin (k0_t4_loop v).trips) : Affine.IsInt (Scalar.muli (Scf.iv 0#32 1#32 k) 256#32) ((k.val : Int) * 256) := by
    have hk : k.val < 56 := by have := k.isLt; omega
    have h_i : Affine.IsInt (Scf.iv 0#32 1#32 k) (k.val : Int) := Affine.iv h_c0 h_c1 _ (by omega)
    exact Affine.muli h_i h_256 (by omega)
  have no5 {P : Fin (k0_t5_loop v).trips → Prop} (k : Fin (k0_t5_loop v).trips) : P k :=
    (Nat.not_lt_zero _ (Nat.lt_of_lt_of_le k.isLt (t5_facts v h).2)).elim
  refine ⟨fun _ _ => (t4_facts v h).1, fun _ k _ => ?_, fun _ k _ => ?_, fun _ k _ => ?_, fun _ k _ => ?_,
    fun _ _ => (t5_facts v h).1, fun _ k => no5 (P := fun k => _ → 256 ∣ (k0_mult6 v k).toNat) k, fun _ k => no5 (P := fun k => _ → ∀ a, (k0_off15 v k) a + S1x256x128.size a ≤ S1x14336x128.size a) k, fun _ k => no5 (P := fun k => _ → ∀ a, (k0_off16 v k) a + S256x128.size a ≤ S14336x128.size a) k, fun _ k => no5 (P := fun k => _ → ∀ a, (k0_off17 v k) a + S128x256.size a ≤ S128x14336.size a) k⟩
  · exact Affine.dvd_of (hv k) 256 ⟨Int.dvd_mul_left _ _, by omega⟩
  · have hk : k.val < 56 := by have := k.isLt; omega
    exact Affine.inb_cons h_c0 (by omega) <| Affine.inb_cons (Affine.indexCast (hv k)) (by omega) <| Affine.inb_cons h_c0 (by omega) Affine.inb_nil
  · have hk : k.val < 56 := by have := k.isLt; omega
    exact Affine.inb_cons (Affine.indexCast (hv k)) (by omega) <| Affine.inb_cons h_c0 (by omega) Affine.inb_nil
  · have hk : k.val < 56 := by have := k.isLt; omega
    exact Affine.inb_cons h_c0 (by omega) <| Affine.inb_cons (Affine.indexCast (hv k)) (by omega) Affine.inb_nil

end Cert.Proof.Kernel
-- ==== Proof.KBody.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Lib.Pipeline.Frame
public import proofs.«01_k».proof.Proof.KTile
public import proofs.«01_k».proof.Proof.KChk

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the frame kit. -/
local notation "𝕄G" => MT nD τ sig Unit (Elt F) ℕ (UR sig nD τ) ℕ

/-- The tile loop's induction variable times a small constant, as a natural number. -/
theorem iv_mul (k : Fin k0_t3_loop.trips) (n : ℕ) (hn : n ≤ 512) :
    (Scalar.muli (Scf.iv 0#32 1#32 k) (BitVec.ofNat 32 n)).toNat = k.val * n := by
  have hk : k.val < 16 := Nat.lt_of_lt_of_le k.isLt k0_t3_abs.2.1
  have h_c0 : Affine.IsInt 0#32 (0) := Affine.ofNat _ (by omega)
  have h_c1 : Affine.IsInt 1#32 (1) := Affine.ofNat _ (by omega)
  have h_n : Affine.IsInt (BitVec.ofNat 32 n) (n : Int) := Affine.ofNat _ (by omega)
  have h_i : Affine.IsInt (Scf.iv 0#32 1#32 k) (k.val : Int) := Affine.iv h_c0 h_c1 _ (by omega)
  have hb : k.val * n ≤ 15 * 512 := Nat.mul_le_mul (by omega) hn
  have h_m : Affine.IsInt _ ((k.val * n : ℕ) : Int) := Affine.muli h_i h_n (by push_cast; constructor; rfl; constructor <;> (have : ((k.val * n : ℕ) : Int) = (k.val : Int) * (n : Int) := by push_cast; rfl
                                                                                                              ) <;> omega)
  have := Affine.toNat_of h_m (by omega)
  omega

theorem trips3 : k0_t3_loop.trips = 16 := by
  have h_c0 : Affine.IsInt 0#32 (0) := Affine.ofNat _ (by omega)
  have h_c16 : Affine.IsInt 16#32 (16) := Affine.ofNat _ (by omega)
  have h_c1 : Affine.IsInt 1#32 (1) := Affine.ofNat _ (by omega)
  have h_v11 : Affine.IsInt _ (16) := Affine.addi h_c0 h_c16 (by omega)
  exact Affine.trips_eq h_c0 h_v11 h_c1 _ (by omega)

theorem off24_eq (k : Fin k0_t3_loop.trips) : k0_off24 k = ![0, k.val * 32, 0] := by
  unfold k0_off24; simp only [Scalar.indexCast]; rw [iv_mul k 32 (by omega)]
theorem off25_eq (k : Fin k0_t3_loop.trips) : k0_off25 k = ![0, k.val * 32, 128] := by
  unfold k0_off25; simp only [Scalar.indexCast]; rw [iv_mul k 32 (by omega)]
theorem off26_eq (k : Fin k0_t3_loop.trips) : k0_off26 k = ![0, k.val * 32, 256] := by
  unfold k0_off26; simp only [Scalar.indexCast]; rw [iv_mul k 32 (by omega)]
theorem off27_eq (k : Fin k0_t3_loop.trips) : k0_off27 k = ![0, k.val * 32, 384] := by
  unfold k0_off27; simp only [Scalar.indexCast]; rw [iv_mul k 32 (by omega)]
theorem off28_eq (k : Fin k0_t3_loop.trips) : k0_off28 k = ![0, k.val * 32, 512] := by
  unfold k0_off28; simp only [Scalar.indexCast]; rw [iv_mul k 32 (by omega)]
theorem off29_eq (k : Fin k0_t3_loop.trips) : k0_off29 k = ![0, k.val * 32, 640] := by
  unfold k0_off29; simp only [Scalar.indexCast]; rw [iv_mul k 32 (by omega)]
theorem off30_eq (k : Fin k0_t3_loop.trips) : k0_off30 k = ![0, k.val * 32, 768] := by
  unfold k0_off30; simp only [Scalar.indexCast]; rw [iv_mul k 32 (by omega)]
theorem off31_eq (k : Fin k0_t3_loop.trips) : k0_off31 k = ![0, k.val * 32, 896] := by
  unfold k0_off31; simp only [Scalar.indexCast]; rw [iv_mul k 32 (by omega)]
theorem off32_eq (k : Fin k0_t3_loop.trips) : k0_off32 k = ![0, k.val * 32, 1024] := by
  unfold k0_off32; simp only [Scalar.indexCast]; rw [iv_mul k 32 (by omega)]
theorem off33_eq (k : Fin k0_t3_loop.trips) : k0_off33 k = ![0, k.val * 32, 1152] := by
  unfold k0_off33; simp only [Scalar.indexCast]; rw [iv_mul k 32 (by omega)]
theorem off34_eq (k : Fin k0_t3_loop.trips) : k0_off34 k = ![0, k.val * 32, 1280] := by
  unfold k0_off34; simp only [Scalar.indexCast]; rw [iv_mul k 32 (by omega)]
theorem off35_eq (k : Fin k0_t3_loop.trips) : k0_off35 k = ![0, k.val * 32, 1408] := by
  unfold k0_off35; simp only [Scalar.indexCast]; rw [iv_mul k 32 (by omega)]
theorem off36_eq (k : Fin k0_t3_loop.trips) : k0_off36 k = ![0, k.val * 32, 1536] := by
  unfold k0_off36; simp only [Scalar.indexCast]; rw [iv_mul k 32 (by omega)]
theorem off37_eq (k : Fin k0_t3_loop.trips) : k0_off37 k = ![0, k.val * 32, 1664] := by
  unfold k0_off37; simp only [Scalar.indexCast]; rw [iv_mul k 32 (by omega)]
theorem off38_eq (k : Fin k0_t3_loop.trips) : k0_off38 k = ![0, k.val * 32, 1792] := by
  unfold k0_off38; simp only [Scalar.indexCast]; rw [iv_mul k 32 (by omega)]
theorem off39_eq (k : Fin k0_t3_loop.trips) : k0_off39 k = ![0, k.val * 32, 1920] := by
  unfold k0_off39; simp only [Scalar.indexCast]; rw [iv_mul k 32 (by omega)]
theorem off41_eq (k : Fin k0_t3_loop.trips) : k0_off41 k = ![0, k.val * 32, 0] := by
  unfold k0_off41; simp only [Scalar.indexCast]; rw [iv_mul k 32 (by omega)]
theorem off40_eq (k : Fin k0_t3_loop.trips) : k0_off40 k = ![0, 0, 0, k.val * 512] := by
  unfold k0_off40; simp only [Scalar.indexCast]; rw [iv_mul k 512 (by omega)]
theorem off42_eq (k : Fin k0_t3_loop.trips) : k0_off42 k = ![0, 0, 0, k.val * 512] := by
  unfold k0_off42; simp only [Scalar.indexCast]; rw [iv_mul k 512 (by omega)]

variable (c : Dev nD) (i : grid0.Coords) (arg3 : Memref sig .tc .smem S6 .i32) (harg3 : arg3.IsWhole) (arg4 : Memref sig .tc .smem S1 .i32) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x14336x128 .fp8e4m3) (harg7 : arg7.IsWhole) (arg8 : Memref sig .tc .vmem S1x128x14336 .fp8e4m3) (harg8 : arg8.IsWhole) (arg9 : Memref sig .tc .vmem S1x1x14336 .f32) (harg9 : arg9.IsWhole) (arg10 : Memref sig .tc .vmem S1x1x14336 .f32) (harg10 : arg10.IsWhole) (arg11 : Memref sig .tc .vmem S1x1x2048x128 .fp8e4m3) (harg11 : arg11.IsWhole) (arg12 : Memref sig .tc .vmem S1x1x128x2048 .fp8e4m3) (harg12 : arg12.IsWhole) (arg13 : Memref sig .tc .vmem S1x1x1x2048 .f32) (harg13 : arg13.IsWhole) (arg14 : Memref sig .tc .vmem S1x1x1x2048 .f32) (harg14 : arg14.IsWhole) (arg15 : Memref sig .tc .vmem S1x512x2048 .bf16) (harg15 : arg15.IsWhole) (arg16 : Memref sig .tc .vmem S1x1x1x8192 .f32) (harg16 : arg16.IsWhole) (arg17 : Memref sig .tc .vmem S1x1x1x8192 .f32) (harg17 : arg17.IsWhole) (arg18 : Memref sig .tc .vmem S14336x128 .f32) (harg18 : arg18.IsWhole) (arg19 : Memref sig .tc .vmem S128x14336 .bf16) (harg19 : arg19.IsWhole) (arg20 : Memref sig .tc .vmem S2048x128 .f32) (harg20 : arg20.IsWhole) (arg21 : Memref sig .tc .vmem S128x2048 .bf16) (harg21 : arg21.IsWhole) (arg22 : Memref sig .tc .vmem S512x128 .f32) (harg22 : arg22.IsWhole)

variable (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21

/-- A piece of a tile is among the pieces of all the tiles before a later one. -/
theorem mem_pb (k : Fin k0_t3_loop.trips) (n : ℕ) (hn : n ≤ k0_t3_loop.trips) (hk : k.val < n) :
    (∀ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1, p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).1) ∧ (∀ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1, p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).2.1) ∧ (∀ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2, p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).2.2) := by
  induction n with
  | zero => omega
  | succ n ih =>
    have e := pb_k0_t3_succ (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 ⟨n, hn⟩
    rw [show (⟨n, hn⟩ : Fin k0_t3_loop.trips).val = n from rfl] at e
    rw [e]
    by_cases h : k.val = n
    · obtain rfl : k = ⟨n, hn⟩ := Fin.ext h
      exact ⟨fun p hp => List.mem_append_left _ hp, fun p hp => List.mem_append_left _ hp, fun p hp => List.mem_append_left _ hp⟩
    · obtain ⟨h1, h2, h3⟩ := ih (by omega) (by omega)
      exact ⟨fun p hp => List.mem_append_right _ (h1 p hp), fun p hp => List.mem_append_right _ (h2 p hp), fun p hp => List.mem_append_right _ (h3 p hp)⟩

/-- A piece of all the tiles is a piece of one of them. -/
theorem of_mem_pb (n : ℕ) (hn : n ≤ k0_t3_loop.trips) :
    (∀ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).1, ∃ k : Fin k0_t3_loop.trips, p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1) ∧ (∀ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).2.1, ∃ k : Fin k0_t3_loop.trips, p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1)
      ∧ (∀ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).2.2, ∃ k : Fin k0_t3_loop.trips, p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2) := by
  induction n with
  | zero => exact ⟨fun p hp => absurd hp List.not_mem_nil, fun p hp => absurd hp List.not_mem_nil, fun p hp => absurd hp List.not_mem_nil⟩
  | succ n ih =>
    have e := pb_k0_t3_succ (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 ⟨n, hn⟩
    rw [show (⟨n, hn⟩ : Fin k0_t3_loop.trips).val = n from rfl] at e
    rw [e]
    obtain ⟨h1, h2, h3⟩ := ih (by omega)
    exact ⟨fun p hp => (List.mem_append.mp hp).elim (fun h => ⟨_, h⟩) (h1 p), fun p hp => (List.mem_append.mp hp).elim (fun h => ⟨_, h⟩) (h2 p),
      fun p hp => (List.mem_append.mp hp).elim (fun h => ⟨_, h⟩) (h3 p)⟩

end

/-- The tile holding a row of the block. -/
def tileOf (n d : ℕ) (h : n < 16 * d) : Fin k0_t3_loop.trips := ⟨n / d, by rw [trips3]; exact Nat.div_lt_of_lt_mul (by rwa [Nat.mul_comm] at h)⟩

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21

set_option maxHeartbeats 4000000 in
theorem cover15 (y : S1x512x2048.Idx) : ∃ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k0_t3_loop.trips).1, y ∈ p.1.set := by
  have y0 : (y 0).val < 1 := (y 0).isLt
  have y1 : (y 1).val < 512 := (y 1).isLt
  have y2 : (y 2).val < 2048 := (y 2).isLt
  have hd := Nat.div_add_mod (y 1).val 32
  have hm := Nat.mod_lt (y 1).val (show 0 < 32 by omega)
  let k := tileOf (y 1).val 32 (by omega)
  have hkv : k.val = (y 1).val / 32 := rfl
  suffices h : ∃ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1, y ∈ p.1.set by
    obtain ⟨p, hp, hy⟩ := h
    exact ⟨p, (mem_pb (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k _ le_rfl k.isLt).1 p hp, hy⟩
  unfold tripP
  by_cases h3 : k0_cond3 i v9 k = 1#1
  · simp only [dif_pos h3]
    unfold tripLive
    simp only [List.mem_cons, List.not_mem_nil, or_false, exists_eq_or_imp, exists_eq_left, Rect.mem_set_unit, off39_eq, off38_eq, off37_eq, off36_eq, off35_eq, off34_eq, off33_eq, off32_eq, off31_eq, off30_eq, off29_eq, off28_eq, off27_eq, off26_eq, off25_eq, off24_eq]
    have hh : (y 2).val / 128 < 16 := by omega
    have hd2 := Nat.div_add_mod (y 2).val 128
    have hm2 := Nat.mod_lt (y 2).val (show 0 < 128 by omega)
    generalize (y 2).val / 128 = q at hh hd2
    have go (q' : ℕ) (e : q = q') (o : Fin 3 → ℕ) (ho : o = ![0, k.val * 32, q' * 128]) : ∀ a, o a ≤ (y a).val ∧ (y a).val < o a + S1x32x128.size a := by
      subst ho
      intro a
      fin_cases a
      · exact ⟨Nat.zero_le _, by show (y 0).val < 0 + 1; omega⟩
      · exact ⟨by show k.val * 32 ≤ (y 1).val; omega, by show (y 1).val < k.val * 32 + 32; omega⟩
      · exact ⟨by show q' * 128 ≤ (y 2).val; omega, by show (y 2).val < q' * 128 + 128; omega⟩
    rcases (show q = 0 ∨ q = 1 ∨ q = 2 ∨ q = 3 ∨ q = 4 ∨ q = 5 ∨ q = 6 ∨ q = 7 ∨ q = 8 ∨ q = 9 ∨ q = 10 ∨ q = 11 ∨ q = 12 ∨ q = 13 ∨ q = 14 ∨ q = 15 by omega) with rfl | rfl | rfl | rfl | rfl | rfl | rfl | rfl | rfl | rfl | rfl | rfl | rfl | rfl | rfl | rfl
    · exact Or.inr (Or.inr (Or.inr (Or.inr (Or.inr (Or.inr (Or.inr (Or.inr (Or.inr (Or.inr (Or.inr (Or.inr (Or.inr (Or.inr (Or.inr ((go 0 rfl _ rfl))))))))))))))))
    · exact Or.inr (Or.inr (Or.inr (Or.inr (Or.inr (Or.inr (Or.inr (Or.inr (Or.inr (Or.inr (Or.inr (Or.inr (Or.inr (Or.inr (Or.inl (go 1 rfl _ rfl)))))))))))))))
    · exact Or.inr (Or.inr (Or.inr (Or.inr (Or.inr (Or.inr (Or.inr (Or.inr (Or.inr (Or.inr (Or.inr (Or.inr (Or.inr (Or.inl (go 2 rfl _ rfl))))))))))))))
    · exact Or.inr (Or.inr (Or.inr (Or.inr (Or.inr (Or.inr (Or.inr (Or.inr (Or.inr (Or.inr (Or.inr (Or.inr (Or.inl (go 3 rfl _ rfl)))))))))))))
    · exact Or.inr (Or.inr (Or.inr (Or.inr (Or.inr (Or.inr (Or.inr (Or.inr (Or.inr (Or.inr (Or.inr (Or.inl (go 4 rfl _ rfl))))))))))))
    · exact Or.inr (Or.inr (Or.inr (Or.inr (Or.inr (Or.inr (Or.inr (Or.inr (Or.inr (Or.inr (Or.inl (go 5 rfl _ rfl)))))))))))
    · exact Or.inr (Or.inr (Or.inr (Or.inr (Or.inr (Or.inr (Or.inr (Or.inr (Or.inr (Or.inl (go 6 rfl _ rfl))))))))))
    · exact Or.inr (Or.inr (Or.inr (Or.inr (Or.inr (Or.inr (Or.inr (Or.inr (Or.inl (go 7 rfl _ rfl)))))))))
    · exact Or.inr (Or.inr (Or.inr (Or.inr (Or.inr (Or.inr (Or.inr (Or.inl (go 8 rfl _ rfl))))))))
    · exact Or.inr (Or.inr (Or.inr (Or.inr (Or.inr (Or.inr (Or.inl (go 9 rfl _ rfl)))))))
    · exact Or.inr (Or.inr (Or.inr (Or.inr (Or.inr (Or.inl (go 10 rfl _ rfl))))))
    · exact Or.inr (Or.inr (Or.inr (Or.inr (Or.inl (go 11 rfl _ rfl)))))
    · exact Or.inr (Or.inr (Or.inr (Or.inl (go 12 rfl _ rfl))))
    · exact Or.inr (Or.inr (Or.inl (go 13 rfl _ rfl)))
    · exact Or.inr (Or.inl (go 14 rfl _ rfl))
    · exact Or.inl (go 15 rfl _ rfl)
  · simp only [dif_neg h3]
    unfold tripDead
    simp only [List.mem_cons, List.not_mem_nil, or_false, exists_eq_left, Rect.mem_set_unit, off41_eq]
    intro a
    fin_cases a
    · exact ⟨Nat.zero_le _, by show (y 0).val < 0 + 1; omega⟩
    · exact ⟨by show k.val * 32 ≤ (y 1).val; omega, by show (y 1).val < k.val * 32 + 32; omega⟩
    · exact ⟨Nat.zero_le _, by show (y 2).val < 0 + 2048; omega⟩

set_option maxHeartbeats 4000000 in
theorem cover16 (y : S1x1x1x8192.Idx) : ∃ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k0_t3_loop.trips).2.1, y ∈ p.1.set := by
  have y0 : (y 0).val < 1 := (y 0).isLt
  have y1 : (y 1).val < 1 := (y 1).isLt
  have y2 : (y 2).val < 1 := (y 2).isLt
  have y3 : (y 3).val < 8192 := (y 3).isLt
  have hd := Nat.div_add_mod (y 3).val 512
  have hm := Nat.mod_lt (y 3).val (show 0 < 512 by omega)
  let k := tileOf (y 3).val 512 (by omega)
  have hkv : k.val = (y 3).val / 512 := rfl
  suffices h : ∃ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1, y ∈ p.1.set by
    obtain ⟨p, hp, hy⟩ := h
    exact ⟨p, (mem_pb (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k _ le_rfl k.isLt).2.1 p hp, hy⟩
  have go : ∀ a, (![0, 0, 0, k.val * 512] : Fin 4 → ℕ) a ≤ (y a).val ∧ (y a).val < (![0, 0, 0, k.val * 512] : Fin 4 → ℕ) a + S1x1x1x512.size a := by
    intro a
    fin_cases a
    · exact ⟨Nat.zero_le _, by show (y 0).val < 0 + 1; omega⟩
    · exact ⟨Nat.zero_le _, by show (y 1).val < 0 + 1; omega⟩
    · exact ⟨Nat.zero_le _, by show (y 2).val < 0 + 1; omega⟩
    · exact ⟨by show k.val * 512 ≤ (y 3).val; omega, by show (y 3).val < k.val * 512 + 512; omega⟩
  unfold tripP
  by_cases h3 : k0_cond3 i v9 k = 1#1
  · simp only [dif_pos h3]
    unfold tripLive
    simp only [List.mem_cons, List.not_mem_nil, or_false, exists_eq_left, Rect.mem_set_unit, off40_eq]
    exact go
  · simp only [dif_neg h3]
    unfold tripDead
    simp only [List.mem_cons, List.not_mem_nil, or_false, exists_eq_left, Rect.mem_set_unit, off42_eq]
    exact go

set_option maxHeartbeats 4000000 in
theorem cover17 (y : S1x1x1x8192.Idx) : ∃ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k0_t3_loop.trips).2.2, y ∈ p.1.set := by
  have y0 : (y 0).val < 1 := (y 0).isLt
  have y1 : (y 1).val < 1 := (y 1).isLt
  have y2 : (y 2).val < 1 := (y 2).isLt
  have y3 : (y 3).val < 8192 := (y 3).isLt
  have hd := Nat.div_add_mod (y 3).val 512
  have hm := Nat.mod_lt (y 3).val (show 0 < 512 by omega)
  let k := tileOf (y 3).val 512 (by omega)
  have hkv : k.val = (y 3).val / 512 := rfl
  suffices h : ∃ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2, y ∈ p.1.set by
    obtain ⟨p, hp, hy⟩ := h
    exact ⟨p, (mem_pb (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k _ le_rfl k.isLt).2.2 p hp, hy⟩
  have go : ∀ a, (![0, 0, 0, k.val * 512] : Fin 4 → ℕ) a ≤ (y a).val ∧ (y a).val < (![0, 0, 0, k.val * 512] : Fin 4 → ℕ) a + S1x1x1x512.size a := by
    intro a
    fin_cases a
    · exact ⟨Nat.zero_le _, by show (y 0).val < 0 + 1; omega⟩
    · exact ⟨Nat.zero_le _, by show (y 1).val < 0 + 1; omega⟩
    · exact ⟨Nat.zero_le _, by show (y 2).val < 0 + 1; omega⟩
    · exact ⟨by show k.val * 512 ≤ (y 3).val; omega, by show (y 3).val < k.val * 512 + 512; omega⟩
  unfold tripP
  by_cases h3 : k0_cond3 i v9 k = 1#1
  · simp only [dif_pos h3]
    unfold tripLive
    simp only [List.mem_cons, List.not_mem_nil, or_false, exists_eq_left, Rect.mem_set_unit, off40_eq]
    exact go
  · simp only [dif_neg h3]
    unfold tripDead
    simp only [List.mem_cons, List.not_mem_nil, or_false, exists_eq_left, Rect.mem_set_unit, off42_eq]
    exact go

end

/-- The batch's number of rows, read from its table. -/
def wordL (i : grid0.Coords) (arg3 : Memref sig .tc .smem S6 .i32) (X_arg3 : BufTy.Contents (Elt F) arg3.view.ty) : BitVec 32 :=
  View.readAt (Elt F) arg3.view (Rect.unit (s := S6) (k0_off9 i) S1.size (k0_off9_inb i)).toLoadRect X_arg3 (Shape.Idx.first (show 0 < S1.numel by rw [numel1_S1]; exact Nat.one_pos))

/-- The prompt's length, read from its table. -/
def wordP (arg4 : Memref sig .tc .smem S1 .i32) (X_arg4 : BufTy.Contents (Elt F) arg4.view.ty) : BitVec 32 :=
  View.readAt (Elt F) arg4.view (Rect.unit (s := S1) ![0] S1.size inb_S1_S1_0).toLoadRect X_arg4 (Shape.Idx.first (show 0 < S1.numel by rw [numel1_S1]; exact Nat.one_pos))

/-- What `arg18` holds once its fill, if this point runs it, is done. -/
def scr18 (X_arg8 : BufTy.Contents (Elt F) arg8.view.ty) (X_arg9 : BufTy.Contents (Elt F) arg9.view.ty) (X_arg10 : BufTy.Contents (Elt F) arg10.view.ty) (f_arg18 : BufTy.Contents (Elt F) arg18.view.ty) : BufTy.Contents (Elt F) arg18.view.ty :=
  if h : k0_cond1 i = 1#1 then arg18.view.writes (Elt F) f_arg18 (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).1 else f_arg18

/-- What `arg19` holds once its fill, if this point runs it, is done. -/
def scr19 (X_arg8 : BufTy.Contents (Elt F) arg8.view.ty) (X_arg9 : BufTy.Contents (Elt F) arg9.view.ty) (X_arg10 : BufTy.Contents (Elt F) arg10.view.ty) (f_arg19 : BufTy.Contents (Elt F) arg19.view.ty) : BufTy.Contents (Elt F) arg19.view.ty :=
  if h : k0_cond1 i = 1#1 then arg19.view.writes (Elt F) f_arg19 (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).2 else f_arg19

/-- What `arg20` holds once its fill, if this point runs it, is done. -/
def scr20 (X_arg12 : BufTy.Contents (Elt F) arg12.view.ty) (X_arg13 : BufTy.Contents (Elt F) arg13.view.ty) (X_arg14 : BufTy.Contents (Elt F) arg14.view.ty) (f_arg20 : BufTy.Contents (Elt F) arg20.view.ty) : BufTy.Contents (Elt F) arg20.view.ty :=
  if h : k0_cond2 i = 1#1 then arg20.view.writes (Elt F) f_arg20 (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).1 else f_arg20

/-- What `arg21` holds once its fill, if this point runs it, is done. -/
def scr21 (X_arg12 : BufTy.Contents (Elt F) arg12.view.ty) (X_arg13 : BufTy.Contents (Elt F) arg13.view.ty) (X_arg14 : BufTy.Contents (Elt F) arg14.view.ty) (f_arg21 : BufTy.Contents (Elt F) arg21.view.ty) : BufTy.Contents (Elt F) arg21.view.ty :=
  if h : k0_cond2 i = 1#1 then arg21.view.writes (Elt F) f_arg21 (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).2 else f_arg21

/-- The prompt is filled only where the completion is. -/
theorem cond2_of_cond1 (i : grid0.Coords) (h : k0_cond1 i = 1#1) : k0_cond2 i = 1#1 := by
  unfold k0_cond1 at h
  unfold k0_cond2
  simp only [Scalar.cmpi, Scalar.extui, Scalar.andi] at h ⊢
  revert h
  generalize IntOp.cmpi CmpIPredicate.eq (BitVec.ofNat 32 (i 1).val) _ = a
  generalize IntOp.cmpi CmpIPredicate.eq (BitVec.ofNat 32 (i 2).val) _ = b
  revert a b; decide

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

set_option maxHeartbeats 8000000 in
/-- One grid point's body: the scratch filled where its turn comes, then the tiles. -/
theorem bodyRun (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (hle : (wordP (F := F) arg4 X_arg4).toInt ≤ 14336) :
    (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21) ∗ (arg22.view.loc (c : Thread nD τ) ↦[arg22.view.set]{fullShare} f_arg22)) : sProp 𝕄G)
      ⊢ wp frame (wpE (defs₀ (F := F)) 𝒱₀ (c : Thread nD τ) none) Set.univ (cc0_shared_prompt_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} (arg15.view.writes (Elt F) f_arg15 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) (wordL (F := F) i arg3 X_arg3) (wordP (F := F) arg4 X_arg4) (chk_of_le i _ _ hle) X_arg5 X_arg6 X_arg7 X_arg11 (scr18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg18) (scr19 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg19) (scr20 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg20) (scr21 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg21) k0_t3_loop.trips).1)) ∗ (arg16.view.loc (c : Thread nD τ) ↦[arg16.view.set]{fullShare} (arg16.view.writes (Elt F) f_arg16 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) (wordL (F := F) i arg3 X_arg3) (wordP (F := F) arg4 X_arg4) (chk_of_le i _ _ hle) X_arg5 X_arg6 X_arg7 X_arg11 (scr18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg18) (scr19 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg19) (scr20 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg20) (scr21 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg21) k0_t3_loop.trips).2.1)) ∗ (arg17.view.loc (c : Thread nD τ) ↦[arg17.view.set]{fullShare} (arg17.view.writes (Elt F) f_arg17 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) (wordL (F := F) i arg3 X_arg3) (wordP (F := F) arg4 X_arg4) (chk_of_le i _ _ hle) X_arg5 X_arg6 X_arg7 X_arg11 (scr18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg18) (scr19 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg19) (scr20 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg20) (scr21 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg21) k0_t3_loop.trips).2.2)) ∗ (arg18.view.loc (c : Thread nD τ) ↦[arg18.view.set]{fullShare} (scr18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg18)) ∗ (arg19.view.loc (c : Thread nD τ) ↦[arg19.view.set]{fullShare} (scr19 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg19)) ∗ (arg20.view.loc (c : Thread nD τ) ↦[arg20.view.set]{fullShare} (scr20 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg20)) ∗ (arg21.view.loc (c : Thread nD τ) ↦[arg21.view.set]{fullShare} (scr21 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg21)) ∗ (∃ g, (arg22.view.loc (c : Thread nD τ) ↦[arg22.view.set]{fullShare} g)))) := by
  by_cases k0_h2 : k0_cond2 i = 1#1
  · by_cases k0_h1 : k0_cond1 i = 1#1
    · simp only [scr18, scr19, scr20, scr21, dif_pos k0_h1, dif_pos k0_h2]
      sl_unfold [cc0_shared_prompt_attention]
      iintro ⟨H_arg3, H_arg4, H_arg5, H_arg6, H_arg7, H_arg8, H_arg9, H_arg10, H_arg11, H_arg12, H_arg13, H_arg14, H_arg15, H_arg16, H_arg17, H_arg18, H_arg19, H_arg20, H_arg21, H_arg22⟩
      sl_exec
      have hchk : k0_chk1 i (bodyRun.sl.r i arg3 X_arg3) (bodyRun.sl.r_1 arg4 X_arg4) := chk_of_le _ _ _ hle
      sl_exec
      sl_step
      sl_close
    · simp only [scr18, scr19, scr20, scr21, dif_neg k0_h1, dif_pos k0_h2]
      sl_unfold [cc0_shared_prompt_attention]
      iintro ⟨H_arg3, H_arg4, H_arg5, H_arg6, H_arg7, H_arg8, H_arg9, H_arg10, H_arg11, H_arg12, H_arg13, H_arg14, H_arg15, H_arg16, H_arg17, H_arg18, H_arg19, H_arg20, H_arg21, H_arg22⟩
      sl_exec
      have hchk : k0_chk1 i (bodyRun.sl.r_2 i arg3 X_arg3) (bodyRun.sl.r_3 arg4 X_arg4) := chk_of_le _ _ _ hle
      sl_exec
      sl_step
      sl_close
  · have k0_h1 : ¬ k0_cond1 i = 1#1 := fun h => k0_h2 (cond2_of_cond1 i h)
    simp only [scr18, scr19, scr20, scr21, dif_neg k0_h1, dif_neg k0_h2]
    sl_unfold [cc0_shared_prompt_attention]
    iintro ⟨H_arg3, H_arg4, H_arg5, H_arg6, H_arg7, H_arg8, H_arg9, H_arg10, H_arg11, H_arg12, H_arg13, H_arg14, H_arg15, H_arg16, H_arg17, H_arg18, H_arg19, H_arg20, H_arg21, H_arg22⟩
    sl_exec
    have hchk : k0_chk1 i (bodyRun.sl.r_4 i arg3 X_arg3) (bodyRun.sl.r_5 arg4 X_arg4) := chk_of_le _ _ _ hle
    sl_exec
    sl_step
    sl_close

end

end Cert.Proof.Kernel
-- ==== Proof.KFill.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Lib.Pipeline.Frame
public import Idealize.ShloMosaic.Lib.Pipeline.FrameBody
public import Idealize.ShloMosaic.Lib.Pipeline.ValueKit
public import proofs.«01_k».proof.Proof.KBody

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the frame kit. -/
local notation "𝕄G" => MT nD τ sig Unit (Elt F) ℕ (UR sig nD τ) ℕ

theorem trips1 : k0_t1_loop.trips = 112 := by
  have h_c0 : Affine.IsInt 0#32 (0) := Affine.ofNat _ (by omega)
  have h_c16 : Affine.IsInt 112#32 (112) := Affine.ofNat _ (by omega)
  have h_c1 : Affine.IsInt 1#32 (1) := Affine.ofNat _ (by omega)
  have h_v11 : Affine.IsInt _ (112) := Affine.addi h_c0 h_c16 (by omega)
  exact Affine.trips_eq h_c0 h_v11 h_c1 _ (by omega)

theorem iv_mul1 (k : Fin k0_t1_loop.trips) :
    (Scalar.muli (Scf.iv 0#32 1#32 k) 128#32).toNat = k.val * 128 := by
  have hk : k.val < 112 := lt_of_lt_of_eq k.isLt trips1
  have h_c0 : Affine.IsInt 0#32 (0) := Affine.ofNat _ (by omega)
  have h_c1 : Affine.IsInt 1#32 (1) := Affine.ofNat _ (by omega)
  have h_n : Affine.IsInt 128#32 (128) := Affine.ofNat _ (by omega)
  have h_i : Affine.IsInt (Scf.iv 0#32 1#32 k) (k.val : Int) := Affine.iv h_c0 h_c1 _ (by omega)
  have h_m : Affine.IsInt _ ((k.val : Int) * 128) := Affine.muli h_i h_n (by omega)
  have := Affine.toNat_of h_m (by omega)
  omega

theorem trips2 : k0_t2_loop.trips = 16 := by
  have h_c0 : Affine.IsInt 0#32 (0) := Affine.ofNat _ (by omega)
  have h_c16 : Affine.IsInt 16#32 (16) := Affine.ofNat _ (by omega)
  have h_c1 : Affine.IsInt 1#32 (1) := Affine.ofNat _ (by omega)
  have h_v11 : Affine.IsInt _ (16) := Affine.addi h_c0 h_c16 (by omega)
  exact Affine.trips_eq h_c0 h_v11 h_c1 _ (by omega)

theorem iv_mul2 (k : Fin k0_t2_loop.trips) :
    (Scalar.muli (Scf.iv 0#32 1#32 k) 128#32).toNat = k.val * 128 := by
  have hk : k.val < 16 := lt_of_lt_of_eq k.isLt trips2
  have h_c0 : Affine.IsInt 0#32 (0) := Affine.ofNat _ (by omega)
  have h_c1 : Affine.IsInt 1#32 (1) := Affine.ofNat _ (by omega)
  have h_n : Affine.IsInt 128#32 (128) := Affine.ofNat _ (by omega)
  have h_i : Affine.IsInt (Scf.iv 0#32 1#32 k) (k.val : Int) := Affine.iv h_c0 h_c1 _ (by omega)
  have h_m : Affine.IsInt _ ((k.val : Int) * 128) := Affine.muli h_i h_n (by omega)
  have := Affine.toNat_of h_m (by omega)
  omega
theorem off1_eq (k : Fin k0_t1_loop.trips) : k0_off1 k = ![0, 0, k.val * 128] := by
  unfold k0_off1; simp only [Scalar.indexCast]; rw [iv_mul1 k]
theorem off2_eq (k : Fin k0_t1_loop.trips) : k0_off2 k = ![k.val * 128, 0] := by
  unfold k0_off2; simp only [Scalar.indexCast]; rw [iv_mul1 k]
theorem off3_eq (k : Fin k0_t1_loop.trips) : k0_off3 k = ![0, 0, k.val * 128] := by
  unfold k0_off3; simp only [Scalar.indexCast]; rw [iv_mul1 k]
theorem off4_eq (k : Fin k0_t1_loop.trips) : k0_off4 k = ![0, k.val * 128] := by
  unfold k0_off4; simp only [Scalar.indexCast]; rw [iv_mul1 k]
theorem off5_eq (k : Fin k0_t2_loop.trips) : k0_off5 k = ![0, 0, 0, k.val * 128] := by
  unfold k0_off5; simp only [Scalar.indexCast]; rw [iv_mul2 k]
theorem off6_eq (k : Fin k0_t2_loop.trips) : k0_off6 k = ![k.val * 128, 0] := by
  unfold k0_off6; simp only [Scalar.indexCast]; rw [iv_mul2 k]
theorem off7_eq (k : Fin k0_t2_loop.trips) : k0_off7 k = ![0, 0, 0, k.val * 128] := by
  unfold k0_off7; simp only [Scalar.indexCast]; rw [iv_mul2 k]
theorem off8_eq (k : Fin k0_t2_loop.trips) : k0_off8 k = ![0, k.val * 128] := by
  unfold k0_off8; simp only [Scalar.indexCast]; rw [iv_mul2 k]

theorem off1_in (k : Fin k0_t1_loop.trips) : ∀ a, k0_off1 k a + S1x1x128.size a ≤ S1x1x14336.size a := by
  have hk : k.val < 112 := lt_of_lt_of_eq k.isLt trips1
  rw [off1_eq]
  intro a
  fin_cases a
  · exact (by decide : (0 : ℕ) + S1x1x128.size 0 ≤ S1x1x14336.size 0)
  · exact (by decide : (0 : ℕ) + S1x1x128.size 1 ≤ S1x1x14336.size 1)
  · show k.val * 128 + 128 ≤ 14336; omega

theorem off3_in (k : Fin k0_t1_loop.trips) : ∀ a, k0_off3 k a + S1x128x128.size a ≤ S1x128x14336.size a := by
  have hk : k.val < 112 := lt_of_lt_of_eq k.isLt trips1
  rw [off3_eq]
  intro a
  fin_cases a
  · exact (by decide : (0 : ℕ) + S1x128x128.size 0 ≤ S1x128x14336.size 0)
  · exact (by decide : (0 : ℕ) + S1x128x128.size 1 ≤ S1x128x14336.size 1)
  · show k.val * 128 + 128 ≤ 14336; omega

theorem off5_in (k : Fin k0_t2_loop.trips) : ∀ a, k0_off5 k a + S1x1x1x128.size a ≤ S1x1x1x2048.size a := by
  have hk : k.val < 16 := lt_of_lt_of_eq k.isLt trips2
  rw [off5_eq]
  intro a
  fin_cases a
  · exact (by decide : (0 : ℕ) + S1x1x1x128.size 0 ≤ S1x1x1x2048.size 0)
  · exact (by decide : (0 : ℕ) + S1x1x1x128.size 1 ≤ S1x1x1x2048.size 1)
  · exact (by decide : (0 : ℕ) + S1x1x1x128.size 2 ≤ S1x1x1x2048.size 2)
  · show k.val * 128 + 128 ≤ 2048; omega

theorem off7_in (k : Fin k0_t2_loop.trips) : ∀ a, k0_off7 k a + S1x1x128x128.size a ≤ S1x1x128x2048.size a := by
  have hk : k.val < 16 := lt_of_lt_of_eq k.isLt trips2
  rw [off7_eq]
  intro a
  fin_cases a
  · exact (by decide : (0 : ℕ) + S1x1x128x128.size 0 ≤ S1x1x128x2048.size 0)
  · exact (by decide : (0 : ℕ) + S1x1x128x128.size 1 ≤ S1x1x128x2048.size 1)
  · exact (by decide : (0 : ℕ) + S1x1x128x128.size 2 ≤ S1x1x128x2048.size 2)
  · show k.val * 128 + 128 ≤ 2048; omega

/-- The chunk of the filled scratch holding an element. -/
def chunk18 (y : S14336x128.Idx) : Fin k0_t1_loop.trips := ⟨(y 0).val / 128, by
  rw [trips1]
  have : (y 0).val < 14336 := (y 0).isLt
  omega⟩

/-- The filled scratch, element by element, from the blocks it is filled from. -/
def fill18 (B9 : S1x1x14336.Idx → Elt F .f32) (y : S14336x128.Idx) : Elt F .f32 :=
  k0_pay1 (F := F) (fun x => B9 ((Rect.unit (s := S1x1x14336) (k0_off1 (chunk18 y)) S1x1x128.size (off1_in (chunk18 y))).toLoadRect.idx x)) (fun a => match a with | 0 => ⟨(y 0).val % 128, Nat.mod_lt _ (by decide)⟩ | 1 => y 1 : S128x128.Idx)

variable (c : Dev nD) (i : grid0.Coords) (arg3 : Memref sig .tc .smem S6 .i32) (harg3 : arg3.IsWhole) (arg4 : Memref sig .tc .smem S1 .i32) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x14336x128 .fp8e4m3) (harg7 : arg7.IsWhole) (arg8 : Memref sig .tc .vmem S1x128x14336 .fp8e4m3) (harg8 : arg8.IsWhole) (arg9 : Memref sig .tc .vmem S1x1x14336 .f32) (harg9 : arg9.IsWhole) (arg10 : Memref sig .tc .vmem S1x1x14336 .f32) (harg10 : arg10.IsWhole) (arg11 : Memref sig .tc .vmem S1x1x2048x128 .fp8e4m3) (harg11 : arg11.IsWhole) (arg12 : Memref sig .tc .vmem S1x1x128x2048 .fp8e4m3) (harg12 : arg12.IsWhole) (arg13 : Memref sig .tc .vmem S1x1x1x2048 .f32) (harg13 : arg13.IsWhole) (arg14 : Memref sig .tc .vmem S1x1x1x2048 .f32) (harg14 : arg14.IsWhole) (arg15 : Memref sig .tc .vmem S1x512x2048 .bf16) (harg15 : arg15.IsWhole) (arg16 : Memref sig .tc .vmem S1x1x1x8192 .f32) (harg16 : arg16.IsWhole) (arg17 : Memref sig .tc .vmem S1x1x1x8192 .f32) (harg17 : arg17.IsWhole) (arg18 : Memref sig .tc .vmem S14336x128 .f32) (harg18 : arg18.IsWhole) (arg19 : Memref sig .tc .vmem S128x14336 .bf16) (harg19 : arg19.IsWhole) (arg20 : Memref sig .tc .vmem S2048x128 .f32) (harg20 : arg20.IsWhole) (arg21 : Memref sig .tc .vmem S128x2048 .bf16) (harg21 : arg21.IsWhole) (arg22 : Memref sig .tc .vmem S512x128 .f32) (harg22 : arg22.IsWhole)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem of_mem_pb18 (h : k0_cond1 i = 1#1) (X_arg8 : BufTy.Contents (Elt F) arg8.view.ty) (X_arg9 : BufTy.Contents (Elt F) arg9.view.ty) (X_arg10 : BufTy.Contents (Elt F) arg10.view.ty) (n : ℕ) (hn : n ≤ k0_t1_loop.trips) :
    (∀ p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 n).1, ∃ k : Fin k0_t1_loop.trips, p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k).1)
      ∧ ∀ k : Fin k0_t1_loop.trips, k.val < n → ∀ p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k).1, p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 n).1 := by
  induction n with
  | zero => exact ⟨fun p hp => absurd hp List.not_mem_nil, fun k hk => absurd hk (Nat.not_lt_zero _)⟩
  | succ n ih =>
    have e := pb_k0_t1_succ (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 ⟨n, hn⟩
    rw [show (⟨n, hn⟩ : Fin k0_t1_loop.trips).val = n from rfl] at e
    rw [e]
    obtain ⟨h1, h2⟩ := ih (by omega)
    refine ⟨fun p hp => (List.mem_append.mp hp).elim (fun h => ⟨_, h⟩) (h1 p), fun k hk p hp => ?_⟩
    by_cases hkn : k.val = n
    · obtain rfl : k = ⟨n, hn⟩ := Fin.ext hkn
      exact List.mem_append_left _ hp
    · exact List.mem_append_right _ (h2 k (by omega) p hp)

set_option maxHeartbeats 4000000 in
/-- After its fill the scratch reads the closed form, whatever it held before. -/
theorem fill18_read (h : k0_cond1 i = 1#1) (X_arg8 : BufTy.Contents (Elt F) arg8.view.ty) (X_arg9 : BufTy.Contents (Elt F) arg9.view.ty) (X_arg10 : BufTy.Contents (Elt F) arg10.view.ty) (f : BufTy.Contents (Elt F) arg18.view.ty) :
    arg18.view.read (Elt F) (arg18.view.writes (Elt F) f ((pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).1)) = fill18 (F := F) (arg9.view.read (Elt F) X_arg9) := by
  obtain ⟨h1, h2⟩ := of_mem_pb18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips le_rfl
  have cov : ∀ y : S14336x128.Idx, ∃ p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).1, y ∈ p.1.set := by
    intro y
    have hd := Nat.div_add_mod (y 0).val 128
    have hm := Nat.mod_lt (y 0).val (show 0 < 128 by omega)
    have ho : (y 1).val < 128 := (y 1).isLt
    have hk : (chunk18 y).val = (y 0).val / 128 := rfl
    suffices hs : ∃ p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 (chunk18 y)).1, y ∈ p.1.set by
      obtain ⟨p, hp, hy⟩ := hs
      exact ⟨p, h2 _ (chunk18 y).isLt p hp, hy⟩
    unfold tripL_k0_t1 trip_k0_t1
    simp only [List.mem_cons, List.not_mem_nil, or_false, exists_eq_left, Rect.mem_set_unit, off2_eq]
    intro a
    fin_cases a
    · exact ⟨by show (chunk18 y).val * 128 ≤ (y 0).val; omega, by show (y 0).val < (chunk18 y).val * 128 + 128; omega⟩
    · exact ⟨Nat.zero_le _, by show (y 1).val < 0 + 128; omega⟩
  rw [View.read_writes_eq_canon _ _ _ cov]
  funext y
  refine View.canon_apply_of_pieces _ _ (fun p hp x => ?_) y (cov y)
  obtain ⟨k, hk⟩ := h1 p hp
  unfold tripL_k0_t1 trip_k0_t1 at hk
  simp only [List.mem_cons, List.not_mem_nil, or_false] at hk
  subst hk
  have e0 : ((Rect.unit (s := S14336x128) (k0_off2 k) S128x128.size (k0_off2_inb i k h)).emb x 0).val = k.val * 128 + (x 0).val := by
    have e : k0_off2 k 0 = k.val * 128 := by rw [off2_eq]; rfl
    rw [ValueKit.rect_emb_unit_val, e]
  have e1 : ((Rect.unit (s := S14336x128) (k0_off2 k) S128x128.size (k0_off2_inb i k h)).emb x 1).val = (x 1).val := by
    have e : k0_off2 k 1 = 0 := by rw [off2_eq]; rfl
    rw [ValueKit.rect_emb_unit_val, e, Nat.zero_add]
  have hx : (x 0).val < 128 := (x 0).isLt
  generalize (Rect.unit (s := S14336x128) (k0_off2 k) S128x128.size (k0_off2_inb i k h)).emb x = z at e0 e1
  have hc : chunk18 z = k := Fin.ext (by show (z 0).val / 128 = k.val; omega)
  subst hc
  unfold fill18
  refine congrArg _ (funext fun a => Fin.ext ?_)
  fin_cases a
  · show (x 0).val = (z 0).val % 128; omega
  · show (x 1).val = (z 1).val; omega

end

/-- The chunk of the filled scratch holding an element. -/
def chunk19 (y : S128x14336.Idx) : Fin k0_t1_loop.trips := ⟨(y 1).val / 128, by
  rw [trips1]
  have : (y 1).val < 14336 := (y 1).isLt
  omega⟩

/-- The filled scratch, element by element, from the blocks it is filled from. -/
def fill19 (B8 : S1x128x14336.Idx → Elt F .fp8e4m3) (B10 : S1x1x14336.Idx → Elt F .f32) (y : S128x14336.Idx) : Elt F .bf16 :=
  k0_pay2 (F := F) (fun x => B8 ((Rect.unit (s := S1x128x14336) (k0_off3 (chunk19 y)) S1x128x128.size (off3_in (chunk19 y))).toLoadRect.idx x)) (fun x => B10 ((Rect.unit (s := S1x1x14336) (k0_off1 (chunk19 y)) S1x1x128.size (off1_in (chunk19 y))).toLoadRect.idx x)) (fun a => match a with | 0 => y 0 | 1 => ⟨(y 1).val % 128, Nat.mod_lt _ (by decide)⟩ : S128x128.Idx)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem of_mem_pb19 (h : k0_cond1 i = 1#1) (X_arg8 : BufTy.Contents (Elt F) arg8.view.ty) (X_arg9 : BufTy.Contents (Elt F) arg9.view.ty) (X_arg10 : BufTy.Contents (Elt F) arg10.view.ty) (n : ℕ) (hn : n ≤ k0_t1_loop.trips) :
    (∀ p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 n).2, ∃ k : Fin k0_t1_loop.trips, p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k).2)
      ∧ ∀ k : Fin k0_t1_loop.trips, k.val < n → ∀ p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k).2, p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 n).2 := by
  induction n with
  | zero => exact ⟨fun p hp => absurd hp List.not_mem_nil, fun k hk => absurd hk (Nat.not_lt_zero _)⟩
  | succ n ih =>
    have e := pb_k0_t1_succ (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 ⟨n, hn⟩
    rw [show (⟨n, hn⟩ : Fin k0_t1_loop.trips).val = n from rfl] at e
    rw [e]
    obtain ⟨h1, h2⟩ := ih (by omega)
    refine ⟨fun p hp => (List.mem_append.mp hp).elim (fun h => ⟨_, h⟩) (h1 p), fun k hk p hp => ?_⟩
    by_cases hkn : k.val = n
    · obtain rfl : k = ⟨n, hn⟩ := Fin.ext hkn
      exact List.mem_append_left _ hp
    · exact List.mem_append_right _ (h2 k (by omega) p hp)

set_option maxHeartbeats 4000000 in
/-- After its fill the scratch reads the closed form, whatever it held before. -/
theorem fill19_read (h : k0_cond1 i = 1#1) (X_arg8 : BufTy.Contents (Elt F) arg8.view.ty) (X_arg9 : BufTy.Contents (Elt F) arg9.view.ty) (X_arg10 : BufTy.Contents (Elt F) arg10.view.ty) (f : BufTy.Contents (Elt F) arg19.view.ty) :
    arg19.view.read (Elt F) (arg19.view.writes (Elt F) f ((pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).2)) = fill19 (F := F) (arg8.view.read (Elt F) X_arg8) (arg10.view.read (Elt F) X_arg10) := by
  obtain ⟨h1, h2⟩ := of_mem_pb19 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips le_rfl
  have cov : ∀ y : S128x14336.Idx, ∃ p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).2, y ∈ p.1.set := by
    intro y
    have hd := Nat.div_add_mod (y 1).val 128
    have hm := Nat.mod_lt (y 1).val (show 0 < 128 by omega)
    have ho : (y 0).val < 128 := (y 0).isLt
    have hk : (chunk19 y).val = (y 1).val / 128 := rfl
    suffices hs : ∃ p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 (chunk19 y)).2, y ∈ p.1.set by
      obtain ⟨p, hp, hy⟩ := hs
      exact ⟨p, h2 _ (chunk19 y).isLt p hp, hy⟩
    unfold tripL_k0_t1 trip_k0_t1
    simp only [List.mem_cons, List.not_mem_nil, or_false, exists_eq_left, Rect.mem_set_unit, off4_eq]
    intro a
    fin_cases a
    · exact ⟨Nat.zero_le _, by show (y 0).val < 0 + 128; omega⟩
    · exact ⟨by show (chunk19 y).val * 128 ≤ (y 1).val; omega, by show (y 1).val < (chunk19 y).val * 128 + 128; omega⟩
  rw [View.read_writes_eq_canon _ _ _ cov]
  funext y
  refine View.canon_apply_of_pieces _ _ (fun p hp x => ?_) y (cov y)
  obtain ⟨k, hk⟩ := h1 p hp
  unfold tripL_k0_t1 trip_k0_t1 at hk
  simp only [List.mem_cons, List.not_mem_nil, or_false] at hk
  subst hk
  have e0 : ((Rect.unit (s := S128x14336) (k0_off4 k) S128x128.size (k0_off4_inb i k h)).emb x 1).val = k.val * 128 + (x 1).val := by
    have e : k0_off4 k 1 = k.val * 128 := by rw [off4_eq]; rfl
    rw [ValueKit.rect_emb_unit_val, e]
  have e1 : ((Rect.unit (s := S128x14336) (k0_off4 k) S128x128.size (k0_off4_inb i k h)).emb x 0).val = (x 0).val := by
    have e : k0_off4 k 0 = 0 := by rw [off4_eq]; rfl
    rw [ValueKit.rect_emb_unit_val, e, Nat.zero_add]
  have hx : (x 1).val < 128 := (x 1).isLt
  generalize (Rect.unit (s := S128x14336) (k0_off4 k) S128x128.size (k0_off4_inb i k h)).emb x = z at e0 e1
  have hc : chunk19 z = k := Fin.ext (by show (z 1).val / 128 = k.val; omega)
  subst hc
  unfold fill19
  refine congrArg _ (funext fun a => Fin.ext ?_)
  fin_cases a
  · show (x 0).val = (z 0).val; omega
  · show (x 1).val = (z 1).val % 128; omega

end

/-- The chunk of the filled scratch holding an element. -/
def chunk20 (y : S2048x128.Idx) : Fin k0_t2_loop.trips := ⟨(y 0).val / 128, by
  rw [trips2]
  have : (y 0).val < 2048 := (y 0).isLt
  omega⟩

/-- The filled scratch, element by element, from the blocks it is filled from. -/
def fill20 (B13 : S1x1x1x2048.Idx → Elt F .f32) (y : S2048x128.Idx) : Elt F .f32 :=
  k0_pay3 (F := F) (fun x => B13 ((Rect.unit (s := S1x1x1x2048) (k0_off5 (chunk20 y)) S1x1x1x128.size (off5_in (chunk20 y))).toLoadRect.idx x)) (fun a => match a with | 0 => ⟨(y 0).val % 128, Nat.mod_lt _ (by decide)⟩ | 1 => y 1 : S128x128.Idx)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem of_mem_pb20 (h : k0_cond2 i = 1#1) (X_arg12 : BufTy.Contents (Elt F) arg12.view.ty) (X_arg13 : BufTy.Contents (Elt F) arg13.view.ty) (X_arg14 : BufTy.Contents (Elt F) arg14.view.ty) (n : ℕ) (hn : n ≤ k0_t2_loop.trips) :
    (∀ p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 n).1, ∃ k : Fin k0_t2_loop.trips, p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k).1)
      ∧ ∀ k : Fin k0_t2_loop.trips, k.val < n → ∀ p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k).1, p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 n).1 := by
  induction n with
  | zero => exact ⟨fun p hp => absurd hp List.not_mem_nil, fun k hk => absurd hk (Nat.not_lt_zero _)⟩
  | succ n ih =>
    have e := pb_k0_t2_succ (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 ⟨n, hn⟩
    rw [show (⟨n, hn⟩ : Fin k0_t2_loop.trips).val = n from rfl] at e
    rw [e]
    obtain ⟨h1, h2⟩ := ih (by omega)
    refine ⟨fun p hp => (List.mem_append.mp hp).elim (fun h => ⟨_, h⟩) (h1 p), fun k hk p hp => ?_⟩
    by_cases hkn : k.val = n
    · obtain rfl : k = ⟨n, hn⟩ := Fin.ext hkn
      exact List.mem_append_left _ hp
    · exact List.mem_append_right _ (h2 k (by omega) p hp)

set_option maxHeartbeats 4000000 in
/-- After its fill the scratch reads the closed form, whatever it held before. -/
theorem fill20_read (h : k0_cond2 i = 1#1) (X_arg12 : BufTy.Contents (Elt F) arg12.view.ty) (X_arg13 : BufTy.Contents (Elt F) arg13.view.ty) (X_arg14 : BufTy.Contents (Elt F) arg14.view.ty) (f : BufTy.Contents (Elt F) arg20.view.ty) :
    arg20.view.read (Elt F) (arg20.view.writes (Elt F) f ((pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).1)) = fill20 (F := F) (arg13.view.read (Elt F) X_arg13) := by
  obtain ⟨h1, h2⟩ := of_mem_pb20 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips le_rfl
  have cov : ∀ y : S2048x128.Idx, ∃ p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).1, y ∈ p.1.set := by
    intro y
    have hd := Nat.div_add_mod (y 0).val 128
    have hm := Nat.mod_lt (y 0).val (show 0 < 128 by omega)
    have ho : (y 1).val < 128 := (y 1).isLt
    have hk : (chunk20 y).val = (y 0).val / 128 := rfl
    suffices hs : ∃ p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 (chunk20 y)).1, y ∈ p.1.set by
      obtain ⟨p, hp, hy⟩ := hs
      exact ⟨p, h2 _ (chunk20 y).isLt p hp, hy⟩
    unfold tripL_k0_t2 trip_k0_t2
    simp only [List.mem_cons, List.not_mem_nil, or_false, exists_eq_left, Rect.mem_set_unit, off6_eq]
    intro a
    fin_cases a
    · exact ⟨by show (chunk20 y).val * 128 ≤ (y 0).val; omega, by show (y 0).val < (chunk20 y).val * 128 + 128; omega⟩
    · exact ⟨Nat.zero_le _, by show (y 1).val < 0 + 128; omega⟩
  rw [View.read_writes_eq_canon _ _ _ cov]
  funext y
  refine View.canon_apply_of_pieces _ _ (fun p hp x => ?_) y (cov y)
  obtain ⟨k, hk⟩ := h1 p hp
  unfold tripL_k0_t2 trip_k0_t2 at hk
  simp only [List.mem_cons, List.not_mem_nil, or_false] at hk
  subst hk
  have e0 : ((Rect.unit (s := S2048x128) (k0_off6 k) S128x128.size (k0_off6_inb i k h)).emb x 0).val = k.val * 128 + (x 0).val := by
    have e : k0_off6 k 0 = k.val * 128 := by rw [off6_eq]; rfl
    rw [ValueKit.rect_emb_unit_val, e]
  have e1 : ((Rect.unit (s := S2048x128) (k0_off6 k) S128x128.size (k0_off6_inb i k h)).emb x 1).val = (x 1).val := by
    have e : k0_off6 k 1 = 0 := by rw [off6_eq]; rfl
    rw [ValueKit.rect_emb_unit_val, e, Nat.zero_add]
  have hx : (x 0).val < 128 := (x 0).isLt
  generalize (Rect.unit (s := S2048x128) (k0_off6 k) S128x128.size (k0_off6_inb i k h)).emb x = z at e0 e1
  have hc : chunk20 z = k := Fin.ext (by show (z 0).val / 128 = k.val; omega)
  subst hc
  unfold fill20
  refine congrArg _ (funext fun a => Fin.ext ?_)
  fin_cases a
  · show (x 0).val = (z 0).val % 128; omega
  · show (x 1).val = (z 1).val; omega

end

/-- The chunk of the filled scratch holding an element. -/
def chunk21 (y : S128x2048.Idx) : Fin k0_t2_loop.trips := ⟨(y 1).val / 128, by
  rw [trips2]
  have : (y 1).val < 2048 := (y 1).isLt
  omega⟩

/-- The filled scratch, element by element, from the blocks it is filled from. -/
def fill21 (B12 : S1x1x128x2048.Idx → Elt F .fp8e4m3) (B14 : S1x1x1x2048.Idx → Elt F .f32) (y : S128x2048.Idx) : Elt F .bf16 :=
  k0_pay4 (F := F) (fun x => B12 ((Rect.unit (s := S1x1x128x2048) (k0_off7 (chunk21 y)) S1x1x128x128.size (off7_in (chunk21 y))).toLoadRect.idx x)) (fun x => B14 ((Rect.unit (s := S1x1x1x2048) (k0_off5 (chunk21 y)) S1x1x1x128.size (off5_in (chunk21 y))).toLoadRect.idx x)) (fun a => match a with | 0 => y 0 | 1 => ⟨(y 1).val % 128, Nat.mod_lt _ (by decide)⟩ : S128x128.Idx)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem of_mem_pb21 (h : k0_cond2 i = 1#1) (X_arg12 : BufTy.Contents (Elt F) arg12.view.ty) (X_arg13 : BufTy.Contents (Elt F) arg13.view.ty) (X_arg14 : BufTy.Contents (Elt F) arg14.view.ty) (n : ℕ) (hn : n ≤ k0_t2_loop.trips) :
    (∀ p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 n).2, ∃ k : Fin k0_t2_loop.trips, p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k).2)
      ∧ ∀ k : Fin k0_t2_loop.trips, k.val < n → ∀ p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k).2, p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 n).2 := by
  induction n with
  | zero => exact ⟨fun p hp => absurd hp List.not_mem_nil, fun k hk => absurd hk (Nat.not_lt_zero _)⟩
  | succ n ih =>
    have e := pb_k0_t2_succ (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 ⟨n, hn⟩
    rw [show (⟨n, hn⟩ : Fin k0_t2_loop.trips).val = n from rfl] at e
    rw [e]
    obtain ⟨h1, h2⟩ := ih (by omega)
    refine ⟨fun p hp => (List.mem_append.mp hp).elim (fun h => ⟨_, h⟩) (h1 p), fun k hk p hp => ?_⟩
    by_cases hkn : k.val = n
    · obtain rfl : k = ⟨n, hn⟩ := Fin.ext hkn
      exact List.mem_append_left _ hp
    · exact List.mem_append_right _ (h2 k (by omega) p hp)

set_option maxHeartbeats 4000000 in
/-- After its fill the scratch reads the closed form, whatever it held before. -/
theorem fill21_read (h : k0_cond2 i = 1#1) (X_arg12 : BufTy.Contents (Elt F) arg12.view.ty) (X_arg13 : BufTy.Contents (Elt F) arg13.view.ty) (X_arg14 : BufTy.Contents (Elt F) arg14.view.ty) (f : BufTy.Contents (Elt F) arg21.view.ty) :
    arg21.view.read (Elt F) (arg21.view.writes (Elt F) f ((pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).2)) = fill21 (F := F) (arg12.view.read (Elt F) X_arg12) (arg14.view.read (Elt F) X_arg14) := by
  obtain ⟨h1, h2⟩ := of_mem_pb21 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips le_rfl
  have cov : ∀ y : S128x2048.Idx, ∃ p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).2, y ∈ p.1.set := by
    intro y
    have hd := Nat.div_add_mod (y 1).val 128
    have hm := Nat.mod_lt (y 1).val (show 0 < 128 by omega)
    have ho : (y 0).val < 128 := (y 0).isLt
    have hk : (chunk21 y).val = (y 1).val / 128 := rfl
    suffices hs : ∃ p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 (chunk21 y)).2, y ∈ p.1.set by
      obtain ⟨p, hp, hy⟩ := hs
      exact ⟨p, h2 _ (chunk21 y).isLt p hp, hy⟩
    unfold tripL_k0_t2 trip_k0_t2
    simp only [List.mem_cons, List.not_mem_nil, or_false, exists_eq_left, Rect.mem_set_unit, off8_eq]
    intro a
    fin_cases a
    · exact ⟨Nat.zero_le _, by show (y 0).val < 0 + 128; omega⟩
    · exact ⟨by show (chunk21 y).val * 128 ≤ (y 1).val; omega, by show (y 1).val < (chunk21 y).val * 128 + 128; omega⟩
  rw [View.read_writes_eq_canon _ _ _ cov]
  funext y
  refine View.canon_apply_of_pieces _ _ (fun p hp x => ?_) y (cov y)
  obtain ⟨k, hk⟩ := h1 p hp
  unfold tripL_k0_t2 trip_k0_t2 at hk
  simp only [List.mem_cons, List.not_mem_nil, or_false] at hk
  subst hk
  have e0 : ((Rect.unit (s := S128x2048) (k0_off8 k) S128x128.size (k0_off8_inb i k h)).emb x 1).val = k.val * 128 + (x 1).val := by
    have e : k0_off8 k 1 = k.val * 128 := by rw [off8_eq]; rfl
    rw [ValueKit.rect_emb_unit_val, e]
  have e1 : ((Rect.unit (s := S128x2048) (k0_off8 k) S128x128.size (k0_off8_inb i k h)).emb x 0).val = (x 0).val := by
    have e : k0_off8 k 0 = 0 := by rw [off8_eq]; rfl
    rw [ValueKit.rect_emb_unit_val, e, Nat.zero_add]
  have hx : (x 1).val < 128 := (x 1).isLt
  generalize (Rect.unit (s := S128x2048) (k0_off8 k) S128x128.size (k0_off8_inb i k h)).emb x = z at e0 e1
  have hc : chunk21 z = k := Fin.ext (by show (z 1).val / 128 = k.val; omega)
  subst hc
  unfold fill21
  refine congrArg _ (funext fun a => Fin.ext ?_)
  fin_cases a
  · show (x 0).val = (z 0).val; omega
  · show (x 1).val = (z 1).val % 128; omega

end

end Cert.Proof.Kernel
-- ==== Proof.KDat.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Lib.Pipeline.Frame
public import proofs.«01_k».proof.Proof.KFill

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the frame kit. -/
local notation "𝕄G" => MT nD τ sig Unit (Elt F) ℕ (UR sig nD τ) ℕ

/-! The run's data: what every staging buffer holds at every point, and the kernel body's obligation. -/

variable (W : Dev nD → Valuation τ sig (Elt F)) (a : (pcfg0 (F := F)).Adm)

/-- The windows' arrays at the region's entry. -/
abbrev arr0 (c : Dev nD) (w : Fin 13) : Buf (Elt F) (((cfg0 a).win w).arr.view.loc (c.tc : Thread nD τ)) := W c (Proc.devRef .tc (Pipeline.arrRef spec0 w))

/-- What an input window's staging buffer holds at a point: the block of the last fetch. -/
def hd (c : Dev nD) (w : Fin 13) (t : Fin (cfg0 a).N) : (spec0 w).block.Idx → Elt F (spec0 w).elt :=
  Pipeline.heldIn (cfg0 a) (arr0 W a c) w t.val t.isLt

def X5 (c : Dev nD) (t : Fin (cfg0 a).N) : (spec0_0.stage ((cfg0 a).slots t 0)).view.ty.Contents (Elt F) := (hstage0_0 (((cfg0 a).slots t 0).cast nbuf0_0)).unread (hd W a c 0 t)

def X6 (c : Dev nD) (t : Fin (cfg0 a).N) : (spec0_1.stage ((cfg0 a).slots t 1)).view.ty.Contents (Elt F) := (hstage0_1 (((cfg0 a).slots t 1).cast nbuf0_1)).unread (hd W a c 1 t)

def X7 (c : Dev nD) (t : Fin (cfg0 a).N) : (spec0_2.stage ((cfg0 a).slots t 2)).view.ty.Contents (Elt F) := (hstage0_2 (((cfg0 a).slots t 2).cast nbuf0_2)).unread (hd W a c 2 t)

def X8 (c : Dev nD) (t : Fin (cfg0 a).N) : (spec0_3.stage ((cfg0 a).slots t 3)).view.ty.Contents (Elt F) := (hstage0_3 (((cfg0 a).slots t 3).cast nbuf0_3)).unread (hd W a c 3 t)

def X9 (c : Dev nD) (t : Fin (cfg0 a).N) : (spec0_4.stage ((cfg0 a).slots t 4)).view.ty.Contents (Elt F) := (hstage0_4 (((cfg0 a).slots t 4).cast nbuf0_4)).unread (hd W a c 4 t)

def X10 (c : Dev nD) (t : Fin (cfg0 a).N) : (spec0_5.stage ((cfg0 a).slots t 5)).view.ty.Contents (Elt F) := (hstage0_5 (((cfg0 a).slots t 5).cast nbuf0_5)).unread (hd W a c 5 t)

def X11 (c : Dev nD) (t : Fin (cfg0 a).N) : (spec0_6.stage ((cfg0 a).slots t 6)).view.ty.Contents (Elt F) := (hstage0_6 (((cfg0 a).slots t 6).cast nbuf0_6)).unread (hd W a c 6 t)

def X12 (c : Dev nD) (t : Fin (cfg0 a).N) : (spec0_7.stage ((cfg0 a).slots t 7)).view.ty.Contents (Elt F) := (hstage0_7 (((cfg0 a).slots t 7).cast nbuf0_7)).unread (hd W a c 7 t)

def X13 (c : Dev nD) (t : Fin (cfg0 a).N) : (spec0_8.stage ((cfg0 a).slots t 8)).view.ty.Contents (Elt F) := (hstage0_8 (((cfg0 a).slots t 8).cast nbuf0_8)).unread (hd W a c 8 t)

def X14 (c : Dev nD) (t : Fin (cfg0 a).N) : (spec0_9.stage ((cfg0 a).slots t 9)).view.ty.Contents (Elt F) := (hstage0_9 (((cfg0 a).slots t 9).cast nbuf0_9)).unread (hd W a c 9 t)

/-- The scratch after point `t`: the fill of the blocks at hand. -/
def U18 (c : Dev nD) (t : Fin (cfg0 a).N) : (Memref.whole cc0_scratch0).view.ty.Contents (Elt F) :=
  (Memref.isWhole_whole cc0_scratch0).unread (fill18 (F := F) (hd W a c 4 t))

/-- The scratch after point `t`: the fill of the blocks at hand. -/
def U19 (c : Dev nD) (t : Fin (cfg0 a).N) : (Memref.whole cc0_scratch1).view.ty.Contents (Elt F) :=
  (Memref.isWhole_whole cc0_scratch1).unread (fill19 (F := F) (hd W a c 3 t) (hd W a c 5 t))

/-- The scratch after point `t`: the fill of the blocks at hand. -/
def U20 (c : Dev nD) (t : Fin (cfg0 a).N) : (Memref.whole cc0_scratch2).view.ty.Contents (Elt F) :=
  (Memref.isWhole_whole cc0_scratch2).unread (fill20 (F := F) (hd W a c 8 t))

/-- The scratch after point `t`: the fill of the blocks at hand. -/
def U21 (c : Dev nD) (t : Fin (cfg0 a).N) : (Memref.whole cc0_scratch3).view.ty.Contents (Elt F) :=
  (Memref.isWhole_whole cc0_scratch3).unread (fill21 (F := F) (hd W a c 7 t) (hd W a c 9 t))

variable (hle : (wordP (F := F) (Memref.whole main_arg10) (a.1 1)).toInt ≤ 14336)

/-- The pieces a point's sixteen tiles leave in the three output blocks. -/
def outs (c : Dev nD) (t : Fin (cfg0 a).N) :=
  pb_k0_t3 (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (BitVec.ofNat 32 (grid0.coords t 2).val)
    (wordL (F := F) (grid0.coords t) (Memref.whole main_arg11) (a.1 0)) (wordP (F := F) (Memref.whole main_arg10) (a.1 1)) (chk_of_le _ _ _ hle)
    (X5 W a c t) (X6 W a c t) (X7 W a c t) (X11 W a c t) (U18 W a c t) (U19 W a c t) (U20 W a c t) (U21 W a c t) k0_t3_loop.trips

/-- The tables whole. -/
def tabs (c : Dev nD) : sProp 𝕄G := Pipeline.prefHeld pre0 c (fun _ => fullShare) a.1

/-- The invariant before position `n`: the tables, and the scratch at the fills of the point before. -/
def PhiS (c : Dev nD) (n : ℕ) (hn : n ≤ (cfg0 a).N) : sProp 𝕄G :=
  iprop(tabs a c ∗ ∃ (f0 : (Memref.whole cc0_scratch0).view.ty.Contents (Elt F)) (f1 : (Memref.whole cc0_scratch1).view.ty.Contents (Elt F)) (f2 : (Memref.whole cc0_scratch2).view.ty.Contents (Elt F)) (f3 : (Memref.whole cc0_scratch3).view.ty.Contents (Elt F)),
    ⌜∀ k : Fin (cfg0 a).N, k.val + 1 = n → f0 = U18 W a c k ∧ f1 = U19 W a c k ∧ f2 = U20 W a c k ∧ f3 = U21 W a c k⌝
    ∗ ((Memref.whole cc0_scratch0).view.loc (c : Thread nD τ) ↦[(Memref.whole cc0_scratch0).view.set]{fullShare} f0) ∗ ((Memref.whole cc0_scratch1).view.loc (c : Thread nD τ) ↦[(Memref.whole cc0_scratch1).view.set]{fullShare} f1) ∗ ((Memref.whole cc0_scratch2).view.loc (c : Thread nD τ) ↦[(Memref.whole cc0_scratch2).view.set]{fullShare} f2) ∗ ((Memref.whole cc0_scratch3).view.loc (c : Thread nD τ) ↦[(Memref.whole cc0_scratch3).view.set]{fullShare} f3)
    ∗ ∃ f4 : (Memref.whole cc0_scratch4).view.ty.Contents (Elt F), ((Memref.whole cc0_scratch4).view.loc (c : Thread nD τ) ↦[(Memref.whole cc0_scratch4).view.set]{fullShare} f4))

/-- The pipeline's proof data. -/
def dats (_ : Fin 1) (c : Dev nD) : Pipeline.Dat τ (Elt F) Unit ℕ (UR sig nD τ) ℕ (cfg0 a) c where
  A w := arr0 W a c w
  after := fun
    | 0 => fun t => hd W a c 0 t
    | 1 => fun t => hd W a c 1 t
    | 2 => fun t => hd W a c 2 t
    | 3 => fun t => hd W a c 3 t
    | 4 => fun t => hd W a c 4 t
    | 5 => fun t => hd W a c 5 t
    | 6 => fun t => hd W a c 6 t
    | 7 => fun t => hd W a c 7 t
    | 8 => fun t => hd W a c 8 t
    | 9 => fun t => hd W a c 9 t
    | 10 => fun t => View.canon (outs W a hle c t).1
    | 11 => fun t => View.canon (outs W a hle c t).2.1
    | 12 => fun t => View.canon (outs W a hle c t).2.2
    | ⟨_ + 13, h⟩ => absurd h (Nat.not_lt.2 (Nat.le_add_left _ _))
  Φ t := PhiS W a c t.val (Nat.le_of_lt_succ t.isLt)
  q _ := fullShare
  owed _ := 0

theorem still3 : ∀ t : Fin grid0.N, ¬ k0_cond1 (grid0.coords t) = 1#1 →
    t.val ≠ 0 ∧ ∀ h, cc0_transform_3 (grid0.coords t) = cc0_transform_3 (grid0.coords ⟨t.val - 1, h⟩) := by
  decide +kernel

theorem quiet3 (t : Fin (cfg0 a).N) (h : ¬ k0_cond1 (grid0.coords t) = 1#1) : ((cfg0 a).win 3).fetch t = false := by
  obtain ⟨h0, h1⟩ := still3 t h
  refine Bool.eq_false_iff.mpr fun hf => ?_
  rcases (((cfg0 a).win 3).fetch_in rfl t).mp hf with h2 | ⟨h2, h3⟩
  · exact h0 h2
  · exact h3 (h1 _)

theorem hd_step3 (c : Dev nD) (k t : Fin (cfg0 a).N) (hk : k.val + 1 = t.val) (h : ¬ k0_cond1 (grid0.coords t) = 1#1) :
    hd W a c 3 k = hd W a c 3 t := by
  obtain ⟨n, hn⟩ := t
  obtain rfl : n = k.val + 1 := hk.symm
  exact (Pipeline.heldIn_of_not_fetch (cfg := cfg0 a) (arr0 W a c) 3 k.val hn (quiet3 a _ h)).symm

theorem still4 : ∀ t : Fin grid0.N, ¬ k0_cond1 (grid0.coords t) = 1#1 →
    t.val ≠ 0 ∧ ∀ h, cc0_transform_4 (grid0.coords t) = cc0_transform_4 (grid0.coords ⟨t.val - 1, h⟩) := by
  decide +kernel

theorem quiet4 (t : Fin (cfg0 a).N) (h : ¬ k0_cond1 (grid0.coords t) = 1#1) : ((cfg0 a).win 4).fetch t = false := by
  obtain ⟨h0, h1⟩ := still4 t h
  refine Bool.eq_false_iff.mpr fun hf => ?_
  rcases (((cfg0 a).win 4).fetch_in rfl t).mp hf with h2 | ⟨h2, h3⟩
  · exact h0 h2
  · exact h3 (h1 _)

theorem hd_step4 (c : Dev nD) (k t : Fin (cfg0 a).N) (hk : k.val + 1 = t.val) (h : ¬ k0_cond1 (grid0.coords t) = 1#1) :
    hd W a c 4 k = hd W a c 4 t := by
  obtain ⟨n, hn⟩ := t
  obtain rfl : n = k.val + 1 := hk.symm
  exact (Pipeline.heldIn_of_not_fetch (cfg := cfg0 a) (arr0 W a c) 4 k.val hn (quiet4 a _ h)).symm

theorem still5 : ∀ t : Fin grid0.N, ¬ k0_cond1 (grid0.coords t) = 1#1 →
    t.val ≠ 0 ∧ ∀ h, cc0_transform_5 (grid0.coords t) = cc0_transform_5 (grid0.coords ⟨t.val - 1, h⟩) := by
  decide +kernel

theorem quiet5 (t : Fin (cfg0 a).N) (h : ¬ k0_cond1 (grid0.coords t) = 1#1) : ((cfg0 a).win 5).fetch t = false := by
  obtain ⟨h0, h1⟩ := still5 t h
  refine Bool.eq_false_iff.mpr fun hf => ?_
  rcases (((cfg0 a).win 5).fetch_in rfl t).mp hf with h2 | ⟨h2, h3⟩
  · exact h0 h2
  · exact h3 (h1 _)

theorem hd_step5 (c : Dev nD) (k t : Fin (cfg0 a).N) (hk : k.val + 1 = t.val) (h : ¬ k0_cond1 (grid0.coords t) = 1#1) :
    hd W a c 5 k = hd W a c 5 t := by
  obtain ⟨n, hn⟩ := t
  obtain rfl : n = k.val + 1 := hk.symm
  exact (Pipeline.heldIn_of_not_fetch (cfg := cfg0 a) (arr0 W a c) 5 k.val hn (quiet5 a _ h)).symm

theorem still7 : ∀ t : Fin grid0.N, ¬ k0_cond2 (grid0.coords t) = 1#1 →
    t.val ≠ 0 ∧ ∀ h, cc0_transform_7 (grid0.coords t) = cc0_transform_7 (grid0.coords ⟨t.val - 1, h⟩) := by
  decide +kernel

theorem quiet7 (t : Fin (cfg0 a).N) (h : ¬ k0_cond2 (grid0.coords t) = 1#1) : ((cfg0 a).win 7).fetch t = false := by
  obtain ⟨h0, h1⟩ := still7 t h
  refine Bool.eq_false_iff.mpr fun hf => ?_
  rcases (((cfg0 a).win 7).fetch_in rfl t).mp hf with h2 | ⟨h2, h3⟩
  · exact h0 h2
  · exact h3 (h1 _)

theorem hd_step7 (c : Dev nD) (k t : Fin (cfg0 a).N) (hk : k.val + 1 = t.val) (h : ¬ k0_cond2 (grid0.coords t) = 1#1) :
    hd W a c 7 k = hd W a c 7 t := by
  obtain ⟨n, hn⟩ := t
  obtain rfl : n = k.val + 1 := hk.symm
  exact (Pipeline.heldIn_of_not_fetch (cfg := cfg0 a) (arr0 W a c) 7 k.val hn (quiet7 a _ h)).symm

theorem still8 : ∀ t : Fin grid0.N, ¬ k0_cond2 (grid0.coords t) = 1#1 →
    t.val ≠ 0 ∧ ∀ h, cc0_transform_8 (grid0.coords t) = cc0_transform_8 (grid0.coords ⟨t.val - 1, h⟩) := by
  decide +kernel

theorem quiet8 (t : Fin (cfg0 a).N) (h : ¬ k0_cond2 (grid0.coords t) = 1#1) : ((cfg0 a).win 8).fetch t = false := by
  obtain ⟨h0, h1⟩ := still8 t h
  refine Bool.eq_false_iff.mpr fun hf => ?_
  rcases (((cfg0 a).win 8).fetch_in rfl t).mp hf with h2 | ⟨h2, h3⟩
  · exact h0 h2
  · exact h3 (h1 _)

theorem hd_step8 (c : Dev nD) (k t : Fin (cfg0 a).N) (hk : k.val + 1 = t.val) (h : ¬ k0_cond2 (grid0.coords t) = 1#1) :
    hd W a c 8 k = hd W a c 8 t := by
  obtain ⟨n, hn⟩ := t
  obtain rfl : n = k.val + 1 := hk.symm
  exact (Pipeline.heldIn_of_not_fetch (cfg := cfg0 a) (arr0 W a c) 8 k.val hn (quiet8 a _ h)).symm

theorem still9 : ∀ t : Fin grid0.N, ¬ k0_cond2 (grid0.coords t) = 1#1 →
    t.val ≠ 0 ∧ ∀ h, cc0_transform_9 (grid0.coords t) = cc0_transform_9 (grid0.coords ⟨t.val - 1, h⟩) := by
  decide +kernel

theorem quiet9 (t : Fin (cfg0 a).N) (h : ¬ k0_cond2 (grid0.coords t) = 1#1) : ((cfg0 a).win 9).fetch t = false := by
  obtain ⟨h0, h1⟩ := still9 t h
  refine Bool.eq_false_iff.mpr fun hf => ?_
  rcases (((cfg0 a).win 9).fetch_in rfl t).mp hf with h2 | ⟨h2, h3⟩
  · exact h0 h2
  · exact h3 (h1 _)

theorem hd_step9 (c : Dev nD) (k t : Fin (cfg0 a).N) (hk : k.val + 1 = t.val) (h : ¬ k0_cond2 (grid0.coords t) = 1#1) :
    hd W a c 9 k = hd W a c 9 t := by
  obtain ⟨n, hn⟩ := t
  obtain rfl : n = k.val + 1 := hk.symm
  exact (Pipeline.heldIn_of_not_fetch (cfg := cfg0 a) (arr0 W a c) 9 k.val hn (quiet9 a _ h)).symm

theorem first1 : ∀ t : Fin grid0.N, ¬ k0_cond1 (grid0.coords t) = 1#1 → 0 < t.val := by
  decide +kernel

theorem first2 : ∀ t : Fin grid0.N, ¬ k0_cond2 (grid0.coords t) = 1#1 → 0 < t.val := by
  decide +kernel

theorem scr18_eq (c : Dev nD) (t : Fin (cfg0 a).N) (f : (Memref.whole cc0_scratch0).view.ty.Contents (Elt F))
    (hf : ∀ k : Fin (cfg0 a).N, k.val + 1 = t.val → f = U18 W a c k) :
    scr18 (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (X8 W a c t) (X9 W a c t) (X10 W a c t) f = U18 W a c t := by
  unfold scr18
  split
  · rename_i h
    refine Memref.IsWhole.eq_unread (Memref.isWhole_whole cc0_scratch0) ?_
    refine (fill18_read (F := F) c (grid0.coords t) _ _ _ _ _ _ _ _ _ _ _ _ _ _ _ _ _ _ _ _ _ _ _ _ _ _ _ _ _ _ _ _ _ _ _ _ _ _ _ _ h (X8 W a c t) (X9 W a c t) (X10 W a c t) f).trans ?_
    exact congrArg (fill18 (F := F)) (Memref.IsWhole.read_unread _ _)
  · rename_i h
    have h0 := first1 t h
    have hk : (⟨t.val - 1, lt_of_le_of_lt (Nat.sub_le _ _) t.isLt⟩ : Fin (cfg0 a).N).val + 1 = t.val := by show t.val - 1 + 1 = t.val; omega
    rw [hf ⟨t.val - 1, lt_of_le_of_lt (Nat.sub_le _ _) t.isLt⟩ hk]
    unfold U18
    rw [hd_step4 W a c _ t hk h]

theorem scr19_eq (c : Dev nD) (t : Fin (cfg0 a).N) (f : (Memref.whole cc0_scratch1).view.ty.Contents (Elt F))
    (hf : ∀ k : Fin (cfg0 a).N, k.val + 1 = t.val → f = U19 W a c k) :
    scr19 (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (X8 W a c t) (X9 W a c t) (X10 W a c t) f = U19 W a c t := by
  unfold scr19
  split
  · rename_i h
    refine Memref.IsWhole.eq_unread (Memref.isWhole_whole cc0_scratch1) ?_
    refine (fill19_read (F := F) c (grid0.coords t) _ _ _ _ _ _ _ _ _ _ _ _ _ _ _ _ _ _ _ _ _ _ _ _ _ _ _ _ _ _ _ _ _ _ _ _ _ _ _ _ h (X8 W a c t) (X9 W a c t) (X10 W a c t) f).trans ?_
    exact congrArg₂ (fill19 (F := F)) (Memref.IsWhole.read_unread _ _) (Memref.IsWhole.read_unread _ _)
  · rename_i h
    have h0 := first1 t h
    have hk : (⟨t.val - 1, lt_of_le_of_lt (Nat.sub_le _ _) t.isLt⟩ : Fin (cfg0 a).N).val + 1 = t.val := by show t.val - 1 + 1 = t.val; omega
    rw [hf ⟨t.val - 1, lt_of_le_of_lt (Nat.sub_le _ _) t.isLt⟩ hk]
    unfold U19
    rw [hd_step3 W a c _ t hk h, hd_step5 W a c _ t hk h]

theorem scr20_eq (c : Dev nD) (t : Fin (cfg0 a).N) (f : (Memref.whole cc0_scratch2).view.ty.Contents (Elt F))
    (hf : ∀ k : Fin (cfg0 a).N, k.val + 1 = t.val → f = U20 W a c k) :
    scr20 (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (X12 W a c t) (X13 W a c t) (X14 W a c t) f = U20 W a c t := by
  unfold scr20
  split
  · rename_i h
    refine Memref.IsWhole.eq_unread (Memref.isWhole_whole cc0_scratch2) ?_
    refine (fill20_read (F := F) c (grid0.coords t) _ _ _ _ _ _ _ _ _ _ _ _ _ _ _ _ _ _ _ _ _ _ _ _ _ _ _ _ _ _ _ _ _ _ _ _ _ _ _ _ h (X12 W a c t) (X13 W a c t) (X14 W a c t) f).trans ?_
    exact congrArg (fill20 (F := F)) (Memref.IsWhole.read_unread _ _)
  · rename_i h
    have h0 := first2 t h
    have hk : (⟨t.val - 1, lt_of_le_of_lt (Nat.sub_le _ _) t.isLt⟩ : Fin (cfg0 a).N).val + 1 = t.val := by show t.val - 1 + 1 = t.val; omega
    rw [hf ⟨t.val - 1, lt_of_le_of_lt (Nat.sub_le _ _) t.isLt⟩ hk]
    unfold U20
    rw [hd_step8 W a c _ t hk h]

theorem scr21_eq (c : Dev nD) (t : Fin (cfg0 a).N) (f : (Memref.whole cc0_scratch3).view.ty.Contents (Elt F))
    (hf : ∀ k : Fin (cfg0 a).N, k.val + 1 = t.val → f = U21 W a c k) :
    scr21 (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (X12 W a c t) (X13 W a c t) (X14 W a c t) f = U21 W a c t := by
  unfold scr21
  split
  · rename_i h
    refine Memref.IsWhole.eq_unread (Memref.isWhole_whole cc0_scratch3) ?_
    refine (fill21_read (F := F) c (grid0.coords t) _ _ _ _ _ _ _ _ _ _ _ _ _ _ _ _ _ _ _ _ _ _ _ _ _ _ _ _ _ _ _ _ _ _ _ _ _ _ _ _ h (X12 W a c t) (X13 W a c t) (X14 W a c t) f).trans ?_
    exact congrArg₂ (fill21 (F := F)) (Memref.IsWhole.read_unread _ _) (Memref.IsWhole.read_unread _ _)
  · rename_i h
    have h0 := first2 t h
    have hk : (⟨t.val - 1, lt_of_le_of_lt (Nat.sub_le _ _) t.isLt⟩ : Fin (cfg0 a).N).val + 1 = t.val := by show t.val - 1 + 1 = t.val; omega
    rw [hf ⟨t.val - 1, lt_of_le_of_lt (Nat.sub_le _ _) t.isLt⟩ hk]
    unfold U21
    rw [hd_step7 W a c _ t hk h, hd_step9 W a c _ t hk h]

theorem before0 (c : Dev nD) (t : Fin (cfg0 a).N) (d) : (dats W a hle 0 c).before 0 t d = hd W a c 0 t :=
  Pipeline.Dat.before_eq_heldIn (dats W a hle 0 c) 0 rfl (fun _ => rfl) (fun _ _ => rfl) (fun _ => rfl) t d

theorem before1 (c : Dev nD) (t : Fin (cfg0 a).N) (d) : (dats W a hle 0 c).before 1 t d = hd W a c 1 t :=
  Pipeline.Dat.before_eq_heldIn (dats W a hle 0 c) 1 rfl (fun _ => rfl) (fun _ _ => rfl) (fun _ => rfl) t d

theorem before2 (c : Dev nD) (t : Fin (cfg0 a).N) (d) : (dats W a hle 0 c).before 2 t d = hd W a c 2 t :=
  Pipeline.Dat.before_eq_heldIn (dats W a hle 0 c) 2 rfl (fun _ => rfl) (fun _ _ => rfl) (fun _ => rfl) t d

theorem before3 (c : Dev nD) (t : Fin (cfg0 a).N) (d) : (dats W a hle 0 c).before 3 t d = hd W a c 3 t :=
  Pipeline.Dat.before_eq_heldIn (dats W a hle 0 c) 3 rfl (fun _ => rfl) (fun _ _ => rfl) (fun _ => rfl) t d

theorem before4 (c : Dev nD) (t : Fin (cfg0 a).N) (d) : (dats W a hle 0 c).before 4 t d = hd W a c 4 t :=
  Pipeline.Dat.before_eq_heldIn (dats W a hle 0 c) 4 rfl (fun _ => rfl) (fun _ _ => rfl) (fun _ => rfl) t d

theorem before5 (c : Dev nD) (t : Fin (cfg0 a).N) (d) : (dats W a hle 0 c).before 5 t d = hd W a c 5 t :=
  Pipeline.Dat.before_eq_heldIn (dats W a hle 0 c) 5 rfl (fun _ => rfl) (fun _ _ => rfl) (fun _ => rfl) t d

theorem before6 (c : Dev nD) (t : Fin (cfg0 a).N) (d) : (dats W a hle 0 c).before 6 t d = hd W a c 6 t :=
  Pipeline.Dat.before_eq_heldIn (dats W a hle 0 c) 6 rfl (fun _ => rfl) (fun _ _ => rfl) (fun _ => rfl) t d

theorem before7 (c : Dev nD) (t : Fin (cfg0 a).N) (d) : (dats W a hle 0 c).before 7 t d = hd W a c 7 t :=
  Pipeline.Dat.before_eq_heldIn (dats W a hle 0 c) 7 rfl (fun _ => rfl) (fun _ _ => rfl) (fun _ => rfl) t d

theorem before8 (c : Dev nD) (t : Fin (cfg0 a).N) (d) : (dats W a hle 0 c).before 8 t d = hd W a c 8 t :=
  Pipeline.Dat.before_eq_heldIn (dats W a hle 0 c) 8 rfl (fun _ => rfl) (fun _ _ => rfl) (fun _ => rfl) t d

theorem before9 (c : Dev nD) (t : Fin (cfg0 a).N) (d) : (dats W a hle 0 c).before 9 t d = hd W a c 9 t :=
  Pipeline.Dat.before_eq_heldIn (dats W a hle 0 c) 9 rfl (fun _ => rfl) (fun _ _ => rfl) (fun _ => rfl) t d

end Cert.Proof.Kernel
-- ==== Proof.KObl.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Lib.Pipeline.Frame
public import Idealize.ShloMosaic.Lib.Pipeline.FrameSuffix
public import Idealize.ShloMosaic.Lib.Pipeline.RegionArraysT
public import proofs.«01_k».proof.Proof.KDat

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the frame kit. -/
local notation "𝕄G" => MT nD τ sig Unit (Elt F) ℕ (UR sig nD τ) ℕ

variable (W : Dev nD → Valuation τ sig (Elt F)) (a : (pcfg0 (F := F)).Adm)
variable (hle : (wordP (F := F) (Memref.whole main_arg10) (a.1 1)).toInt ≤ 14336)

/-- The tables one by one. -/
theorem tabs_eq (c : Dev nD) : tabs a c = iprop(((Memref.whole main_arg11).view.loc (c : Thread nD τ) ↦[(Memref.whole main_arg11).view.set]{fullShare} (a.1 0))
    ∗ ((Memref.whole main_arg10).view.loc (c : Thread nD τ) ↦[(Memref.whole main_arg10).view.set]{fullShare} (a.1 1))) := by
  unfold tabs Pipeline.prefHeld
  rw [bigSep_univ_eq_bigSepL [(0 : Fin 2), (1 : Fin 2)] (by decide) (by decide)]
  simp only [Memref.view_whole, View.set_whole]
  rfl

set_option maxHeartbeats 4000000 in
theorem body_obligation (c : Dev nD) : Pipeline.BodyObligation (dats W a hle 0 c) (defs₀ (F := F)) 𝒱₀ () Set.univ := fun t => by
  rw [bigSep_W0, bigSep_W0]
  rw [show (dats W a hle 0 c).Φ t.castSucc = PhiS W a c t.val (Nat.le_of_lt t.isLt) from Pipeline.Dat.Φ_castSucc (PhiS W a c) t,
    show (dats W a hle 0 c).Φ t.succ = PhiS W a c (t.val + 1) t.isLt from rfl]
  unfold PhiS Pipeline.Dat.owesAt Pipeline.owesWithin owns
  rw [show (dats W a hle 0 c).owed t.castSucc = 0 from rfl, show (dats W a hle 0 c).owed t.succ = 0 from rfl, tabs_eq]
  iintro ⟨⟨⟨HT0, HT1⟩, ⟨%f0, %f1, %f2, %f3, %hf, Hs0, Hs1, Hs2, Hs3, ⟨%f4, Hs4⟩⟩⟩, ⟨%Wd, %hWd, HO⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩, ⟨%d9, %g9, %e9, H9⟩, ⟨%d10, %g10, %e10, H10⟩, ⟨%d11, %g11, %e11, H11⟩, ⟨%d12, %g12, %e12, H12⟩⟩
  rw [before0 W a hle c t d0] at e0
  obtain rfl : g0 = X5 W a c t := Memref.IsWhole.eq_unread (hstage0_0 (((cfg0 a).slots t 0).cast nbuf0_0)) e0
  rw [before1 W a hle c t d1] at e1
  obtain rfl : g1 = X6 W a c t := Memref.IsWhole.eq_unread (hstage0_1 (((cfg0 a).slots t 1).cast nbuf0_1)) e1
  rw [before2 W a hle c t d2] at e2
  obtain rfl : g2 = X7 W a c t := Memref.IsWhole.eq_unread (hstage0_2 (((cfg0 a).slots t 2).cast nbuf0_2)) e2
  rw [before3 W a hle c t d3] at e3
  obtain rfl : g3 = X8 W a c t := Memref.IsWhole.eq_unread (hstage0_3 (((cfg0 a).slots t 3).cast nbuf0_3)) e3
  rw [before4 W a hle c t d4] at e4
  obtain rfl : g4 = X9 W a c t := Memref.IsWhole.eq_unread (hstage0_4 (((cfg0 a).slots t 4).cast nbuf0_4)) e4
  rw [before5 W a hle c t d5] at e5
  obtain rfl : g5 = X10 W a c t := Memref.IsWhole.eq_unread (hstage0_5 (((cfg0 a).slots t 5).cast nbuf0_5)) e5
  rw [before6 W a hle c t d6] at e6
  obtain rfl : g6 = X11 W a c t := Memref.IsWhole.eq_unread (hstage0_6 (((cfg0 a).slots t 6).cast nbuf0_6)) e6
  rw [before7 W a hle c t d7] at e7
  obtain rfl : g7 = X12 W a c t := Memref.IsWhole.eq_unread (hstage0_7 (((cfg0 a).slots t 7).cast nbuf0_7)) e7
  rw [before8 W a hle c t d8] at e8
  obtain rfl : g8 = X13 W a c t := Memref.IsWhole.eq_unread (hstage0_8 (((cfg0 a).slots t 8).cast nbuf0_8)) e8
  rw [before9 W a hle c t d9] at e9
  obtain rfl : g9 = X14 W a c t := Memref.IsWhole.eq_unread (hstage0_9 (((cfg0 a).slots t 9).cast nbuf0_9)) e9
  ihave HW := (bodyRun (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (a.1 0) (a.1 1) (X5 W a c t) (X6 W a c t) (X7 W a c t) (X8 W a c t) (X9 W a c t) (X10 W a c t) (X11 W a c t) (X12 W a c t) (X13 W a c t) (X14 W a c t) g10 g11 g12 f0 f1 f2 f3 f4 hle) $$ [HT0 HT1 H0 H1 H2 H3 H4 H5 H6 H7 H8 H9 H10 H11 H12 Hs0 Hs1 Hs2 Hs3 Hs4]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [Hs0]; · iexact Hs0
    isplitl [Hs1]; · iexact Hs1
    isplitl [Hs2]; · iexact Hs2
    isplitl [Hs3]; · iexact Hs3
    iexact Hs4
  iapply (wp_wand_r frame _ _)
  isplitl [HW]; · iexact HW
  rw [scr18_eq W a c t f0 (fun k hk => (hf k hk).1), scr19_eq W a c t f1 (fun k hk => (hf k hk).2.1), scr20_eq W a c t f2 (fun k hk => (hf k hk).2.2.1), scr21_eq W a c t f3 (fun k hk => (hf k hk).2.2.2)]
  iintro %_ ⟨HT0, HT1, H0, H1, H2, H3, H4, H5, H6, H7, H8, H9, H10, H11, H12, Hs0, Hs1, Hs2, Hs3, ⟨%g4, Hs4⟩⟩
  isplitl [HT0 HT1 Hs0 Hs1 Hs2 Hs3 Hs4]
  · isplitl [HT0 HT1]
    · isplitl [HT0]; · iexact HT0
      iexact HT1
    iexists _, _, _, _
    isplitr
    · ipureintro
      intro k hk
      obtain rfl : k = t := Fin.ext (by omega)
      exact ⟨rfl, rfl, rfl, rfl⟩
    isplitl [Hs0]; · iexact Hs0
    isplitl [Hs1]; · iexact Hs1
    isplitl [Hs2]; · iexact Hs2
    isplitl [Hs3]; · iexact Hs3
    iexists _; iexact Hs4
  isplitl [HO]
  · iexists Wd; isplitr; · ipureintro; exact fun _ _ => Or.inl trivial
    iexact HO
  isplitl [H0]
  · iexists _; isplitr; swap; (· iexact H0); ipureintro; exact Memref.IsWhole.read_unread (hstage0_0 (((cfg0 a).slots t 0).cast nbuf0_0)) _
  isplitl [H1]
  · iexists _; isplitr; swap; (· iexact H1); ipureintro; exact Memref.IsWhole.read_unread (hstage0_1 (((cfg0 a).slots t 1).cast nbuf0_1)) _
  isplitl [H2]
  · iexists _; isplitr; swap; (· iexact H2); ipureintro; exact Memref.IsWhole.read_unread (hstage0_2 (((cfg0 a).slots t 2).cast nbuf0_2)) _
  isplitl [H3]
  · iexists _; isplitr; swap; (· iexact H3); ipureintro; exact Memref.IsWhole.read_unread (hstage0_3 (((cfg0 a).slots t 3).cast nbuf0_3)) _
  isplitl [H4]
  · iexists _; isplitr; swap; (· iexact H4); ipureintro; exact Memref.IsWhole.read_unread (hstage0_4 (((cfg0 a).slots t 4).cast nbuf0_4)) _
  isplitl [H5]
  · iexists _; isplitr; swap; (· iexact H5); ipureintro; exact Memref.IsWhole.read_unread (hstage0_5 (((cfg0 a).slots t 5).cast nbuf0_5)) _
  isplitl [H6]
  · iexists _; isplitr; swap; (· iexact H6); ipureintro; exact Memref.IsWhole.read_unread (hstage0_6 (((cfg0 a).slots t 6).cast nbuf0_6)) _
  isplitl [H7]
  · iexists _; isplitr; swap; (· iexact H7); ipureintro; exact Memref.IsWhole.read_unread (hstage0_7 (((cfg0 a).slots t 7).cast nbuf0_7)) _
  isplitl [H8]
  · iexists _; isplitr; swap; (· iexact H8); ipureintro; exact Memref.IsWhole.read_unread (hstage0_8 (((cfg0 a).slots t 8).cast nbuf0_8)) _
  isplitl [H9]
  · iexists _; isplitr; swap; (· iexact H9); ipureintro; exact Memref.IsWhole.read_unread (hstage0_9 (((cfg0 a).slots t 9).cast nbuf0_9)) _
  isplitl [H10]
  · iexists _; isplitr; swap; (· iexact H10); ipureintro; exact View.read_writes_eq_canon _ _ _ (cover15 (F := F) _ _ (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _ _ _ _ _ _ _ _ _ _ _ _)
  isplitl [H11]
  · iexists _; isplitr; swap; (· iexact H11); ipureintro; exact View.read_writes_eq_canon _ _ _ (cover16 (F := F) _ _ (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _ _ _ _ _ _ _ _ _ _ _ _)
  iexists _; isplitr; swap; (· iexact H12); ipureintro; exact View.read_writes_eq_canon _ _ _ (cover17 (F := F) _ _ (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _ _ _ _ _ _ _ _ _ _ _ _)

end Cert.Proof.Kernel
-- ==== Proof.KRun.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Lib.Pipeline.Frame
public import Idealize.ShloMosaic.Lib.Pipeline.FrameTail
public import Idealize.ShloMosaic.Lib.Pipeline.RegionArraysTS
public import proofs.«01_k».proof.Proof.KObl

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the frame kit. -/
local notation "𝕄G" => MT nD τ sig Unit (Elt F) ℕ (UR sig nD τ) ℕ

open Idealize.ShloMosaic.Rounds
open Idealize.ShloMosaic.Pipeline (ucRefs)

variable (m : (ℓ : Loc nD τ sig) → Buf (Elt F) ℓ) (ρ : Dev nD → PrngReg)

/-- Core `c`'s buffers at launch. -/
abbrev V0 (c : Dev nD) : Valuation τ sig (Elt F) := fun b => m (c, b)
/-- Core `c`'s buffers when the region is entered: the host operations before it have run. -/
def W1 (c : Dev nD) : Valuation τ sig (Elt F) := StableHlo.after hostOps0 (V0 m c)

/-- No host operation writes an argument. -/
def ArgRef (b : Ref sig .tc) : Prop :=
  b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11

instance (b : Ref sig .tc) : Decidable (ArgRef b) := by unfold ArgRef; infer_instance

/-- A reference that is no argument's. -/
theorem ne_of_arg {b x : Ref sig .tc} (h : ArgRef b) (hx : ¬ ArgRef x) : b ≠ x := fun e => hx (e ▸ h)

set_option maxHeartbeats 2000000 in
theorem kept0 (b : Ref sig .tc) (h : ArgRef b) : ∀ op ∈ (hostOps0 (F := F)), Proc.devRef .tc b ∉ op.writes := by
  intro op hop
  simp only [List.mem_cons, List.mem_nil_iff, or_false] at hop
  rcases hop with rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (ne_of_arg h (by decide))

set_option maxHeartbeats 2000000 in
theorem kept1 (b : Ref sig .tc) (h : ArgRef b) : ∀ op ∈ (hostOps1 (F := F)), Proc.devRef .tc b ∉ op.writes := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl <;>
    simp only [StableHlo.TRef.unary, StableHlo.TRef.ternary, StableHlo.unary_writes, StableHlo.binary_writes, StableHlo.nullary_writes, StableHlo.ternary_writes, StableHlo.reshape_writes, Finset.mem_singleton] <;>
    exact StableHlo.devRef_ne_of_ne (ne_of_arg h (by decide))

set_option maxHeartbeats 2000000 in
theorem kept1_1 (b : Ref sig .tc) (h : ArgRef b) : ∀ op ∈ (hostOps1_1 (F := F)), Proc.devRef .tc b ∉ op.writes := by
  intro op hop
  simp only [List.mem_cons, List.mem_nil_iff, or_false] at hop
  rcases hop with rfl | rfl | rfl | rfl <;>
    simp only [StableHlo.TRef.unary, StableHlo.TRef.ternary, StableHlo.unary_writes, StableHlo.binary_writes, StableHlo.nullary_writes, StableHlo.ternary_writes, StableHlo.reshape_writes, Finset.mem_singleton] <;>
    exact StableHlo.devRef_ne_of_ne (ne_of_arg h (by decide))

set_option maxHeartbeats 2000000 in
theorem kept1_2 (b : Ref sig .tc) (h : ArgRef b) : ∀ op ∈ (hostOps1_2 (F := F)), Proc.devRef .tc b ∉ op.writes := by
  intro op hop
  simp only [List.mem_cons, List.mem_nil_iff, or_false] at hop
  rcases hop with rfl | rfl | rfl | rfl | rfl | rfl <;>
    simp only [StableHlo.TRef.unary, StableHlo.TRef.ternary, StableHlo.unary_writes, StableHlo.binary_writes, StableHlo.nullary_writes, StableHlo.ternary_writes, StableHlo.reshape_writes, Finset.mem_singleton] <;>
    exact StableHlo.devRef_ne_of_ne (ne_of_arg h (by decide))

set_option maxHeartbeats 2000000 in
theorem kept1_3 (b : Ref sig .tc) (h : ArgRef b) : ∀ op ∈ (hostOps1_3 (F := F)), Proc.devRef .tc b ∉ op.writes := by
  intro op hop
  simp only [List.mem_cons, List.mem_nil_iff, or_false] at hop
  rcases hop with rfl | rfl | rfl | rfl <;>
    simp only [StableHlo.TRef.unary, StableHlo.TRef.ternary, StableHlo.unary_writes, StableHlo.binary_writes, StableHlo.nullary_writes, StableHlo.ternary_writes, StableHlo.reshape_writes, Finset.mem_singleton] <;>
    exact StableHlo.devRef_ne_of_ne (ne_of_arg h (by decide))

/-- The arguments reach the region as launched. -/
theorem W1_arg (c : Dev nD) (b : Ref sig .tc) (h : ArgRef b) : W1 m c (Proc.devRef .tc b) = m ((c : Thread nD τ).loc b) :=
  StableHlo.after_of_forall_not_mem (b := Proc.devRef .tc b) hostOps0 (V0 m c) (kept0 b h)

/-- The prefetched tables' contents: the two argument tables as the region finds them. -/
def adm0 : (pcfg0 (F := F)).Adm := ⟨fun k => W1 m 0 (Proc.devRef .tc (pre0.ref k)), show ok0 (F := F) (fun k => W1 m 0 (Proc.devRef .tc (pre0.ref k))) from trivial⟩
abbrev adm : (p : Fin 1) → (pcfgs (F := F) p).Adm := fun _ => adm0 m

/-- The kernel's precondition, as the word the kernel reads. -/
def Fits : Prop := (wordP (F := F) (Memref.whole main_arg10) ((adm0 m).1 1)).toInt ≤ 14336

variable (hle : Fits m)

/-- The proof data at the launch. -/
abbrev datsL : (p : Fin 1) → (c : Dev nD) → Pipeline.Dat τ (Elt F) Unit ℕ (UR sig nD τ) ℕ (Pipeline.pin (pcfgs (F := F)) (adm m) p) c :=
  fun p c => dats (W1 m) (adm0 m) hle p c

/-- A level per staging cell; nothing is owed. -/
def LL : GSem nD τ sig → Finset Unit := fun g => if g.1.2 = .tc then {()} else ∅
def lvl : GSem nD τ sig → Unit → ℕ := fun _ _ => 0

/-- What rides beside the buffers: the core's debts, none. -/
abbrev RR (c : Dev nD) : sProp 𝕄G := iprop(∃ W, owes (c : Thread nD τ) (0 : CellTallies nD τ sig Unit) W)

theorem fresh_nil {ops : List (HloOp τ sig (Elt F))} (h : ops.Forall fun op => op.fresh = ∅) : ∀ op ∈ ops, op.fresh = ∅ := List.forall_iff_forall_mem.mp h

/-- Host operations `hostOps0` as a segment. -/
def seg0 (V : Dev nD → Valuation τ sig (Elt F)) : Pipeline.HostSeg (Name := ℕ) (U := UR sig nD τ) (pcfgs (F := F)) (defs₀ (F := F)) 𝒱₀ LL lvl :=
  Pipeline.HostSeg.ofOps _ _ _ _ _ (ucRefs τ sig) hostOps0 (fun op h => Pipeline.sub_ucRefs op ((List.forall_iff_forall_mem.mp hostOps0_sub) op h))
    (by intro _ h; (repeat (cases h with | head => rfl | tail _ h => ?_)); exact nomatch h) V RR

/-- Host operations `hostOps1` as a segment. -/
def seg1 (V : Dev nD → Valuation τ sig (Elt F)) : Pipeline.HostSeg (Name := ℕ) (U := UR sig nD τ) (pcfgs (F := F)) (defs₀ (F := F)) 𝒱₀ LL lvl :=
  Pipeline.HostSeg.ofOps _ _ _ _ _ (ucRefs τ sig) hostOps1 (fun op h => Pipeline.sub_ucRefs op ((List.forall_iff_forall_mem.mp hostOps1_sub) op h))
    (by intro _ h; (repeat (cases h with | head => rfl | tail _ h => ?_)); exact nomatch h) V RR

/-- Host operations `hostOps1_1` as a segment. -/
def seg1_1 (V : Dev nD → Valuation τ sig (Elt F)) : Pipeline.HostSeg (Name := ℕ) (U := UR sig nD τ) (pcfgs (F := F)) (defs₀ (F := F)) 𝒱₀ LL lvl :=
  Pipeline.HostSeg.ofOps _ _ _ _ _ (ucRefs τ sig) hostOps1_1 (fun op h => Pipeline.sub_ucRefs op ((List.forall_iff_forall_mem.mp hostOps1_1_sub) op h))
    (by intro _ h; (repeat (cases h with | head => rfl | tail _ h => ?_)); exact nomatch h) V RR

/-- Host operations `hostOps1_2` as a segment. -/
def seg1_2 (V : Dev nD → Valuation τ sig (Elt F)) : Pipeline.HostSeg (Name := ℕ) (U := UR sig nD τ) (pcfgs (F := F)) (defs₀ (F := F)) 𝒱₀ LL lvl :=
  Pipeline.HostSeg.ofOps _ _ _ _ _ (ucRefs τ sig) hostOps1_2 (fun op h => Pipeline.sub_ucRefs op ((List.forall_iff_forall_mem.mp hostOps1_2_sub) op h))
    (by intro _ h; (repeat (cases h with | head => rfl | tail _ h => ?_)); exact nomatch h) V RR

/-- Host operations `hostOps1_3` as a segment. -/
def seg1_3 (V : Dev nD → Valuation τ sig (Elt F)) : Pipeline.HostSeg (Name := ℕ) (U := UR sig nD τ) (pcfgs (F := F)) (defs₀ (F := F)) 𝒱₀ LL lvl :=
  Pipeline.HostSeg.ofOps _ _ _ _ _ (ucRefs τ sig) hostOps1_3 (fun op h => Pipeline.sub_ucRefs op ((List.forall_iff_forall_mem.mp hostOps1_3_sub) op h))
    (by intro _ h; (repeat (cases h with | head => rfl | tail _ h => ?_)); exact nomatch h) V RR

theorem hin0 (c : Dev nD) : iprop(iprop(Pipeline.scopedRest (Pipeline.pin (pcfgs (F := F)) (adm m) 0).spec c ∗ iprop(emp)) ∗ Pipeline.tablesAt (pcfgs (F := F)) (adm m) 0 c)
    ⊢ ((datsL m hle 0 c).Φ 0 : sProp 𝕄G) := by
  rw [show (datsL m hle 0 c).Φ 0 = PhiS (W1 m) (adm0 m) c 0 (Nat.zero_le _) from rfl]
  refine (show iprop(iprop(Pipeline.scopedRest spec0 c ∗ iprop(emp)) ∗ tabs (adm0 m) c) ⊢ (PhiS (W1 m) (adm0 m) c 0 (Nat.zero_le _) : sProp 𝕄G) from ?_)
  unfold PhiS
  rw [scopedRest0_eq]
  simp only [Memref.view_whole, View.set_whole]
  iintro ⟨⟨⟨⟨%f0, H0⟩, ⟨%f1, H1⟩, ⟨%f2, H2⟩, ⟨%f3, H3⟩, ⟨%f4, H4⟩⟩, -⟩, HT⟩
  isplitl [HT]; · iexact HT
  iexists f0, f1, f2, f3
  isplitr; · ipureintro; intro k hk; exact absurd hk (Nat.succ_ne_zero _)
  isplitl [H0]; · iexact H0
  isplitl [H1]; · iexact H1
  isplitl [H2]; · iexact H2
  isplitl [H3]; · iexact H3
  iexists f4; iexact H4

theorem hout0 (c : Dev nD) : ((datsL m hle 0 c).Φ (Fin.last (Pipeline.pin (pcfgs (F := F)) (adm m) 0).N) : sProp 𝕄G)
    ⊢ iprop(iprop(Pipeline.scopedRest (Pipeline.pin (pcfgs (F := F)) (adm m) 0).spec c ∗ iprop(emp)) ∗ Pipeline.tablesAt (pcfgs (F := F)) (adm m) 0 c) := by
  rw [show (datsL m hle 0 c).Φ (Fin.last (Pipeline.pin (pcfgs (F := F)) (adm m) 0).N) = PhiS (W1 m) (adm0 m) c (cfg0 (adm0 m)).N (Nat.le_refl _) from rfl]
  refine (show (PhiS (W1 m) (adm0 m) c (cfg0 (adm0 m)).N (Nat.le_refl _) : sProp 𝕄G) ⊢ iprop(iprop(Pipeline.scopedRest spec0 c ∗ iprop(emp)) ∗ tabs (adm0 m) c) from ?_)
  unfold PhiS
  rw [scopedRest0_eq]
  simp only [Memref.view_whole, View.set_whole]
  iintro ⟨HT, ⟨%f0, %f1, %f2, %f3, %hf, H0, H1, H2, H3, ⟨%f4, H4⟩⟩⟩
  isplitr [HT]
  · isplitl
    · isplitl [H0]; · iexists f0; iexact H0
      isplitl [H1]; · iexists f1; iexact H1
      isplitl [H2]; · iexists f2; iexact H2
      isplitl [H3]; · iexists f3; iexact H3
      iexists f4; iexact H4
    iempintro
  iexact HT

set_option backward.isDefEq.respectTransparency.types false in
theorem hcut0 : Pipeline.LevelCut (pcfgs (F := F)) (adm m) () LL lvl 0 (fun _ => 0) (fun _ => 0) where
  hι c w s := by unfold LL; rw [if_pos rfl]; exact Finset.mem_singleton_self _
  hιb c w s := Nat.le_refl _
  hD c g i h := absurd h (Nat.lt_irrefl _)

theorem hT0 (c : Dev nD) (k : Fin 2) : (adm0 m).1 k = W1 m c (Proc.devRef .tc (pre0.ref k)) := by
  obtain rfl : c = 0 := Subsingleton.elim _ _
  rfl

set_option backward.isDefEq.respectTransparency.types false in
/-- The region as a segment, over the unscoped buffers. -/
def reg0 : Pipeline.RegionSeg (pcfgs (F := F)) (adm m) (datsL m hle) () (defs₀ (F := F)) 𝒱₀ LL lvl 0 :=
  Pipeline.RegionSeg.ofHeldInT (pcfgs (F := F)) (adm m) (datsL m hle) () (defs₀ (F := F)) 𝒱₀ LL lvl 0 (fun _ => 0) (ucRefs τ sig)
    (fun _ => iprop(emp)) (fun _ => iprop(emp)) launch0 (fun c => (body_obligation (W1 m) (adm0 m) hle c).loose)
    (fun _ _ => rfl) (fun _ => rfl) (fun c => (datsL m hle 0 c).share_full fun _ => rfl) (hin0 m hle) (hout0 m hle)
    (fun _ => 0) (hcut0 m) (fun _ => iprop(emp)) (W1 m) (fun _ _ => rfl) (hT0 m)

/-- Core `c`'s buffers when the region is left. -/
def W2 (c : Dev nD) : Valuation τ sig (Elt F) := Pipeline.afterRegion (datsL m hle 0 c) (W1 m c)
/-- And at the end. -/
def W3 (c : Dev nD) : Valuation τ sig (Elt F) :=
  StableHlo.after hostOps1_3 (StableHlo.after hostOps1_2 (StableHlo.after hostOps1_1 (StableHlo.after hostOps1 (W2 m hle c))))

theorem arrs_in : Pipeline.arrRefs (pcfgs (F := F) 0).spec ⊆ ucRefs τ sig := Pipeline.arrRefs_sub_ucRefs _ (show ∀ w : Fin 13, (Pipeline.arrRef spec0 w).isScoped = false by decide)
theorem tbls_in : Pipeline.tblRefs (pcfgs (F := F) 0).pre ⊆ ucRefs τ sig := fun b hb => by
  revert b
  show ∀ b, b ∈ Pipeline.tblRefs pre0 → b ∈ ucRefs τ sig
  decide

set_option backward.isDefEq.respectTransparency.types false in
theorem reg0_pre (c : Dev nD) : iprop(StableHlo.held (c.tc : Thread nD τ) (ucRefs τ sig) (W1 m c) ∗ RR c) ⊢ (reg0 m hle).pre c := by
  refine BIBase.Entails.trans ?_ (Pipeline.RegionSeg.ofHeldInT_pre arrs_in tbls_in c)
  iintro ⟨Hh, HO⟩
  isplitl [Hh]; · iexact Hh
  isplitl [HO]; · iexact HO
  isplitl <;> iempintro

set_option backward.isDefEq.respectTransparency.types false in
theorem reg0_post (c : Dev nD) : (reg0 m hle).post c ⊢ iprop(StableHlo.held (c.tc : Thread nD τ) (ucRefs τ sig) (W2 m hle c) ∗ RR c) := by
  refine BIBase.Entails.trans (Pipeline.RegionSeg.ofHeldInT_post arrs_in tbls_in c) ?_
  unfold W2
  iintro ⟨Hh, HO, -, -⟩
  isplitl [Hh]; · iexact Hh
  iexact HO

/-- @main as its segments. -/
abbrev segs : List (Pipeline.Seg (pcfgs (F := F)) (adm m) (datsL m hle) () (defs₀ (F := F)) 𝒱₀ LL lvl) :=
  [.host (seg0 (V0 m)), .region (reg0 m hle), .host (seg1 (W2 m hle)), .host (seg1_1 fun c => StableHlo.after hostOps1 (W2 m hle c)),
   .host (seg1_2 fun c => StableHlo.after hostOps1_1 (StableHlo.after hostOps1 (W2 m hle c))),
   .host (seg1_3 fun c => StableHlo.after hostOps1_2 (StableHlo.after hostOps1_1 (StableHlo.after hostOps1 (W2 m hle c))))]

set_option backward.isDefEq.respectTransparency.types false in
/-- THE RUN: every weakly fair execution of @main terminates, nothing faulting, with every unscoped buffer at `W3` and every
    counter at zero. -/
theorem run_main : θ_run (defs (F := F)) (onTc (τ := τ) (main (F := F))) ⟨m, fun _ => 0, ρ⟩
    (fun r => (∀ (c : Dev nD) (b : DevRef τ sig), b ∈ ucRefs τ sig → r.2.mem (c, b) = W3 m hle c b) ∧ r.2.sem = fun _ => 0) :=
  Pipeline.θ_run_regions_kit_sems (pcfgs (F := F)) (adm m) (datsL m hle) () (cellOf_inj (adm m)) emb₁ (defs₀ (F := F)) 𝒱₀ LL lvl m ρ main (segs m hle)
    (fun c Q => by rw [main_chain c, Pipeline.Seg.run_eq_chain]; exact .rfl)
    (by simp only [Pipeline.Seg.pipes_host, Pipeline.Seg.pipes_region, Pipeline.Seg.pipes_nil]; exact List.nodup_singleton _)
    (O₀ := 0) (hL := fun g hg => by unfold LL; exact if_neg hg)
    (G := fun _ => iprop(emp)) (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU _ : sProp 𝕄G) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c.tc : Thread nD τ) (ucRefs τ sig) (V0 m c) ∗ RR c))
    (Tₙ := fun c => StableHlo.held (c.tc : Thread nD τ) (ucRefs τ sig) (W3 m hle c))
    (hch := ⟨fun _ => .rfl, reg0_pre m hle, reg0_post m hle, fun _ => .rfl, fun _ => .rfl, fun _ => .rfl, fun _ => .rfl⟩)
    (hinit := by
      refine Pipeline.initEach LL lvl fun c => ?_
      rw [show unscopedBufs c (fun b => m ((c.tc : Thread nD τ).loc b)) = StableHlo.held (c.tc : Thread nD τ) (ucRefs τ sig) (V0 m c)
          from Pipeline.unscopedBufs_held (Ix := Unit) (Name := ℕ) (U := UR sig nD τ) (Lvl := ℕ) c (V0 m c)]
      iintro ⟨⟨Hh, -, HO, -, -, -⟩, -⟩
      imodintro
      isplitl [Hh]; · iexact Hh
      iexists ∅; iexact HO)
    (QY := fun c s => ∀ b ∈ ucRefs τ sig, s.mem ((c.tc : Thread nD τ).1, b) = W3 m hle c b)
    (hfin := fun c s' => by
      unfold StableHlo.held
      iintro ⟨Hh, HSI⟩
      ihave Hr := (pointsTo_read_all (ucRefs τ sig) (fun b => ((c.tc : Thread nD τ).1, b)) (W3 m hle c) s') $$ [Hh HSI]
      · isplitl [Hh] <;> iassumption
      imodintro; iexact Hr)
    (hQ := fun _ h hz => ⟨fun c b hb => h c b hb, funext fun g => hz g (.inr (by revert g; decide))⟩)

theorem arg_ne_arr (b : Ref sig .tc) (h : ArgRef b) (w : Fin 13) : b ≠ Pipeline.arrRef spec0 w :=
  ne_of_arg h (by revert w; decide)

set_option backward.isDefEq.respectTransparency.types false in
theorem W2_arg (c : Dev nD) (b : Ref sig .tc) (h : ArgRef b) : W2 m hle c (Proc.devRef .tc b) = m ((c : Thread nD τ).loc b) := by
  unfold W2
  rw [Pipeline.afterRegion_of_not_arr (datsL m hle 0 c) (W1 m c) (fun w => arg_ne_arr b h w)]
  exact W1_arg m c b h

theorem W3_arg (c : Dev nD) (b : Ref sig .tc) (h : ArgRef b) : W3 m hle c (Proc.devRef .tc b) = m ((c : Thread nD τ).loc b) := by
  unfold W3
  rw [StableHlo.after_of_forall_not_mem (b := Proc.devRef .tc b) hostOps1_3 _ (kept1_3 b h), StableHlo.after_of_forall_not_mem (b := Proc.devRef .tc b) hostOps1_2 _ (kept1_2 b h),
    StableHlo.after_of_forall_not_mem (b := Proc.devRef .tc b) hostOps1_1 _ (kept1_1 b h), StableHlo.after_of_forall_not_mem (b := Proc.devRef .tc b) hostOps1 _ (kept1 b h)]
  exact W2_arg m hle c b h

theorem arg_uc (b : Ref sig .tc) (h : ArgRef b) : Proc.devRef (τ := τ) .tc b ∈ ucRefs τ sig :=
  Pipeline.devRef_mem_ucRefs (by unfold ArgRef at h; rcases h with rfl | rfl | rfl | rfl | rfl | rfl | rfl | rfl | rfl | rfl | rfl | rfl <;> decide)

/-- The frame: the arguments end as launched and every counter at zero. -/
theorem frame (hle : Fits m) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.1 c (Proc.devRef .tc main_arg0) (arg_uc _ (by decide))).trans (W3_arg m hle c main_arg0 (by decide)), (h.1 c (Proc.devRef .tc main_arg1) (arg_uc _ (by decide))).trans (W3_arg m hle c main_arg1 (by decide)), (h.1 c (Proc.devRef .tc main_arg2) (arg_uc _ (by decide))).trans (W3_arg m hle c main_arg2 (by decide)), (h.1 c (Proc.devRef .tc main_arg3) (arg_uc _ (by decide))).trans (W3_arg m hle c main_arg3 (by decide)), (h.1 c (Proc.devRef .tc main_arg4) (arg_uc _ (by decide))).trans (W3_arg m hle c main_arg4 (by decide)), (h.1 c (Proc.devRef .tc main_arg5) (arg_uc _ (by decide))).trans (W3_arg m hle c main_arg5 (by decide)), (h.1 c (Proc.devRef .tc main_arg6) (arg_uc _ (by decide))).trans (W3_arg m hle c main_arg6 (by decide)), (h.1 c (Proc.devRef .tc main_arg7) (arg_uc _ (by decide))).trans (W3_arg m hle c main_arg7 (by decide)), (h.1 c (Proc.devRef .tc main_arg8) (arg_uc _ (by decide))).trans (W3_arg m hle c main_arg8 (by decide)), (h.1 c (Proc.devRef .tc main_arg9) (arg_uc _ (by decide))).trans (W3_arg m hle c main_arg9 (by decide)), (h.1 c (Proc.devRef .tc main_arg10) (arg_uc _ (by decide))).trans (W3_arg m hle c main_arg10 (by decide)), (h.1 c (Proc.devRef .tc main_arg11) (arg_uc _ (by decide))).trans (W3_arg m hle c main_arg11 (by decide))⟩, h.2⟩) (run_main m ρ hle)

end Cert.Proof.Kernel
-- ==== Proof.ITile.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the frame kit. -/
local notation "𝕄G" => MT nD τ sig Unit (Elt F) ℕ (UR sig nD τ) ℕ
abbrev 𝒱₀ : Variants := Variants.none

/-- A tile whose first row is live runs the first branch only. -/
theorem cond4_of_cond3 (i : grid0.Coords) (v9 : BitVec 32) (k : Fin k0_t3_loop.trips) (h : k0_cond3 i v9 k = 1#1) :
    ¬ k0_cond4 i v9 k = 1#1 := by
  unfold k0_cond3 at h
  unfold k0_cond4
  simp only [Scalar.cmpi, Scalar.extui, Scalar.xori] at h ⊢
  revert h
  generalize IntOp.cmpi CmpIPredicate.slt _ _ = b
  revert b; decide

/-- What one tile touches: what it reads at its contents, what it writes at any. -/
abbrev TileRes (c : Dev nD) (arg5 : Memref sig .tc .vmem S1x1x8192x128 .fp8e4m3) (arg6 : Memref sig .tc .vmem S1x1x1x8192 .f32) (arg7 : Memref sig .tc .vmem S1x14336x128 .fp8e4m3) (arg11 : Memref sig .tc .vmem S1x1x2048x128 .fp8e4m3) (arg15 : Memref sig .tc .vmem S1x512x2048 .bf16) (arg16 : Memref sig .tc .vmem S1x1x1x8192 .f32) (arg17 : Memref sig .tc .vmem S1x1x1x8192 .f32) (arg18 : Memref sig .tc .vmem S14336x128 .f32) (arg19 : Memref sig .tc .vmem S128x14336 .bf16) (arg20 : Memref sig .tc .vmem S2048x128 .f32) (arg21 : Memref sig .tc .vmem S128x2048 .bf16) (arg22 : Memref sig .tc .vmem S512x128 .f32) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (f_arg15 : BufTy.Contents (Elt F) arg15.view.ty) (f_arg16 : BufTy.Contents (Elt F) arg16.view.ty) (f_arg17 : BufTy.Contents (Elt F) arg17.view.ty) (f_arg22 : BufTy.Contents (Elt F) arg22.view.ty) : sProp 𝕄G :=
  iprop((arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg11.view.loc (c : Thread nD τ) ↦[arg11.view.set]{fullShare} X_arg11) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg22.view.loc (c : Thread nD τ) ↦[arg22.view.set]{fullShare} f_arg22))

variable (c : Dev nD) (i : grid0.Coords) (arg3 : Memref sig .tc .smem S6 .i32) (harg3 : arg3.IsWhole) (arg4 : Memref sig .tc .smem S1 .i32) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x14336x128 .fp8e4m3) (harg7 : arg7.IsWhole) (arg8 : Memref sig .tc .vmem S1x128x14336 .fp8e4m3) (harg8 : arg8.IsWhole) (arg9 : Memref sig .tc .vmem S1x1x14336 .f32) (harg9 : arg9.IsWhole) (arg10 : Memref sig .tc .vmem S1x1x14336 .f32) (harg10 : arg10.IsWhole) (arg11 : Memref sig .tc .vmem S1x1x2048x128 .fp8e4m3) (harg11 : arg11.IsWhole) (arg12 : Memref sig .tc .vmem S1x1x128x2048 .fp8e4m3) (harg12 : arg12.IsWhole) (arg13 : Memref sig .tc .vmem S1x1x1x2048 .f32) (harg13 : arg13.IsWhole) (arg14 : Memref sig .tc .vmem S1x1x1x2048 .f32) (harg14 : arg14.IsWhole) (arg15 : Memref sig .tc .vmem S1x512x2048 .bf16) (harg15 : arg15.IsWhole) (arg16 : Memref sig .tc .vmem S1x1x1x8192 .f32) (harg16 : arg16.IsWhole) (arg17 : Memref sig .tc .vmem S1x1x1x8192 .f32) (harg17 : arg17.IsWhole) (arg18 : Memref sig .tc .vmem S14336x128 .f32) (harg18 : arg18.IsWhole) (arg19 : Memref sig .tc .vmem S128x14336 .bf16) (harg19 : arg19.IsWhole) (arg20 : Memref sig .tc .vmem S2048x128 .f32) (harg20 : arg20.IsWhole) (arg21 : Memref sig .tc .vmem S128x2048 .bf16) (harg21 : arg21.IsWhole) (arg22 : Memref sig .tc .vmem S512x128 .f32) (harg22 : arg22.IsWhole)

set_option maxHeartbeats 4000000 in
/-- One live tile, run at a symbolic trip. -/
@[irreducible] def tripLive (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t3_loop.trips) (k0_h3 : k0_cond3 i v9 k = 1#1) :
    Σ' (L_arg15 : List (View.Piece (Elt F) S1x512x2048 .bf16)) (L_arg16 : List (View.Piece (Elt F) S1x1x1x8192 .f32)) (L_arg17 : List (View.Piece (Elt F) S1x1x1x8192 .f32)), { L_arg22 : List (View.Piece (Elt F) S512x128 .f32) // ∀ (E : Set ℕ) (f_arg15 : BufTy.Contents (Elt F) arg15.view.ty) (f_arg16 : BufTy.Contents (Elt F) arg16.view.ty) (f_arg17 : BufTy.Contents (Elt F) arg17.view.ty) (f_arg22 : BufTy.Contents (Elt F) arg22.view.ty),
      TileRes (F := F) c arg5 arg6 arg7 arg11 arg15 arg16 arg17 arg18 arg19 arg20 arg21 arg22 X_arg5 X_arg6 X_arg7 X_arg11 X_arg18 X_arg19 X_arg20 X_arg21 f_arg15 f_arg16 f_arg17 f_arg22
      ⊢ wp frame (wpE (defs₀ (F := F)) 𝒱₀ (c : Thread nD τ) none) E (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 k PUnit.unit)
          (fun _ => TileRes (F := F) c arg5 arg6 arg7 arg11 arg15 arg16 arg17 arg18 arg19 arg20 arg21 arg22 X_arg5 X_arg6 X_arg7 X_arg11 X_arg18 X_arg19 X_arg20 X_arg21 (arg15.view.writes (Elt F) f_arg15 L_arg15) (arg16.view.writes (Elt F) f_arg16 L_arg16) (arg17.view.writes (Elt F) f_arg17 L_arg17) (arg22.view.writes (Elt F) f_arg22 L_arg22)) } := by
  have hk : k.val < 16 := Nat.lt_of_lt_of_le k.isLt k0_t3_abs.2.1
  have k0_h4 := cond4_of_cond3 i v9 k k0_h3
  refine ⟨?_, ?_, ?_, ?_, fun E f_arg15 f_arg16 f_arg17 f_arg22 => ?run⟩
  case run =>
    sl_unfold [k0_t3_body]
    sl_open_parts
    simp only [bind_assoc, pure_bind]
    iintro ⟨HR_arg5, HR_arg6, HR_arg7, HR_arg11, HR_arg18, HR_arg19, HR_arg20, HR_arg21, HW_arg15, HW_arg16, HW_arg17, HW_arg22⟩
    sl_exec
    sl_step
    sl_close

/-- A tile whose first row is not live runs the second branch. -/
theorem cond4_of_not (i : grid0.Coords) (v9 : BitVec 32) (k : Fin k0_t3_loop.trips) (h : ¬ k0_cond3 i v9 k = 1#1) :
    k0_cond4 i v9 k = 1#1 := by
  unfold k0_cond3 at h
  unfold k0_cond4
  simp only [Scalar.cmpi, Scalar.extui, Scalar.xori] at h ⊢
  revert h
  generalize IntOp.cmpi CmpIPredicate.slt _ _ = b
  revert b; decide

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

set_option maxHeartbeats 4000000 in
/-- One dead tile, run at a symbolic trip. -/
@[irreducible] def tripDead (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t3_loop.trips) (k0_h3 : ¬ k0_cond3 i v9 k = 1#1) :
    Σ' (L_arg15 : List (View.Piece (Elt F) S1x512x2048 .bf16)) (L_arg16 : List (View.Piece (Elt F) S1x1x1x8192 .f32)), { L_arg17 : List (View.Piece (Elt F) S1x1x1x8192 .f32) // ∀ (E : Set ℕ) (f_arg15 : BufTy.Contents (Elt F) arg15.view.ty) (f_arg16 : BufTy.Contents (Elt F) arg16.view.ty) (f_arg17 : BufTy.Contents (Elt F) arg17.view.ty) (f_arg22 : BufTy.Contents (Elt F) arg22.view.ty),
      TileRes (F := F) c arg5 arg6 arg7 arg11 arg15 arg16 arg17 arg18 arg19 arg20 arg21 arg22 X_arg5 X_arg6 X_arg7 X_arg11 X_arg18 X_arg19 X_arg20 X_arg21 f_arg15 f_arg16 f_arg17 f_arg22
      ⊢ wp frame (wpE (defs₀ (F := F)) 𝒱₀ (c : Thread nD τ) none) E (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 k PUnit.unit)
          (fun _ => TileRes (F := F) c arg5 arg6 arg7 arg11 arg15 arg16 arg17 arg18 arg19 arg20 arg21 arg22 X_arg5 X_arg6 X_arg7 X_arg11 X_arg18 X_arg19 X_arg20 X_arg21 (arg15.view.writes (Elt F) f_arg15 L_arg15) (arg16.view.writes (Elt F) f_arg16 L_arg16) (arg17.view.writes (Elt F) f_arg17 L_arg17) f_arg22) } := by
  have hk : k.val < 16 := Nat.lt_of_lt_of_le k.isLt k0_t3_abs.2.1
  have k0_h4 := cond4_of_not i v9 k k0_h3
  refine ⟨?_, ?_, ?_, fun E f_arg15 f_arg16 f_arg17 f_arg22 => ?run⟩
  case run =>
    sl_unfold [k0_t3_body]
    sl_open_parts
    simp only [bind_assoc, pure_bind]
    iintro ⟨HR_arg5, HR_arg6, HR_arg7, HR_arg11, HR_arg18, HR_arg19, HR_arg20, HR_arg21, HW_arg15, HW_arg16, HW_arg17, HW_arg22⟩
    sl_exec
    sl_step
    sl_close

/-- What one tile stores into the three outputs. -/
def tripP (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t3_loop.trips) : List (View.Piece (Elt F) S1x512x2048 .bf16) × List (View.Piece (Elt F) S1x1x1x8192 .f32) × List (View.Piece (Elt F) S1x1x1x8192 .f32) :=
  if h : k0_cond3 i v9 k = 1#1 then
    ((tripLive (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).1, (tripLive (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.1, (tripLive (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.2.1)
  else
    ((tripDead (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).1, (tripDead (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.1, (tripDead (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.2.1)

/-- One tile, live or not. -/
theorem trip (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t3_loop.trips) (E : Set ℕ) (f_arg15 : BufTy.Contents (Elt F) arg15.view.ty) (f_arg16 : BufTy.Contents (Elt F) arg16.view.ty) (f_arg17 : BufTy.Contents (Elt F) arg17.view.ty) (f_arg22 : BufTy.Contents (Elt F) arg22.view.ty) :
    TileRes (F := F) c arg5 arg6 arg7 arg11 arg15 arg16 arg17 arg18 arg19 arg20 arg21 arg22 X_arg5 X_arg6 X_arg7 X_arg11 X_arg18 X_arg19 X_arg20 X_arg21 f_arg15 f_arg16 f_arg17 f_arg22
      ⊢ wp frame (wpE (defs₀ (F := F)) 𝒱₀ (c : Thread nD τ) none) E (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 k PUnit.unit)
          (fun _ => iprop(∃ g, TileRes (F := F) c arg5 arg6 arg7 arg11 arg15 arg16 arg17 arg18 arg19 arg20 arg21 arg22 X_arg5 X_arg6 X_arg7 X_arg11 X_arg18 X_arg19 X_arg20 X_arg21 (arg15.view.writes (Elt F) f_arg15 (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1) (arg16.view.writes (Elt F) f_arg16 (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1) (arg17.view.writes (Elt F) f_arg17 (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2) g)) := by
  by_cases h : k0_cond3 i v9 k = 1#1
  · unfold tripP
    simp only [dif_pos h]
    refine ((tripLive (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.2.2.2 E f_arg15 f_arg16 f_arg17 f_arg22).trans (wp_mono _ _ _ fun _ => ?_)
    iintro H
    iexists _
    iexact H
  · unfold tripP
    simp only [dif_neg h]
    refine ((tripDead (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h).2.2.2 E f_arg15 f_arg16 f_arg17 f_arg22).trans (wp_mono _ _ _ fun _ => ?_)
    iintro H
    iexists _
    iexact H

/-- Trip `k`'s pieces in front of those before it. -/
@[irreducible] def pb_k0_t3Step (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : ℕ) (prev : List (View.Piece (Elt F) S1x512x2048 .bf16) × List (View.Piece (Elt F) S1x1x1x8192 .f32) × List (View.Piece (Elt F) S1x1x1x8192 .f32)) : List (View.Piece (Elt F) S1x512x2048 .bf16) × List (View.Piece (Elt F) S1x1x1x8192 .f32) × List (View.Piece (Elt F) S1x1x1x8192 .f32) :=
  if h : k < k0_t3_loop.trips then
    ((tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 ⟨k, h⟩).1 ++ prev.1, (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 ⟨k, h⟩).2.1 ++ prev.2.1, (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 ⟨k, h⟩).2.2 ++ prev.2.2)
  else prev

end

/-- What the tiles before `k` stored (last first). -/
def pb_k0_t3 (c : Dev nD) (i : grid0.Coords) (arg3 : Memref sig .tc .smem S6 .i32) (harg3 : arg3.IsWhole) (arg4 : Memref sig .tc .smem S1 .i32) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x14336x128 .fp8e4m3) (harg7 : arg7.IsWhole) (arg8 : Memref sig .tc .vmem S1x128x14336 .fp8e4m3) (harg8 : arg8.IsWhole) (arg9 : Memref sig .tc .vmem S1x1x14336 .f32) (harg9 : arg9.IsWhole) (arg10 : Memref sig .tc .vmem S1x1x14336 .f32) (harg10 : arg10.IsWhole) (arg11 : Memref sig .tc .vmem S1x1x2048x128 .fp8e4m3) (harg11 : arg11.IsWhole) (arg12 : Memref sig .tc .vmem S1x1x128x2048 .fp8e4m3) (harg12 : arg12.IsWhole) (arg13 : Memref sig .tc .vmem S1x1x1x2048 .f32) (harg13 : arg13.IsWhole) (arg14 : Memref sig .tc .vmem S1x1x1x2048 .f32) (harg14 : arg14.IsWhole) (arg15 : Memref sig .tc .vmem S1x512x2048 .bf16) (harg15 : arg15.IsWhole) (arg16 : Memref sig .tc .vmem S1x1x1x8192 .f32) (harg16 : arg16.IsWhole) (arg17 : Memref sig .tc .vmem S1x1x1x8192 .f32) (harg17 : arg17.IsWhole) (arg18 : Memref sig .tc .vmem S14336x128 .f32) (harg18 : arg18.IsWhole) (arg19 : Memref sig .tc .vmem S128x14336 .bf16) (harg19 : arg19.IsWhole) (arg20 : Memref sig .tc .vmem S2048x128 .f32) (harg20 : arg20.IsWhole) (arg21 : Memref sig .tc .vmem S128x2048 .bf16) (harg21 : arg21.IsWhole) (arg22 : Memref sig .tc .vmem S512x128 .f32) (harg22 : arg22.IsWhole) (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) : ℕ → List (View.Piece (Elt F) S1x512x2048 .bf16) × List (View.Piece (Elt F) S1x1x1x8192 .f32) × List (View.Piece (Elt F) S1x1x1x8192 .f32)
  | 0 => ([], [], [])
  | k + 1 => pb_k0_t3Step (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k (pb_k0_t3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem pb_k0_t3_succ (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin k0_t3_loop.trips) :
    (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 (k.val + 1)) = ((tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1 ++ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k.val).1, (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1 ++ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k.val).2.1, (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2 ++ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k.val).2.2) := by
  rw [pb_k0_t3.eq_2]; unfold pb_k0_t3Step; exact dif_pos k.isLt

/-- The invariant of the tile loop. -/
abbrev inv_k0_t3 (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (G_arg15 : BufTy.Contents (Elt F) arg15.view.ty) (G_arg16 : BufTy.Contents (Elt F) arg16.view.ty) (G_arg17 : BufTy.Contents (Elt F) arg17.view.ty) (k : ℕ) (_u : PUnit) : sProp 𝕄G :=
  iprop((arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg11.view.loc (c : Thread nD τ) ↦[arg11.view.set]{fullShare} X_arg11) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (∃ f, (arg15.view.loc (c : Thread nD τ) ↦[arg15.view.set]{fullShare} f) ∗ ⌜f = arg15.view.writes (Elt F) G_arg15 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1⌝) ∗ (∃ f, (arg16.view.loc (c : Thread nD τ) ↦[arg16.view.set]{fullShare} f) ∗ ⌜f = arg16.view.writes (Elt F) G_arg16 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1⌝) ∗ (∃ f, (arg17.view.loc (c : Thread nD τ) ↦[arg17.view.set]{fullShare} f) ∗ ⌜f = arg17.view.writes (Elt F) G_arg17 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2⌝) ∗ (∃ f, (arg22.view.loc (c : Thread nD τ) ↦[arg22.view.set]{fullShare} f)))

set_option warn.classDefReducibility false in
@[sl_loop] def loopInv_k0_t3 (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (G_arg15 : BufTy.Contents (Elt F) arg15.view.ty) (G_arg16 : BufTy.Contents (Elt F) arg16.view.ty) (G_arg17 : BufTy.Contents (Elt F) arg17.view.ty) :
    LoopInvTy_k0_t3 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 where
  inv := inv_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 G_arg15 G_arg16 G_arg17
  step k acc := by
    iintro ⟨HR_arg5, HR_arg6, HR_arg7, HR_arg11, HR_arg18, HR_arg19, HR_arg20, HR_arg21, ⟨%f_arg15, HW_arg15, %h_arg15⟩, ⟨%f_arg16, HW_arg16, %h_arg16⟩, ⟨%f_arg17, HW_arg17, %h_arg17⟩, ⟨%f_arg22, HW_arg22⟩⟩
    iapply (wp_wand_r Idealize.ShloMosaic.frame (wpE (defs₀ (F := F)) 𝒱₀ (c : Thread nD τ) none) Set.univ)
    isplitl [HR_arg5 HR_arg6 HR_arg7 HR_arg11 HR_arg18 HR_arg19 HR_arg20 HR_arg21 HW_arg15 HW_arg16 HW_arg17 HW_arg22]
    · iapply (trip (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k Set.univ f_arg15 f_arg16 f_arg17 f_arg22)
      isplitl [HR_arg5]; · iexact HR_arg5
      isplitl [HR_arg6]; · iexact HR_arg6
      isplitl [HR_arg7]; · iexact HR_arg7
      isplitl [HR_arg11]; · iexact HR_arg11
      isplitl [HR_arg18]; · iexact HR_arg18
      isplitl [HR_arg19]; · iexact HR_arg19
      isplitl [HR_arg20]; · iexact HR_arg20
      isplitl [HR_arg21]; · iexact HR_arg21
      isplitl [HW_arg15]; · iexact HW_arg15
      isplitl [HW_arg16]; · iexact HW_arg16
      isplitl [HW_arg17]; · iexact HW_arg17
      iexact HW_arg22
    · iintro %u ⟨%g, HR_arg5, HR_arg6, HR_arg7, HR_arg11, HR_arg18, HR_arg19, HR_arg20, HR_arg21, HW_arg15, HW_arg16, HW_arg17, HW_arg22⟩
      isplitl [HR_arg5]; · iexact HR_arg5
      isplitl [HR_arg6]; · iexact HR_arg6
      isplitl [HR_arg7]; · iexact HR_arg7
      isplitl [HR_arg11]; · iexact HR_arg11
      isplitl [HR_arg18]; · iexact HR_arg18
      isplitl [HR_arg19]; · iexact HR_arg19
      isplitl [HR_arg20]; · iexact HR_arg20
      isplitl [HR_arg21]; · iexact HR_arg21
      rw [pb_k0_t3_succ]
      isplitl [HW_arg15]
      · iexists _
        isplitl [HW_arg15]
        · iexact HW_arg15
        · ipureintro; rw [h_arg15, ← View.writes_append]
      isplitl [HW_arg16]
      · iexists _
        isplitl [HW_arg16]
        · iexact HW_arg16
        · ipureintro; rw [h_arg16, ← View.writes_append]
      isplitl [HW_arg17]
      · iexists _
        isplitl [HW_arg17]
        · iexact HW_arg17
        · ipureintro; rw [h_arg17, ← View.writes_append]
      iexists _
      iexact HW_arg22

end

end Cert.Proof.KernelIdeal
-- ==== Proof.IChk.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import proofs.«01_k».proof.Proof.ITile

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the frame kit. -/
local notation "𝕄G" => MT nD τ sig Unit (Elt F) ℕ (UR sig nD τ) ℕ

/-- The number of prompt chunks, as the kernel computes it, as an integer. -/
theorem chunks_word (v : BitVec 32) (h : v.toInt ≤ 14336) :
    ∃ e : Int, Affine.IsInt (Scalar.divsi (Scalar.addi v 255#32) 256#32) e ∧ e ≤ 56 ∧ -2 ^ 31 ≤ e ∧ e.toNat = (v.toInt + 255).toNat / 256 := by
  have h_255 : Affine.IsInt 255#32 (255) := Affine.ofNat _ (by omega)
  have h_256 : Affine.IsInt 256#32 (256) := Affine.ofNat _ (by omega)
  have r_n : -2 ^ 31 ≤ v.toInt ∧ v.toInt < 2 ^ 31 := Affine.word_range v
  have h_n : Affine.IsInt v v.toInt := Affine.word v
  have h_s : Affine.IsInt _ (v.toInt + 255) := Affine.addi h_n h_255 (by omega)
  by_cases h0 : 0 ≤ v.toInt + 255
  · exact ⟨_, Affine.divsi h_s h_256 (e := (v.toInt + 255) / 256) ⟨rfl, h0, by omega⟩, by omega, by omega, by omega⟩
  · have hq : (Scalar.divsi (Scalar.addi v 255#32) 256#32).toInt ≤ 0 := by
      have hs : (Scalar.addi v 255#32).toInt ≤ 0 := Affine.le_of h_s 0 (by omega)
      have hd : Scalar.divsi (Scalar.addi v 255#32) 256#32 = (Scalar.addi v 255#32).sdiv 256#32 := by
        unfold Scalar.divsi IntOp.divsi
        rw [if_neg]
        rintro (h0 | ⟨-, h1⟩)
        · exact absurd h0 (by decide)
        · exact absurd h1 (by decide)
      rw [hd, BitVec.toInt_sdiv_of_ne_or_ne _ _ (Or.inr (by decide))]
      have : (256#32).toInt = 256 := by decide
      rw [this, ← neg_neg (Scalar.addi v 255#32).toInt, Int.neg_tdiv]
      have := Int.tdiv_nonneg (a := -(Scalar.addi v 255#32).toInt) (b := 256) (by omega) (by omega)
      omega
    refine ⟨_, Affine.word _, by omega, (Affine.word_range _).1, ?_⟩
    omega

/-- The prompt loop has a meaning and its number of trips. -/
theorem t4_facts (v : BitVec 32) (h : v.toInt ≤ 14336) :
    (k0_t4_loop v).OK ∧ (k0_t4_loop v).trips = (v.toInt + 255).toNat / 256 := by
  obtain ⟨e, h_q, he, he', hn⟩ := chunks_word v h
  have h_c0 : Affine.IsInt 0#32 (0) := Affine.ofNat _ (by omega)
  have h_c1 : Affine.IsInt 1#32 (1) := Affine.ofNat _ (by omega)
  have h_v64 : Affine.IsInt _ e := Affine.subi h_q h_c0 (by omega)
  have h_v66 : Affine.IsInt _ e := Affine.divsi_one h_v64 h_c1 (by omega)
  have h_v67 : Affine.IsInt _ e := Affine.muli h_v66 h_c1 (by omega)
  have h_v68 : Affine.IsInt _ e := Affine.addi h_c0 h_v67 (by omega)
  exact ⟨Affine.ok h_c0 h_v68 h_c1 (by omega), by
    by_cases h0 : 0 ≤ e
    · exact Affine.trips_eq h_c0 h_v68 h_c1 _ (by omega)
    · exact (Nat.le_zero.mp (Affine.trips_le h_c0 h_v68 h_c1 0 (by omega))).trans (by omega)⟩

/-- The prompt loop's remainder copy has a meaning and runs no trip. -/
theorem t5_facts (v : BitVec 32) (h : v.toInt ≤ 14336) : (k0_t5_loop v).OK ∧ (k0_t5_loop v).trips ≤ 0 := by
  obtain ⟨e, h_q, he, he', hn⟩ := chunks_word v h
  have h_c0 : Affine.IsInt 0#32 (0) := Affine.ofNat _ (by omega)
  have h_c1 : Affine.IsInt 1#32 (1) := Affine.ofNat _ (by omega)
  have h_v64 : Affine.IsInt _ e := Affine.subi h_q h_c0 (by omega)
  have h_v66 : Affine.IsInt _ e := Affine.divsi_one h_v64 h_c1 (by omega)
  have h_v67 : Affine.IsInt _ e := Affine.muli h_v66 h_c1 (by omega)
  have h_v68 : Affine.IsInt _ e := Affine.addi h_c0 h_v67 (by omega)
  have h_v65 : Affine.IsInt _ e := Affine.addi h_c0 h_v64 (by omega)
  exact ⟨Affine.ok h_v68 h_v65 h_c1 (by omega), Affine.trips_le h_v68 h_v65 h_c1 _ (by omega)⟩

/-- A prompt that fits meets the side condition the kernel assumes. -/
theorem chk_of_le (i : grid0.Coords) (v9 v : BitVec 32) (h : v.toInt ≤ 14336) : k0_chk1 i v9 v := by
  have h_c0 : Affine.IsInt 0#32 (0) := Affine.ofNat _ (by omega)
  have h_c1 : Affine.IsInt 1#32 (1) := Affine.ofNat _ (by omega)
  have h_256 : Affine.IsInt 256#32 (256) := Affine.ofNat _ (by omega)
  have hT := (t4_facts v h).2
  have hv (k : Fin (k0_t4_loop v).trips) : Affine.IsInt (Scalar.muli (Scf.iv 0#32 1#32 k) 256#32) ((k.val : Int) * 256) := by
    have hk : k.val < 56 := by have := k.isLt; omega
    have h_i : Affine.IsInt (Scf.iv 0#32 1#32 k) (k.val : Int) := Affine.iv h_c0 h_c1 _ (by omega)
    exact Affine.muli h_i h_256 (by omega)
  have no5 {P : Fin (k0_t5_loop v).trips → Prop} (k : Fin (k0_t5_loop v).trips) : P k :=
    (Nat.not_lt_zero _ (Nat.lt_of_lt_of_le k.isLt (t5_facts v h).2)).elim
  refine ⟨fun _ _ => (t4_facts v h).1, fun _ k _ => ?_, fun _ k _ => ?_, fun _ k _ => ?_, fun _ k _ => ?_,
    fun _ _ => (t5_facts v h).1, fun _ k => no5 (P := fun k => _ → 256 ∣ (k0_mult6 v k).toNat) k, fun _ k => no5 (P := fun k => _ → ∀ a, (k0_off15 v k) a + S1x256x128.size a ≤ S1x14336x128.size a) k, fun _ k => no5 (P := fun k => _ → ∀ a, (k0_off16 v k) a + S256x128.size a ≤ S14336x128.size a) k, fun _ k => no5 (P := fun k => _ → ∀ a, (k0_off17 v k) a + S128x256.size a ≤ S128x14336.size a) k⟩
  · exact Affine.dvd_of (hv k) 256 ⟨Int.dvd_mul_left _ _, by omega⟩
  · have hk : k.val < 56 := by have := k.isLt; omega
    exact Affine.inb_cons h_c0 (by omega) <| Affine.inb_cons (Affine.indexCast (hv k)) (by omega) <| Affine.inb_cons h_c0 (by omega) Affine.inb_nil
  · have hk : k.val < 56 := by have := k.isLt; omega
    exact Affine.inb_cons (Affine.indexCast (hv k)) (by omega) <| Affine.inb_cons h_c0 (by omega) Affine.inb_nil
  · have hk : k.val < 56 := by have := k.isLt; omega
    exact Affine.inb_cons h_c0 (by omega) <| Affine.inb_cons (Affine.indexCast (hv k)) (by omega) Affine.inb_nil

end Cert.Proof.KernelIdeal
-- ==== Proof.IBody.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import proofs.«01_k».proof.Proof.ITile
public import proofs.«01_k».proof.Proof.IChk

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the frame kit. -/
local notation "𝕄G" => MT nD τ sig Unit (Elt F) ℕ (UR sig nD τ) ℕ

/-- The tile loop's induction variable times a small constant, as a natural number. -/
theorem iv_mul (k : Fin k0_t3_loop.trips) (n : ℕ) (hn : n ≤ 512) :
    (Scalar.muli (Scf.iv 0#32 1#32 k) (BitVec.ofNat 32 n)).toNat = k.val * n := by
  have hk : k.val < 16 := Nat.lt_of_lt_of_le k.isLt k0_t3_abs.2.1
  have h_c0 : Affine.IsInt 0#32 (0) := Affine.ofNat _ (by omega)
  have h_c1 : Affine.IsInt 1#32 (1) := Affine.ofNat _ (by omega)
  have h_n : Affine.IsInt (BitVec.ofNat 32 n) (n : Int) := Affine.ofNat _ (by omega)
  have h_i : Affine.IsInt (Scf.iv 0#32 1#32 k) (k.val : Int) := Affine.iv h_c0 h_c1 _ (by omega)
  have hb : k.val * n ≤ 15 * 512 := Nat.mul_le_mul (by omega) hn
  have h_m : Affine.IsInt _ ((k.val * n : ℕ) : Int) := Affine.muli h_i h_n (by push_cast; constructor; rfl; constructor <;> (have : ((k.val * n : ℕ) : Int) = (k.val : Int) * (n : Int) := by push_cast; rfl
                                                                                                              ) <;> omega)
  have := Affine.toNat_of h_m (by omega)
  omega

theorem trips3 : k0_t3_loop.trips = 16 := by
  have h_c0 : Affine.IsInt 0#32 (0) := Affine.ofNat _ (by omega)
  have h_c16 : Affine.IsInt 16#32 (16) := Affine.ofNat _ (by omega)
  have h_c1 : Affine.IsInt 1#32 (1) := Affine.ofNat _ (by omega)
  have h_v11 : Affine.IsInt _ (16) := Affine.addi h_c0 h_c16 (by omega)
  exact Affine.trips_eq h_c0 h_v11 h_c1 _ (by omega)

theorem off24_eq (k : Fin k0_t3_loop.trips) : k0_off24 k = ![0, k.val * 32, 0] := by
  unfold k0_off24; simp only [Scalar.indexCast]; rw [iv_mul k 32 (by omega)]
theorem off25_eq (k : Fin k0_t3_loop.trips) : k0_off25 k = ![0, k.val * 32, 128] := by
  unfold k0_off25; simp only [Scalar.indexCast]; rw [iv_mul k 32 (by omega)]
theorem off26_eq (k : Fin k0_t3_loop.trips) : k0_off26 k = ![0, k.val * 32, 256] := by
  unfold k0_off26; simp only [Scalar.indexCast]; rw [iv_mul k 32 (by omega)]
theorem off27_eq (k : Fin k0_t3_loop.trips) : k0_off27 k = ![0, k.val * 32, 384] := by
  unfold k0_off27; simp only [Scalar.indexCast]; rw [iv_mul k 32 (by omega)]
theorem off28_eq (k : Fin k0_t3_loop.trips) : k0_off28 k = ![0, k.val * 32, 512] := by
  unfold k0_off28; simp only [Scalar.indexCast]; rw [iv_mul k 32 (by omega)]
theorem off29_eq (k : Fin k0_t3_loop.trips) : k0_off29 k = ![0, k.val * 32, 640] := by
  unfold k0_off29; simp only [Scalar.indexCast]; rw [iv_mul k 32 (by omega)]
theorem off30_eq (k : Fin k0_t3_loop.trips) : k0_off30 k = ![0, k.val * 32, 768] := by
  unfold k0_off30; simp only [Scalar.indexCast]; rw [iv_mul k 32 (by omega)]
theorem off31_eq (k : Fin k0_t3_loop.trips) : k0_off31 k = ![0, k.val * 32, 896] := by
  unfold k0_off31; simp only [Scalar.indexCast]; rw [iv_mul k 32 (by omega)]
theorem off32_eq (k : Fin k0_t3_loop.trips) : k0_off32 k = ![0, k.val * 32, 1024] := by
  unfold k0_off32; simp only [Scalar.indexCast]; rw [iv_mul k 32 (by omega)]
theorem off33_eq (k : Fin k0_t3_loop.trips) : k0_off33 k = ![0, k.val * 32, 1152] := by
  unfold k0_off33; simp only [Scalar.indexCast]; rw [iv_mul k 32 (by omega)]
theorem off34_eq (k : Fin k0_t3_loop.trips) : k0_off34 k = ![0, k.val * 32, 1280] := by
  unfold k0_off34; simp only [Scalar.indexCast]; rw [iv_mul k 32 (by omega)]
theorem off35_eq (k : Fin k0_t3_loop.trips) : k0_off35 k = ![0, k.val * 32, 1408] := by
  unfold k0_off35; simp only [Scalar.indexCast]; rw [iv_mul k 32 (by omega)]
theorem off36_eq (k : Fin k0_t3_loop.trips) : k0_off36 k = ![0, k.val * 32, 1536] := by
  unfold k0_off36; simp only [Scalar.indexCast]; rw [iv_mul k 32 (by omega)]
theorem off37_eq (k : Fin k0_t3_loop.trips) : k0_off37 k = ![0, k.val * 32, 1664] := by
  unfold k0_off37; simp only [Scalar.indexCast]; rw [iv_mul k 32 (by omega)]
theorem off38_eq (k : Fin k0_t3_loop.trips) : k0_off38 k = ![0, k.val * 32, 1792] := by
  unfold k0_off38; simp only [Scalar.indexCast]; rw [iv_mul k 32 (by omega)]
theorem off39_eq (k : Fin k0_t3_loop.trips) : k0_off39 k = ![0, k.val * 32, 1920] := by
  unfold k0_off39; simp only [Scalar.indexCast]; rw [iv_mul k 32 (by omega)]
theorem off41_eq (k : Fin k0_t3_loop.trips) : k0_off41 k = ![0, k.val * 32, 0] := by
  unfold k0_off41; simp only [Scalar.indexCast]; rw [iv_mul k 32 (by omega)]
theorem off40_eq (k : Fin k0_t3_loop.trips) : k0_off40 k = ![0, 0, 0, k.val * 512] := by
  unfold k0_off40; simp only [Scalar.indexCast]; rw [iv_mul k 512 (by omega)]
theorem off42_eq (k : Fin k0_t3_loop.trips) : k0_off42 k = ![0, 0, 0, k.val * 512] := by
  unfold k0_off42; simp only [Scalar.indexCast]; rw [iv_mul k 512 (by omega)]

variable (c : Dev nD) (i : grid0.Coords) (arg3 : Memref sig .tc .smem S6 .i32) (harg3 : arg3.IsWhole) (arg4 : Memref sig .tc .smem S1 .i32) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x14336x128 .fp8e4m3) (harg7 : arg7.IsWhole) (arg8 : Memref sig .tc .vmem S1x128x14336 .fp8e4m3) (harg8 : arg8.IsWhole) (arg9 : Memref sig .tc .vmem S1x1x14336 .f32) (harg9 : arg9.IsWhole) (arg10 : Memref sig .tc .vmem S1x1x14336 .f32) (harg10 : arg10.IsWhole) (arg11 : Memref sig .tc .vmem S1x1x2048x128 .fp8e4m3) (harg11 : arg11.IsWhole) (arg12 : Memref sig .tc .vmem S1x1x128x2048 .fp8e4m3) (harg12 : arg12.IsWhole) (arg13 : Memref sig .tc .vmem S1x1x1x2048 .f32) (harg13 : arg13.IsWhole) (arg14 : Memref sig .tc .vmem S1x1x1x2048 .f32) (harg14 : arg14.IsWhole) (arg15 : Memref sig .tc .vmem S1x512x2048 .bf16) (harg15 : arg15.IsWhole) (arg16 : Memref sig .tc .vmem S1x1x1x8192 .f32) (harg16 : arg16.IsWhole) (arg17 : Memref sig .tc .vmem S1x1x1x8192 .f32) (harg17 : arg17.IsWhole) (arg18 : Memref sig .tc .vmem S14336x128 .f32) (harg18 : arg18.IsWhole) (arg19 : Memref sig .tc .vmem S128x14336 .bf16) (harg19 : arg19.IsWhole) (arg20 : Memref sig .tc .vmem S2048x128 .f32) (harg20 : arg20.IsWhole) (arg21 : Memref sig .tc .vmem S128x2048 .bf16) (harg21 : arg21.IsWhole) (arg22 : Memref sig .tc .vmem S512x128 .f32) (harg22 : arg22.IsWhole)

variable (arg2 : BitVec 32) (v9 : Elt F .i32) (v10 : Elt F .i32) (k0_hw1 : k0_chk1 i v9 v10) (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21

/-- A piece of a tile is among the pieces of all the tiles before a later one. -/
theorem mem_pb (k : Fin k0_t3_loop.trips) (n : ℕ) (hn : n ≤ k0_t3_loop.trips) (hk : k.val < n) :
    (∀ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1, p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).1) ∧ (∀ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1, p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).2.1) ∧ (∀ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2, p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).2.2) := by
  induction n with
  | zero => omega
  | succ n ih =>
    have e := pb_k0_t3_succ (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 ⟨n, hn⟩
    rw [show (⟨n, hn⟩ : Fin k0_t3_loop.trips).val = n from rfl] at e
    rw [e]
    by_cases h : k.val = n
    · obtain rfl : k = ⟨n, hn⟩ := Fin.ext h
      exact ⟨fun p hp => List.mem_append_left _ hp, fun p hp => List.mem_append_left _ hp, fun p hp => List.mem_append_left _ hp⟩
    · obtain ⟨h1, h2, h3⟩ := ih (by omega) (by omega)
      exact ⟨fun p hp => List.mem_append_right _ (h1 p hp), fun p hp => List.mem_append_right _ (h2 p hp), fun p hp => List.mem_append_right _ (h3 p hp)⟩

/-- A piece of all the tiles is a piece of one of them. -/
theorem of_mem_pb (n : ℕ) (hn : n ≤ k0_t3_loop.trips) :
    (∀ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).1, ∃ k : Fin k0_t3_loop.trips, p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1) ∧ (∀ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).2.1, ∃ k : Fin k0_t3_loop.trips, p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1)
      ∧ (∀ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 n).2.2, ∃ k : Fin k0_t3_loop.trips, p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2) := by
  induction n with
  | zero => exact ⟨fun p hp => absurd hp List.not_mem_nil, fun p hp => absurd hp List.not_mem_nil, fun p hp => absurd hp List.not_mem_nil⟩
  | succ n ih =>
    have e := pb_k0_t3_succ (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 ⟨n, hn⟩
    rw [show (⟨n, hn⟩ : Fin k0_t3_loop.trips).val = n from rfl] at e
    rw [e]
    obtain ⟨h1, h2, h3⟩ := ih (by omega)
    exact ⟨fun p hp => (List.mem_append.mp hp).elim (fun h => ⟨_, h⟩) (h1 p), fun p hp => (List.mem_append.mp hp).elim (fun h => ⟨_, h⟩) (h2 p),
      fun p hp => (List.mem_append.mp hp).elim (fun h => ⟨_, h⟩) (h3 p)⟩

end

/-- The tile holding a row of the block. -/
def tileOf (n d : ℕ) (h : n < 16 * d) : Fin k0_t3_loop.trips := ⟨n / d, by rw [trips3]; exact Nat.div_lt_of_lt_mul (by rwa [Nat.mul_comm] at h)⟩

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21

set_option maxHeartbeats 4000000 in
theorem cover15 (y : S1x512x2048.Idx) : ∃ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k0_t3_loop.trips).1, y ∈ p.1.set := by
  have y0 : (y 0).val < 1 := (y 0).isLt
  have y1 : (y 1).val < 512 := (y 1).isLt
  have y2 : (y 2).val < 2048 := (y 2).isLt
  have hd := Nat.div_add_mod (y 1).val 32
  have hm := Nat.mod_lt (y 1).val (show 0 < 32 by omega)
  let k := tileOf (y 1).val 32 (by omega)
  have hkv : k.val = (y 1).val / 32 := rfl
  suffices h : ∃ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).1, y ∈ p.1.set by
    obtain ⟨p, hp, hy⟩ := h
    exact ⟨p, (mem_pb (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k _ le_rfl k.isLt).1 p hp, hy⟩
  unfold tripP
  by_cases h3 : k0_cond3 i v9 k = 1#1
  · simp only [dif_pos h3]
    unfold tripLive
    simp only [List.mem_cons, List.not_mem_nil, or_false, exists_eq_or_imp, exists_eq_left, Rect.mem_set_unit, off39_eq, off38_eq, off37_eq, off36_eq, off35_eq, off34_eq, off33_eq, off32_eq, off31_eq, off30_eq, off29_eq, off28_eq, off27_eq, off26_eq, off25_eq, off24_eq]
    have hh : (y 2).val / 128 < 16 := by omega
    have hd2 := Nat.div_add_mod (y 2).val 128
    have hm2 := Nat.mod_lt (y 2).val (show 0 < 128 by omega)
    generalize (y 2).val / 128 = q at hh hd2
    have go (q' : ℕ) (e : q = q') (o : Fin 3 → ℕ) (ho : o = ![0, k.val * 32, q' * 128]) : ∀ a, o a ≤ (y a).val ∧ (y a).val < o a + S1x32x128.size a := by
      subst ho
      intro a
      fin_cases a
      · exact ⟨Nat.zero_le _, by show (y 0).val < 0 + 1; omega⟩
      · exact ⟨by show k.val * 32 ≤ (y 1).val; omega, by show (y 1).val < k.val * 32 + 32; omega⟩
      · exact ⟨by show q' * 128 ≤ (y 2).val; omega, by show (y 2).val < q' * 128 + 128; omega⟩
    rcases (show q = 0 ∨ q = 1 ∨ q = 2 ∨ q = 3 ∨ q = 4 ∨ q = 5 ∨ q = 6 ∨ q = 7 ∨ q = 8 ∨ q = 9 ∨ q = 10 ∨ q = 11 ∨ q = 12 ∨ q = 13 ∨ q = 14 ∨ q = 15 by omega) with rfl | rfl | rfl | rfl | rfl | rfl | rfl | rfl | rfl | rfl | rfl | rfl | rfl | rfl | rfl | rfl
    · exact Or.inr (Or.inr (Or.inr (Or.inr (Or.inr (Or.inr (Or.inr (Or.inr (Or.inr (Or.inr (Or.inr (Or.inr (Or.inr (Or.inr (Or.inr ((go 0 rfl _ rfl))))))))))))))))
    · exact Or.inr (Or.inr (Or.inr (Or.inr (Or.inr (Or.inr (Or.inr (Or.inr (Or.inr (Or.inr (Or.inr (Or.inr (Or.inr (Or.inr (Or.inl (go 1 rfl _ rfl)))))))))))))))
    · exact Or.inr (Or.inr (Or.inr (Or.inr (Or.inr (Or.inr (Or.inr (Or.inr (Or.inr (Or.inr (Or.inr (Or.inr (Or.inr (Or.inl (go 2 rfl _ rfl))))))))))))))
    · exact Or.inr (Or.inr (Or.inr (Or.inr (Or.inr (Or.inr (Or.inr (Or.inr (Or.inr (Or.inr (Or.inr (Or.inr (Or.inl (go 3 rfl _ rfl)))))))))))))
    · exact Or.inr (Or.inr (Or.inr (Or.inr (Or.inr (Or.inr (Or.inr (Or.inr (Or.inr (Or.inr (Or.inr (Or.inl (go 4 rfl _ rfl))))))))))))
    · exact Or.inr (Or.inr (Or.inr (Or.inr (Or.inr (Or.inr (Or.inr (Or.inr (Or.inr (Or.inr (Or.inl (go 5 rfl _ rfl)))))))))))
    · exact Or.inr (Or.inr (Or.inr (Or.inr (Or.inr (Or.inr (Or.inr (Or.inr (Or.inr (Or.inl (go 6 rfl _ rfl))))))))))
    · exact Or.inr (Or.inr (Or.inr (Or.inr (Or.inr (Or.inr (Or.inr (Or.inr (Or.inl (go 7 rfl _ rfl)))))))))
    · exact Or.inr (Or.inr (Or.inr (Or.inr (Or.inr (Or.inr (Or.inr (Or.inl (go 8 rfl _ rfl))))))))
    · exact Or.inr (Or.inr (Or.inr (Or.inr (Or.inr (Or.inr (Or.inl (go 9 rfl _ rfl)))))))
    · exact Or.inr (Or.inr (Or.inr (Or.inr (Or.inr (Or.inl (go 10 rfl _ rfl))))))
    · exact Or.inr (Or.inr (Or.inr (Or.inr (Or.inl (go 11 rfl _ rfl)))))
    · exact Or.inr (Or.inr (Or.inr (Or.inl (go 12 rfl _ rfl))))
    · exact Or.inr (Or.inr (Or.inl (go 13 rfl _ rfl)))
    · exact Or.inr (Or.inl (go 14 rfl _ rfl))
    · exact Or.inl (go 15 rfl _ rfl)
  · simp only [dif_neg h3]
    unfold tripDead
    simp only [List.mem_cons, List.not_mem_nil, or_false, exists_eq_left, Rect.mem_set_unit, off41_eq]
    intro a
    fin_cases a
    · exact ⟨Nat.zero_le _, by show (y 0).val < 0 + 1; omega⟩
    · exact ⟨by show k.val * 32 ≤ (y 1).val; omega, by show (y 1).val < k.val * 32 + 32; omega⟩
    · exact ⟨Nat.zero_le _, by show (y 2).val < 0 + 2048; omega⟩

set_option maxHeartbeats 4000000 in
theorem cover16 (y : S1x1x1x8192.Idx) : ∃ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k0_t3_loop.trips).2.1, y ∈ p.1.set := by
  have y0 : (y 0).val < 1 := (y 0).isLt
  have y1 : (y 1).val < 1 := (y 1).isLt
  have y2 : (y 2).val < 1 := (y 2).isLt
  have y3 : (y 3).val < 8192 := (y 3).isLt
  have hd := Nat.div_add_mod (y 3).val 512
  have hm := Nat.mod_lt (y 3).val (show 0 < 512 by omega)
  let k := tileOf (y 3).val 512 (by omega)
  have hkv : k.val = (y 3).val / 512 := rfl
  suffices h : ∃ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.1, y ∈ p.1.set by
    obtain ⟨p, hp, hy⟩ := h
    exact ⟨p, (mem_pb (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k _ le_rfl k.isLt).2.1 p hp, hy⟩
  have go : ∀ a, (![0, 0, 0, k.val * 512] : Fin 4 → ℕ) a ≤ (y a).val ∧ (y a).val < (![0, 0, 0, k.val * 512] : Fin 4 → ℕ) a + S1x1x1x512.size a := by
    intro a
    fin_cases a
    · exact ⟨Nat.zero_le _, by show (y 0).val < 0 + 1; omega⟩
    · exact ⟨Nat.zero_le _, by show (y 1).val < 0 + 1; omega⟩
    · exact ⟨Nat.zero_le _, by show (y 2).val < 0 + 1; omega⟩
    · exact ⟨by show k.val * 512 ≤ (y 3).val; omega, by show (y 3).val < k.val * 512 + 512; omega⟩
  unfold tripP
  by_cases h3 : k0_cond3 i v9 k = 1#1
  · simp only [dif_pos h3]
    unfold tripLive
    simp only [List.mem_cons, List.not_mem_nil, or_false, exists_eq_left, Rect.mem_set_unit, off40_eq]
    exact go
  · simp only [dif_neg h3]
    unfold tripDead
    simp only [List.mem_cons, List.not_mem_nil, or_false, exists_eq_left, Rect.mem_set_unit, off42_eq]
    exact go

set_option maxHeartbeats 4000000 in
theorem cover17 (y : S1x1x1x8192.Idx) : ∃ p ∈ (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k0_t3_loop.trips).2.2, y ∈ p.1.set := by
  have y0 : (y 0).val < 1 := (y 0).isLt
  have y1 : (y 1).val < 1 := (y 1).isLt
  have y2 : (y 2).val < 1 := (y 2).isLt
  have y3 : (y 3).val < 8192 := (y 3).isLt
  have hd := Nat.div_add_mod (y 3).val 512
  have hm := Nat.mod_lt (y 3).val (show 0 < 512 by omega)
  let k := tileOf (y 3).val 512 (by omega)
  have hkv : k.val = (y 3).val / 512 := rfl
  suffices h : ∃ p ∈ (tripP (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k).2.2, y ∈ p.1.set by
    obtain ⟨p, hp, hy⟩ := h
    exact ⟨p, (mem_pb (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k _ le_rfl k.isLt).2.2 p hp, hy⟩
  have go : ∀ a, (![0, 0, 0, k.val * 512] : Fin 4 → ℕ) a ≤ (y a).val ∧ (y a).val < (![0, 0, 0, k.val * 512] : Fin 4 → ℕ) a + S1x1x1x512.size a := by
    intro a
    fin_cases a
    · exact ⟨Nat.zero_le _, by show (y 0).val < 0 + 1; omega⟩
    · exact ⟨Nat.zero_le _, by show (y 1).val < 0 + 1; omega⟩
    · exact ⟨Nat.zero_le _, by show (y 2).val < 0 + 1; omega⟩
    · exact ⟨by show k.val * 512 ≤ (y 3).val; omega, by show (y 3).val < k.val * 512 + 512; omega⟩
  unfold tripP
  by_cases h3 : k0_cond3 i v9 k = 1#1
  · simp only [dif_pos h3]
    unfold tripLive
    simp only [List.mem_cons, List.not_mem_nil, or_false, exists_eq_left, Rect.mem_set_unit, off40_eq]
    exact go
  · simp only [dif_neg h3]
    unfold tripDead
    simp only [List.mem_cons, List.not_mem_nil, or_false, exists_eq_left, Rect.mem_set_unit, off42_eq]
    exact go

end

/-- The batch's number of rows, read from its table. -/
def wordL (i : grid0.Coords) (arg3 : Memref sig .tc .smem S6 .i32) (X_arg3 : BufTy.Contents (Elt F) arg3.view.ty) : BitVec 32 :=
  View.readAt (Elt F) arg3.view (Rect.unit (s := S6) (k0_off9 i) S1.size (k0_off9_inb i)).toLoadRect X_arg3 (Shape.Idx.first (show 0 < S1.numel by rw [numel1_S1]; exact Nat.one_pos))

/-- The prompt's length, read from its table. -/
def wordP (arg4 : Memref sig .tc .smem S1 .i32) (X_arg4 : BufTy.Contents (Elt F) arg4.view.ty) : BitVec 32 :=
  View.readAt (Elt F) arg4.view (Rect.unit (s := S1) ![0] S1.size inb_S1_S1_0).toLoadRect X_arg4 (Shape.Idx.first (show 0 < S1.numel by rw [numel1_S1]; exact Nat.one_pos))

/-- What `arg18` holds once its fill, if this point runs it, is done. -/
def scr18 (X_arg8 : BufTy.Contents (Elt F) arg8.view.ty) (X_arg9 : BufTy.Contents (Elt F) arg9.view.ty) (X_arg10 : BufTy.Contents (Elt F) arg10.view.ty) (f_arg18 : BufTy.Contents (Elt F) arg18.view.ty) : BufTy.Contents (Elt F) arg18.view.ty :=
  if h : k0_cond1 i = 1#1 then arg18.view.writes (Elt F) f_arg18 (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).1 else f_arg18

/-- What `arg19` holds once its fill, if this point runs it, is done. -/
def scr19 (X_arg8 : BufTy.Contents (Elt F) arg8.view.ty) (X_arg9 : BufTy.Contents (Elt F) arg9.view.ty) (X_arg10 : BufTy.Contents (Elt F) arg10.view.ty) (f_arg19 : BufTy.Contents (Elt F) arg19.view.ty) : BufTy.Contents (Elt F) arg19.view.ty :=
  if h : k0_cond1 i = 1#1 then arg19.view.writes (Elt F) f_arg19 (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).2 else f_arg19

/-- What `arg20` holds once its fill, if this point runs it, is done. -/
def scr20 (X_arg12 : BufTy.Contents (Elt F) arg12.view.ty) (X_arg13 : BufTy.Contents (Elt F) arg13.view.ty) (X_arg14 : BufTy.Contents (Elt F) arg14.view.ty) (f_arg20 : BufTy.Contents (Elt F) arg20.view.ty) : BufTy.Contents (Elt F) arg20.view.ty :=
  if h : k0_cond2 i = 1#1 then arg20.view.writes (Elt F) f_arg20 (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).1 else f_arg20

/-- What `arg21` holds once its fill, if this point runs it, is done. -/
def scr21 (X_arg12 : BufTy.Contents (Elt F) arg12.view.ty) (X_arg13 : BufTy.Contents (Elt F) arg13.view.ty) (X_arg14 : BufTy.Contents (Elt F) arg14.view.ty) (f_arg21 : BufTy.Contents (Elt F) arg21.view.ty) : BufTy.Contents (Elt F) arg21.view.ty :=
  if h : k0_cond2 i = 1#1 then arg21.view.writes (Elt F) f_arg21 (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).2 else f_arg21

/-- The prompt is filled only where the completion is. -/
theorem cond2_of_cond1 (i : grid0.Coords) (h : k0_cond1 i = 1#1) : k0_cond2 i = 1#1 := by
  unfold k0_cond1 at h
  unfold k0_cond2
  simp only [Scalar.cmpi, Scalar.extui, Scalar.andi] at h ⊢
  revert h
  generalize IntOp.cmpi CmpIPredicate.eq (BitVec.ofNat 32 (i 1).val) _ = a
  generalize IntOp.cmpi CmpIPredicate.eq (BitVec.ofNat 32 (i 2).val) _ = b
  revert a b; decide

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

set_option maxHeartbeats 8000000 in
/-- One grid point's body: the scratch filled where its turn comes, then the tiles. -/
theorem bodyRun (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (hle : (wordP (F := F) arg4 X_arg4).toInt ≤ 14336) :
    (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21) ∗ (arg22.view.loc (c : Thread nD τ) ↦[arg22.view.set]{fullShare} f_arg22)) : sProp 𝕄G)
      ⊢ wp frame (wpE (defs₀ (F := F)) 𝒱₀ (c : Thread nD τ) none) Set.univ (cc0_shared_prompt_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} (arg15.view.writes (Elt F) f_arg15 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) (wordL (F := F) i arg3 X_arg3) (wordP (F := F) arg4 X_arg4) (chk_of_le i _ _ hle) X_arg5 X_arg6 X_arg7 X_arg11 (scr18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg18) (scr19 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg19) (scr20 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg20) (scr21 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg21) k0_t3_loop.trips).1)) ∗ (arg16.view.loc (c : Thread nD τ) ↦[arg16.view.set]{fullShare} (arg16.view.writes (Elt F) f_arg16 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) (wordL (F := F) i arg3 X_arg3) (wordP (F := F) arg4 X_arg4) (chk_of_le i _ _ hle) X_arg5 X_arg6 X_arg7 X_arg11 (scr18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg18) (scr19 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg19) (scr20 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg20) (scr21 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg21) k0_t3_loop.trips).2.1)) ∗ (arg17.view.loc (c : Thread nD τ) ↦[arg17.view.set]{fullShare} (arg17.view.writes (Elt F) f_arg17 (pb_k0_t3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) (wordL (F := F) i arg3 X_arg3) (wordP (F := F) arg4 X_arg4) (chk_of_le i _ _ hle) X_arg5 X_arg6 X_arg7 X_arg11 (scr18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg18) (scr19 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg19) (scr20 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg20) (scr21 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg21) k0_t3_loop.trips).2.2)) ∗ (arg18.view.loc (c : Thread nD τ) ↦[arg18.view.set]{fullShare} (scr18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg18)) ∗ (arg19.view.loc (c : Thread nD τ) ↦[arg19.view.set]{fullShare} (scr19 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg8 X_arg9 X_arg10 f_arg19)) ∗ (arg20.view.loc (c : Thread nD τ) ↦[arg20.view.set]{fullShare} (scr20 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg20)) ∗ (arg21.view.loc (c : Thread nD τ) ↦[arg21.view.set]{fullShare} (scr21 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg13 X_arg14 f_arg21)) ∗ (∃ g, (arg22.view.loc (c : Thread nD τ) ↦[arg22.view.set]{fullShare} g)))) := by
  by_cases k0_h2 : k0_cond2 i = 1#1
  · by_cases k0_h1 : k0_cond1 i = 1#1
    · simp only [scr18, scr19, scr20, scr21, dif_pos k0_h1, dif_pos k0_h2]
      sl_unfold [cc0_shared_prompt_attention]
      iintro ⟨H_arg3, H_arg4, H_arg5, H_arg6, H_arg7, H_arg8, H_arg9, H_arg10, H_arg11, H_arg12, H_arg13, H_arg14, H_arg15, H_arg16, H_arg17, H_arg18, H_arg19, H_arg20, H_arg21, H_arg22⟩
      sl_exec
      have hchk : k0_chk1 i (bodyRun.sl.r i arg3 X_arg3) (bodyRun.sl.r_1 arg4 X_arg4) := chk_of_le _ _ _ hle
      sl_exec
      sl_step
      sl_close
    · simp only [scr18, scr19, scr20, scr21, dif_neg k0_h1, dif_pos k0_h2]
      sl_unfold [cc0_shared_prompt_attention]
      iintro ⟨H_arg3, H_arg4, H_arg5, H_arg6, H_arg7, H_arg8, H_arg9, H_arg10, H_arg11, H_arg12, H_arg13, H_arg14, H_arg15, H_arg16, H_arg17, H_arg18, H_arg19, H_arg20, H_arg21, H_arg22⟩
      sl_exec
      have hchk : k0_chk1 i (bodyRun.sl.r_2 i arg3 X_arg3) (bodyRun.sl.r_3 arg4 X_arg4) := chk_of_le _ _ _ hle
      sl_exec
      sl_step
      sl_close
  · have k0_h1 : ¬ k0_cond1 i = 1#1 := fun h => k0_h2 (cond2_of_cond1 i h)
    simp only [scr18, scr19, scr20, scr21, dif_neg k0_h1, dif_neg k0_h2]
    sl_unfold [cc0_shared_prompt_attention]
    iintro ⟨H_arg3, H_arg4, H_arg5, H_arg6, H_arg7, H_arg8, H_arg9, H_arg10, H_arg11, H_arg12, H_arg13, H_arg14, H_arg15, H_arg16, H_arg17, H_arg18, H_arg19, H_arg20, H_arg21, H_arg22⟩
    sl_exec
    have hchk : k0_chk1 i (bodyRun.sl.r_4 i arg3 X_arg3) (bodyRun.sl.r_5 arg4 X_arg4) := chk_of_le _ _ _ hle
    sl_exec
    sl_step
    sl_close

end

end Cert.Proof.KernelIdeal
-- ==== Proof.IFill.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Pipeline.FrameBody
public import Idealize.ShloMosaic.Lib.Pipeline.ValueKit
public import proofs.«01_k».proof.Proof.IBody

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the frame kit. -/
local notation "𝕄G" => MT nD τ sig Unit (Elt F) ℕ (UR sig nD τ) ℕ

theorem trips1 : k0_t1_loop.trips = 112 := by
  have h_c0 : Affine.IsInt 0#32 (0) := Affine.ofNat _ (by omega)
  have h_c16 : Affine.IsInt 112#32 (112) := Affine.ofNat _ (by omega)
  have h_c1 : Affine.IsInt 1#32 (1) := Affine.ofNat _ (by omega)
  have h_v11 : Affine.IsInt _ (112) := Affine.addi h_c0 h_c16 (by omega)
  exact Affine.trips_eq h_c0 h_v11 h_c1 _ (by omega)

theorem iv_mul1 (k : Fin k0_t1_loop.trips) :
    (Scalar.muli (Scf.iv 0#32 1#32 k) 128#32).toNat = k.val * 128 := by
  have hk : k.val < 112 := lt_of_lt_of_eq k.isLt trips1
  have h_c0 : Affine.IsInt 0#32 (0) := Affine.ofNat _ (by omega)
  have h_c1 : Affine.IsInt 1#32 (1) := Affine.ofNat _ (by omega)
  have h_n : Affine.IsInt 128#32 (128) := Affine.ofNat _ (by omega)
  have h_i : Affine.IsInt (Scf.iv 0#32 1#32 k) (k.val : Int) := Affine.iv h_c0 h_c1 _ (by omega)
  have h_m : Affine.IsInt _ ((k.val : Int) * 128) := Affine.muli h_i h_n (by omega)
  have := Affine.toNat_of h_m (by omega)
  omega

theorem trips2 : k0_t2_loop.trips = 16 := by
  have h_c0 : Affine.IsInt 0#32 (0) := Affine.ofNat _ (by omega)
  have h_c16 : Affine.IsInt 16#32 (16) := Affine.ofNat _ (by omega)
  have h_c1 : Affine.IsInt 1#32 (1) := Affine.ofNat _ (by omega)
  have h_v11 : Affine.IsInt _ (16) := Affine.addi h_c0 h_c16 (by omega)
  exact Affine.trips_eq h_c0 h_v11 h_c1 _ (by omega)

theorem iv_mul2 (k : Fin k0_t2_loop.trips) :
    (Scalar.muli (Scf.iv 0#32 1#32 k) 128#32).toNat = k.val * 128 := by
  have hk : k.val < 16 := lt_of_lt_of_eq k.isLt trips2
  have h_c0 : Affine.IsInt 0#32 (0) := Affine.ofNat _ (by omega)
  have h_c1 : Affine.IsInt 1#32 (1) := Affine.ofNat _ (by omega)
  have h_n : Affine.IsInt 128#32 (128) := Affine.ofNat _ (by omega)
  have h_i : Affine.IsInt (Scf.iv 0#32 1#32 k) (k.val : Int) := Affine.iv h_c0 h_c1 _ (by omega)
  have h_m : Affine.IsInt _ ((k.val : Int) * 128) := Affine.muli h_i h_n (by omega)
  have := Affine.toNat_of h_m (by omega)
  omega
theorem off1_eq (k : Fin k0_t1_loop.trips) : k0_off1 k = ![0, 0, k.val * 128] := by
  unfold k0_off1; simp only [Scalar.indexCast]; rw [iv_mul1 k]
theorem off2_eq (k : Fin k0_t1_loop.trips) : k0_off2 k = ![k.val * 128, 0] := by
  unfold k0_off2; simp only [Scalar.indexCast]; rw [iv_mul1 k]
theorem off3_eq (k : Fin k0_t1_loop.trips) : k0_off3 k = ![0, 0, k.val * 128] := by
  unfold k0_off3; simp only [Scalar.indexCast]; rw [iv_mul1 k]
theorem off4_eq (k : Fin k0_t1_loop.trips) : k0_off4 k = ![0, k.val * 128] := by
  unfold k0_off4; simp only [Scalar.indexCast]; rw [iv_mul1 k]
theorem off5_eq (k : Fin k0_t2_loop.trips) : k0_off5 k = ![0, 0, 0, k.val * 128] := by
  unfold k0_off5; simp only [Scalar.indexCast]; rw [iv_mul2 k]
theorem off6_eq (k : Fin k0_t2_loop.trips) : k0_off6 k = ![k.val * 128, 0] := by
  unfold k0_off6; simp only [Scalar.indexCast]; rw [iv_mul2 k]
theorem off7_eq (k : Fin k0_t2_loop.trips) : k0_off7 k = ![0, 0, 0, k.val * 128] := by
  unfold k0_off7; simp only [Scalar.indexCast]; rw [iv_mul2 k]
theorem off8_eq (k : Fin k0_t2_loop.trips) : k0_off8 k = ![0, k.val * 128] := by
  unfold k0_off8; simp only [Scalar.indexCast]; rw [iv_mul2 k]

theorem off1_in (k : Fin k0_t1_loop.trips) : ∀ a, k0_off1 k a + S1x1x128.size a ≤ S1x1x14336.size a := by
  have hk : k.val < 112 := lt_of_lt_of_eq k.isLt trips1
  rw [off1_eq]
  intro a
  fin_cases a
  · exact (by decide : (0 : ℕ) + S1x1x128.size 0 ≤ S1x1x14336.size 0)
  · exact (by decide : (0 : ℕ) + S1x1x128.size 1 ≤ S1x1x14336.size 1)
  · show k.val * 128 + 128 ≤ 14336; omega

theorem off3_in (k : Fin k0_t1_loop.trips) : ∀ a, k0_off3 k a + S1x128x128.size a ≤ S1x128x14336.size a := by
  have hk : k.val < 112 := lt_of_lt_of_eq k.isLt trips1
  rw [off3_eq]
  intro a
  fin_cases a
  · exact (by decide : (0 : ℕ) + S1x128x128.size 0 ≤ S1x128x14336.size 0)
  · exact (by decide : (0 : ℕ) + S1x128x128.size 1 ≤ S1x128x14336.size 1)
  · show k.val * 128 + 128 ≤ 14336; omega

theorem off5_in (k : Fin k0_t2_loop.trips) : ∀ a, k0_off5 k a + S1x1x1x128.size a ≤ S1x1x1x2048.size a := by
  have hk : k.val < 16 := lt_of_lt_of_eq k.isLt trips2
  rw [off5_eq]
  intro a
  fin_cases a
  · exact (by decide : (0 : ℕ) + S1x1x1x128.size 0 ≤ S1x1x1x2048.size 0)
  · exact (by decide : (0 : ℕ) + S1x1x1x128.size 1 ≤ S1x1x1x2048.size 1)
  · exact (by decide : (0 : ℕ) + S1x1x1x128.size 2 ≤ S1x1x1x2048.size 2)
  · show k.val * 128 + 128 ≤ 2048; omega

theorem off7_in (k : Fin k0_t2_loop.trips) : ∀ a, k0_off7 k a + S1x1x128x128.size a ≤ S1x1x128x2048.size a := by
  have hk : k.val < 16 := lt_of_lt_of_eq k.isLt trips2
  rw [off7_eq]
  intro a
  fin_cases a
  · exact (by decide : (0 : ℕ) + S1x1x128x128.size 0 ≤ S1x1x128x2048.size 0)
  · exact (by decide : (0 : ℕ) + S1x1x128x128.size 1 ≤ S1x1x128x2048.size 1)
  · exact (by decide : (0 : ℕ) + S1x1x128x128.size 2 ≤ S1x1x128x2048.size 2)
  · show k.val * 128 + 128 ≤ 2048; omega

/-- The chunk of the filled scratch holding an element. -/
def chunk18 (y : S14336x128.Idx) : Fin k0_t1_loop.trips := ⟨(y 0).val / 128, by
  rw [trips1]
  have : (y 0).val < 14336 := (y 0).isLt
  omega⟩

/-- The filled scratch, element by element, from the blocks it is filled from. -/
def fill18 (B9 : S1x1x14336.Idx → Elt F .f32) (y : S14336x128.Idx) : Elt F .f32 :=
  k0_pay1 (F := F) (fun x => B9 ((Rect.unit (s := S1x1x14336) (k0_off1 (chunk18 y)) S1x1x128.size (off1_in (chunk18 y))).toLoadRect.idx x)) (fun a => match a with | 0 => ⟨(y 0).val % 128, Nat.mod_lt _ (by decide)⟩ | 1 => y 1 : S128x128.Idx)

variable (c : Dev nD) (i : grid0.Coords) (arg3 : Memref sig .tc .smem S6 .i32) (harg3 : arg3.IsWhole) (arg4 : Memref sig .tc .smem S1 .i32) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x14336x128 .fp8e4m3) (harg7 : arg7.IsWhole) (arg8 : Memref sig .tc .vmem S1x128x14336 .fp8e4m3) (harg8 : arg8.IsWhole) (arg9 : Memref sig .tc .vmem S1x1x14336 .f32) (harg9 : arg9.IsWhole) (arg10 : Memref sig .tc .vmem S1x1x14336 .f32) (harg10 : arg10.IsWhole) (arg11 : Memref sig .tc .vmem S1x1x2048x128 .fp8e4m3) (harg11 : arg11.IsWhole) (arg12 : Memref sig .tc .vmem S1x1x128x2048 .fp8e4m3) (harg12 : arg12.IsWhole) (arg13 : Memref sig .tc .vmem S1x1x1x2048 .f32) (harg13 : arg13.IsWhole) (arg14 : Memref sig .tc .vmem S1x1x1x2048 .f32) (harg14 : arg14.IsWhole) (arg15 : Memref sig .tc .vmem S1x512x2048 .bf16) (harg15 : arg15.IsWhole) (arg16 : Memref sig .tc .vmem S1x1x1x8192 .f32) (harg16 : arg16.IsWhole) (arg17 : Memref sig .tc .vmem S1x1x1x8192 .f32) (harg17 : arg17.IsWhole) (arg18 : Memref sig .tc .vmem S14336x128 .f32) (harg18 : arg18.IsWhole) (arg19 : Memref sig .tc .vmem S128x14336 .bf16) (harg19 : arg19.IsWhole) (arg20 : Memref sig .tc .vmem S2048x128 .f32) (harg20 : arg20.IsWhole) (arg21 : Memref sig .tc .vmem S128x2048 .bf16) (harg21 : arg21.IsWhole) (arg22 : Memref sig .tc .vmem S512x128 .f32) (harg22 : arg22.IsWhole)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem of_mem_pb18 (h : k0_cond1 i = 1#1) (X_arg8 : BufTy.Contents (Elt F) arg8.view.ty) (X_arg9 : BufTy.Contents (Elt F) arg9.view.ty) (X_arg10 : BufTy.Contents (Elt F) arg10.view.ty) (n : ℕ) (hn : n ≤ k0_t1_loop.trips) :
    (∀ p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 n).1, ∃ k : Fin k0_t1_loop.trips, p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k).1)
      ∧ ∀ k : Fin k0_t1_loop.trips, k.val < n → ∀ p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k).1, p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 n).1 := by
  induction n with
  | zero => exact ⟨fun p hp => absurd hp List.not_mem_nil, fun k hk => absurd hk (Nat.not_lt_zero _)⟩
  | succ n ih =>
    have e := pb_k0_t1_succ (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 ⟨n, hn⟩
    rw [show (⟨n, hn⟩ : Fin k0_t1_loop.trips).val = n from rfl] at e
    rw [e]
    obtain ⟨h1, h2⟩ := ih (by omega)
    refine ⟨fun p hp => (List.mem_append.mp hp).elim (fun h => ⟨_, h⟩) (h1 p), fun k hk p hp => ?_⟩
    by_cases hkn : k.val = n
    · obtain rfl : k = ⟨n, hn⟩ := Fin.ext hkn
      exact List.mem_append_left _ hp
    · exact List.mem_append_right _ (h2 k (by omega) p hp)

set_option maxHeartbeats 4000000 in
/-- After its fill the scratch reads the closed form, whatever it held before. -/
theorem fill18_read (h : k0_cond1 i = 1#1) (X_arg8 : BufTy.Contents (Elt F) arg8.view.ty) (X_arg9 : BufTy.Contents (Elt F) arg9.view.ty) (X_arg10 : BufTy.Contents (Elt F) arg10.view.ty) (f : BufTy.Contents (Elt F) arg18.view.ty) :
    arg18.view.read (Elt F) (arg18.view.writes (Elt F) f ((pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).1)) = fill18 (F := F) (arg9.view.read (Elt F) X_arg9) := by
  obtain ⟨h1, h2⟩ := of_mem_pb18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips le_rfl
  have cov : ∀ y : S14336x128.Idx, ∃ p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).1, y ∈ p.1.set := by
    intro y
    have hd := Nat.div_add_mod (y 0).val 128
    have hm := Nat.mod_lt (y 0).val (show 0 < 128 by omega)
    have ho : (y 1).val < 128 := (y 1).isLt
    have hk : (chunk18 y).val = (y 0).val / 128 := rfl
    suffices hs : ∃ p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 (chunk18 y)).1, y ∈ p.1.set by
      obtain ⟨p, hp, hy⟩ := hs
      exact ⟨p, h2 _ (chunk18 y).isLt p hp, hy⟩
    unfold tripL_k0_t1 trip_k0_t1
    simp only [List.mem_cons, List.not_mem_nil, or_false, exists_eq_left, Rect.mem_set_unit, off2_eq]
    intro a
    fin_cases a
    · exact ⟨by show (chunk18 y).val * 128 ≤ (y 0).val; omega, by show (y 0).val < (chunk18 y).val * 128 + 128; omega⟩
    · exact ⟨Nat.zero_le _, by show (y 1).val < 0 + 128; omega⟩
  rw [View.read_writes_eq_canon _ _ _ cov]
  funext y
  refine View.canon_apply_of_pieces _ _ (fun p hp x => ?_) y (cov y)
  obtain ⟨k, hk⟩ := h1 p hp
  unfold tripL_k0_t1 trip_k0_t1 at hk
  simp only [List.mem_cons, List.not_mem_nil, or_false] at hk
  subst hk
  have e0 : ((Rect.unit (s := S14336x128) (k0_off2 k) S128x128.size (k0_off2_inb i k h)).emb x 0).val = k.val * 128 + (x 0).val := by
    have e : k0_off2 k 0 = k.val * 128 := by rw [off2_eq]; rfl
    rw [ValueKit.rect_emb_unit_val, e]
  have e1 : ((Rect.unit (s := S14336x128) (k0_off2 k) S128x128.size (k0_off2_inb i k h)).emb x 1).val = (x 1).val := by
    have e : k0_off2 k 1 = 0 := by rw [off2_eq]; rfl
    rw [ValueKit.rect_emb_unit_val, e, Nat.zero_add]
  have hx : (x 0).val < 128 := (x 0).isLt
  generalize (Rect.unit (s := S14336x128) (k0_off2 k) S128x128.size (k0_off2_inb i k h)).emb x = z at e0 e1
  have hc : chunk18 z = k := Fin.ext (by show (z 0).val / 128 = k.val; omega)
  subst hc
  unfold fill18
  refine congrArg _ (funext fun a => Fin.ext ?_)
  fin_cases a
  · show (x 0).val = (z 0).val % 128; omega
  · show (x 1).val = (z 1).val; omega

end

/-- The chunk of the filled scratch holding an element. -/
def chunk19 (y : S128x14336.Idx) : Fin k0_t1_loop.trips := ⟨(y 1).val / 128, by
  rw [trips1]
  have : (y 1).val < 14336 := (y 1).isLt
  omega⟩

/-- The filled scratch, element by element, from the blocks it is filled from. -/
def fill19 (B8 : S1x128x14336.Idx → Elt F .fp8e4m3) (B10 : S1x1x14336.Idx → Elt F .f32) (y : S128x14336.Idx) : Elt F .bf16 :=
  k0_pay2 (F := F) (fun x => B8 ((Rect.unit (s := S1x128x14336) (k0_off3 (chunk19 y)) S1x128x128.size (off3_in (chunk19 y))).toLoadRect.idx x)) (fun x => B10 ((Rect.unit (s := S1x1x14336) (k0_off1 (chunk19 y)) S1x1x128.size (off1_in (chunk19 y))).toLoadRect.idx x)) (fun a => match a with | 0 => y 0 | 1 => ⟨(y 1).val % 128, Nat.mod_lt _ (by decide)⟩ : S128x128.Idx)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem of_mem_pb19 (h : k0_cond1 i = 1#1) (X_arg8 : BufTy.Contents (Elt F) arg8.view.ty) (X_arg9 : BufTy.Contents (Elt F) arg9.view.ty) (X_arg10 : BufTy.Contents (Elt F) arg10.view.ty) (n : ℕ) (hn : n ≤ k0_t1_loop.trips) :
    (∀ p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 n).2, ∃ k : Fin k0_t1_loop.trips, p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k).2)
      ∧ ∀ k : Fin k0_t1_loop.trips, k.val < n → ∀ p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k).2, p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 n).2 := by
  induction n with
  | zero => exact ⟨fun p hp => absurd hp List.not_mem_nil, fun k hk => absurd hk (Nat.not_lt_zero _)⟩
  | succ n ih =>
    have e := pb_k0_t1_succ (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 ⟨n, hn⟩
    rw [show (⟨n, hn⟩ : Fin k0_t1_loop.trips).val = n from rfl] at e
    rw [e]
    obtain ⟨h1, h2⟩ := ih (by omega)
    refine ⟨fun p hp => (List.mem_append.mp hp).elim (fun h => ⟨_, h⟩) (h1 p), fun k hk p hp => ?_⟩
    by_cases hkn : k.val = n
    · obtain rfl : k = ⟨n, hn⟩ := Fin.ext hkn
      exact List.mem_append_left _ hp
    · exact List.mem_append_right _ (h2 k (by omega) p hp)

set_option maxHeartbeats 4000000 in
/-- After its fill the scratch reads the closed form, whatever it held before. -/
theorem fill19_read (h : k0_cond1 i = 1#1) (X_arg8 : BufTy.Contents (Elt F) arg8.view.ty) (X_arg9 : BufTy.Contents (Elt F) arg9.view.ty) (X_arg10 : BufTy.Contents (Elt F) arg10.view.ty) (f : BufTy.Contents (Elt F) arg19.view.ty) :
    arg19.view.read (Elt F) (arg19.view.writes (Elt F) f ((pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).2)) = fill19 (F := F) (arg8.view.read (Elt F) X_arg8) (arg10.view.read (Elt F) X_arg10) := by
  obtain ⟨h1, h2⟩ := of_mem_pb19 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips le_rfl
  have cov : ∀ y : S128x14336.Idx, ∃ p ∈ (pb_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 k0_t1_loop.trips).2, y ∈ p.1.set := by
    intro y
    have hd := Nat.div_add_mod (y 1).val 128
    have hm := Nat.mod_lt (y 1).val (show 0 < 128 by omega)
    have ho : (y 0).val < 128 := (y 0).isLt
    have hk : (chunk19 y).val = (y 1).val / 128 := rfl
    suffices hs : ∃ p ∈ (tripL_k0_t1 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg8 X_arg9 X_arg10 (chunk19 y)).2, y ∈ p.1.set by
      obtain ⟨p, hp, hy⟩ := hs
      exact ⟨p, h2 _ (chunk19 y).isLt p hp, hy⟩
    unfold tripL_k0_t1 trip_k0_t1
    simp only [List.mem_cons, List.not_mem_nil, or_false, exists_eq_left, Rect.mem_set_unit, off4_eq]
    intro a
    fin_cases a
    · exact ⟨Nat.zero_le _, by show (y 0).val < 0 + 128; omega⟩
    · exact ⟨by show (chunk19 y).val * 128 ≤ (y 1).val; omega, by show (y 1).val < (chunk19 y).val * 128 + 128; omega⟩
  rw [View.read_writes_eq_canon _ _ _ cov]
  funext y
  refine View.canon_apply_of_pieces _ _ (fun p hp x => ?_) y (cov y)
  obtain ⟨k, hk⟩ := h1 p hp
  unfold tripL_k0_t1 trip_k0_t1 at hk
  simp only [List.mem_cons, List.not_mem_nil, or_false] at hk
  subst hk
  have e0 : ((Rect.unit (s := S128x14336) (k0_off4 k) S128x128.size (k0_off4_inb i k h)).emb x 1).val = k.val * 128 + (x 1).val := by
    have e : k0_off4 k 1 = k.val * 128 := by rw [off4_eq]; rfl
    rw [ValueKit.rect_emb_unit_val, e]
  have e1 : ((Rect.unit (s := S128x14336) (k0_off4 k) S128x128.size (k0_off4_inb i k h)).emb x 0).val = (x 0).val := by
    have e : k0_off4 k 0 = 0 := by rw [off4_eq]; rfl
    rw [ValueKit.rect_emb_unit_val, e, Nat.zero_add]
  have hx : (x 1).val < 128 := (x 1).isLt
  generalize (Rect.unit (s := S128x14336) (k0_off4 k) S128x128.size (k0_off4_inb i k h)).emb x = z at e0 e1
  have hc : chunk19 z = k := Fin.ext (by show (z 1).val / 128 = k.val; omega)
  subst hc
  unfold fill19
  refine congrArg _ (funext fun a => Fin.ext ?_)
  fin_cases a
  · show (x 0).val = (z 0).val; omega
  · show (x 1).val = (z 1).val % 128; omega

end

/-- The chunk of the filled scratch holding an element. -/
def chunk20 (y : S2048x128.Idx) : Fin k0_t2_loop.trips := ⟨(y 0).val / 128, by
  rw [trips2]
  have : (y 0).val < 2048 := (y 0).isLt
  omega⟩

/-- The filled scratch, element by element, from the blocks it is filled from. -/
def fill20 (B13 : S1x1x1x2048.Idx → Elt F .f32) (y : S2048x128.Idx) : Elt F .f32 :=
  k0_pay3 (F := F) (fun x => B13 ((Rect.unit (s := S1x1x1x2048) (k0_off5 (chunk20 y)) S1x1x1x128.size (off5_in (chunk20 y))).toLoadRect.idx x)) (fun a => match a with | 0 => ⟨(y 0).val % 128, Nat.mod_lt _ (by decide)⟩ | 1 => y 1 : S128x128.Idx)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem of_mem_pb20 (h : k0_cond2 i = 1#1) (X_arg12 : BufTy.Contents (Elt F) arg12.view.ty) (X_arg13 : BufTy.Contents (Elt F) arg13.view.ty) (X_arg14 : BufTy.Contents (Elt F) arg14.view.ty) (n : ℕ) (hn : n ≤ k0_t2_loop.trips) :
    (∀ p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 n).1, ∃ k : Fin k0_t2_loop.trips, p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k).1)
      ∧ ∀ k : Fin k0_t2_loop.trips, k.val < n → ∀ p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k).1, p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 n).1 := by
  induction n with
  | zero => exact ⟨fun p hp => absurd hp List.not_mem_nil, fun k hk => absurd hk (Nat.not_lt_zero _)⟩
  | succ n ih =>
    have e := pb_k0_t2_succ (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 ⟨n, hn⟩
    rw [show (⟨n, hn⟩ : Fin k0_t2_loop.trips).val = n from rfl] at e
    rw [e]
    obtain ⟨h1, h2⟩ := ih (by omega)
    refine ⟨fun p hp => (List.mem_append.mp hp).elim (fun h => ⟨_, h⟩) (h1 p), fun k hk p hp => ?_⟩
    by_cases hkn : k.val = n
    · obtain rfl : k = ⟨n, hn⟩ := Fin.ext hkn
      exact List.mem_append_left _ hp
    · exact List.mem_append_right _ (h2 k (by omega) p hp)

set_option maxHeartbeats 4000000 in
/-- After its fill the scratch reads the closed form, whatever it held before. -/
theorem fill20_read (h : k0_cond2 i = 1#1) (X_arg12 : BufTy.Contents (Elt F) arg12.view.ty) (X_arg13 : BufTy.Contents (Elt F) arg13.view.ty) (X_arg14 : BufTy.Contents (Elt F) arg14.view.ty) (f : BufTy.Contents (Elt F) arg20.view.ty) :
    arg20.view.read (Elt F) (arg20.view.writes (Elt F) f ((pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).1)) = fill20 (F := F) (arg13.view.read (Elt F) X_arg13) := by
  obtain ⟨h1, h2⟩ := of_mem_pb20 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips le_rfl
  have cov : ∀ y : S2048x128.Idx, ∃ p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).1, y ∈ p.1.set := by
    intro y
    have hd := Nat.div_add_mod (y 0).val 128
    have hm := Nat.mod_lt (y 0).val (show 0 < 128 by omega)
    have ho : (y 1).val < 128 := (y 1).isLt
    have hk : (chunk20 y).val = (y 0).val / 128 := rfl
    suffices hs : ∃ p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 (chunk20 y)).1, y ∈ p.1.set by
      obtain ⟨p, hp, hy⟩ := hs
      exact ⟨p, h2 _ (chunk20 y).isLt p hp, hy⟩
    unfold tripL_k0_t2 trip_k0_t2
    simp only [List.mem_cons, List.not_mem_nil, or_false, exists_eq_left, Rect.mem_set_unit, off6_eq]
    intro a
    fin_cases a
    · exact ⟨by show (chunk20 y).val * 128 ≤ (y 0).val; omega, by show (y 0).val < (chunk20 y).val * 128 + 128; omega⟩
    · exact ⟨Nat.zero_le _, by show (y 1).val < 0 + 128; omega⟩
  rw [View.read_writes_eq_canon _ _ _ cov]
  funext y
  refine View.canon_apply_of_pieces _ _ (fun p hp x => ?_) y (cov y)
  obtain ⟨k, hk⟩ := h1 p hp
  unfold tripL_k0_t2 trip_k0_t2 at hk
  simp only [List.mem_cons, List.not_mem_nil, or_false] at hk
  subst hk
  have e0 : ((Rect.unit (s := S2048x128) (k0_off6 k) S128x128.size (k0_off6_inb i k h)).emb x 0).val = k.val * 128 + (x 0).val := by
    have e : k0_off6 k 0 = k.val * 128 := by rw [off6_eq]; rfl
    rw [ValueKit.rect_emb_unit_val, e]
  have e1 : ((Rect.unit (s := S2048x128) (k0_off6 k) S128x128.size (k0_off6_inb i k h)).emb x 1).val = (x 1).val := by
    have e : k0_off6 k 1 = 0 := by rw [off6_eq]; rfl
    rw [ValueKit.rect_emb_unit_val, e, Nat.zero_add]
  have hx : (x 0).val < 128 := (x 0).isLt
  generalize (Rect.unit (s := S2048x128) (k0_off6 k) S128x128.size (k0_off6_inb i k h)).emb x = z at e0 e1
  have hc : chunk20 z = k := Fin.ext (by show (z 0).val / 128 = k.val; omega)
  subst hc
  unfold fill20
  refine congrArg _ (funext fun a => Fin.ext ?_)
  fin_cases a
  · show (x 0).val = (z 0).val % 128; omega
  · show (x 1).val = (z 1).val; omega

end

/-- The chunk of the filled scratch holding an element. -/
def chunk21 (y : S128x2048.Idx) : Fin k0_t2_loop.trips := ⟨(y 1).val / 128, by
  rw [trips2]
  have : (y 1).val < 2048 := (y 1).isLt
  omega⟩

/-- The filled scratch, element by element, from the blocks it is filled from. -/
def fill21 (B12 : S1x1x128x2048.Idx → Elt F .fp8e4m3) (B14 : S1x1x1x2048.Idx → Elt F .f32) (y : S128x2048.Idx) : Elt F .bf16 :=
  k0_pay4 (F := F) (fun x => B12 ((Rect.unit (s := S1x1x128x2048) (k0_off7 (chunk21 y)) S1x1x128x128.size (off7_in (chunk21 y))).toLoadRect.idx x)) (fun x => B14 ((Rect.unit (s := S1x1x1x2048) (k0_off5 (chunk21 y)) S1x1x1x128.size (off5_in (chunk21 y))).toLoadRect.idx x)) (fun a => match a with | 0 => y 0 | 1 => ⟨(y 1).val % 128, Nat.mod_lt _ (by decide)⟩ : S128x128.Idx)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem of_mem_pb21 (h : k0_cond2 i = 1#1) (X_arg12 : BufTy.Contents (Elt F) arg12.view.ty) (X_arg13 : BufTy.Contents (Elt F) arg13.view.ty) (X_arg14 : BufTy.Contents (Elt F) arg14.view.ty) (n : ℕ) (hn : n ≤ k0_t2_loop.trips) :
    (∀ p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 n).2, ∃ k : Fin k0_t2_loop.trips, p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k).2)
      ∧ ∀ k : Fin k0_t2_loop.trips, k.val < n → ∀ p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k).2, p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 n).2 := by
  induction n with
  | zero => exact ⟨fun p hp => absurd hp List.not_mem_nil, fun k hk => absurd hk (Nat.not_lt_zero _)⟩
  | succ n ih =>
    have e := pb_k0_t2_succ (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 ⟨n, hn⟩
    rw [show (⟨n, hn⟩ : Fin k0_t2_loop.trips).val = n from rfl] at e
    rw [e]
    obtain ⟨h1, h2⟩ := ih (by omega)
    refine ⟨fun p hp => (List.mem_append.mp hp).elim (fun h => ⟨_, h⟩) (h1 p), fun k hk p hp => ?_⟩
    by_cases hkn : k.val = n
    · obtain rfl : k = ⟨n, hn⟩ := Fin.ext hkn
      exact List.mem_append_left _ hp
    · exact List.mem_append_right _ (h2 k (by omega) p hp)

set_option maxHeartbeats 4000000 in
/-- After its fill the scratch reads the closed form, whatever it held before. -/
theorem fill21_read (h : k0_cond2 i = 1#1) (X_arg12 : BufTy.Contents (Elt F) arg12.view.ty) (X_arg13 : BufTy.Contents (Elt F) arg13.view.ty) (X_arg14 : BufTy.Contents (Elt F) arg14.view.ty) (f : BufTy.Contents (Elt F) arg21.view.ty) :
    arg21.view.read (Elt F) (arg21.view.writes (Elt F) f ((pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).2)) = fill21 (F := F) (arg12.view.read (Elt F) X_arg12) (arg14.view.read (Elt F) X_arg14) := by
  obtain ⟨h1, h2⟩ := of_mem_pb21 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips le_rfl
  have cov : ∀ y : S128x2048.Idx, ∃ p ∈ (pb_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 k0_t2_loop.trips).2, y ∈ p.1.set := by
    intro y
    have hd := Nat.div_add_mod (y 1).val 128
    have hm := Nat.mod_lt (y 1).val (show 0 < 128 by omega)
    have ho : (y 0).val < 128 := (y 0).isLt
    have hk : (chunk21 y).val = (y 1).val / 128 := rfl
    suffices hs : ∃ p ∈ (tripL_k0_t2 (F := F) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h X_arg12 X_arg13 X_arg14 (chunk21 y)).2, y ∈ p.1.set by
      obtain ⟨p, hp, hy⟩ := hs
      exact ⟨p, h2 _ (chunk21 y).isLt p hp, hy⟩
    unfold tripL_k0_t2 trip_k0_t2
    simp only [List.mem_cons, List.not_mem_nil, or_false, exists_eq_left, Rect.mem_set_unit, off8_eq]
    intro a
    fin_cases a
    · exact ⟨Nat.zero_le _, by show (y 0).val < 0 + 128; omega⟩
    · exact ⟨by show (chunk21 y).val * 128 ≤ (y 1).val; omega, by show (y 1).val < (chunk21 y).val * 128 + 128; omega⟩
  rw [View.read_writes_eq_canon _ _ _ cov]
  funext y
  refine View.canon_apply_of_pieces _ _ (fun p hp x => ?_) y (cov y)
  obtain ⟨k, hk⟩ := h1 p hp
  unfold tripL_k0_t2 trip_k0_t2 at hk
  simp only [List.mem_cons, List.not_mem_nil, or_false] at hk
  subst hk
  have e0 : ((Rect.unit (s := S128x2048) (k0_off8 k) S128x128.size (k0_off8_inb i k h)).emb x 1).val = k.val * 128 + (x 1).val := by
    have e : k0_off8 k 1 = k.val * 128 := by rw [off8_eq]; rfl
    rw [ValueKit.rect_emb_unit_val, e]
  have e1 : ((Rect.unit (s := S128x2048) (k0_off8 k) S128x128.size (k0_off8_inb i k h)).emb x 0).val = (x 0).val := by
    have e : k0_off8 k 0 = 0 := by rw [off8_eq]; rfl
    rw [ValueKit.rect_emb_unit_val, e, Nat.zero_add]
  have hx : (x 1).val < 128 := (x 1).isLt
  generalize (Rect.unit (s := S128x2048) (k0_off8 k) S128x128.size (k0_off8_inb i k h)).emb x = z at e0 e1
  have hc : chunk21 z = k := Fin.ext (by show (z 1).val / 128 = k.val; omega)
  subst hc
  unfold fill21
  refine congrArg _ (funext fun a => Fin.ext ?_)
  fin_cases a
  · show (x 0).val = (z 0).val; omega
  · show (x 1).val = (z 1).val % 128; omega

end

end Cert.Proof.KernelIdeal
-- ==== Proof.IDat.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import proofs.«01_k».proof.Proof.IFill

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the frame kit. -/
local notation "𝕄G" => MT nD τ sig Unit (Elt F) ℕ (UR sig nD τ) ℕ

/-! The run's data: what every staging buffer holds at every point, and the kernel body's obligation. -/

variable (W : Dev nD → Valuation τ sig (Elt F)) (a : (pcfg0 (F := F)).Adm)

/-- The windows' arrays at the region's entry. -/
abbrev arr0 (c : Dev nD) (w : Fin 13) : Buf (Elt F) (((cfg0 a).win w).arr.view.loc (c.tc : Thread nD τ)) := W c (Proc.devRef .tc (Pipeline.arrRef spec0 w))

/-- What an input window's staging buffer holds at a point: the block of the last fetch. -/
def hd (c : Dev nD) (w : Fin 13) (t : Fin (cfg0 a).N) : (spec0 w).block.Idx → Elt F (spec0 w).elt :=
  Pipeline.heldIn (cfg0 a) (arr0 W a c) w t.val t.isLt

def X5 (c : Dev nD) (t : Fin (cfg0 a).N) : (spec0_0.stage ((cfg0 a).slots t 0)).view.ty.Contents (Elt F) := (hstage0_0 (((cfg0 a).slots t 0).cast nbuf0_0)).unread (hd W a c 0 t)

def X6 (c : Dev nD) (t : Fin (cfg0 a).N) : (spec0_1.stage ((cfg0 a).slots t 1)).view.ty.Contents (Elt F) := (hstage0_1 (((cfg0 a).slots t 1).cast nbuf0_1)).unread (hd W a c 1 t)

def X7 (c : Dev nD) (t : Fin (cfg0 a).N) : (spec0_2.stage ((cfg0 a).slots t 2)).view.ty.Contents (Elt F) := (hstage0_2 (((cfg0 a).slots t 2).cast nbuf0_2)).unread (hd W a c 2 t)

def X8 (c : Dev nD) (t : Fin (cfg0 a).N) : (spec0_3.stage ((cfg0 a).slots t 3)).view.ty.Contents (Elt F) := (hstage0_3 (((cfg0 a).slots t 3).cast nbuf0_3)).unread (hd W a c 3 t)

def X9 (c : Dev nD) (t : Fin (cfg0 a).N) : (spec0_4.stage ((cfg0 a).slots t 4)).view.ty.Contents (Elt F) := (hstage0_4 (((cfg0 a).slots t 4).cast nbuf0_4)).unread (hd W a c 4 t)

def X10 (c : Dev nD) (t : Fin (cfg0 a).N) : (spec0_5.stage ((cfg0 a).slots t 5)).view.ty.Contents (Elt F) := (hstage0_5 (((cfg0 a).slots t 5).cast nbuf0_5)).unread (hd W a c 5 t)

def X11 (c : Dev nD) (t : Fin (cfg0 a).N) : (spec0_6.stage ((cfg0 a).slots t 6)).view.ty.Contents (Elt F) := (hstage0_6 (((cfg0 a).slots t 6).cast nbuf0_6)).unread (hd W a c 6 t)

def X12 (c : Dev nD) (t : Fin (cfg0 a).N) : (spec0_7.stage ((cfg0 a).slots t 7)).view.ty.Contents (Elt F) := (hstage0_7 (((cfg0 a).slots t 7).cast nbuf0_7)).unread (hd W a c 7 t)

def X13 (c : Dev nD) (t : Fin (cfg0 a).N) : (spec0_8.stage ((cfg0 a).slots t 8)).view.ty.Contents (Elt F) := (hstage0_8 (((cfg0 a).slots t 8).cast nbuf0_8)).unread (hd W a c 8 t)

def X14 (c : Dev nD) (t : Fin (cfg0 a).N) : (spec0_9.stage ((cfg0 a).slots t 9)).view.ty.Contents (Elt F) := (hstage0_9 (((cfg0 a).slots t 9).cast nbuf0_9)).unread (hd W a c 9 t)

/-- The scratch after point `t`: the fill of the blocks at hand. -/
def U18 (c : Dev nD) (t : Fin (cfg0 a).N) : (Memref.whole cc0_scratch0).view.ty.Contents (Elt F) :=
  (Memref.isWhole_whole cc0_scratch0).unread (fill18 (F := F) (hd W a c 4 t))

/-- The scratch after point `t`: the fill of the blocks at hand. -/
def U19 (c : Dev nD) (t : Fin (cfg0 a).N) : (Memref.whole cc0_scratch1).view.ty.Contents (Elt F) :=
  (Memref.isWhole_whole cc0_scratch1).unread (fill19 (F := F) (hd W a c 3 t) (hd W a c 5 t))

/-- The scratch after point `t`: the fill of the blocks at hand. -/
def U20 (c : Dev nD) (t : Fin (cfg0 a).N) : (Memref.whole cc0_scratch2).view.ty.Contents (Elt F) :=
  (Memref.isWhole_whole cc0_scratch2).unread (fill20 (F := F) (hd W a c 8 t))

/-- The scratch after point `t`: the fill of the blocks at hand. -/
def U21 (c : Dev nD) (t : Fin (cfg0 a).N) : (Memref.whole cc0_scratch3).view.ty.Contents (Elt F) :=
  (Memref.isWhole_whole cc0_scratch3).unread (fill21 (F := F) (hd W a c 7 t) (hd W a c 9 t))

variable (hle : (wordP (F := F) (Memref.whole main_arg10) (a.1 1)).toInt ≤ 14336)

/-- The pieces a point's sixteen tiles leave in the three output blocks. -/
def outs (c : Dev nD) (t : Fin (cfg0 a).N) :=
  pb_k0_t3 (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (BitVec.ofNat 32 (grid0.coords t 2).val)
    (wordL (F := F) (grid0.coords t) (Memref.whole main_arg11) (a.1 0)) (wordP (F := F) (Memref.whole main_arg10) (a.1 1)) (chk_of_le _ _ _ hle)
    (X5 W a c t) (X6 W a c t) (X7 W a c t) (X11 W a c t) (U18 W a c t) (U19 W a c t) (U20 W a c t) (U21 W a c t) k0_t3_loop.trips

/-- The tables whole. -/
def tabs (c : Dev nD) : sProp 𝕄G := Pipeline.prefHeld pre0 c (fun _ => fullShare) a.1

/-- The invariant before position `n`: the tables, and the scratch at the fills of the point before. -/
def PhiS (c : Dev nD) (n : ℕ) (hn : n ≤ (cfg0 a).N) : sProp 𝕄G :=
  iprop(tabs a c ∗ ∃ (f0 : (Memref.whole cc0_scratch0).view.ty.Contents (Elt F)) (f1 : (Memref.whole cc0_scratch1).view.ty.Contents (Elt F)) (f2 : (Memref.whole cc0_scratch2).view.ty.Contents (Elt F)) (f3 : (Memref.whole cc0_scratch3).view.ty.Contents (Elt F)),
    ⌜∀ k : Fin (cfg0 a).N, k.val + 1 = n → f0 = U18 W a c k ∧ f1 = U19 W a c k ∧ f2 = U20 W a c k ∧ f3 = U21 W a c k⌝
    ∗ ((Memref.whole cc0_scratch0).view.loc (c : Thread nD τ) ↦[(Memref.whole cc0_scratch0).view.set]{fullShare} f0) ∗ ((Memref.whole cc0_scratch1).view.loc (c : Thread nD τ) ↦[(Memref.whole cc0_scratch1).view.set]{fullShare} f1) ∗ ((Memref.whole cc0_scratch2).view.loc (c : Thread nD τ) ↦[(Memref.whole cc0_scratch2).view.set]{fullShare} f2) ∗ ((Memref.whole cc0_scratch3).view.loc (c : Thread nD τ) ↦[(Memref.whole cc0_scratch3).view.set]{fullShare} f3)
    ∗ ∃ f4 : (Memref.whole cc0_scratch4).view.ty.Contents (Elt F), ((Memref.whole cc0_scratch4).view.loc (c : Thread nD τ) ↦[(Memref.whole cc0_scratch4).view.set]{fullShare} f4))

/-- The pipeline's proof data. -/
def dats (_ : Fin 1) (c : Dev nD) : Pipeline.Dat τ (Elt F) Unit ℕ (UR sig nD τ) ℕ (cfg0 a) c where
  A w := arr0 W a c w
  after := fun
    | 0 => fun t => hd W a c 0 t
    | 1 => fun t => hd W a c 1 t
    | 2 => fun t => hd W a c 2 t
    | 3 => fun t => hd W a c 3 t
    | 4 => fun t => hd W a c 4 t
    | 5 => fun t => hd W a c 5 t
    | 6 => fun t => hd W a c 6 t
    | 7 => fun t => hd W a c 7 t
    | 8 => fun t => hd W a c 8 t
    | 9 => fun t => hd W a c 9 t
    | 10 => fun t => View.canon (outs W a hle c t).1
    | 11 => fun t => View.canon (outs W a hle c t).2.1
    | 12 => fun t => View.canon (outs W a hle c t).2.2
    | ⟨_ + 13, h⟩ => absurd h (Nat.not_lt.2 (Nat.le_add_left _ _))
  Φ t := PhiS W a c t.val (Nat.le_of_lt_succ t.isLt)
  q _ := fullShare
  owed _ := 0

theorem still3 : ∀ t : Fin grid0.N, ¬ k0_cond1 (grid0.coords t) = 1#1 →
    t.val ≠ 0 ∧ ∀ h, cc0_transform_3 (grid0.coords t) = cc0_transform_3 (grid0.coords ⟨t.val - 1, h⟩) := by
  decide +kernel

theorem quiet3 (t : Fin (cfg0 a).N) (h : ¬ k0_cond1 (grid0.coords t) = 1#1) : ((cfg0 a).win 3).fetch t = false := by
  obtain ⟨h0, h1⟩ := still3 t h
  refine Bool.eq_false_iff.mpr fun hf => ?_
  rcases (((cfg0 a).win 3).fetch_in rfl t).mp hf with h2 | ⟨h2, h3⟩
  · exact h0 h2
  · exact h3 (h1 _)

theorem hd_step3 (c : Dev nD) (k t : Fin (cfg0 a).N) (hk : k.val + 1 = t.val) (h : ¬ k0_cond1 (grid0.coords t) = 1#1) :
    hd W a c 3 k = hd W a c 3 t := by
  obtain ⟨n, hn⟩ := t
  obtain rfl : n = k.val + 1 := hk.symm
  exact (Pipeline.heldIn_of_not_fetch (cfg := cfg0 a) (arr0 W a c) 3 k.val hn (quiet3 a _ h)).symm

theorem still4 : ∀ t : Fin grid0.N, ¬ k0_cond1 (grid0.coords t) = 1#1 →
    t.val ≠ 0 ∧ ∀ h, cc0_transform_4 (grid0.coords t) = cc0_transform_4 (grid0.coords ⟨t.val - 1, h⟩) := by
  decide +kernel

theorem quiet4 (t : Fin (cfg0 a).N) (h : ¬ k0_cond1 (grid0.coords t) = 1#1) : ((cfg0 a).win 4).fetch t = false := by
  obtain ⟨h0, h1⟩ := still4 t h
  refine Bool.eq_false_iff.mpr fun hf => ?_
  rcases (((cfg0 a).win 4).fetch_in rfl t).mp hf with h2 | ⟨h2, h3⟩
  · exact h0 h2
  · exact h3 (h1 _)

theorem hd_step4 (c : Dev nD) (k t : Fin (cfg0 a).N) (hk : k.val + 1 = t.val) (h : ¬ k0_cond1 (grid0.coords t) = 1#1) :
    hd W a c 4 k = hd W a c 4 t := by
  obtain ⟨n, hn⟩ := t
  obtain rfl : n = k.val + 1 := hk.symm
  exact (Pipeline.heldIn_of_not_fetch (cfg := cfg0 a) (arr0 W a c) 4 k.val hn (quiet4 a _ h)).symm

theorem still5 : ∀ t : Fin grid0.N, ¬ k0_cond1 (grid0.coords t) = 1#1 →
    t.val ≠ 0 ∧ ∀ h, cc0_transform_5 (grid0.coords t) = cc0_transform_5 (grid0.coords ⟨t.val - 1, h⟩) := by
  decide +kernel

theorem quiet5 (t : Fin (cfg0 a).N) (h : ¬ k0_cond1 (grid0.coords t) = 1#1) : ((cfg0 a).win 5).fetch t = false := by
  obtain ⟨h0, h1⟩ := still5 t h
  refine Bool.eq_false_iff.mpr fun hf => ?_
  rcases (((cfg0 a).win 5).fetch_in rfl t).mp hf with h2 | ⟨h2, h3⟩
  · exact h0 h2
  · exact h3 (h1 _)

theorem hd_step5 (c : Dev nD) (k t : Fin (cfg0 a).N) (hk : k.val + 1 = t.val) (h : ¬ k0_cond1 (grid0.coords t) = 1#1) :
    hd W a c 5 k = hd W a c 5 t := by
  obtain ⟨n, hn⟩ := t
  obtain rfl : n = k.val + 1 := hk.symm
  exact (Pipeline.heldIn_of_not_fetch (cfg := cfg0 a) (arr0 W a c) 5 k.val hn (quiet5 a _ h)).symm

theorem still7 : ∀ t : Fin grid0.N, ¬ k0_cond2 (grid0.coords t) = 1#1 →
    t.val ≠ 0 ∧ ∀ h, cc0_transform_7 (grid0.coords t) = cc0_transform_7 (grid0.coords ⟨t.val - 1, h⟩) := by
  decide +kernel

theorem quiet7 (t : Fin (cfg0 a).N) (h : ¬ k0_cond2 (grid0.coords t) = 1#1) : ((cfg0 a).win 7).fetch t = false := by
  obtain ⟨h0, h1⟩ := still7 t h
  refine Bool.eq_false_iff.mpr fun hf => ?_
  rcases (((cfg0 a).win 7).fetch_in rfl t).mp hf with h2 | ⟨h2, h3⟩
  · exact h0 h2
  · exact h3 (h1 _)

theorem hd_step7 (c : Dev nD) (k t : Fin (cfg0 a).N) (hk : k.val + 1 = t.val) (h : ¬ k0_cond2 (grid0.coords t) = 1#1) :
    hd W a c 7 k = hd W a c 7 t := by
  obtain ⟨n, hn⟩ := t
  obtain rfl : n = k.val + 1 := hk.symm
  exact (Pipeline.heldIn_of_not_fetch (cfg := cfg0 a) (arr0 W a c) 7 k.val hn (quiet7 a _ h)).symm

theorem still8 : ∀ t : Fin grid0.N, ¬ k0_cond2 (grid0.coords t) = 1#1 →
    t.val ≠ 0 ∧ ∀ h, cc0_transform_8 (grid0.coords t) = cc0_transform_8 (grid0.coords ⟨t.val - 1, h⟩) := by
  decide +kernel

theorem quiet8 (t : Fin (cfg0 a).N) (h : ¬ k0_cond2 (grid0.coords t) = 1#1) : ((cfg0 a).win 8).fetch t = false := by
  obtain ⟨h0, h1⟩ := still8 t h
  refine Bool.eq_false_iff.mpr fun hf => ?_
  rcases (((cfg0 a).win 8).fetch_in rfl t).mp hf with h2 | ⟨h2, h3⟩
  · exact h0 h2
  · exact h3 (h1 _)

theorem hd_step8 (c : Dev nD) (k t : Fin (cfg0 a).N) (hk : k.val + 1 = t.val) (h : ¬ k0_cond2 (grid0.coords t) = 1#1) :
    hd W a c 8 k = hd W a c 8 t := by
  obtain ⟨n, hn⟩ := t
  obtain rfl : n = k.val + 1 := hk.symm
  exact (Pipeline.heldIn_of_not_fetch (cfg := cfg0 a) (arr0 W a c) 8 k.val hn (quiet8 a _ h)).symm

theorem still9 : ∀ t : Fin grid0.N, ¬ k0_cond2 (grid0.coords t) = 1#1 →
    t.val ≠ 0 ∧ ∀ h, cc0_transform_9 (grid0.coords t) = cc0_transform_9 (grid0.coords ⟨t.val - 1, h⟩) := by
  decide +kernel

theorem quiet9 (t : Fin (cfg0 a).N) (h : ¬ k0_cond2 (grid0.coords t) = 1#1) : ((cfg0 a).win 9).fetch t = false := by
  obtain ⟨h0, h1⟩ := still9 t h
  refine Bool.eq_false_iff.mpr fun hf => ?_
  rcases (((cfg0 a).win 9).fetch_in rfl t).mp hf with h2 | ⟨h2, h3⟩
  · exact h0 h2
  · exact h3 (h1 _)

theorem hd_step9 (c : Dev nD) (k t : Fin (cfg0 a).N) (hk : k.val + 1 = t.val) (h : ¬ k0_cond2 (grid0.coords t) = 1#1) :
    hd W a c 9 k = hd W a c 9 t := by
  obtain ⟨n, hn⟩ := t
  obtain rfl : n = k.val + 1 := hk.symm
  exact (Pipeline.heldIn_of_not_fetch (cfg := cfg0 a) (arr0 W a c) 9 k.val hn (quiet9 a _ h)).symm

theorem first1 : ∀ t : Fin grid0.N, ¬ k0_cond1 (grid0.coords t) = 1#1 → 0 < t.val := by
  decide +kernel

theorem first2 : ∀ t : Fin grid0.N, ¬ k0_cond2 (grid0.coords t) = 1#1 → 0 < t.val := by
  decide +kernel

theorem scr18_eq (c : Dev nD) (t : Fin (cfg0 a).N) (f : (Memref.whole cc0_scratch0).view.ty.Contents (Elt F))
    (hf : ∀ k : Fin (cfg0 a).N, k.val + 1 = t.val → f = U18 W a c k) :
    scr18 (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (X8 W a c t) (X9 W a c t) (X10 W a c t) f = U18 W a c t := by
  unfold scr18
  split
  · rename_i h
    refine Memref.IsWhole.eq_unread (Memref.isWhole_whole cc0_scratch0) ?_
    refine (fill18_read (F := F) c (grid0.coords t) _ _ _ _ _ _ _ _ _ _ _ _ _ _ _ _ _ _ _ _ _ _ _ _ _ _ _ _ _ _ _ _ _ _ _ _ _ _ _ _ h (X8 W a c t) (X9 W a c t) (X10 W a c t) f).trans ?_
    exact congrArg (fill18 (F := F)) (Memref.IsWhole.read_unread _ _)
  · rename_i h
    have h0 := first1 t h
    have hk : (⟨t.val - 1, lt_of_le_of_lt (Nat.sub_le _ _) t.isLt⟩ : Fin (cfg0 a).N).val + 1 = t.val := by show t.val - 1 + 1 = t.val; omega
    rw [hf ⟨t.val - 1, lt_of_le_of_lt (Nat.sub_le _ _) t.isLt⟩ hk]
    unfold U18
    rw [hd_step4 W a c _ t hk h]

theorem scr19_eq (c : Dev nD) (t : Fin (cfg0 a).N) (f : (Memref.whole cc0_scratch1).view.ty.Contents (Elt F))
    (hf : ∀ k : Fin (cfg0 a).N, k.val + 1 = t.val → f = U19 W a c k) :
    scr19 (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (X8 W a c t) (X9 W a c t) (X10 W a c t) f = U19 W a c t := by
  unfold scr19
  split
  · rename_i h
    refine Memref.IsWhole.eq_unread (Memref.isWhole_whole cc0_scratch1) ?_
    refine (fill19_read (F := F) c (grid0.coords t) _ _ _ _ _ _ _ _ _ _ _ _ _ _ _ _ _ _ _ _ _ _ _ _ _ _ _ _ _ _ _ _ _ _ _ _ _ _ _ _ h (X8 W a c t) (X9 W a c t) (X10 W a c t) f).trans ?_
    exact congrArg₂ (fill19 (F := F)) (Memref.IsWhole.read_unread _ _) (Memref.IsWhole.read_unread _ _)
  · rename_i h
    have h0 := first1 t h
    have hk : (⟨t.val - 1, lt_of_le_of_lt (Nat.sub_le _ _) t.isLt⟩ : Fin (cfg0 a).N).val + 1 = t.val := by show t.val - 1 + 1 = t.val; omega
    rw [hf ⟨t.val - 1, lt_of_le_of_lt (Nat.sub_le _ _) t.isLt⟩ hk]
    unfold U19
    rw [hd_step3 W a c _ t hk h, hd_step5 W a c _ t hk h]

theorem scr20_eq (c : Dev nD) (t : Fin (cfg0 a).N) (f : (Memref.whole cc0_scratch2).view.ty.Contents (Elt F))
    (hf : ∀ k : Fin (cfg0 a).N, k.val + 1 = t.val → f = U20 W a c k) :
    scr20 (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (X12 W a c t) (X13 W a c t) (X14 W a c t) f = U20 W a c t := by
  unfold scr20
  split
  · rename_i h
    refine Memref.IsWhole.eq_unread (Memref.isWhole_whole cc0_scratch2) ?_
    refine (fill20_read (F := F) c (grid0.coords t) _ _ _ _ _ _ _ _ _ _ _ _ _ _ _ _ _ _ _ _ _ _ _ _ _ _ _ _ _ _ _ _ _ _ _ _ _ _ _ _ h (X12 W a c t) (X13 W a c t) (X14 W a c t) f).trans ?_
    exact congrArg (fill20 (F := F)) (Memref.IsWhole.read_unread _ _)
  · rename_i h
    have h0 := first2 t h
    have hk : (⟨t.val - 1, lt_of_le_of_lt (Nat.sub_le _ _) t.isLt⟩ : Fin (cfg0 a).N).val + 1 = t.val := by show t.val - 1 + 1 = t.val; omega
    rw [hf ⟨t.val - 1, lt_of_le_of_lt (Nat.sub_le _ _) t.isLt⟩ hk]
    unfold U20
    rw [hd_step8 W a c _ t hk h]

theorem scr21_eq (c : Dev nD) (t : Fin (cfg0 a).N) (f : (Memref.whole cc0_scratch3).view.ty.Contents (Elt F))
    (hf : ∀ k : Fin (cfg0 a).N, k.val + 1 = t.val → f = U21 W a c k) :
    scr21 (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (X12 W a c t) (X13 W a c t) (X14 W a c t) f = U21 W a c t := by
  unfold scr21
  split
  · rename_i h
    refine Memref.IsWhole.eq_unread (Memref.isWhole_whole cc0_scratch3) ?_
    refine (fill21_read (F := F) c (grid0.coords t) _ _ _ _ _ _ _ _ _ _ _ _ _ _ _ _ _ _ _ _ _ _ _ _ _ _ _ _ _ _ _ _ _ _ _ _ _ _ _ _ h (X12 W a c t) (X13 W a c t) (X14 W a c t) f).trans ?_
    exact congrArg₂ (fill21 (F := F)) (Memref.IsWhole.read_unread _ _) (Memref.IsWhole.read_unread _ _)
  · rename_i h
    have h0 := first2 t h
    have hk : (⟨t.val - 1, lt_of_le_of_lt (Nat.sub_le _ _) t.isLt⟩ : Fin (cfg0 a).N).val + 1 = t.val := by show t.val - 1 + 1 = t.val; omega
    rw [hf ⟨t.val - 1, lt_of_le_of_lt (Nat.sub_le _ _) t.isLt⟩ hk]
    unfold U21
    rw [hd_step7 W a c _ t hk h, hd_step9 W a c _ t hk h]

theorem before0 (c : Dev nD) (t : Fin (cfg0 a).N) (d) : (dats W a hle 0 c).before 0 t d = hd W a c 0 t :=
  Pipeline.Dat.before_eq_heldIn (dats W a hle 0 c) 0 rfl (fun _ => rfl) (fun _ _ => rfl) (fun _ => rfl) t d

theorem before1 (c : Dev nD) (t : Fin (cfg0 a).N) (d) : (dats W a hle 0 c).before 1 t d = hd W a c 1 t :=
  Pipeline.Dat.before_eq_heldIn (dats W a hle 0 c) 1 rfl (fun _ => rfl) (fun _ _ => rfl) (fun _ => rfl) t d

theorem before2 (c : Dev nD) (t : Fin (cfg0 a).N) (d) : (dats W a hle 0 c).before 2 t d = hd W a c 2 t :=
  Pipeline.Dat.before_eq_heldIn (dats W a hle 0 c) 2 rfl (fun _ => rfl) (fun _ _ => rfl) (fun _ => rfl) t d

theorem before3 (c : Dev nD) (t : Fin (cfg0 a).N) (d) : (dats W a hle 0 c).before 3 t d = hd W a c 3 t :=
  Pipeline.Dat.before_eq_heldIn (dats W a hle 0 c) 3 rfl (fun _ => rfl) (fun _ _ => rfl) (fun _ => rfl) t d

theorem before4 (c : Dev nD) (t : Fin (cfg0 a).N) (d) : (dats W a hle 0 c).before 4 t d = hd W a c 4 t :=
  Pipeline.Dat.before_eq_heldIn (dats W a hle 0 c) 4 rfl (fun _ => rfl) (fun _ _ => rfl) (fun _ => rfl) t d

theorem before5 (c : Dev nD) (t : Fin (cfg0 a).N) (d) : (dats W a hle 0 c).before 5 t d = hd W a c 5 t :=
  Pipeline.Dat.before_eq_heldIn (dats W a hle 0 c) 5 rfl (fun _ => rfl) (fun _ _ => rfl) (fun _ => rfl) t d

theorem before6 (c : Dev nD) (t : Fin (cfg0 a).N) (d) : (dats W a hle 0 c).before 6 t d = hd W a c 6 t :=
  Pipeline.Dat.before_eq_heldIn (dats W a hle 0 c) 6 rfl (fun _ => rfl) (fun _ _ => rfl) (fun _ => rfl) t d

theorem before7 (c : Dev nD) (t : Fin (cfg0 a).N) (d) : (dats W a hle 0 c).before 7 t d = hd W a c 7 t :=
  Pipeline.Dat.before_eq_heldIn (dats W a hle 0 c) 7 rfl (fun _ => rfl) (fun _ _ => rfl) (fun _ => rfl) t d

theorem before8 (c : Dev nD) (t : Fin (cfg0 a).N) (d) : (dats W a hle 0 c).before 8 t d = hd W a c 8 t :=
  Pipeline.Dat.before_eq_heldIn (dats W a hle 0 c) 8 rfl (fun _ => rfl) (fun _ _ => rfl) (fun _ => rfl) t d

theorem before9 (c : Dev nD) (t : Fin (cfg0 a).N) (d) : (dats W a hle 0 c).before 9 t d = hd W a c 9 t :=
  Pipeline.Dat.before_eq_heldIn (dats W a hle 0 c) 9 rfl (fun _ => rfl) (fun _ _ => rfl) (fun _ => rfl) t d

end Cert.Proof.KernelIdeal
-- ==== Proof.IObl.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Pipeline.FrameSuffix
public import Idealize.ShloMosaic.Lib.Pipeline.RegionArraysT
public import proofs.«01_k».proof.Proof.IDat

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the frame kit. -/
local notation "𝕄G" => MT nD τ sig Unit (Elt F) ℕ (UR sig nD τ) ℕ

variable (W : Dev nD → Valuation τ sig (Elt F)) (a : (pcfg0 (F := F)).Adm)
variable (hle : (wordP (F := F) (Memref.whole main_arg10) (a.1 1)).toInt ≤ 14336)

/-- The tables one by one. -/
theorem tabs_eq (c : Dev nD) : tabs a c = iprop(((Memref.whole main_arg11).view.loc (c : Thread nD τ) ↦[(Memref.whole main_arg11).view.set]{fullShare} (a.1 0))
    ∗ ((Memref.whole main_arg10).view.loc (c : Thread nD τ) ↦[(Memref.whole main_arg10).view.set]{fullShare} (a.1 1))) := by
  unfold tabs Pipeline.prefHeld
  rw [bigSep_univ_eq_bigSepL [(0 : Fin 2), (1 : Fin 2)] (by decide) (by decide)]
  simp only [Memref.view_whole, View.set_whole]
  rfl

set_option maxHeartbeats 4000000 in
theorem body_obligation (c : Dev nD) : Pipeline.BodyObligation (dats W a hle 0 c) (defs₀ (F := F)) 𝒱₀ () Set.univ := fun t => by
  rw [bigSep_W0, bigSep_W0]
  rw [show (dats W a hle 0 c).Φ t.castSucc = PhiS W a c t.val (Nat.le_of_lt t.isLt) from Pipeline.Dat.Φ_castSucc (PhiS W a c) t,
    show (dats W a hle 0 c).Φ t.succ = PhiS W a c (t.val + 1) t.isLt from rfl]
  unfold PhiS Pipeline.Dat.owesAt Pipeline.owesWithin owns
  rw [show (dats W a hle 0 c).owed t.castSucc = 0 from rfl, show (dats W a hle 0 c).owed t.succ = 0 from rfl, tabs_eq]
  iintro ⟨⟨⟨HT0, HT1⟩, ⟨%f0, %f1, %f2, %f3, %hf, Hs0, Hs1, Hs2, Hs3, ⟨%f4, Hs4⟩⟩⟩, ⟨%Wd, %hWd, HO⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩, ⟨%d9, %g9, %e9, H9⟩, ⟨%d10, %g10, %e10, H10⟩, ⟨%d11, %g11, %e11, H11⟩, ⟨%d12, %g12, %e12, H12⟩⟩
  rw [before0 W a hle c t d0] at e0
  obtain rfl : g0 = X5 W a c t := Memref.IsWhole.eq_unread (hstage0_0 (((cfg0 a).slots t 0).cast nbuf0_0)) e0
  rw [before1 W a hle c t d1] at e1
  obtain rfl : g1 = X6 W a c t := Memref.IsWhole.eq_unread (hstage0_1 (((cfg0 a).slots t 1).cast nbuf0_1)) e1
  rw [before2 W a hle c t d2] at e2
  obtain rfl : g2 = X7 W a c t := Memref.IsWhole.eq_unread (hstage0_2 (((cfg0 a).slots t 2).cast nbuf0_2)) e2
  rw [before3 W a hle c t d3] at e3
  obtain rfl : g3 = X8 W a c t := Memref.IsWhole.eq_unread (hstage0_3 (((cfg0 a).slots t 3).cast nbuf0_3)) e3
  rw [before4 W a hle c t d4] at e4
  obtain rfl : g4 = X9 W a c t := Memref.IsWhole.eq_unread (hstage0_4 (((cfg0 a).slots t 4).cast nbuf0_4)) e4
  rw [before5 W a hle c t d5] at e5
  obtain rfl : g5 = X10 W a c t := Memref.IsWhole.eq_unread (hstage0_5 (((cfg0 a).slots t 5).cast nbuf0_5)) e5
  rw [before6 W a hle c t d6] at e6
  obtain rfl : g6 = X11 W a c t := Memref.IsWhole.eq_unread (hstage0_6 (((cfg0 a).slots t 6).cast nbuf0_6)) e6
  rw [before7 W a hle c t d7] at e7
  obtain rfl : g7 = X12 W a c t := Memref.IsWhole.eq_unread (hstage0_7 (((cfg0 a).slots t 7).cast nbuf0_7)) e7
  rw [before8 W a hle c t d8] at e8
  obtain rfl : g8 = X13 W a c t := Memref.IsWhole.eq_unread (hstage0_8 (((cfg0 a).slots t 8).cast nbuf0_8)) e8
  rw [before9 W a hle c t d9] at e9
  obtain rfl : g9 = X14 W a c t := Memref.IsWhole.eq_unread (hstage0_9 (((cfg0 a).slots t 9).cast nbuf0_9)) e9
  ihave HW := (bodyRun (F := F) c (grid0.coords t) (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (a.1 0) (a.1 1) (X5 W a c t) (X6 W a c t) (X7 W a c t) (X8 W a c t) (X9 W a c t) (X10 W a c t) (X11 W a c t) (X12 W a c t) (X13 W a c t) (X14 W a c t) g10 g11 g12 f0 f1 f2 f3 f4 hle) $$ [HT0 HT1 H0 H1 H2 H3 H4 H5 H6 H7 H8 H9 H10 H11 H12 Hs0 Hs1 Hs2 Hs3 Hs4]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [Hs0]; · iexact Hs0
    isplitl [Hs1]; · iexact Hs1
    isplitl [Hs2]; · iexact Hs2
    isplitl [Hs3]; · iexact Hs3
    iexact Hs4
  iapply (wp_wand_r frame _ _)
  isplitl [HW]; · iexact HW
  rw [scr18_eq W a c t f0 (fun k hk => (hf k hk).1), scr19_eq W a c t f1 (fun k hk => (hf k hk).2.1), scr20_eq W a c t f2 (fun k hk => (hf k hk).2.2.1), scr21_eq W a c t f3 (fun k hk => (hf k hk).2.2.2)]
  iintro %_ ⟨HT0, HT1, H0, H1, H2, H3, H4, H5, H6, H7, H8, H9, H10, H11, H12, Hs0, Hs1, Hs2, Hs3, ⟨%g4, Hs4⟩⟩
  isplitl [HT0 HT1 Hs0 Hs1 Hs2 Hs3 Hs4]
  · isplitl [HT0 HT1]
    · isplitl [HT0]; · iexact HT0
      iexact HT1
    iexists _, _, _, _
    isplitr
    · ipureintro
      intro k hk
      obtain rfl : k = t := Fin.ext (by omega)
      exact ⟨rfl, rfl, rfl, rfl⟩
    isplitl [Hs0]; · iexact Hs0
    isplitl [Hs1]; · iexact Hs1
    isplitl [Hs2]; · iexact Hs2
    isplitl [Hs3]; · iexact Hs3
    iexists _; iexact Hs4
  isplitl [HO]
  · iexists Wd; isplitr; · ipureintro; exact fun _ _ => Or.inl trivial
    iexact HO
  isplitl [H0]
  · iexists _; isplitr; swap; (· iexact H0); ipureintro; exact Memref.IsWhole.read_unread (hstage0_0 (((cfg0 a).slots t 0).cast nbuf0_0)) _
  isplitl [H1]
  · iexists _; isplitr; swap; (· iexact H1); ipureintro; exact Memref.IsWhole.read_unread (hstage0_1 (((cfg0 a).slots t 1).cast nbuf0_1)) _
  isplitl [H2]
  · iexists _; isplitr; swap; (· iexact H2); ipureintro; exact Memref.IsWhole.read_unread (hstage0_2 (((cfg0 a).slots t 2).cast nbuf0_2)) _
  isplitl [H3]
  · iexists _; isplitr; swap; (· iexact H3); ipureintro; exact Memref.IsWhole.read_unread (hstage0_3 (((cfg0 a).slots t 3).cast nbuf0_3)) _
  isplitl [H4]
  · iexists _; isplitr; swap; (· iexact H4); ipureintro; exact Memref.IsWhole.read_unread (hstage0_4 (((cfg0 a).slots t 4).cast nbuf0_4)) _
  isplitl [H5]
  · iexists _; isplitr; swap; (· iexact H5); ipureintro; exact Memref.IsWhole.read_unread (hstage0_5 (((cfg0 a).slots t 5).cast nbuf0_5)) _
  isplitl [H6]
  · iexists _; isplitr; swap; (· iexact H6); ipureintro; exact Memref.IsWhole.read_unread (hstage0_6 (((cfg0 a).slots t 6).cast nbuf0_6)) _
  isplitl [H7]
  · iexists _; isplitr; swap; (· iexact H7); ipureintro; exact Memref.IsWhole.read_unread (hstage0_7 (((cfg0 a).slots t 7).cast nbuf0_7)) _
  isplitl [H8]
  · iexists _; isplitr; swap; (· iexact H8); ipureintro; exact Memref.IsWhole.read_unread (hstage0_8 (((cfg0 a).slots t 8).cast nbuf0_8)) _
  isplitl [H9]
  · iexists _; isplitr; swap; (· iexact H9); ipureintro; exact Memref.IsWhole.read_unread (hstage0_9 (((cfg0 a).slots t 9).cast nbuf0_9)) _
  isplitl [H10]
  · iexists _; isplitr; swap; (· iexact H10); ipureintro; exact View.read_writes_eq_canon _ _ _ (cover15 (F := F) _ _ (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _ _ _ _ _ _ _ _ _ _ _ _)
  isplitl [H11]
  · iexists _; isplitr; swap; (· iexact H11); ipureintro; exact View.read_writes_eq_canon _ _ _ (cover16 (F := F) _ _ (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _ _ _ _ _ _ _ _ _ _ _ _)
  iexists _; isplitr; swap; (· iexact H12); ipureintro; exact View.read_writes_eq_canon _ _ _ (cover17 (F := F) _ _ (Memref.whole main_arg11) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _ _ _ _ _ _ _ _ _ _ _ _)

end Cert.Proof.KernelIdeal
-- ==== Proof.IRun.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Pipeline.FrameTail
public import Idealize.ShloMosaic.Lib.Pipeline.RegionArraysTS
public import proofs.«01_k».proof.Proof.IObl

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the frame kit. -/
local notation "𝕄G" => MT nD τ sig Unit (Elt F) ℕ (UR sig nD τ) ℕ

open Idealize.ShloMosaic.Rounds
open Idealize.ShloMosaic.Pipeline (ucRefs)

variable (m : (ℓ : Loc nD τ sig) → Buf (Elt F) ℓ) (ρ : Dev nD → PrngReg)

/-- Core `c`'s buffers at launch. -/
abbrev V0 (c : Dev nD) : Valuation τ sig (Elt F) := fun b => m (c, b)
/-- Core `c`'s buffers when the region is entered: the host operations before it have run. -/
def W1 (c : Dev nD) : Valuation τ sig (Elt F) := StableHlo.after hostOps0 (V0 m c)

/-- No host operation writes an argument. -/
def ArgRef (b : Ref sig .tc) : Prop :=
  b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11

instance (b : Ref sig .tc) : Decidable (ArgRef b) := by unfold ArgRef; infer_instance

/-- A reference that is no argument's. -/
theorem ne_of_arg {b x : Ref sig .tc} (h : ArgRef b) (hx : ¬ ArgRef x) : b ≠ x := fun e => hx (e ▸ h)

set_option maxHeartbeats 2000000 in
theorem kept0 (b : Ref sig .tc) (h : ArgRef b) : ∀ op ∈ (hostOps0 (F := F)), Proc.devRef .tc b ∉ op.writes := by
  intro op hop
  simp only [List.mem_cons, List.mem_nil_iff, or_false] at hop
  rcases hop with rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (ne_of_arg h (by decide))

set_option maxHeartbeats 2000000 in
theorem kept1 (b : Ref sig .tc) (h : ArgRef b) : ∀ op ∈ (hostOps1 (F := F)), Proc.devRef .tc b ∉ op.writes := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl <;>
    simp only [StableHlo.TRef.unary, StableHlo.TRef.ternary, StableHlo.unary_writes, StableHlo.binary_writes, StableHlo.nullary_writes, StableHlo.ternary_writes, StableHlo.reshape_writes, Finset.mem_singleton] <;>
    exact StableHlo.devRef_ne_of_ne (ne_of_arg h (by decide))

set_option maxHeartbeats 2000000 in
theorem kept1_1 (b : Ref sig .tc) (h : ArgRef b) : ∀ op ∈ (hostOps1_1 (F := F)), Proc.devRef .tc b ∉ op.writes := by
  intro op hop
  simp only [List.mem_cons, List.mem_nil_iff, or_false] at hop
  rcases hop with rfl | rfl | rfl | rfl <;>
    simp only [StableHlo.TRef.unary, StableHlo.TRef.ternary, StableHlo.unary_writes, StableHlo.binary_writes, StableHlo.nullary_writes, StableHlo.ternary_writes, StableHlo.reshape_writes, Finset.mem_singleton] <;>
    exact StableHlo.devRef_ne_of_ne (ne_of_arg h (by decide))

set_option maxHeartbeats 2000000 in
theorem kept1_2 (b : Ref sig .tc) (h : ArgRef b) : ∀ op ∈ (hostOps1_2 (F := F)), Proc.devRef .tc b ∉ op.writes := by
  intro op hop
  simp only [List.mem_cons, List.mem_nil_iff, or_false] at hop
  rcases hop with rfl | rfl | rfl | rfl | rfl | rfl <;>
    simp only [StableHlo.TRef.unary, StableHlo.TRef.ternary, StableHlo.unary_writes, StableHlo.binary_writes, StableHlo.nullary_writes, StableHlo.ternary_writes, StableHlo.reshape_writes, Finset.mem_singleton] <;>
    exact StableHlo.devRef_ne_of_ne (ne_of_arg h (by decide))

set_option maxHeartbeats 2000000 in
theorem kept1_3 (b : Ref sig .tc) (h : ArgRef b) : ∀ op ∈ (hostOps1_3 (F := F)), Proc.devRef .tc b ∉ op.writes := by
  intro op hop
  simp only [List.mem_cons, List.mem_nil_iff, or_false] at hop
  rcases hop with rfl | rfl | rfl | rfl <;>
    simp only [StableHlo.TRef.unary, StableHlo.TRef.ternary, StableHlo.unary_writes, StableHlo.binary_writes, StableHlo.nullary_writes, StableHlo.ternary_writes, StableHlo.reshape_writes, Finset.mem_singleton] <;>
    exact StableHlo.devRef_ne_of_ne (ne_of_arg h (by decide))

/-- The arguments reach the region as launched. -/
theorem W1_arg (c : Dev nD) (b : Ref sig .tc) (h : ArgRef b) : W1 m c (Proc.devRef .tc b) = m ((c : Thread nD τ).loc b) :=
  StableHlo.after_of_forall_not_mem (b := Proc.devRef .tc b) hostOps0 (V0 m c) (kept0 b h)

/-- The prefetched tables' contents: the two argument tables as the region finds them. -/
def adm0 : (pcfg0 (F := F)).Adm := ⟨fun k => W1 m 0 (Proc.devRef .tc (pre0.ref k)), show ok0 (F := F) (fun k => W1 m 0 (Proc.devRef .tc (pre0.ref k))) from trivial⟩
abbrev adm : (p : Fin 1) → (pcfgs (F := F) p).Adm := fun _ => adm0 m

/-- The kernel's precondition, as the word the kernel reads. -/
def Fits : Prop := (wordP (F := F) (Memref.whole main_arg10) ((adm0 m).1 1)).toInt ≤ 14336

variable (hle : Fits m)

/-- The proof data at the launch. -/
abbrev datsL : (p : Fin 1) → (c : Dev nD) → Pipeline.Dat τ (Elt F) Unit ℕ (UR sig nD τ) ℕ (Pipeline.pin (pcfgs (F := F)) (adm m) p) c :=
  fun p c => dats (W1 m) (adm0 m) hle p c

/-- A level per staging cell; nothing is owed. -/
def LL : GSem nD τ sig → Finset Unit := fun g => if g.1.2 = .tc then {()} else ∅
def lvl : GSem nD τ sig → Unit → ℕ := fun _ _ => 0

/-- What rides beside the buffers: the core's debts, none. -/
abbrev RR (c : Dev nD) : sProp 𝕄G := iprop(∃ W, owes (c : Thread nD τ) (0 : CellTallies nD τ sig Unit) W)

theorem fresh_nil {ops : List (HloOp τ sig (Elt F))} (h : ops.Forall fun op => op.fresh = ∅) : ∀ op ∈ ops, op.fresh = ∅ := List.forall_iff_forall_mem.mp h

/-- Host operations `hostOps0` as a segment. -/
def seg0 (V : Dev nD → Valuation τ sig (Elt F)) : Pipeline.HostSeg (Name := ℕ) (U := UR sig nD τ) (pcfgs (F := F)) (defs₀ (F := F)) 𝒱₀ LL lvl :=
  Pipeline.HostSeg.ofOps _ _ _ _ _ (ucRefs τ sig) hostOps0 (fun op h => Pipeline.sub_ucRefs op ((List.forall_iff_forall_mem.mp hostOps0_sub) op h))
    (by intro _ h; (repeat (cases h with | head => rfl | tail _ h => ?_)); exact nomatch h) V RR

/-- Host operations `hostOps1` as a segment. -/
def seg1 (V : Dev nD → Valuation τ sig (Elt F)) : Pipeline.HostSeg (Name := ℕ) (U := UR sig nD τ) (pcfgs (F := F)) (defs₀ (F := F)) 𝒱₀ LL lvl :=
  Pipeline.HostSeg.ofOps _ _ _ _ _ (ucRefs τ sig) hostOps1 (fun op h => Pipeline.sub_ucRefs op ((List.forall_iff_forall_mem.mp hostOps1_sub) op h))
    (by intro _ h; (repeat (cases h with | head => rfl | tail _ h => ?_)); exact nomatch h) V RR

/-- Host operations `hostOps1_1` as a segment. -/
def seg1_1 (V : Dev nD → Valuation τ sig (Elt F)) : Pipeline.HostSeg (Name := ℕ) (U := UR sig nD τ) (pcfgs (F := F)) (defs₀ (F := F)) 𝒱₀ LL lvl :=
  Pipeline.HostSeg.ofOps _ _ _ _ _ (ucRefs τ sig) hostOps1_1 (fun op h => Pipeline.sub_ucRefs op ((List.forall_iff_forall_mem.mp hostOps1_1_sub) op h))
    (by intro _ h; (repeat (cases h with | head => rfl | tail _ h => ?_)); exact nomatch h) V RR

/-- Host operations `hostOps1_2` as a segment. -/
def seg1_2 (V : Dev nD → Valuation τ sig (Elt F)) : Pipeline.HostSeg (Name := ℕ) (U := UR sig nD τ) (pcfgs (F := F)) (defs₀ (F := F)) 𝒱₀ LL lvl :=
  Pipeline.HostSeg.ofOps _ _ _ _ _ (ucRefs τ sig) hostOps1_2 (fun op h => Pipeline.sub_ucRefs op ((List.forall_iff_forall_mem.mp hostOps1_2_sub) op h))
    (by intro _ h; (repeat (cases h with | head => rfl | tail _ h => ?_)); exact nomatch h) V RR

/-- Host operations `hostOps1_3` as a segment. -/
def seg1_3 (V : Dev nD → Valuation τ sig (Elt F)) : Pipeline.HostSeg (Name := ℕ) (U := UR sig nD τ) (pcfgs (F := F)) (defs₀ (F := F)) 𝒱₀ LL lvl :=
  Pipeline.HostSeg.ofOps _ _ _ _ _ (ucRefs τ sig) hostOps1_3 (fun op h => Pipeline.sub_ucRefs op ((List.forall_iff_forall_mem.mp hostOps1_3_sub) op h))
    (by intro _ h; (repeat (cases h with | head => rfl | tail _ h => ?_)); exact nomatch h) V RR

theorem hin0 (c : Dev nD) : iprop(iprop(Pipeline.scopedRest (Pipeline.pin (pcfgs (F := F)) (adm m) 0).spec c ∗ iprop(emp)) ∗ Pipeline.tablesAt (pcfgs (F := F)) (adm m) 0 c)
    ⊢ ((datsL m hle 0 c).Φ 0 : sProp 𝕄G) := by
  rw [show (datsL m hle 0 c).Φ 0 = PhiS (W1 m) (adm0 m) c 0 (Nat.zero_le _) from rfl]
  refine (show iprop(iprop(Pipeline.scopedRest spec0 c ∗ iprop(emp)) ∗ tabs (adm0 m) c) ⊢ (PhiS (W1 m) (adm0 m) c 0 (Nat.zero_le _) : sProp 𝕄G) from ?_)
  unfold PhiS
  rw [scopedRest0_eq]
  simp only [Memref.view_whole, View.set_whole]
  iintro ⟨⟨⟨⟨%f0, H0⟩, ⟨%f1, H1⟩, ⟨%f2, H2⟩, ⟨%f3, H3⟩, ⟨%f4, H4⟩⟩, -⟩, HT⟩
  isplitl [HT]; · iexact HT
  iexists f0, f1, f2, f3
  isplitr; · ipureintro; intro k hk; exact absurd hk (Nat.succ_ne_zero _)
  isplitl [H0]; · iexact H0
  isplitl [H1]; · iexact H1
  isplitl [H2]; · iexact H2
  isplitl [H3]; · iexact H3
  iexists f4; iexact H4

theorem hout0 (c : Dev nD) : ((datsL m hle 0 c).Φ (Fin.last (Pipeline.pin (pcfgs (F := F)) (adm m) 0).N) : sProp 𝕄G)
    ⊢ iprop(iprop(Pipeline.scopedRest (Pipeline.pin (pcfgs (F := F)) (adm m) 0).spec c ∗ iprop(emp)) ∗ Pipeline.tablesAt (pcfgs (F := F)) (adm m) 0 c) := by
  rw [show (datsL m hle 0 c).Φ (Fin.last (Pipeline.pin (pcfgs (F := F)) (adm m) 0).N) = PhiS (W1 m) (adm0 m) c (cfg0 (adm0 m)).N (Nat.le_refl _) from rfl]
  refine (show (PhiS (W1 m) (adm0 m) c (cfg0 (adm0 m)).N (Nat.le_refl _) : sProp 𝕄G) ⊢ iprop(iprop(Pipeline.scopedRest spec0 c ∗ iprop(emp)) ∗ tabs (adm0 m) c) from ?_)
  unfold PhiS
  rw [scopedRest0_eq]
  simp only [Memref.view_whole, View.set_whole]
  iintro ⟨HT, ⟨%f0, %f1, %f2, %f3, %hf, H0, H1, H2, H3, ⟨%f4, H4⟩⟩⟩
  isplitr [HT]
  · isplitl
    · isplitl [H0]; · iexists f0; iexact H0
      isplitl [H1]; · iexists f1; iexact H1
      isplitl [H2]; · iexists f2; iexact H2
      isplitl [H3]; · iexists f3; iexact H3
      iexists f4; iexact H4
    iempintro
  iexact HT

set_option backward.isDefEq.respectTransparency.types false in
theorem hcut0 : Pipeline.LevelCut (pcfgs (F := F)) (adm m) () LL lvl 0 (fun _ => 0) (fun _ => 0) where
  hι c w s := by unfold LL; rw [if_pos rfl]; exact Finset.mem_singleton_self _
  hιb c w s := Nat.le_refl _
  hD c g i h := absurd h (Nat.lt_irrefl _)

theorem hT0 (c : Dev nD) (k : Fin 2) : (adm0 m).1 k = W1 m c (Proc.devRef .tc (pre0.ref k)) := by
  obtain rfl : c = 0 := Subsingleton.elim _ _
  rfl

set_option backward.isDefEq.respectTransparency.types false in
/-- The region as a segment, over the unscoped buffers. -/
def reg0 : Pipeline.RegionSeg (pcfgs (F := F)) (adm m) (datsL m hle) () (defs₀ (F := F)) 𝒱₀ LL lvl 0 :=
  Pipeline.RegionSeg.ofHeldInT (pcfgs (F := F)) (adm m) (datsL m hle) () (defs₀ (F := F)) 𝒱₀ LL lvl 0 (fun _ => 0) (ucRefs τ sig)
    (fun _ => iprop(emp)) (fun _ => iprop(emp)) launch0 (fun c => (body_obligation (W1 m) (adm0 m) hle c).loose)
    (fun _ _ => rfl) (fun _ => rfl) (fun c => (datsL m hle 0 c).share_full fun _ => rfl) (hin0 m hle) (hout0 m hle)
    (fun _ => 0) (hcut0 m) (fun _ => iprop(emp)) (W1 m) (fun _ _ => rfl) (hT0 m)

/-- Core `c`'s buffers when the region is left. -/
def W2 (c : Dev nD) : Valuation τ sig (Elt F) := Pipeline.afterRegion (datsL m hle 0 c) (W1 m c)
/-- And at the end. -/
def W3 (c : Dev nD) : Valuation τ sig (Elt F) :=
  StableHlo.after hostOps1_3 (StableHlo.after hostOps1_2 (StableHlo.after hostOps1_1 (StableHlo.after hostOps1 (W2 m hle c))))

theorem arrs_in : Pipeline.arrRefs (pcfgs (F := F) 0).spec ⊆ ucRefs τ sig := Pipeline.arrRefs_sub_ucRefs _ (show ∀ w : Fin 13, (Pipeline.arrRef spec0 w).isScoped = false by decide)
theorem tbls_in : Pipeline.tblRefs (pcfgs (F := F) 0).pre ⊆ ucRefs τ sig := fun b hb => by
  revert b
  show ∀ b, b ∈ Pipeline.tblRefs pre0 → b ∈ ucRefs τ sig
  decide

set_option backward.isDefEq.respectTransparency.types false in
theorem reg0_pre (c : Dev nD) : iprop(StableHlo.held (c.tc : Thread nD τ) (ucRefs τ sig) (W1 m c) ∗ RR c) ⊢ (reg0 m hle).pre c := by
  refine BIBase.Entails.trans ?_ (Pipeline.RegionSeg.ofHeldInT_pre arrs_in tbls_in c)
  iintro ⟨Hh, HO⟩
  isplitl [Hh]; · iexact Hh
  isplitl [HO]; · iexact HO
  isplitl <;> iempintro

set_option backward.isDefEq.respectTransparency.types false in
theorem reg0_post (c : Dev nD) : (reg0 m hle).post c ⊢ iprop(StableHlo.held (c.tc : Thread nD τ) (ucRefs τ sig) (W2 m hle c) ∗ RR c) := by
  refine BIBase.Entails.trans (Pipeline.RegionSeg.ofHeldInT_post arrs_in tbls_in c) ?_
  unfold W2
  iintro ⟨Hh, HO, -, -⟩
  isplitl [Hh]; · iexact Hh
  iexact HO

/-- @main as its segments. -/
abbrev segs : List (Pipeline.Seg (pcfgs (F := F)) (adm m) (datsL m hle) () (defs₀ (F := F)) 𝒱₀ LL lvl) :=
  [.host (seg0 (V0 m)), .region (reg0 m hle), .host (seg1 (W2 m hle)), .host (seg1_1 fun c => StableHlo.after hostOps1 (W2 m hle c)),
   .host (seg1_2 fun c => StableHlo.after hostOps1_1 (StableHlo.after hostOps1 (W2 m hle c))),
   .host (seg1_3 fun c => StableHlo.after hostOps1_2 (StableHlo.after hostOps1_1 (StableHlo.after hostOps1 (W2 m hle c))))]

set_option backward.isDefEq.respectTransparency.types false in
/-- THE RUN: every weakly fair execution of @main terminates, nothing faulting, with every unscoped buffer at `W3` and every
    counter at zero. -/
theorem run_main : θ_run (defs (F := F)) (onTc (τ := τ) (main (F := F))) ⟨m, fun _ => 0, ρ⟩
    (fun r => (∀ (c : Dev nD) (b : DevRef τ sig), b ∈ ucRefs τ sig → r.2.mem (c, b) = W3 m hle c b) ∧ r.2.sem = fun _ => 0) :=
  Pipeline.θ_run_regions_kit_sems (pcfgs (F := F)) (adm m) (datsL m hle) () (cellOf_inj (adm m)) emb₁ (defs₀ (F := F)) 𝒱₀ LL lvl m ρ main (segs m hle)
    (fun c Q => by rw [main_chain c, Pipeline.Seg.run_eq_chain]; exact .rfl)
    (by simp only [Pipeline.Seg.pipes_host, Pipeline.Seg.pipes_region, Pipeline.Seg.pipes_nil]; exact List.nodup_singleton _)
    (O₀ := 0) (hL := fun g hg => by unfold LL; exact if_neg hg)
    (G := fun _ => iprop(emp)) (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU _ : sProp 𝕄G) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c.tc : Thread nD τ) (ucRefs τ sig) (V0 m c) ∗ RR c))
    (Tₙ := fun c => StableHlo.held (c.tc : Thread nD τ) (ucRefs τ sig) (W3 m hle c))
    (hch := ⟨fun _ => .rfl, reg0_pre m hle, reg0_post m hle, fun _ => .rfl, fun _ => .rfl, fun _ => .rfl, fun _ => .rfl⟩)
    (hinit := by
      refine Pipeline.initEach LL lvl fun c => ?_
      rw [show unscopedBufs c (fun b => m ((c.tc : Thread nD τ).loc b)) = StableHlo.held (c.tc : Thread nD τ) (ucRefs τ sig) (V0 m c)
          from Pipeline.unscopedBufs_held (Ix := Unit) (Name := ℕ) (U := UR sig nD τ) (Lvl := ℕ) c (V0 m c)]
      iintro ⟨⟨Hh, -, HO, -, -, -⟩, -⟩
      imodintro
      isplitl [Hh]; · iexact Hh
      iexists ∅; iexact HO)
    (QY := fun c s => ∀ b ∈ ucRefs τ sig, s.mem ((c.tc : Thread nD τ).1, b) = W3 m hle c b)
    (hfin := fun c s' => by
      unfold StableHlo.held
      iintro ⟨Hh, HSI⟩
      ihave Hr := (pointsTo_read_all (ucRefs τ sig) (fun b => ((c.tc : Thread nD τ).1, b)) (W3 m hle c) s') $$ [Hh HSI]
      · isplitl [Hh] <;> iassumption
      imodintro; iexact Hr)
    (hQ := fun _ h hz => ⟨fun c b hb => h c b hb, funext fun g => hz g (.inr (by revert g; decide))⟩)

theorem arg_ne_arr (b : Ref sig .tc) (h : ArgRef b) (w : Fin 13) : b ≠ Pipeline.arrRef spec0 w :=
  ne_of_arg h (by revert w; decide)

set_option backward.isDefEq.respectTransparency.types false in
theorem W2_arg (c : Dev nD) (b : Ref sig .tc) (h : ArgRef b) : W2 m hle c (Proc.devRef .tc b) = m ((c : Thread nD τ).loc b) := by
  unfold W2
  rw [Pipeline.afterRegion_of_not_arr (datsL m hle 0 c) (W1 m c) (fun w => arg_ne_arr b h w)]
  exact W1_arg m c b h

theorem W3_arg (c : Dev nD) (b : Ref sig .tc) (h : ArgRef b) : W3 m hle c (Proc.devRef .tc b) = m ((c : Thread nD τ).loc b) := by
  unfold W3
  rw [StableHlo.after_of_forall_not_mem (b := Proc.devRef .tc b) hostOps1_3 _ (kept1_3 b h), StableHlo.after_of_forall_not_mem (b := Proc.devRef .tc b) hostOps1_2 _ (kept1_2 b h),
    StableHlo.after_of_forall_not_mem (b := Proc.devRef .tc b) hostOps1_1 _ (kept1_1 b h), StableHlo.after_of_forall_not_mem (b := Proc.devRef .tc b) hostOps1 _ (kept1 b h)]
  exact W2_arg m hle c b h

theorem arg_uc (b : Ref sig .tc) (h : ArgRef b) : Proc.devRef (τ := τ) .tc b ∈ ucRefs τ sig :=
  Pipeline.devRef_mem_ucRefs (by unfold ArgRef at h; rcases h with rfl | rfl | rfl | rfl | rfl | rfl | rfl | rfl | rfl | rfl | rfl | rfl <;> decide)

/-- The frame: the arguments end as launched and every counter at zero. -/
theorem frame (hle : Fits m) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.1 c (Proc.devRef .tc main_arg0) (arg_uc _ (by decide))).trans (W3_arg m hle c main_arg0 (by decide)), (h.1 c (Proc.devRef .tc main_arg1) (arg_uc _ (by decide))).trans (W3_arg m hle c main_arg1 (by decide)), (h.1 c (Proc.devRef .tc main_arg2) (arg_uc _ (by decide))).trans (W3_arg m hle c main_arg2 (by decide)), (h.1 c (Proc.devRef .tc main_arg3) (arg_uc _ (by decide))).trans (W3_arg m hle c main_arg3 (by decide)), (h.1 c (Proc.devRef .tc main_arg4) (arg_uc _ (by decide))).trans (W3_arg m hle c main_arg4 (by decide)), (h.1 c (Proc.devRef .tc main_arg5) (arg_uc _ (by decide))).trans (W3_arg m hle c main_arg5 (by decide)), (h.1 c (Proc.devRef .tc main_arg6) (arg_uc _ (by decide))).trans (W3_arg m hle c main_arg6 (by decide)), (h.1 c (Proc.devRef .tc main_arg7) (arg_uc _ (by decide))).trans (W3_arg m hle c main_arg7 (by decide)), (h.1 c (Proc.devRef .tc main_arg8) (arg_uc _ (by decide))).trans (W3_arg m hle c main_arg8 (by decide)), (h.1 c (Proc.devRef .tc main_arg9) (arg_uc _ (by decide))).trans (W3_arg m hle c main_arg9 (by decide)), (h.1 c (Proc.devRef .tc main_arg10) (arg_uc _ (by decide))).trans (W3_arg m hle c main_arg10 (by decide)), (h.1 c (Proc.devRef .tc main_arg11) (arg_uc _ (by decide))).trans (W3_arg m hle c main_arg11 (by decide))⟩, h.2⟩) (run_main m ρ hle)

end Cert.Proof.KernelIdeal
-- ==== Proof.Frames.lean ====
/-
  The frames of the three programs and the named constants of the idealization.
  The kernel's two frames hold where the prompt fits its buffer: the one word of `prefix_len` the kernel reads is at most 14336.
-/
module

public import proofs.«01_k».proof.Defs
public import proofs.«01_k».proof.Proof.KRun
public import proofs.«01_k».proof.Proof.IRun
public import proofs.«01_k».proof.Proof.Gen.ReferenceIdeal.Frame
public import proofs.«01_k».proof.Proof.Gen.Pre_prompt_fits

@[expose] public section

noncomputable section

open Idealize.ShloMosaic Idealize.ShloMosaic.TcCoe Idealize.SL.Sem

namespace Cert.Proof

/-- The signed comparison, as a fact about the two integers. -/
theorem toInt_le_of_cmpi {a b : BitVec 32} (h : IntOp.cmpi CmpIPredicate.sle a b = 1#1) : a.toInt ≤ b.toInt := by
  simp only [IntOp.cmpi] at h
  by_contra hc
  have : BitVec.sle a b = false := by simpa [BitVec.sle] using hc
  simp [this] at h

/-- The printed predicate says the word is at most 14336. -/
theorem fits_word {F : FTy → Type} [FloatOps F] {x0 x1 x2 x3 x4 x5 x6 x7 x8 x9 x11} {x10 : IVec Cert.Pre_prompt_fits.S1 32}
    (h : Cert.Pre_prompt_fits.fn (F := F) x0 x1 x2 x3 x4 x5 x6 x7 x8 x9 x10 x11 = fun _ => 1#1) (i : Cert.Pre_prompt_fits.S1.Idx) :
    (x10 i).toInt ≤ 14336 := by
  have h0 := congrFun h (fun a => a.elim0)
  have h1 := toInt_le_of_cmpi h0
  have e : x10 i = shapeCast Cert.Pre_prompt_fits.S_ x10 Cert.Pre_prompt_fits.Gen.shapeCasts_S1_S_ (fun a => a.elim0) := by
    show x10 i = x10 _
    refine congrArg x10 (funext fun a => ?_)
    match a with
    | 0 => exact Subsingleton.elim (α := Fin 1) _ _
  rw [e]
  exact h1

theorem fits_Kernel {m : (ℓ : Loc Cert.Kernel.nD Cert.Kernel.τ Cert.Kernel.sig) → Buf (Elt Bits) ℓ} (h : Cert.Pre_Kernel m) : Cert.Proof.Kernel.Fits m := by
  unfold Cert.Proof.Kernel.Fits
  have e : (Cert.Proof.Kernel.adm0 m).1 1 = m (((0 : Dev Cert.Kernel.nD).tc : Thread Cert.Kernel.nD Cert.Kernel.τ).loc Cert.Kernel.main_arg10) :=
    Cert.Proof.Kernel.W1_arg m 0 Cert.Kernel.main_arg10 (by decide)
  rw [e]
  exact fits_word (h 0) _

theorem fits_KernelIdeal {m : (ℓ : Loc Cert.KernelIdeal.nD Cert.KernelIdeal.τ Cert.KernelIdeal.sig) → Buf (Elt Ideal) ℓ} (h : Cert.Pre_KernelIdeal m) : Cert.Proof.KernelIdeal.Fits m := by
  unfold Cert.Proof.KernelIdeal.Fits
  have e : (Cert.Proof.KernelIdeal.adm0 m).1 1 = m (((0 : Dev Cert.KernelIdeal.nD).tc : Thread Cert.KernelIdeal.nD Cert.KernelIdeal.τ).loc Cert.KernelIdeal.main_arg10) :=
    Cert.Proof.KernelIdeal.W1_arg m 0 Cert.KernelIdeal.main_arg10 (by decide)
  rw [e]
  exact fits_word (h 0) _

theorem frame_p : Cert.quiescent_Kernel := fun m ρ h => Cert.Proof.Kernel.frame m ρ (fits_Kernel h)
theorem frame_pi : Cert.quiescent_KernelIdeal := fun m ρ h => Cert.Proof.KernelIdeal.frame m ρ (fits_KernelIdeal h)
theorem frame_ri : Cert.quiescent_ReferenceIdeal := fun m ρ _ => Cert.ReferenceIdeal.Gen.frame m ρ

/-- The two named constants are the reals their names say. -/
theorem preserves : Cert.preserves_Kernel_KernelIdeal :=
  ⟨IdealRules.named_const.statement Cert.KernelIdeal.κ "score_scale_log2e" .f32 0x3E0293EE#32 (((11863283 / 134217728) * (Real.log 2)⁻¹ : ℝ) : EReal) rfl,
   IdealRules.named_const.statement Cert.KernelIdeal.κ "ln2" .f32 0x3F317218#32 ((Real.log 2 : ℝ) : EReal) rfl⟩

end Cert.Proof

end
-- ==== Proof.Soft.lean ====
/-
  The mathematics of the softmax: a softmax taken chunk by chunk in base 2, its running maximum started at a
  finite floor, against the softmax in base e over all keys at once, both over the extended reals.
-/
module

public import Idealize.ShloMosaic.Lib.Pointwise
public import Mathlib.Analysis.SpecialFunctions.Pow.Real

@[expose] public section

namespace Cert.Proof.Soft

open Idealize.ShloMosaic

noncomputable section

/-- The running maximum over the first `n` scores, from the floor `z`. -/
def M (z : EReal) (x : ℕ → EReal) (n : ℕ) : EReal := max z ((Finset.range n).sup x)

/-- The sum of the base 2 weights of the first `n` scores about `m`. -/
def W (x : ℕ → EReal) (m : EReal) (n : ℕ) : EReal := ∑ k ∈ Finset.range n, Ideal.exp2 (x k - m)

/-- The weighted sum of the first `n` values about `m`. -/
def O (v x : ℕ → EReal) (m : EReal) (n : ℕ) : EReal := ∑ k ∈ Finset.range n, v k * Ideal.exp2 (x k - m)

theorem exp2_coe (r : ℝ) : Ideal.exp2 (r : EReal) = ((Real.rpow 2 r : ℝ) : EReal) := rfl
theorem exp_coe (r : ℝ) : Ideal.exp (r : EReal) = ((Real.exp r : ℝ) : EReal) := rfl

theorem exp2_nonneg (x : EReal) : 0 ≤ Ideal.exp2 x := by
  induction x using EReal.rec with
  | bot => simp
  | top => simp
  | coe r => rw [exp2_coe]; exact_mod_cast (Real.rpow_pos_of_pos two_pos r).le

theorem exp_nonneg (x : EReal) : 0 ≤ Ideal.exp x := by
  induction x using EReal.rec with
  | bot => exact le_rfl
  | top => exact le_top
  | coe r => rw [exp_coe]; exact_mod_cast (Real.exp_pos r).le

theorem sub_top' (x : EReal) : x - ⊤ = ⊥ := by
  induction x using EReal.rec <;> simp [sub_eq_add_neg]

theorem bot_sub' (x : EReal) : (⊥ : EReal) - x = ⊥ := by simp [sub_eq_add_neg]

/-- Moving a weight to a larger maximum. -/
theorem exp2_rescale {m m' x : EReal} (hm : m ≠ ⊥) (hmm : m ≤ m') (hx : x ≤ m) :
    Ideal.exp2 (m - m') * Ideal.exp2 (x - m) = Ideal.exp2 (x - m') := by
  induction m' using EReal.rec with
  | bot => exact absurd (le_bot_iff.1 hmm) hm
  | top => simp [sub_top']
  | coe r' =>
    induction m using EReal.rec with
    | bot => exact absurd rfl hm
    | top => simp at hmm
    | coe r =>
      induction x using EReal.rec with
      | bot => simp [bot_sub']
      | top => simp at hx
      | coe y =>
        rw [← EReal.coe_sub, ← EReal.coe_sub, ← EReal.coe_sub, exp2_coe, exp2_coe, exp2_coe, ← EReal.coe_mul]
        congr 1
        show (2:ℝ) ^ (r - r') * (2:ℝ) ^ (y - r) = (2:ℝ) ^ (y - r')
        rw [← Real.rpow_add two_pos]; congr 1; ring

theorem exp2_ne_top {m m' : EReal} (hm : m ≠ ⊥) (hmm : m ≤ m') : Ideal.exp2 (m - m') ≠ ⊤ := by
  induction m' using EReal.rec with
  | bot => exact absurd (le_bot_iff.1 hmm) hm
  | top => simp [sub_top']
  | coe r' =>
    induction m using EReal.rec with
    | bot => exact absurd rfl hm
    | top => simp at hmm
    | coe r => rw [← EReal.coe_sub, exp2_coe]; exact EReal.coe_ne_top _

/-- A finite factor at least zero goes through a sum. -/
theorem mul_sum {c : EReal} (h0 : 0 ≤ c) (ht : c ≠ ⊤) (n : ℕ) (f : ℕ → EReal) :
    c * ∑ k ∈ Finset.range n, f k = ∑ k ∈ Finset.range n, c * f k := by
  induction n with
  | zero => simp
  | succ n ih => rw [Finset.sum_range_succ, Finset.sum_range_succ, EReal.left_distrib_of_nonneg_of_ne_top h0 ht, ih]

theorem W_rescale {x : ℕ → EReal} {m m' : EReal} {n : ℕ} (hm : m ≠ ⊥) (hmm : m ≤ m') (hx : ∀ k < n, x k ≤ m) :
    Ideal.exp2 (m - m') * W x m n = W x m' n := by
  unfold W
  rw [mul_sum (exp2_nonneg _) (exp2_ne_top hm hmm)]
  exact Finset.sum_congr rfl fun k hk => exp2_rescale hm hmm (hx k (Finset.mem_range.1 hk))

theorem O_rescale {v x : ℕ → EReal} {m m' : EReal} {n : ℕ} (hm : m ≠ ⊥) (hmm : m ≤ m') (hx : ∀ k < n, x k ≤ m) :
    Ideal.exp2 (m - m') * O v x m n = O v x m' n := by
  unfold O
  rw [mul_sum (exp2_nonneg _) (exp2_ne_top hm hmm)]
  refine Finset.sum_congr rfl fun k hk => ?_
  rw [mul_left_comm, exp2_rescale hm hmm (hx k (Finset.mem_range.1 hk))]

theorem M_ne_bot {z : EReal} (hz : z ≠ ⊥) (x : ℕ → EReal) (n : ℕ) : M z x n ≠ ⊥ :=
  fun h => hz (le_bot_iff.1 (h ▸ le_max_left z _))

theorem le_M (z : EReal) (x : ℕ → EReal) {n k : ℕ} (h : k < n) : x k ≤ M z x n :=
  le_trans (Finset.le_sup (f := x) (Finset.mem_range.2 h)) (le_max_right _ _)

theorem fold_max_eq {n : ℕ} (f : Fin n → EReal) : Finset.univ.fold max ⊥ f = Finset.univ.sup f := rfl

/-- The maximum over the next `c` scores. -/
theorem M_step (z : EReal) (x : ℕ → EReal) (n c : ℕ) :
    M z x (n + c) = max (M z x n) (Finset.univ.fold max ⊥ fun k : Fin c => x (n + k.val)) := by
  unfold M
  rw [fold_max_eq, max_assoc]
  congr 1
  apply le_antisymm
  · refine Finset.sup_le fun k hk => ?_
    by_cases h : k < n
    · exact le_trans (Finset.le_sup (f := x) (Finset.mem_range.2 h)) (le_max_left _ _)
    · have hk' := Finset.mem_range.1 hk
      refine le_trans ?_ (le_max_right _ _)
      have := Finset.le_sup (f := fun k : Fin c => x (n + k.val)) (Finset.mem_univ (⟨k - n, by omega⟩ : Fin c))
      have e : n + (k - n) = k := by omega
      simpa only [e] using this
  · refine max_le (Finset.sup_mono (Finset.range_mono (Nat.le_add_right n c))) (Finset.sup_le fun k _ => ?_)
    exact Finset.le_sup (f := x) (Finset.mem_range.2 (Nat.add_lt_add_left k.isLt n))

theorem M_mono (z : EReal) (x : ℕ → EReal) (n c : ℕ) : M z x n ≤ M z x (n + c) := by
  rw [M_step]; exact le_max_left _ _

theorem sum_add (n c : ℕ) (f : ℕ → EReal) :
    ∑ k ∈ Finset.range (n + c), f k = ∑ k ∈ Finset.range n, f k + ∑ k : Fin c, f (n + k.val) := by
  rw [Finset.sum_range_add, ← Fin.sum_univ_eq_sum_range (fun k => f (n + k))]

theorem W_step {z : EReal} (hz : z ≠ ⊥) (x : ℕ → EReal) (n c : ℕ) :
    W x (M z x (n + c)) (n + c) = Ideal.exp2 (M z x n - M z x (n + c)) * W x (M z x n) n
      + ∑ k : Fin c, Ideal.exp2 (x (n + k.val) - M z x (n + c)) := by
  rw [W_rescale (M_ne_bot hz x n) (M_mono z x n c) (fun k h => le_M z x h)]
  exact sum_add n c _

theorem O_step {z : EReal} (hz : z ≠ ⊥) (v x : ℕ → EReal) (n c : ℕ) :
    O v x (M z x (n + c)) (n + c) = Ideal.exp2 (M z x n - M z x (n + c)) * O v x (M z x n) n
      + ∑ k : Fin c, v (n + k.val) * Ideal.exp2 (x (n + k.val) - M z x (n + c)) := by
  rw [O_rescale (M_ne_bot hz x n) (M_mono z x n c) (fun k h => le_M z x h)]
  exact sum_add n c _

/-- Keys past `n` whose score is masked change nothing. -/
theorem M_ext (z : EReal) {x : ℕ → EReal} {n N : ℕ} (h : n ≤ N) (hx : ∀ k, n ≤ k → x k = ⊥) : M z x n = M z x N := by
  unfold M
  congr 1
  apply le_antisymm (Finset.sup_mono (Finset.range_mono h))
  refine Finset.sup_le fun k _ => ?_
  by_cases hk : k < n
  · exact Finset.le_sup (Finset.mem_range.2 hk)
  · rw [hx k (not_lt.1 hk)]; exact bot_le

theorem sum_ext {f : ℕ → EReal} {n N : ℕ} (h : n ≤ N) (hf : ∀ k, n ≤ k → f k = 0) :
    ∑ k ∈ Finset.range n, f k = ∑ k ∈ Finset.range N, f k :=
  Finset.sum_subset (Finset.range_mono h) fun k _ hk => hf k (not_lt.1 fun hlt => hk (Finset.mem_range.2 hlt))

theorem W_ext {x : ℕ → EReal} (m : EReal) {n N : ℕ} (h : n ≤ N) (hx : ∀ k, n ≤ k → x k = ⊥) : W x m n = W x m N :=
  sum_ext h fun k hk => by rw [hx k hk, bot_sub']; rfl

theorem O_ext (v : ℕ → EReal) {x : ℕ → EReal} (m : EReal) {n N : ℕ} (h : n ≤ N) (hx : ∀ k, n ≤ k → x k = ⊥) :
    O v x m n = O v x m N :=
  sum_ext h fun k hk => by rw [hx k hk, bot_sub']; simp

/-- The factor that takes natural scores to scores in base 2. -/
def L : ℝ := (Real.log 2)⁻¹

theorem log2_pos : 0 < Real.log 2 := Real.log_pos one_lt_two
theorem L_pos : 0 < L := inv_pos.2 log2_pos

theorem mul_L_mono {a b : EReal} (h : a ≤ b) : a * (L : EReal) ≤ b * (L : EReal) :=
  mul_le_mul_of_nonneg_right h (by exact_mod_cast L_pos.le)

theorem bot_mul_L : (⊥ : EReal) * (L : EReal) = ⊥ := EReal.bot_mul_coe_of_pos L_pos
theorem top_mul_L : (⊤ : EReal) * (L : EReal) = ⊤ := EReal.top_mul_coe_of_pos L_pos

theorem sup_mul_L (s : ℕ → EReal) (n : ℕ) :
    ((Finset.range n).sup fun k => s k * (L : EReal)) = (Finset.range n).sup s * (L : EReal) := by
  induction n with
  | zero => simp [bot_mul_L]
  | succ n ih =>
    rw [Finset.range_add_one, Finset.sup_insert, Finset.sup_insert, ih]
    have hm : Monotone fun a : EReal => a * (L : EReal) := fun a b h => mul_L_mono h
    exact (hm.map_sup _ _).symm

/-- Every base 2 weight about the floored maximum is one positive multiple of the natural weight about the true
    maximum; where the true maximum is infinite, every weight is zero on both sides. -/
theorem weights (z : ℝ) (S : EReal) :
    (((S = ⊤ ∧ max (z : EReal) (S * (L : EReal)) = ⊤) ∨ S = ⊥) ∧
      ∀ s ≤ S, Ideal.exp2 (s * (L : EReal) - max (z : EReal) (S * (L : EReal))) = 0 ∧ Ideal.exp (s - S) = 0) ∨
    (∃ r m : ℝ, S = r ∧ max (z : EReal) (S * (L : EReal)) = m ∧
      ∀ s ≤ S, Ideal.exp2 (s * (L : EReal) - max (z : EReal) (S * (L : EReal)))
        = ((Real.exp (r - m * Real.log 2) : ℝ) : EReal) * Ideal.exp (s - S)) := by
  induction S using EReal.rec with
  | bot =>
    left
    refine ⟨Or.inr rfl, fun s hs => ?_⟩
    rw [le_bot_iff.1 hs, bot_mul_L, bot_sub', bot_sub']; exact ⟨rfl, rfl⟩
  | top =>
    left
    have ht : max (z : EReal) (⊤ * (L : EReal)) = ⊤ := by rw [top_mul_L]; simp
    refine ⟨Or.inl ⟨rfl, ht⟩, fun s _ => ?_⟩
    rw [ht, sub_top', sub_top']; exact ⟨rfl, rfl⟩
  | coe r =>
    right
    have hm : max (z : EReal) ((r : EReal) * (L : EReal)) = ((max z (r * L) : ℝ) : EReal) := by
      rw [← EReal.coe_mul]; exact (EReal.coe_strictMono.monotone.map_max).symm
    refine ⟨r, max z (r * L), rfl, hm, fun s hs => ?_⟩
    rw [hm]
    induction s using EReal.rec with
    | bot => rw [bot_mul_L, bot_sub', bot_sub', show Ideal.exp ⊥ = 0 from rfl, mul_zero]; rfl
    | top => simp at hs
    | coe y =>
      rw [← EReal.coe_mul, ← EReal.coe_sub, ← EReal.coe_sub, exp2_coe, exp_coe, ← EReal.coe_mul, ← Real.exp_add]
      congr 1
      rw [show Real.rpow 2 (y * L - max z (r * L)) = (2:ℝ) ^ (y * L - max z (r * L)) from rfl, Real.rpow_def_of_pos two_pos]
      congr 1
      have : Real.log 2 * L = 1 := mul_inv_cancel₀ log2_pos.ne'
      linear_combination y * this

theorem log_zero : Ideal.log 0 = ⊥ := by
  show (if (0 : ℝ) ≤ 0 then (⊥ : EReal) else _) = ⊥
  exact if_pos le_rfl

theorem log_coe_mul {c : ℝ} (hc : 0 < c) {S : EReal} (hS : 0 ≤ S) :
    Ideal.log ((c : EReal) * S) = ((Real.log c : ℝ) : EReal) + Ideal.log S := by
  induction S using EReal.rec with
  | bot => simp at hS
  | top => rw [EReal.coe_mul_top_of_pos hc, show Ideal.log ⊤ = ⊤ from rfl, EReal.coe_add_top]
  | coe r =>
    have hr : 0 ≤ r := by exact_mod_cast hS
    rw [← EReal.coe_mul]
    rcases hr.eq_or_lt with h0 | h0
    · subst h0; rw [mul_zero, EReal.coe_zero, log_zero, EReal.add_bot]
    · show (if c * r ≤ 0 then _ else _) = _ + (if r ≤ 0 then _ else _)
      rw [if_neg (not_le.2 (mul_pos hc h0)), if_neg (not_le.2 h0), Real.log_mul hc.ne' h0.ne', EReal.coe_add]

theorem sum_nonneg {n : ℕ} {f : ℕ → EReal} (h : ∀ k, 0 ≤ f k) : 0 ≤ ∑ k ∈ Finset.range n, f k :=
  Finset.sum_nonneg fun k _ => h k

/-- The log of the sum of the weights, natural on one side and in base 2 on the other. -/
theorem lse_eq (z : ℝ) (s : ℕ → EReal) (n : ℕ) :
    ((Real.log 2 : ℝ) : EReal) * M z (fun k => s k * (L : EReal)) n
        + Ideal.log (W (fun k => s k * (L : EReal)) (M z (fun k => s k * (L : EReal)) n) n)
      = (Finset.range n).sup s
        + Ideal.log (∑ k ∈ Finset.range n, Ideal.exp (s k - (Finset.range n).sup s)) := by
  have hle : ∀ k ∈ Finset.range n, s k ≤ (Finset.range n).sup s := fun k hk => Finset.le_sup (f := s) hk
  unfold M W
  rw [sup_mul_L]
  generalize (Finset.range n).sup s = S at *
  rcases weights z S with ⟨_, hw⟩ | ⟨r, m, hr, hm, hw⟩
  · rw [Finset.sum_congr rfl fun k hk => (hw _ (hle k hk)).1, Finset.sum_congr rfl fun k hk => (hw _ (hle k hk)).2]
    simp [log_zero]
  · rw [Finset.sum_congr rfl fun k hk => hw _ (hle k hk),
      ← mul_sum (by exact_mod_cast (Real.exp_pos _).le) (EReal.coe_ne_top _),
      log_coe_mul (Real.exp_pos _) (sum_nonneg fun k => exp_nonneg _), ← add_assoc, hm, hr]
    congr 1
    rw [Real.log_exp, ← EReal.coe_mul, ← EReal.coe_add]
    congr 1; ring

theorem div_coe_mul {c : ℝ} (hc : 0 < c) (a : EReal) {b : EReal} (hb : 0 ≤ b) :
    Ideal.div ((c : EReal) * a) ((c : EReal) * b) = Ideal.div a b := by
  have hpos : (0 : EReal) < (c : EReal) := by exact_mod_cast hc
  have key : ∀ y : EReal, (c : EReal) * y = 0 ↔ y = 0 := fun y => by simp [mul_eq_zero, hpos.ne']
  unfold Ideal.div
  by_cases h : b = 0
  · rw [if_pos h, if_pos ((key b).2 h)]
    have : 0 < (c : EReal) * a ↔ 0 < a := by
      constructor
      · intro ha
        by_contra hn
        exact absurd ha (not_lt.2 (EReal.mul_nonpos_iff.2 (Or.inl ⟨hpos.le, not_lt.1 hn⟩)))
      · exact fun ha => EReal.mul_pos hpos ha
    simp only [this]
  · rw [if_neg h, if_neg (fun e => h ((key b).1 e))]
    induction b using EReal.rec with
    | bot => simp at hb
    | top => rw [EReal.coe_mul_top_of_pos hc]; simp
    | coe r =>
      have hr : r ≠ 0 := fun e => h (by rw [e]; rfl)
      rw [← EReal.coe_mul, ← EReal.coe_inv, ← EReal.coe_inv, mul_comm (c : EReal), mul_assoc, ← EReal.coe_mul]
      congr 2
      field_simp

/-- The merged output of the two online softmaxes is the output of one softmax over both. -/
theorem out_eq (z : ℝ) (s t v u : ℕ → EReal) (n k : ℕ) :
    let x := fun j => s j * (L : EReal)
    let y := fun j => t j * (L : EReal)
    let mp := M z x n
    let mc := M z y k
    let m := max ((Finset.range n).sup s) ((Finset.range k).sup t)
    Ideal.div (Ideal.exp2 (mp - max mp mc) * O v x mp n + Ideal.exp2 (mc - max mp mc) * O u y mc k)
        (Ideal.exp2 (mp - max mp mc) * W x mp n + Ideal.exp2 (mc - max mp mc) * W y mc k)
      = Ideal.div ((∑ j ∈ Finset.range n, v j * Ideal.exp (s j - m)) + ∑ j ∈ Finset.range k, u j * Ideal.exp (t j - m))
        ((∑ j ∈ Finset.range n, Ideal.exp (s j - m)) + ∑ j ∈ Finset.range k, Ideal.exp (t j - m)) := by
  intro x y mp mc m
  have hz : (z : EReal) ≠ ⊥ := EReal.coe_ne_bot z
  rw [W_rescale (M_ne_bot hz x n) (le_max_left _ _) (fun j h => le_M _ x h),
    O_rescale (M_ne_bot hz x n) (le_max_left _ _) (fun j h => le_M _ x h),
    W_rescale (M_ne_bot hz y k) (le_max_right _ _) (fun j h => le_M _ y h),
    O_rescale (M_ne_bot hz y k) (le_max_right _ _) (fun j h => le_M _ y h)]
  have hM : max mp mc = max (z : EReal) (m * (L : EReal)) := by
    show max (max _ _) (max _ _) = _
    rw [show ((Finset.range n).sup x) = (Finset.range n).sup s * (L : EReal) from sup_mul_L s n,
      show ((Finset.range k).sup y) = (Finset.range k).sup t * (L : EReal) from sup_mul_L t k]
    have hm : Monotone fun a : EReal => a * (L : EReal) := fun a b h => mul_L_mono h
    have : m * (L : EReal) = max ((Finset.range n).sup s * (L : EReal)) ((Finset.range k).sup t * (L : EReal)) :=
      hm.map_sup _ _
    rw [this, max_max_max_comm, max_self]
  rw [hM]
  have hs : ∀ j ∈ Finset.range n, s j ≤ m := fun j hj => le_trans (Finset.le_sup (f := s) hj) (le_max_left _ _)
  have ht : ∀ j ∈ Finset.range k, t j ≤ m := fun j hj => le_trans (Finset.le_sup (f := t) hj) (le_max_right _ _)
  unfold W O
  generalize m = S at *
  rcases weights z S with ⟨_, hw⟩ | ⟨r, q, hr, hq, hw⟩
  · rw [Finset.sum_congr rfl fun j hj => (hw _ (hs j hj)).1, Finset.sum_congr rfl fun j hj => (hw _ (ht j hj)).1,
      Finset.sum_congr rfl fun j hj => (hw _ (hs j hj)).2, Finset.sum_congr rfl fun j hj => (hw _ (ht j hj)).2,
      Finset.sum_congr rfl fun j hj => congrArg (v j * ·) (hw _ (hs j hj)).1,
      Finset.sum_congr rfl fun j hj => congrArg (u j * ·) (hw _ (ht j hj)).1,
      Finset.sum_congr rfl fun j hj => congrArg (v j * ·) (hw _ (hs j hj)).2,
      Finset.sum_congr rfl fun j hj => congrArg (u j * ·) (hw _ (ht j hj)).2]
  · have c0 : (0 : EReal) ≤ ((Real.exp (r - q * Real.log 2) : ℝ) : EReal) := by exact_mod_cast (Real.exp_pos _).le
    have ct := EReal.coe_ne_top (Real.exp (r - q * Real.log 2))
    rw [Finset.sum_congr rfl fun j hj => hw _ (hs j hj), Finset.sum_congr rfl fun j hj => hw _ (ht j hj),
      Finset.sum_congr rfl fun j hj => (congrArg (v j * ·) (hw _ (hs j hj))).trans (mul_left_comm _ _ _),
      Finset.sum_congr rfl fun j hj => (congrArg (u j * ·) (hw _ (ht j hj))).trans (mul_left_comm _ _ _),
      ← mul_sum c0 ct, ← mul_sum c0 ct, ← mul_sum c0 ct, ← mul_sum c0 ct,
      ← EReal.left_distrib_of_nonneg_of_ne_top c0 ct, ← EReal.left_distrib_of_nonneg_of_ne_top c0 ct]
    exact div_coe_mul (Real.exp_pos _) _
      (add_nonneg (sum_nonneg fun k => exp_nonneg _) (sum_nonneg fun k => exp_nonneg _))

end

end Cert.Proof.Soft
-- ==== Proof.VLoop.lean ====
/-
  The four loops over key chunks at their values: after `n` chunks the carried row maximum, row sum and output are
  the softmax of the first `256 n` keys taken in base 2.
-/
module

public import proofs.«01_k».proof.Proof.IBody
public import proofs.«01_k».proof.Proof.Soft

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof

/-! ### One chunk's payloads, read at an index -/

theorem select_eq {α : Type} {c : BitVec 1} {p : Prop} [Decidable p] (h1 : p → Affine.Holds c) (h0 : ¬ p → Affine.Fails c) (a b : α) :
    Scalar.select c a b = if p then a else b := by
  unfold Scalar.select
  by_cases h : p
  · rw [if_pos h]; exact if_pos (h1 h)
  · rw [if_neg h]; exact if_neg (h0 h)

theorem conc_apply (v : Vec Ideal S256x128 .f32) (j : Fin 256) (r : Fin 512) :
    concatenate S256x512 1 [⟨S256x128, v⟩, ⟨S256x128, v⟩, ⟨S256x128, v⟩, ⟨S256x128, v⟩] concatenates_S256x128_S256x128_S256x128_S256x128_S256x512_d1 (ix2 j r)
      = v (ix2 j ⟨r.val % 128, Nat.mod_lt _ (by decide)⟩) := by
  exact concatenate_ofFn_apply (t := S256x512) (s₁ := S256x128) 1 (fun _ : Fin 4 => v) concatenates_S256x128_S256x128_S256x128_S256x128_S256x512_d1 rfl 128 rfl (ix2 j r) ⟨r.val / 128, by omega⟩ rfl (ix2 j ⟨r.val % 128, Nat.mod_lt _ (by decide)⟩) rfl (fun b hb => by
      match b, hb with
      | 0, _ => rfl
      | 1, hb => exact absurd rfl hb)

theorem raw_apply (a : FVec Ideal S256x128 .fp8e4m3) (b : FVec Ideal S512x128 .fp8e4m3) (j : Fin 256) (r : Fin 512) :
    matmul dot_S256x128_S512x128_S256x512_1_1_0_0_n_n none a b (constant (F := Ideal) S256x512 .f32 0x00000000#32) (ix2 j r)
      = ∑ d : Fin 128, a (ix2 j d) * b (ix2 r d) := by
  pointwise

theorem q_apply (v53 : Vec Ideal S1x1x512x128 .fp8e4m3) (r : Fin 512) (d : Fin 128) : k0_pay13 v53 (ix2 r d) = v53 (ix4 0 0 r d) := by
  pointwise [k0_pay13]

theorem qs_apply (v56 : Vec Ideal S1x1x1x512 .f32) (j : Fin 256) (r : Fin 512) :
    broadcastTo S256x512 (k0_pay14 v56) broadcasts_S1x512_S256x512 (ix2 j r) = v56 (ix4 0 0 0 r) := by
  pointwise [k0_pay14]

theorem k3_apply (v : Vec Ideal S1x256x128 .fp8e4m3) (r : Fin 256) (d : Fin 128) : shapeCast S256x128 v shapeCasts_S1x256x128_S256x128 (ix2 r d) = v (ix3 0 r d) := by
  pointwise

theorem k4_apply (v : Vec Ideal S1x1x256x128 .fp8e4m3) (r : Fin 256) (d : Fin 128) : shapeCast S256x128 v shapeCasts_S1x1x256x128_S256x128 (ix2 r d) = v (ix4 0 0 r d) := by
  pointwise

theorem bc_apply (v : IVec S1x512 32) (j : Fin 256) (r : Fin 512) : broadcastTo S256x512 v broadcasts_S1x512_S256x512 (ix2 j r) = v (ix2 0 r) := by
  pointwise

theorem iota_apply0 (j : Fin 256) (r : Fin 512) : iota .tc S256x512 32 [0] iota_S256x512_d0_w32 (ix2 j r) = BitVec.ofNat 32 j.val := by
  pointwise

theorem ninf : (FloatOps.ofBits (F := Ideal) .f32 0xFF800000#32 : EReal) = ⊥ := by
  simp [Ideal.ofBits, Ideal.ieee]

/-- The masked, scaled score of key `n` at one row: `lim` is the last key the row sees. -/
def score (K : ℕ → Fin 128 → EReal) (S : ℕ → EReal) (q : Fin 128 → EReal) (qs : EReal) (lim : ℤ) (n : ℕ) : EReal :=
  if (n : ℤ) ≤ lim then (∑ d : Fin 128, K n d * q d) * S n * qs else ⊥

/-- What the loops carry. -/
abbrev Acc := FVec Ideal S1x512 .f32 × FVec Ideal S1x512 .f32 × FVec Ideal S128x512 .f32

/-- One chunk of 256 keys from key `n`. -/
structure Step (x : Fin 512 → ℕ → EReal) (v : Fin 128 → ℕ → EReal) (n : ℕ) (s s' : Acc) : Prop where
  m : ∀ r : Fin 512, s'.1 (ix2 0 r) = max (s.1 (ix2 0 r)) (Finset.univ.fold max ⊥ fun j : Fin 256 => x r (n + j.val))
  l : ∀ r : Fin 512, s'.2.1 (ix2 0 r) = Ideal.exp2 (s.1 (ix2 0 r) - s'.1 (ix2 0 r)) * s.2.1 (ix2 0 r)
    + ∑ j : Fin 256, Ideal.exp2 (x r (n + j.val) - s'.1 (ix2 0 r))
  o : ∀ (d : Fin 128) (r : Fin 512), s'.2.2 (ix2 d r) = Ideal.exp2 (s.1 (ix2 0 r) - s'.1 (ix2 0 r)) * s.2.2 (ix2 d r)
    + ∑ j : Fin 256, v d (n + j.val) * Ideal.exp2 (x r (n + j.val) - s'.1 (ix2 0 r))

/-- The floor the running maximum starts from. -/
def floor : EReal := FloatOps.ofBits (F := Ideal) .f32 0xF149F2CA#32

theorem floor_coe : ∃ z : ℝ, floor = (z : EReal) := by
  refine ⟨floor.toReal, (EReal.coe_toReal ?_ ?_).symm⟩
  · unfold floor
    simp [Ideal.ofBits, Ideal.ieee, -EReal.coe_mul]
  · unfold floor
    simp [Ideal.ofBits, Ideal.ieee, -EReal.coe_mul]

theorem floor_ne : floor ≠ ⊥ := by
  obtain ⟨z, h⟩ := floor_coe
  rw [h]; exact EReal.coe_ne_bot z

/-- The carried value after `n` keys. -/
structure Inv (x : Fin 512 → ℕ → EReal) (v : Fin 128 → ℕ → EReal) (n : ℕ) (s : Acc) : Prop where
  m : ∀ r : Fin 512, s.1 (ix2 0 r) = Soft.M floor (x r) n
  l : ∀ r : Fin 512, s.2.1 (ix2 0 r) = Soft.W (x r) (Soft.M floor (x r) n) n
  o : ∀ (d : Fin 128) (r : Fin 512), s.2.2 (ix2 d r) = Soft.O (v d) (x r) (Soft.M floor (x r) n) n

theorem Inv.step {x : Fin 512 → ℕ → EReal} {v : Fin 128 → ℕ → EReal} {n : ℕ} {s s' : Acc} (h : Inv x v n s) (hs : Step x v n s s') :
    Inv x v (n + 256) s' := by
  have hm : ∀ r : Fin 512, s'.1 (ix2 0 r) = Soft.M floor (x r) (n + 256) := fun r => by
    rw [hs.m r, h.m r, Soft.M_step]
  refine ⟨hm, fun r => ?_, fun d r => ?_⟩
  · rw [hs.l r, hm r, h.m r, h.l r, Soft.W_step floor_ne]
  · rw [hs.o d r, hm r, h.m r, h.o d r, Soft.O_step floor_ne]

/-! ### The prompt's loop -/

theorem t4_m (v10 : Elt Ideal .i32) (v53 : Vec Ideal S1x1x512x128 .fp8e4m3) (v56 : Vec Ideal S1x1x1x512 .f32) (k : Fin (k0_t4_loop v10).trips) (m : FVec Ideal S1x512 .f32) (v228 : Vec Ideal S1x256x128 .fp8e4m3) (v232 : Vec Ideal S256x128 .f32) (r : Fin 512) :
    k0_pay19 (F := Ideal) v10 v53 v56 k m v228 v232 (ix2 0 r)
      = max (m (ix2 0 r)) (Finset.univ.fold max ⊥ fun j : Fin 256 => k0_pay18 (F := Ideal) v10 v53 v56 k v228 v232 (ix2 j r)) := by
  pointwise [k0_pay19]
  rw [show Ideal.ofBits FTy.f32 4286578688#32 = ⊥ from ninf]

theorem t4_l (v10 : Elt Ideal .i32) (v53 : Vec Ideal S1x1x512x128 .fp8e4m3) (v56 : Vec Ideal S1x1x1x512 .f32) (k : Fin (k0_t4_loop v10).trips) (m l : FVec Ideal S1x512 .f32) (v228 : Vec Ideal S1x256x128 .fp8e4m3) (v232 : Vec Ideal S256x128 .f32) (r : Fin 512) :
    k0_pay22 (F := Ideal) v10 v53 v56 k m l v228 v232 (ix2 0 r)
      = Ideal.exp2 (m (ix2 0 r) - k0_pay19 (F := Ideal) v10 v53 v56 k m v228 v232 (ix2 0 r)) * l (ix2 0 r)
        + ∑ j : Fin 256, Ideal.exp2 (k0_pay18 (F := Ideal) v10 v53 v56 k v228 v232 (ix2 j r) - k0_pay19 (F := Ideal) v10 v53 v56 k m v228 v232 (ix2 0 r)) := by
  pointwise [k0_pay22, k0_pay20, k0_pay21]
  rfl

theorem t4_o (v10 : Elt Ideal .i32) (v53 : Vec Ideal S1x1x512x128 .fp8e4m3) (v56 : Vec Ideal S1x1x1x512 .f32) (k : Fin (k0_t4_loop v10).trips) (m : FVec Ideal S1x512 .f32) (o : FVec Ideal S128x512 .f32) (v228 : Vec Ideal S1x256x128 .fp8e4m3) (v232 : Vec Ideal S256x128 .f32) (v257 : Vec Ideal S128x256 .bf16) (d : Fin 128) (r : Fin 512) :
    k0_pay23 (F := Ideal) v10 v53 v56 k m o v228 v232 v257 (ix2 d r)
      = Ideal.exp2 (m (ix2 0 r) - k0_pay19 (F := Ideal) v10 v53 v56 k m v228 v232 (ix2 0 r)) * o (ix2 d r)
        + ∑ j : Fin 256, v257 (ix2 d j) * Ideal.exp2 (k0_pay18 (F := Ideal) v10 v53 v56 k v228 v232 (ix2 j r) - k0_pay19 (F := Ideal) v10 v53 v56 k m v228 v232 (ix2 0 r)) := by
  pointwise [k0_pay23, k0_pay20, k0_pay21]
  rfl

theorem t4_score (v10 : Elt Ideal .i32) (hle : BitVec.toInt v10 ≤ 14336) (v53 : Vec Ideal S1x1x512x128 .fp8e4m3) (v56 : Vec Ideal S1x1x1x512 .f32) (k : Fin (k0_t4_loop v10).trips) (v228 : Vec Ideal S1x256x128 .fp8e4m3) (v232 : Vec Ideal S256x128 .f32) (j : Fin 256) (r : Fin 512) :
    k0_pay18 (F := Ideal) v10 v53 v56 k v228 v232 (ix2 j r)
      = if ((k.val * 256 + j.val : ℕ) : ℤ) ≤ BitVec.toInt v10 - 1 then (∑ d : Fin 128, v228 (ix3 0 j d) * v53 (ix4 0 0 r d)) * v232 (ix2 j ⟨r.val % 128, Nat.mod_lt _ (by decide)⟩) * v56 (ix4 0 0 0 r) else ⊥ := by
  have hT := (t4_facts v10 hle).2
  have hk := k.isLt
  have h_c0 : Affine.IsInt 0#32 (0) := Affine.ofNat _ (by omega)
  have h_c1 : Affine.IsInt 1#32 (1) := Affine.ofNat _ (by omega)
  have h_256 : Affine.IsInt 256#32 (256) := Affine.ofNat _ (by omega)
  have h_i : Affine.IsInt (Scf.iv 0#32 1#32 k) (k.val : Int) := Affine.iv h_c0 h_c1 _ (by omega)
  have h_m : Affine.IsInt (Scalar.muli (Scf.iv 0#32 1#32 k) 256#32) ((k.val : Int) * 256) := Affine.muli h_i h_256 (by omega)
  have h_j : Affine.IsInt (BitVec.ofNat 32 j.val) (j.val : Int) := Affine.ofNat _ (by omega)
  have h_a := Affine.addi (e := (k.val : Int) * 256 + j.val) h_m h_j (by omega)
  have h_w := Affine.word_range v10
  have h_b := Affine.subi (e := BitVec.toInt v10 - 1) (Affine.word v10) h_c1 (by omega)
  unfold k0_pay18
  show Scalar.select (IntOp.cmpi .sle (IntOp.addi (Scalar.muli (Scf.iv 0#32 1#32 k) 256#32) (iota .tc S256x512 32 [0] iota_S256x512_d0_w32 (ix2 j r))) (Scalar.subi v10 1#32)) (mulf (F := Ideal) _ _ (ix2 j r)) (FloatOps.ofBits .f32 0xFF800000#32) = _
  rw [mulf_apply, mulf_apply, raw_apply, conc_apply, qs_apply, iota_apply0, ninf]
  refine (select_eq (p := ((k.val * 256 + j.val : ℕ) : ℤ) ≤ BitVec.toInt v10 - 1) (fun h => Affine.sle_holds h_a h_b (by push_cast at h; omega)) (fun h => Affine.sle_fails h_a h_b (by push_cast at h; omega)) _ _).trans (if_congr Iff.rfl ?_ rfl)
  exact congrArg (fun y : EReal => y * v232 (ix2 j ⟨r.val % 128, Nat.mod_lt _ (by decide)⟩) * v56 (ix4 0 0 0 r))
    (Finset.sum_congr rfl fun d _ => congrArg₂ (fun a b : EReal => a * b) (k3_apply v228 j d) (q_apply v53 r d))

theorem off12_eq (v10 : BitVec 32) (hle : v10.toInt ≤ 14336) (k : Fin (k0_t4_loop v10).trips) :
    (Scalar.indexCast (Scalar.muli (Scf.iv 0#32 1#32 k) 256#32)).toNat = k.val * 256 := by
  have hT := (t4_facts v10 hle).2
  have hk := k.isLt
  have h_c0 : Affine.IsInt 0#32 (0) := Affine.ofNat _ (by omega)
  have h_c1 : Affine.IsInt 1#32 (1) := Affine.ofNat _ (by omega)
  have h_256 : Affine.IsInt 256#32 (256) := Affine.ofNat _ (by omega)
  have h_i : Affine.IsInt (Scf.iv 0#32 1#32 k) (k.val : Int) := Affine.iv h_c0 h_c1 _ (by omega)
  have h_m : Affine.IsInt (Scalar.muli (Scf.iv 0#32 1#32 k) 256#32) ((k.val : Int) * 256) := Affine.muli h_i h_256 (by omega)
  have := Affine.toNat_of (Affine.indexCast h_m) (by omega)
  omega

/-- The prompt's keys and values a block and its scratch hold, as functions on the naturals. -/
def keyP (arg7 : Memref sig .tc .vmem S1x14336x128 .fp8e4m3) (X_arg7 : BufTy.Contents (Elt Ideal) arg7.view.ty) (n : ℕ) (d : Fin 128) : EReal :=
  if h : n < 14336 then View.read (Elt Ideal) arg7.view X_arg7 (ix3 0 ⟨n, h⟩ d) else 0

def kscP (arg18 : Memref sig .tc .vmem S14336x128 .f32) (X_arg18 : BufTy.Contents (Elt Ideal) arg18.view.ty) (r : Fin 512) (n : ℕ) : EReal :=
  if h : n < 14336 then View.read (Elt Ideal) arg18.view X_arg18 (ix2 ⟨n, h⟩ ⟨r.val % 128, Nat.mod_lt _ (by decide)⟩) else 0

def valP (arg19 : Memref sig .tc .vmem S128x14336 .bf16) (X_arg19 : BufTy.Contents (Elt Ideal) arg19.view.ty) (d : Fin 128) (n : ℕ) : EReal :=
  if h : n < 14336 then View.read (Elt Ideal) arg19.view X_arg19 (ix2 d ⟨n, h⟩) else 0

/-- The prompt scores of one row. -/
def xP (arg7 : Memref sig .tc .vmem S1x14336x128 .fp8e4m3) (X_arg7 : BufTy.Contents (Elt Ideal) arg7.view.ty) (arg18 : Memref sig .tc .vmem S14336x128 .f32) (X_arg18 : BufTy.Contents (Elt Ideal) arg18.view.ty)
    (v10 : BitVec 32) (v53 : Vec Ideal S1x1x512x128 .fp8e4m3) (v56 : Vec Ideal S1x1x1x512 .f32) (r : Fin 512) : ℕ → EReal :=
  score (keyP arg7 X_arg7) (kscP arg18 X_arg18 r) (fun d => v53 (ix4 0 0 r d)) (v56 (ix4 0 0 0 r)) (v10.toInt - 1)

theorem keyP_read (arg7 : Memref sig .tc .vmem S1x14336x128 .fp8e4m3) (X_arg7 : BufTy.Contents (Elt Ideal) arg7.view.ty) (off : Fin 3 → ℕ) (h : ∀ a, off a + S1x256x128.size a ≤ S1x14336x128.size a) (n : ℕ) (h0 : off 0 = 0) (h1 : off 1 = n) (h2 : off 2 = 0) (j : Fin 256) (d : Fin 128) (hb : n + j.val < 14336) :
    View.readAt (Elt Ideal) arg7.view (Rect.unit (s := S1x14336x128) off S1x256x128.size h).toLoadRect X_arg7 (ix3 0 j d) = keyP arg7 X_arg7 (n + j.val) d := by
  unfold keyP
  rw [dif_pos hb]
  refine congrArg (View.read (Elt Ideal) arg7.view X_arg7) (a₂ := (ix3 0 ⟨n + j.val, hb⟩ d : S1x14336x128.Idx)) ?_
  funext a
  match a with
  | 0 => exact Fin.ext (by show off 0 + 1 * 0 = 0; omega)
  | 1 => exact Fin.ext (by show off 1 + 1 * j.val = n + j.val; omega)
  | 2 => exact Fin.ext (by show off 2 + 1 * d.val = d.val; omega)

theorem kscP_read (arg18 : Memref sig .tc .vmem S14336x128 .f32) (X_arg18 : BufTy.Contents (Elt Ideal) arg18.view.ty) (off : Fin 2 → ℕ) (h : ∀ a, off a + S256x128.size a ≤ S14336x128.size a) (n : ℕ) (h0 : off 0 = n) (h1 : off 1 = 0) (j : Fin 256) (r : Fin 512) (hb : n + j.val < 14336) :
    View.readAt (Elt Ideal) arg18.view (Rect.unit (s := S14336x128) off S256x128.size h).toLoadRect X_arg18 (ix2 j ⟨r.val % 128, Nat.mod_lt _ (by decide)⟩) = kscP arg18 X_arg18 r (n + j.val) := by
  unfold kscP
  rw [dif_pos hb]
  refine congrArg (View.read (Elt Ideal) arg18.view X_arg18) (a₂ := (ix2 ⟨n + j.val, hb⟩ ⟨r.val % 128, Nat.mod_lt _ (by decide)⟩ : S14336x128.Idx)) ?_
  funext a
  match a with
  | 0 => exact Fin.ext (by show off 0 + 1 * j.val = n + j.val; omega)
  | 1 => exact Fin.ext (by show off 1 + 1 * (r.val % 128) = r.val % 128; omega)

theorem valP_read (arg19 : Memref sig .tc .vmem S128x14336 .bf16) (X_arg19 : BufTy.Contents (Elt Ideal) arg19.view.ty) (off : Fin 2 → ℕ) (h : ∀ a, off a + S128x256.size a ≤ S128x14336.size a) (n : ℕ) (h0 : off 0 = 0) (h1 : off 1 = n) (j : Fin 256) (d : Fin 128) (hb : n + j.val < 14336) :
    View.readAt (Elt Ideal) arg19.view (Rect.unit (s := S128x14336) off S128x256.size h).toLoadRect X_arg19 (ix2 d j) = valP arg19 X_arg19 d (n + j.val) := by
  unfold valP
  rw [dif_pos hb]
  refine congrArg (View.read (Elt Ideal) arg19.view X_arg19) (a₂ := (ix2 d ⟨n + j.val, hb⟩ : S128x14336.Idx)) ?_
  funext a
  match a with
  | 0 => exact Fin.ext (by show off 0 + 1 * d.val = d.val; omega)
  | 1 => exact Fin.ext (by show off 1 + 1 * j.val = n + j.val; omega)

theorem t4_step_of (v10 : Elt Ideal .i32) (hle : BitVec.toInt v10 ≤ 14336) (v53 : Vec Ideal S1x1x512x128 .fp8e4m3) (v56 : Vec Ideal S1x1x1x512 .f32) (k : Fin (k0_t4_loop v10).trips)
    (arg7 : Memref sig .tc .vmem S1x14336x128 .fp8e4m3) (X_arg7 : BufTy.Contents (Elt Ideal) arg7.view.ty) (arg18 : Memref sig .tc .vmem S14336x128 .f32) (X_arg18 : BufTy.Contents (Elt Ideal) arg18.view.ty) (arg19 : Memref sig .tc .vmem S128x14336 .bf16) (X_arg19 : BufTy.Contents (Elt Ideal) arg19.view.ty)
    (h12 : ∀ a, (k0_off12 v10 k) a + S1x256x128.size a ≤ S1x14336x128.size a) (h13 : ∀ a, (k0_off13 v10 k) a + S256x128.size a ≤ S14336x128.size a) (h14 : ∀ a, (k0_off14 v10 k) a + S128x256.size a ≤ S128x14336.size a) (s : Acc) :
    Step (xP arg7 X_arg7 arg18 X_arg18 v10 v53 v56) (valP arg19 X_arg19) (k.val * 256) s
      (k0_pay19 (F := Ideal) v10 v53 v56 k s.1 (View.readAt (Elt Ideal) arg7.view (Rect.unit (s := S1x14336x128) (k0_off12 v10 k) S1x256x128.size h12).toLoadRect X_arg7) (View.readAt (Elt Ideal) arg18.view (Rect.unit (s := S14336x128) (k0_off13 v10 k) S256x128.size h13).toLoadRect X_arg18),
       k0_pay22 (F := Ideal) v10 v53 v56 k s.1 s.2.1 (View.readAt (Elt Ideal) arg7.view (Rect.unit (s := S1x14336x128) (k0_off12 v10 k) S1x256x128.size h12).toLoadRect X_arg7) (View.readAt (Elt Ideal) arg18.view (Rect.unit (s := S14336x128) (k0_off13 v10 k) S256x128.size h13).toLoadRect X_arg18),
       k0_pay23 (F := Ideal) v10 v53 v56 k s.1 s.2.2 (View.readAt (Elt Ideal) arg7.view (Rect.unit (s := S1x14336x128) (k0_off12 v10 k) S1x256x128.size h12).toLoadRect X_arg7) (View.readAt (Elt Ideal) arg18.view (Rect.unit (s := S14336x128) (k0_off13 v10 k) S256x128.size h13).toLoadRect X_arg18) (View.readAt (Elt Ideal) arg19.view (Rect.unit (s := S128x14336) (k0_off14 v10 k) S128x256.size h14).toLoadRect X_arg19)) := by
  have hT := (t4_facts v10 hle).2
  have hk := k.isLt
  have hoff := off12_eq v10 hle k
  have hb : ∀ j : Fin 256, k.val * 256 + j.val < 14336 := fun j => by have := j.isLt; omega
  have hK := fun (j : Fin 256) (d : Fin 128) => keyP_read arg7 X_arg7 (k0_off12 v10 k) h12 (k.val * 256) rfl hoff rfl j d (hb j)
  have hS := fun (j : Fin 256) (r : Fin 512) => kscP_read arg18 X_arg18 (k0_off13 v10 k) h13 (k.val * 256) hoff rfl j r (hb j)
  have hV := fun (j : Fin 256) (d : Fin 128) => valP_read arg19 X_arg19 (k0_off14 v10 k) h14 (k.val * 256) rfl hoff j d (hb j)
  generalize View.readAt (Elt Ideal) arg7.view (Rect.unit (s := S1x14336x128) (k0_off12 v10 k) S1x256x128.size h12).toLoadRect X_arg7 = v228 at hK ⊢
  generalize View.readAt (Elt Ideal) arg18.view (Rect.unit (s := S14336x128) (k0_off13 v10 k) S256x128.size h13).toLoadRect X_arg18 = v232 at hS ⊢
  generalize View.readAt (Elt Ideal) arg19.view (Rect.unit (s := S128x14336) (k0_off14 v10 k) S128x256.size h14).toLoadRect X_arg19 = v257 at hV ⊢
  have hx : ∀ (j : Fin 256) (r : Fin 512), k0_pay18 (F := Ideal) v10 v53 v56 k v228 v232 (ix2 j r) = xP arg7 X_arg7 arg18 X_arg18 v10 v53 v56 r (k.val * 256 + j.val) := fun j r => by
    rw [t4_score v10 hle, hS]
    simp only [hK]
    rfl
  refine ⟨fun r => ?_, fun r => ?_, fun d r => ?_⟩
  · dsimp only; rw [t4_m]; simp only [hx]
  · dsimp only; rw [t4_l]; simp only [hx]
  · dsimp only; rw [t4_o]; simp only [hx, hV]

variable (c : Dev nD) (i : grid0.Coords) (arg3 : Memref sig .tc .smem S6 .i32) (harg3 : arg3.IsWhole) (arg4 : Memref sig .tc .smem S1 .i32) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x14336x128 .fp8e4m3) (harg7 : arg7.IsWhole) (arg8 : Memref sig .tc .vmem S1x128x14336 .fp8e4m3) (harg8 : arg8.IsWhole) (arg9 : Memref sig .tc .vmem S1x1x14336 .f32) (harg9 : arg9.IsWhole) (arg10 : Memref sig .tc .vmem S1x1x14336 .f32) (harg10 : arg10.IsWhole) (arg11 : Memref sig .tc .vmem S1x1x2048x128 .fp8e4m3) (harg11 : arg11.IsWhole) (arg12 : Memref sig .tc .vmem S1x1x128x2048 .fp8e4m3) (harg12 : arg12.IsWhole) (arg13 : Memref sig .tc .vmem S1x1x1x2048 .f32) (harg13 : arg13.IsWhole) (arg14 : Memref sig .tc .vmem S1x1x1x2048 .f32) (harg14 : arg14.IsWhole) (arg15 : Memref sig .tc .vmem S1x512x2048 .bf16) (harg15 : arg15.IsWhole) (arg16 : Memref sig .tc .vmem S1x1x1x8192 .f32) (harg16 : arg16.IsWhole) (arg17 : Memref sig .tc .vmem S1x1x1x8192 .f32) (harg17 : arg17.IsWhole) (arg18 : Memref sig .tc .vmem S14336x128 .f32) (harg18 : arg18.IsWhole) (arg19 : Memref sig .tc .vmem S128x14336 .bf16) (harg19 : arg19.IsWhole) (arg20 : Memref sig .tc .vmem S2048x128 .f32) (harg20 : arg20.IsWhole) (arg21 : Memref sig .tc .vmem S128x2048 .bf16) (harg21 : arg21.IsWhole) (arg22 : Memref sig .tc .vmem S512x128 .f32) (harg22 : arg22.IsWhole)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem t4_step (v9 : Elt Ideal .i32) (v10 : Elt Ideal .i32) (k0_hw1 : k0_chk1 i v9 v10) (k0_t3 : Fin k0_t3_loop.trips) (v14 : BitVec 32) (v16 : BitVec 32) (v46 : IVec S1x512 32) (k0_h3 : k0_cond3 i v9 k0_t3 = 1#1) (v53 : Vec Ideal S1x1x512x128 .fp8e4m3) (v56 : Vec Ideal S1x1x1x512 .f32) (X_arg7 : BufTy.Contents (Elt Ideal) arg7.view.ty) (X_arg18 : BufTy.Contents (Elt Ideal) arg18.view.ty) (X_arg19 : BufTy.Contents (Elt Ideal) arg19.view.ty) (hle : BitVec.toInt v10 ≤ 14336) (k : Fin (k0_t4_loop v10).trips) (s : Acc) :
    Step (xP arg7 X_arg7 arg18 X_arg18 v10 v53 v56) (valP arg19 X_arg19) (k.val * 256) s (tripR_k0_t4 (F := Ideal) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k0_t3 v14 v16 v46 k0_h3 v53 v56 X_arg7 X_arg18 X_arg19 k s) := by
  unfold tripR_k0_t4 trip_k0_t4
  exact t4_step_of v10 hle v53 v56 k arg7 X_arg7 arg18 X_arg18 arg19 X_arg19 _ _ _ s

end

theorem score_ext {K : ℕ → Fin 128 → EReal} {S : ℕ → EReal} {q : Fin 128 → EReal} {qs : EReal} {lim : ℤ} (n : ℕ) (h : lim < (n : ℤ)) : score K S q qs lim n = ⊥ := if_neg (by omega)

theorem Inv.zero (x : Fin 512 → ℕ → EReal) (v : Fin 128 → ℕ → EReal) : Inv x v 0 (k0_pay15 (F := Ideal), k0_pay16, k0_pay17) := by
  refine ⟨fun r => ?_, fun r => ?_, fun d r => ?_⟩
  · show floor = max floor _
    simp
  · show (FloatOps.ofBits (F := Ideal) .f32 0x00000000#32 : EReal) = Finset.sum _ _
    simp [Ideal.ofBits, Ideal.ieee]
  · show (FloatOps.ofBits (F := Ideal) .f32 0x00000000#32 : EReal) = Finset.sum _ _
    simp [Ideal.ofBits, Ideal.ieee]

theorem Inv.ext {x : Fin 512 → ℕ → EReal} {v : Fin 128 → ℕ → EReal} {n N : ℕ} {s : Acc} (h : Inv x v n s) (hn : n ≤ N)
    (hx : ∀ r k, n ≤ k → x r k = ⊥) : Inv x v N s := by
  refine ⟨fun r => ?_, fun r => ?_, fun d r => ?_⟩
  · rw [h.m r, Soft.M_ext floor hn (hx r)]
  · rw [h.l r, Soft.M_ext floor hn (hx r), Soft.W_ext _ hn (hx r)]
  · rw [h.o d r, Soft.M_ext floor hn (hx r), Soft.O_ext _ _ hn (hx r)]

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem t4_inv (v9 : Elt Ideal .i32) (v10 : Elt Ideal .i32) (k0_hw1 : k0_chk1 i v9 v10) (k0_t3 : Fin k0_t3_loop.trips) (v14 : BitVec 32) (v16 : BitVec 32) (v46 : IVec S1x512 32) (k0_h3 : k0_cond3 i v9 k0_t3 = 1#1) (v53 : Vec Ideal S1x1x512x128 .fp8e4m3) (v56 : Vec Ideal S1x1x1x512 .f32) (X_arg7 : BufTy.Contents (Elt Ideal) arg7.view.ty) (X_arg18 : BufTy.Contents (Elt Ideal) arg18.view.ty) (X_arg19 : BufTy.Contents (Elt Ideal) arg19.view.ty) (hle : BitVec.toInt v10 ≤ 14336) (n : ℕ) (hn : n ≤ (k0_t4_loop v10).trips) :
    Inv (xP arg7 X_arg7 arg18 X_arg18 v10 v53 v56) (valP arg19 X_arg19) (n * 256) (st_k0_t4 (F := Ideal) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k0_t3 v14 v16 v46 k0_h3 v53 v56 X_arg7 X_arg18 X_arg19 (k0_pay15, k0_pay16, k0_pay17) n) := by
  induction n with
  | zero => rw [st_k0_t4_zero, Nat.zero_mul]; exact Inv.zero _ _
  | succ n ih =>
    have e := st_k0_t4_succ (F := Ideal) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k0_t3 v14 v16 v46 k0_h3 v53 v56 X_arg7 X_arg18 X_arg19 (k0_pay15, k0_pay16, k0_pay17) ⟨n, by omega⟩
    rw [show n + 1 = (⟨n, by omega⟩ : Fin (k0_t4_loop v10).trips).val + 1 from rfl, e]
    rw [show ((⟨n, by omega⟩ : Fin (k0_t4_loop v10).trips).val + 1) * 256 = n * 256 + 256 by show (n + 1) * 256 = _; omega]
    exact (ih (by omega)).step (t4_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k0_t3 v14 v16 v46 k0_h3 v53 v56 X_arg7 X_arg18 X_arg19 hle ⟨n, by omega⟩ _)

/-- The prompt's loop after its last chunk: the softmax over all the prompt's keys. -/
theorem t4_end (v9 : Elt Ideal .i32) (v10 : Elt Ideal .i32) (k0_hw1 : k0_chk1 i v9 v10) (k0_t3 : Fin k0_t3_loop.trips) (v14 : BitVec 32) (v16 : BitVec 32) (v46 : IVec S1x512 32) (k0_h3 : k0_cond3 i v9 k0_t3 = 1#1) (v53 : Vec Ideal S1x1x512x128 .fp8e4m3) (v56 : Vec Ideal S1x1x1x512 .f32) (X_arg7 : BufTy.Contents (Elt Ideal) arg7.view.ty) (X_arg18 : BufTy.Contents (Elt Ideal) arg18.view.ty) (X_arg19 : BufTy.Contents (Elt Ideal) arg19.view.ty) (hle : BitVec.toInt v10 ≤ 14336) :
    Inv (xP arg7 X_arg7 arg18 X_arg18 v10 v53 v56) (valP arg19 X_arg19) 14336 (st_k0_t4 (F := Ideal) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k0_t3 v14 v16 v46 k0_h3 v53 v56 X_arg7 X_arg18 X_arg19 (k0_pay15, k0_pay16, k0_pay17) (k0_t4_loop v10).trips) := by
  have hT := (t4_facts v10 hle).2
  exact (t4_inv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k0_t3 v14 v16 v46 k0_h3 v53 v56 X_arg7 X_arg18 X_arg19 hle _ le_rfl).ext (by omega) fun r k hk => score_ext (lim := BitVec.toInt v10 - 1) k (by omega)

end

/-! ### The completion's loop -/

theorem t6_m (i : grid0.Coords) (t : Fin k0_t3_loop.trips) (v46 : IVec S1x512 32) (v53 : Vec Ideal S1x1x512x128 .fp8e4m3) (v56 : Vec Ideal S1x1x1x512 .f32) (k : Fin (k0_t6_loop i t).trips) (m : FVec Ideal S1x512 .f32) (v228 : Vec Ideal S1x1x256x128 .fp8e4m3) (v232 : Vec Ideal S256x128 .f32) (r : Fin 512) :
    k0_pay34 (F := Ideal) i t v46 v53 v56 k m v228 v232 (ix2 0 r)
      = max (m (ix2 0 r)) (Finset.univ.fold max ⊥ fun j : Fin 256 => k0_pay33 (F := Ideal) i t v46 v53 v56 k v228 v232 (ix2 j r)) := by
  pointwise [k0_pay34]
  rw [show Ideal.ofBits FTy.f32 4286578688#32 = ⊥ from ninf]

theorem t6_l (i : grid0.Coords) (t : Fin k0_t3_loop.trips) (v46 : IVec S1x512 32) (v53 : Vec Ideal S1x1x512x128 .fp8e4m3) (v56 : Vec Ideal S1x1x1x512 .f32) (k : Fin (k0_t6_loop i t).trips) (m l : FVec Ideal S1x512 .f32) (v228 : Vec Ideal S1x1x256x128 .fp8e4m3) (v232 : Vec Ideal S256x128 .f32) (r : Fin 512) :
    k0_pay37 (F := Ideal) i t v46 v53 v56 k m l v228 v232 (ix2 0 r)
      = Ideal.exp2 (m (ix2 0 r) - k0_pay34 (F := Ideal) i t v46 v53 v56 k m v228 v232 (ix2 0 r)) * l (ix2 0 r)
        + ∑ j : Fin 256, Ideal.exp2 (k0_pay33 (F := Ideal) i t v46 v53 v56 k v228 v232 (ix2 j r) - k0_pay34 (F := Ideal) i t v46 v53 v56 k m v228 v232 (ix2 0 r)) := by
  pointwise [k0_pay37, k0_pay35, k0_pay36]
  rfl

theorem t6_o (i : grid0.Coords) (t : Fin k0_t3_loop.trips) (v46 : IVec S1x512 32) (v53 : Vec Ideal S1x1x512x128 .fp8e4m3) (v56 : Vec Ideal S1x1x1x512 .f32) (k : Fin (k0_t6_loop i t).trips) (m : FVec Ideal S1x512 .f32) (o : FVec Ideal S128x512 .f32) (v228 : Vec Ideal S1x1x256x128 .fp8e4m3) (v232 : Vec Ideal S256x128 .f32) (v257 : Vec Ideal S128x256 .bf16) (d : Fin 128) (r : Fin 512) :
    k0_pay38 (F := Ideal) i t v46 v53 v56 k m o v228 v232 v257 (ix2 d r)
      = Ideal.exp2 (m (ix2 0 r) - k0_pay34 (F := Ideal) i t v46 v53 v56 k m v228 v232 (ix2 0 r)) * o (ix2 d r)
        + ∑ j : Fin 256, v257 (ix2 d j) * Ideal.exp2 (k0_pay33 (F := Ideal) i t v46 v53 v56 k v228 v232 (ix2 j r) - k0_pay34 (F := Ideal) i t v46 v53 v56 k m v228 v232 (ix2 0 r)) := by
  pointwise [k0_pay38, k0_pay35, k0_pay36]
  rfl

/-- The completion loop's number of trips: enough to reach the tile's last token. -/
theorem t6_word (i : grid0.Coords) (t : Fin k0_t3_loop.trips) :
    Affine.IsInt (Scalar.divsi (Scalar.addi (Scalar.addi (Scalar.addi (Scalar.muli (BitVec.ofNat 32 (i 2).val) 512#32) (Scalar.muli (Scf.iv 0#32 1#32 t) 32#32)) 32#32) 255#32) 256#32) ((((i 2).val * 512 + t.val * 32 + 287) / 256 : ℕ) : Int) := by
  have h2 : (i 2).val < 4 := (i 2).isLt
  have h3 : t.val < 16 := lt_of_lt_of_eq t.isLt trips3
  have h_c0 : Affine.IsInt 0#32 (0) := Affine.ofNat _ (by omega)
  have h_c1 : Affine.IsInt 1#32 (1) := Affine.ofNat _ (by omega)
  have h_32 : Affine.IsInt 32#32 (32) := Affine.ofNat _ (by omega)
  have h_255 : Affine.IsInt 255#32 (255) := Affine.ofNat _ (by omega)
  have h_256 : Affine.IsInt 256#32 (256) := Affine.ofNat _ (by omega)
  have h_512 : Affine.IsInt 512#32 (512) := Affine.ofNat _ (by omega)
  have h_i : Affine.IsInt (Scf.iv 0#32 1#32 t) (t.val : Int) := Affine.iv h_c0 h_c1 _ (by omega)
  have h_2 : Affine.IsInt (BitVec.ofNat 32 (i 2).val) ((i 2).val : Int) := Affine.ofNat _ (by omega)
  have h_a : Affine.IsInt _ (((i 2).val : Int) * 512) := Affine.muli h_2 h_512 (by omega)
  have h_b : Affine.IsInt _ ((t.val : Int) * 32) := Affine.muli h_i h_32 (by omega)
  have h_c : Affine.IsInt _ (((i 2).val : Int) * 512 + t.val * 32) := Affine.addi h_a h_b (by omega)
  have h_d : Affine.IsInt _ (((i 2).val : Int) * 512 + t.val * 32 + 32) := Affine.addi h_c h_32 (by omega)
  have h_e : Affine.IsInt _ (((i 2).val : Int) * 512 + t.val * 32 + 287) := Affine.addi h_d h_255 (by omega)
  exact Affine.divsi h_e h_256 ⟨by omega, by omega, by omega⟩

theorem t6_facts (i : grid0.Coords) (t : Fin k0_t3_loop.trips) :
    (k0_t6_loop i t).trips ≤ 8 ∧ (k0_t6_loop i t).trips = ((i 2).val * 512 + t.val * 32 + 287) / 256 := by
  have h2 : (i 2).val < 4 := (i 2).isLt
  have h3 : t.val < 16 := lt_of_lt_of_eq t.isLt trips3
  have h_q := t6_word i t
  have h_c0 : Affine.IsInt 0#32 (0) := Affine.ofNat _ (by omega)
  have h_c1 : Affine.IsInt 1#32 (1) := Affine.ofNat _ (by omega)
  have h_v64 : Affine.IsInt _ ((((i 2).val * 512 + t.val * 32 + 287) / 256 : ℕ) : Int) := Affine.subi h_q h_c0 (by omega)
  have h_v66 : Affine.IsInt _ ((((i 2).val * 512 + t.val * 32 + 287) / 256 : ℕ) : Int) := Affine.divsi_one h_v64 h_c1 (by omega)
  have h_v67 : Affine.IsInt _ ((((i 2).val * 512 + t.val * 32 + 287) / 256 : ℕ) : Int) := Affine.muli h_v66 h_c1 (by omega)
  have h_v68 : Affine.IsInt _ ((((i 2).val * 512 + t.val * 32 + 287) / 256 : ℕ) : Int) := Affine.addi h_c0 h_v67 (by omega)
  have := Affine.trips_eq h_c0 h_v68 h_c1 (((i 2).val * 512 + t.val * 32 + 287) / 256) (by omega)
  exact ⟨le_of_eq_of_le this (by omega), this⟩

/-- The completion loop's remainder copy runs no trip. -/
theorem t7_facts (i : grid0.Coords) (t : Fin k0_t3_loop.trips) : (k0_t7_loop i t).trips = 0 := by
  have h2 : (i 2).val < 4 := (i 2).isLt
  have h3 : t.val < 16 := lt_of_lt_of_eq t.isLt trips3
  have h_q := t6_word i t
  have h_c0 : Affine.IsInt 0#32 (0) := Affine.ofNat _ (by omega)
  have h_c1 : Affine.IsInt 1#32 (1) := Affine.ofNat _ (by omega)
  have h_v64 : Affine.IsInt _ ((((i 2).val * 512 + t.val * 32 + 287) / 256 : ℕ) : Int) := Affine.subi h_q h_c0 (by omega)
  have h_v66 : Affine.IsInt _ ((((i 2).val * 512 + t.val * 32 + 287) / 256 : ℕ) : Int) := Affine.divsi_one h_v64 h_c1 (by omega)
  have h_v67 : Affine.IsInt _ ((((i 2).val * 512 + t.val * 32 + 287) / 256 : ℕ) : Int) := Affine.muli h_v66 h_c1 (by omega)
  have h_v68 : Affine.IsInt _ ((((i 2).val * 512 + t.val * 32 + 287) / 256 : ℕ) : Int) := Affine.addi h_c0 h_v67 (by omega)
  have h_v65 : Affine.IsInt _ ((((i 2).val * 512 + t.val * 32 + 287) / 256 : ℕ) : Int) := Affine.addi h_c0 h_v64 (by omega)
  exact Nat.le_zero.mp (Affine.trips_le h_v68 h_v65 h_c1 _ (by omega))

theorem t6_score (i : grid0.Coords) (t : Fin k0_t3_loop.trips) (v46 : IVec S1x512 32) (v53 : Vec Ideal S1x1x512x128 .fp8e4m3) (v56 : Vec Ideal S1x1x1x512 .f32) (k : Fin (k0_t6_loop i t).trips) (v228 : Vec Ideal S1x1x256x128 .fp8e4m3) (v232 : Vec Ideal S256x128 .f32) (j : Fin 256) (r : Fin 512) :
    k0_pay33 (F := Ideal) i t v46 v53 v56 k v228 v232 (ix2 j r)
      = if ((k.val * 256 + j.val : ℕ) : ℤ) ≤ BitVec.toInt (v46 (ix2 0 r)) then (∑ d : Fin 128, v228 (ix4 0 0 j d) * v53 (ix4 0 0 r d)) * v232 (ix2 j ⟨r.val % 128, Nat.mod_lt _ (by decide)⟩) * v56 (ix4 0 0 0 r) else ⊥ := by
  have hT := (t6_facts i t).1
  have hk := k.isLt
  have h_c0 : Affine.IsInt 0#32 (0) := Affine.ofNat _ (by omega)
  have h_c1 : Affine.IsInt 1#32 (1) := Affine.ofNat _ (by omega)
  have h_256 : Affine.IsInt 256#32 (256) := Affine.ofNat _ (by omega)
  have h_i : Affine.IsInt (Scf.iv 0#32 1#32 k) (k.val : Int) := Affine.iv h_c0 h_c1 _ (by omega)
  have h_m : Affine.IsInt (Scalar.muli (Scf.iv 0#32 1#32 k) 256#32) ((k.val : Int) * 256) := Affine.muli h_i h_256 (by omega)
  have h_j : Affine.IsInt (BitVec.ofNat 32 j.val) (j.val : Int) := Affine.ofNat _ (by omega)
  have h_a := Affine.addi (e := (k.val : Int) * 256 + j.val) h_m h_j (by omega)
  have h_b := Affine.word (v46 (ix2 0 r))
  unfold k0_pay33
  show Scalar.select (IntOp.cmpi .sle (IntOp.addi (Scalar.muli (Scf.iv 0#32 1#32 k) 256#32) (iota .tc S256x512 32 [0] iota_S256x512_d0_w32 (ix2 j r))) (broadcastTo S256x512 v46 broadcasts_S1x512_S256x512 (ix2 j r))) (mulf (F := Ideal) _ _ (ix2 j r)) (FloatOps.ofBits .f32 0xFF800000#32) = _
  rw [mulf_apply, mulf_apply, raw_apply, conc_apply, qs_apply, bc_apply, iota_apply0, ninf]
  refine (select_eq (p := ((k.val * 256 + j.val : ℕ) : ℤ) ≤ BitVec.toInt (v46 (ix2 0 r))) (fun h => Affine.sle_holds h_a h_b (by push_cast at h; omega)) (fun h => Affine.sle_fails h_a h_b (by push_cast at h; omega)) _ _).trans (if_congr Iff.rfl ?_ rfl)
  exact congrArg (fun y : EReal => y * v232 (ix2 j ⟨r.val % 128, Nat.mod_lt _ (by decide)⟩) * v56 (ix4 0 0 0 r))
    (Finset.sum_congr rfl fun d _ => congrArg₂ (fun a b : EReal => a * b) (k4_apply v228 j d) (q_apply v53 r d))

theorem off18_eq (i : grid0.Coords) (t : Fin k0_t3_loop.trips) (k : Fin (k0_t6_loop i t).trips) :
    (Scalar.indexCast (Scalar.muli (Scf.iv 0#32 1#32 k) 256#32)).toNat = k.val * 256 := by
  have hT := (t6_facts i t).1
  have hk := k.isLt
  have h_c0 : Affine.IsInt 0#32 (0) := Affine.ofNat _ (by omega)
  have h_c1 : Affine.IsInt 1#32 (1) := Affine.ofNat _ (by omega)
  have h_256 : Affine.IsInt 256#32 (256) := Affine.ofNat _ (by omega)
  have h_i : Affine.IsInt (Scf.iv 0#32 1#32 k) (k.val : Int) := Affine.iv h_c0 h_c1 _ (by omega)
  have h_m : Affine.IsInt (Scalar.muli (Scf.iv 0#32 1#32 k) 256#32) ((k.val : Int) * 256) := Affine.muli h_i h_256 (by omega)
  have := Affine.toNat_of (Affine.indexCast h_m) (by omega)
  omega

/-- The completion's keys and values a block and its scratch hold, as functions on the naturals. -/
def keyC (arg11 : Memref sig .tc .vmem S1x1x2048x128 .fp8e4m3) (X_arg11 : BufTy.Contents (Elt Ideal) arg11.view.ty) (n : ℕ) (d : Fin 128) : EReal :=
  if h : n < 2048 then View.read (Elt Ideal) arg11.view X_arg11 (ix4 0 0 ⟨n, h⟩ d) else 0

def kscC (arg20 : Memref sig .tc .vmem S2048x128 .f32) (X_arg20 : BufTy.Contents (Elt Ideal) arg20.view.ty) (r : Fin 512) (n : ℕ) : EReal :=
  if h : n < 2048 then View.read (Elt Ideal) arg20.view X_arg20 (ix2 ⟨n, h⟩ ⟨r.val % 128, Nat.mod_lt _ (by decide)⟩) else 0

def valC (arg21 : Memref sig .tc .vmem S128x2048 .bf16) (X_arg21 : BufTy.Contents (Elt Ideal) arg21.view.ty) (d : Fin 128) (n : ℕ) : EReal :=
  if h : n < 2048 then View.read (Elt Ideal) arg21.view X_arg21 (ix2 d ⟨n, h⟩) else 0

/-- The completion scores of one row. -/
def xC (arg11 : Memref sig .tc .vmem S1x1x2048x128 .fp8e4m3) (X_arg11 : BufTy.Contents (Elt Ideal) arg11.view.ty) (arg20 : Memref sig .tc .vmem S2048x128 .f32) (X_arg20 : BufTy.Contents (Elt Ideal) arg20.view.ty)
    (v46 : IVec S1x512 32) (v53 : Vec Ideal S1x1x512x128 .fp8e4m3) (v56 : Vec Ideal S1x1x1x512 .f32) (r : Fin 512) : ℕ → EReal :=
  score (keyC arg11 X_arg11) (kscC arg20 X_arg20 r) (fun d => v53 (ix4 0 0 r d)) (v56 (ix4 0 0 0 r)) (BitVec.toInt (v46 (ix2 0 r)))

theorem keyC_read (arg11 : Memref sig .tc .vmem S1x1x2048x128 .fp8e4m3) (X_arg11 : BufTy.Contents (Elt Ideal) arg11.view.ty) (off : Fin 4 → ℕ) (h : ∀ a, off a + S1x1x256x128.size a ≤ S1x1x2048x128.size a) (n : ℕ) (h0 : off 0 = 0) (h0' : off 1 = 0) (h1 : off 2 = n) (h2 : off 3 = 0) (j : Fin 256) (d : Fin 128) (hb : n + j.val < 2048) :
    View.readAt (Elt Ideal) arg11.view (Rect.unit (s := S1x1x2048x128) off S1x1x256x128.size h).toLoadRect X_arg11 (ix4 0 0 j d) = keyC arg11 X_arg11 (n + j.val) d := by
  unfold keyC
  rw [dif_pos hb]
  refine congrArg (View.read (Elt Ideal) arg11.view X_arg11) (a₂ := (ix4 0 0 ⟨n + j.val, hb⟩ d : S1x1x2048x128.Idx)) ?_
  funext a
  match a with
  | 0 => exact Fin.ext (by show off 0 + 1 * 0 = 0; omega)
  | 1 => exact Fin.ext (by show off 1 + 1 * 0 = 0; omega)
  | 2 => exact Fin.ext (by show off 2 + 1 * j.val = n + j.val; omega)
  | 3 => exact Fin.ext (by show off 3 + 1 * d.val = d.val; omega)

theorem kscC_read (arg20 : Memref sig .tc .vmem S2048x128 .f32) (X_arg20 : BufTy.Contents (Elt Ideal) arg20.view.ty) (off : Fin 2 → ℕ) (h : ∀ a, off a + S256x128.size a ≤ S2048x128.size a) (n : ℕ) (h0 : off 0 = n) (h1 : off 1 = 0) (j : Fin 256) (r : Fin 512) (hb : n + j.val < 2048) :
    View.readAt (Elt Ideal) arg20.view (Rect.unit (s := S2048x128) off S256x128.size h).toLoadRect X_arg20 (ix2 j ⟨r.val % 128, Nat.mod_lt _ (by decide)⟩) = kscC arg20 X_arg20 r (n + j.val) := by
  unfold kscC
  rw [dif_pos hb]
  refine congrArg (View.read (Elt Ideal) arg20.view X_arg20) (a₂ := (ix2 ⟨n + j.val, hb⟩ ⟨r.val % 128, Nat.mod_lt _ (by decide)⟩ : S2048x128.Idx)) ?_
  funext a
  match a with
  | 0 => exact Fin.ext (by show off 0 + 1 * j.val = n + j.val; omega)
  | 1 => exact Fin.ext (by show off 1 + 1 * (r.val % 128) = r.val % 128; omega)

theorem valC_read (arg21 : Memref sig .tc .vmem S128x2048 .bf16) (X_arg21 : BufTy.Contents (Elt Ideal) arg21.view.ty) (off : Fin 2 → ℕ) (h : ∀ a, off a + S128x256.size a ≤ S128x2048.size a) (n : ℕ) (h0 : off 0 = 0) (h1 : off 1 = n) (j : Fin 256) (d : Fin 128) (hb : n + j.val < 2048) :
    View.readAt (Elt Ideal) arg21.view (Rect.unit (s := S128x2048) off S128x256.size h).toLoadRect X_arg21 (ix2 d j) = valC arg21 X_arg21 d (n + j.val) := by
  unfold valC
  rw [dif_pos hb]
  refine congrArg (View.read (Elt Ideal) arg21.view X_arg21) (a₂ := (ix2 d ⟨n + j.val, hb⟩ : S128x2048.Idx)) ?_
  funext a
  match a with
  | 0 => exact Fin.ext (by show off 0 + 1 * d.val = d.val; omega)
  | 1 => exact Fin.ext (by show off 1 + 1 * j.val = n + j.val; omega)

theorem t6_step_of (i : grid0.Coords) (t : Fin k0_t3_loop.trips) (v46 : IVec S1x512 32) (v53 : Vec Ideal S1x1x512x128 .fp8e4m3) (v56 : Vec Ideal S1x1x1x512 .f32) (k : Fin (k0_t6_loop i t).trips)
    (arg11 : Memref sig .tc .vmem S1x1x2048x128 .fp8e4m3) (X_arg11 : BufTy.Contents (Elt Ideal) arg11.view.ty) (arg20 : Memref sig .tc .vmem S2048x128 .f32) (X_arg20 : BufTy.Contents (Elt Ideal) arg20.view.ty) (arg21 : Memref sig .tc .vmem S128x2048 .bf16) (X_arg21 : BufTy.Contents (Elt Ideal) arg21.view.ty)
    (h12 : ∀ a, (k0_off18 i t k) a + S1x1x256x128.size a ≤ S1x1x2048x128.size a) (h13 : ∀ a, (k0_off19 i t k) a + S256x128.size a ≤ S2048x128.size a) (h14 : ∀ a, (k0_off20 i t k) a + S128x256.size a ≤ S128x2048.size a) (s : Acc) :
    Step (xC arg11 X_arg11 arg20 X_arg20 v46 v53 v56) (valC arg21 X_arg21) (k.val * 256) s
      (k0_pay34 (F := Ideal) i t v46 v53 v56 k s.1 (View.readAt (Elt Ideal) arg11.view (Rect.unit (s := S1x1x2048x128) (k0_off18 i t k) S1x1x256x128.size h12).toLoadRect X_arg11) (View.readAt (Elt Ideal) arg20.view (Rect.unit (s := S2048x128) (k0_off19 i t k) S256x128.size h13).toLoadRect X_arg20),
       k0_pay37 (F := Ideal) i t v46 v53 v56 k s.1 s.2.1 (View.readAt (Elt Ideal) arg11.view (Rect.unit (s := S1x1x2048x128) (k0_off18 i t k) S1x1x256x128.size h12).toLoadRect X_arg11) (View.readAt (Elt Ideal) arg20.view (Rect.unit (s := S2048x128) (k0_off19 i t k) S256x128.size h13).toLoadRect X_arg20),
       k0_pay38 (F := Ideal) i t v46 v53 v56 k s.1 s.2.2 (View.readAt (Elt Ideal) arg11.view (Rect.unit (s := S1x1x2048x128) (k0_off18 i t k) S1x1x256x128.size h12).toLoadRect X_arg11) (View.readAt (Elt Ideal) arg20.view (Rect.unit (s := S2048x128) (k0_off19 i t k) S256x128.size h13).toLoadRect X_arg20) (View.readAt (Elt Ideal) arg21.view (Rect.unit (s := S128x2048) (k0_off20 i t k) S128x256.size h14).toLoadRect X_arg21)) := by
  have hT := (t6_facts i t).1
  have hk := k.isLt
  have hoff := off18_eq i t k
  have hb : ∀ j : Fin 256, k.val * 256 + j.val < 2048 := fun j => by have := j.isLt; omega
  have hK := fun (j : Fin 256) (d : Fin 128) => keyC_read arg11 X_arg11 (k0_off18 i t k) h12 (k.val * 256) rfl rfl hoff rfl j d (hb j)
  have hS := fun (j : Fin 256) (r : Fin 512) => kscC_read arg20 X_arg20 (k0_off19 i t k) h13 (k.val * 256) hoff rfl j r (hb j)
  have hV := fun (j : Fin 256) (d : Fin 128) => valC_read arg21 X_arg21 (k0_off20 i t k) h14 (k.val * 256) rfl hoff j d (hb j)
  generalize View.readAt (Elt Ideal) arg11.view (Rect.unit (s := S1x1x2048x128) (k0_off18 i t k) S1x1x256x128.size h12).toLoadRect X_arg11 = v228 at hK ⊢
  generalize View.readAt (Elt Ideal) arg20.view (Rect.unit (s := S2048x128) (k0_off19 i t k) S256x128.size h13).toLoadRect X_arg20 = v232 at hS ⊢
  generalize View.readAt (Elt Ideal) arg21.view (Rect.unit (s := S128x2048) (k0_off20 i t k) S128x256.size h14).toLoadRect X_arg21 = v257 at hV ⊢
  have hx : ∀ (j : Fin 256) (r : Fin 512), k0_pay33 (F := Ideal) i t v46 v53 v56 k v228 v232 (ix2 j r) = xC arg11 X_arg11 arg20 X_arg20 v46 v53 v56 r (k.val * 256 + j.val) := fun j r => by
    rw [t6_score i t, hS]
    simp only [hK]
    rfl
  refine ⟨fun r => ?_, fun r => ?_, fun d r => ?_⟩
  · dsimp only; rw [t6_m]; simp only [hx]
  · dsimp only; rw [t6_l]; simp only [hx]
  · dsimp only; rw [t6_o]; simp only [hx, hV]

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem t6_step (v9 : Elt Ideal .i32) (v10 : Elt Ideal .i32) (k0_hw1 : k0_chk1 i v9 v10) (t : Fin k0_t3_loop.trips) (v14 : BitVec 32) (v16 : BitVec 32) (v46 : IVec S1x512 32) (k0_h3 : k0_cond3 i v9 t = 1#1) (v53 : Vec Ideal S1x1x512x128 .fp8e4m3) (v56 : Vec Ideal S1x1x1x512 .f32) (X_arg11 : BufTy.Contents (Elt Ideal) arg11.view.ty) (X_arg20 : BufTy.Contents (Elt Ideal) arg20.view.ty) (X_arg21 : BufTy.Contents (Elt Ideal) arg21.view.ty) (k : Fin (k0_t6_loop i t).trips) (s : Acc) :
    Step (xC arg11 X_arg11 arg20 X_arg20 v46 v53 v56) (valC arg21 X_arg21) (k.val * 256) s (tripR_k0_t6 (F := Ideal) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 t v14 v16 v46 k0_h3 v53 v56 X_arg11 X_arg20 X_arg21 k s) := by
  unfold tripR_k0_t6 trip_k0_t6
  exact t6_step_of i t v46 v53 v56 k arg11 X_arg11 arg20 X_arg20 arg21 X_arg21 _ _ _ s

theorem t6_inv (v9 : Elt Ideal .i32) (v10 : Elt Ideal .i32) (k0_hw1 : k0_chk1 i v9 v10) (t : Fin k0_t3_loop.trips) (v14 : BitVec 32) (v16 : BitVec 32) (v46 : IVec S1x512 32) (k0_h3 : k0_cond3 i v9 t = 1#1) (v53 : Vec Ideal S1x1x512x128 .fp8e4m3) (v56 : Vec Ideal S1x1x1x512 .f32) (X_arg11 : BufTy.Contents (Elt Ideal) arg11.view.ty) (X_arg20 : BufTy.Contents (Elt Ideal) arg20.view.ty) (X_arg21 : BufTy.Contents (Elt Ideal) arg21.view.ty) (n : ℕ) (hn : n ≤ (k0_t6_loop i t).trips) :
    Inv (xC arg11 X_arg11 arg20 X_arg20 v46 v53 v56) (valC arg21 X_arg21) (n * 256) (st_k0_t6 (F := Ideal) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 t v14 v16 v46 k0_h3 v53 v56 X_arg11 X_arg20 X_arg21 (k0_pay30, k0_pay31, k0_pay32) n) := by
  induction n with
  | zero => rw [st_k0_t6_zero, Nat.zero_mul]; exact Inv.zero _ _
  | succ n ih =>
    have e := st_k0_t6_succ (F := Ideal) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 t v14 v16 v46 k0_h3 v53 v56 X_arg11 X_arg20 X_arg21 (k0_pay30, k0_pay31, k0_pay32) ⟨n, by omega⟩
    rw [show n + 1 = (⟨n, by omega⟩ : Fin (k0_t6_loop i t).trips).val + 1 from rfl, e]
    rw [show ((⟨n, by omega⟩ : Fin (k0_t6_loop i t).trips).val + 1) * 256 = n * 256 + 256 by show (n + 1) * 256 = _; omega]
    exact (ih (by omega)).step (t6_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 t v14 v16 v46 k0_h3 v53 v56 X_arg11 X_arg20 X_arg21 ⟨n, by omega⟩ _)

/-- The completion's loop after its last chunk: the softmax over all the completion's keys. -/
theorem t6_end (v9 : Elt Ideal .i32) (v10 : Elt Ideal .i32) (k0_hw1 : k0_chk1 i v9 v10) (t : Fin k0_t3_loop.trips) (v14 : BitVec 32) (v16 : BitVec 32) (v46 : IVec S1x512 32) (k0_h3 : k0_cond3 i v9 t = 1#1) (v53 : Vec Ideal S1x1x512x128 .fp8e4m3) (v56 : Vec Ideal S1x1x1x512 .f32) (X_arg11 : BufTy.Contents (Elt Ideal) arg11.view.ty) (X_arg20 : BufTy.Contents (Elt Ideal) arg20.view.ty) (X_arg21 : BufTy.Contents (Elt Ideal) arg21.view.ty) (hlim : ∀ r : Fin 512, BitVec.toInt (v46 (ix2 0 r)) < (((i 2).val * 512 + t.val * 32 + 32 : ℕ) : ℤ)) :
    Inv (xC arg11 X_arg11 arg20 X_arg20 v46 v53 v56) (valC arg21 X_arg21) 2048 (st_k0_t6 (F := Ideal) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 t v14 v16 v46 k0_h3 v53 v56 X_arg11 X_arg20 X_arg21 (k0_pay30, k0_pay31, k0_pay32) (k0_t6_loop i t).trips) := by
  have hT := (t6_facts i t).1
  have hT2 := (t6_facts i t).2
  exact (t6_inv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 t v14 v16 v46 k0_h3 v53 v56 X_arg11 X_arg20 X_arg21 _ le_rfl).ext (by omega) fun r k hk => score_ext (lim := BitVec.toInt (v46 (ix2 0 r))) k (by have := hlim r; omega)

end

end Cert.Proof.KernelIdeal
-- ==== Proof.VTile.lean ====
/-
  One tile at its values: what it stores into the three outputs, read at an index, from the values of its loops.
-/
module

public import proofs.«01_k».proof.Proof.VLoop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof

/-! ### The token of a row -/

/-- The kernel's floor division of a row by sixteen. -/
def lane16 (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32) (IntOp.divsi .vector x 16#32)

theorem lane16_eq : ∀ r : Fin 512, lane16 (BitVec.ofNat 32 r.val) = BitVec.ofNat 32 (r.val / 16) := by
  decide +kernel

theorem iota_apply1 (r : Fin 512) : iota .tc S1x512 32 [1] iota_S1x512_d1_w32 (ix2 0 r) = BitVec.ofNat 32 r.val := by
  pointwise

theorem pay5_apply (i : grid0.Coords) (k : Fin k0_t3_loop.trips) (r : Fin 512) :
    k0_pay5 i k (ix2 0 r) = Scalar.addi (Scalar.addi (Scalar.muli (BitVec.ofNat 32 (i 2).val) 512#32) (Scalar.muli (Scf.iv 0#32 1#32 k) 32#32)) (BitVec.ofNat 32 (r.val / 16)) := by
  rw [← lane16_eq r, ← iota_apply1 r]
  rfl

/-- The token of a tile's row. -/
theorem pay5_toInt (i : grid0.Coords) (k : Fin k0_t3_loop.trips) (r : Fin 512) :
    BitVec.toInt (k0_pay5 i k (ix2 0 r)) = (((i 2).val * 512 + k.val * 32 + r.val / 16 : ℕ) : Int) := by
  have h2 : (i 2).val < 4 := (i 2).isLt
  have h3 : k.val < 16 := lt_of_lt_of_eq k.isLt trips3
  have h_c0 : Affine.IsInt 0#32 (0) := Affine.ofNat _ (by omega)
  have h_c1 : Affine.IsInt 1#32 (1) := Affine.ofNat _ (by omega)
  have h_32 : Affine.IsInt 32#32 (32) := Affine.ofNat _ (by omega)
  have h_512 : Affine.IsInt 512#32 (512) := Affine.ofNat _ (by omega)
  have h_i : Affine.IsInt (Scf.iv 0#32 1#32 k) (k.val : Int) := Affine.iv h_c0 h_c1 _ (by omega)
  have h_2 : Affine.IsInt (BitVec.ofNat 32 (i 2).val) ((i 2).val : Int) := Affine.ofNat _ (by omega)
  have h_r : Affine.IsInt (BitVec.ofNat 32 (r.val / 16)) ((r.val / 16 : ℕ) : Int) := Affine.ofNat _ (by omega)
  have h_a : Affine.IsInt _ (((i 2).val : Int) * 512) := Affine.muli h_2 h_512 (by omega)
  have h_b : Affine.IsInt _ ((k.val : Int) * 32) := Affine.muli h_i h_32 (by omega)
  have h_c : Affine.IsInt _ (((i 2).val : Int) * 512 + k.val * 32) := Affine.addi h_a h_b (by omega)
  have h_d : Affine.IsInt _ ((((i 2).val * 512 + k.val * 32 + r.val / 16 : ℕ) : Int)) := Affine.addi h_c h_r (by omega)
  rw [pay5_apply]
  unfold Affine.IsInt at h_d
  exact h_d

/-! ### The outputs of one row -/

/-- The kernel's logarithm of two. -/
abbrev ln2 : EReal := Named.named (F := Ideal) (φ := .f32) κ "ln2" 0x3F317218#32

/-- A row's output at one column: the two partial softmaxes merged at their common maximum. -/
def outV (pos lim : ℤ) (xp vp xc vc : ℕ → EReal) : EReal :=
  if pos < lim then
    Ideal.div
      (Ideal.exp2 (Soft.M floor xp 14336 - max (Soft.M floor xp 14336) (Soft.M floor xc 2048)) * Soft.O vp xp (Soft.M floor xp 14336) 14336
        + Ideal.exp2 (Soft.M floor xc 2048 - max (Soft.M floor xp 14336) (Soft.M floor xc 2048)) * Soft.O vc xc (Soft.M floor xc 2048) 2048)
      (Ideal.exp2 (Soft.M floor xp 14336 - max (Soft.M floor xp 14336) (Soft.M floor xc 2048)) * Soft.W xp (Soft.M floor xp 14336) 14336
        + Ideal.exp2 (Soft.M floor xc 2048 - max (Soft.M floor xp 14336) (Soft.M floor xc 2048)) * Soft.W xc (Soft.M floor xc 2048) 2048)
  else 0

/-- A row's log-sum-exp over the first `n` keys. -/
def lseV (pos lim : ℤ) (x : ℕ → EReal) (n : ℕ) : EReal :=
  if pos < lim then ln2 * Soft.M floor x n + Ideal.log (Soft.W x (Soft.M floor x n) n) else 0

theorem pzero : (FloatOps.ofBits (F := Ideal) .f32 0x00000000#32 : EReal) = 0 := by
  simp [Ideal.ofBits, Ideal.ieee]

theorem pzero16 : (FloatOps.ofBits (F := Ideal) .bf16 0x0000#16 : EReal) = 0 := by
  simp [Ideal.ofBits, Ideal.ieee]

theorem pay8_apply (m l : FVec Ideal S1x512 .f32) (v : IVec S1x512 1) (r : Fin 512) :
    k0_pay8 (F := Ideal) m l v (ix4 0 0 0 r) = Scalar.select (v (ix2 0 r)) (ln2 * m (ix2 0 r) + Ideal.log (l (ix2 0 r))) (FloatOps.ofBits (F := Ideal) .f32 0x00000000#32) := by
  pointwise [k0_pay8]

theorem pay9_apply (m l : FVec Ideal S1x512 .f32) (v : IVec S1x512 1) (r : Fin 512) :
    k0_pay9 (F := Ideal) m l v (ix4 0 0 0 r) = Scalar.select (v (ix2 0 r)) (ln2 * m (ix2 0 r) + Ideal.log (l (ix2 0 r))) (FloatOps.ofBits (F := Ideal) .f32 0x00000000#32) := by
  pointwise [k0_pay9]

theorem pay48_apply (v9 : Elt Ideal .i32) (v46 : IVec S1x512 32) (P C : Acc) (r : Fin 512) (d : Fin 128) :
    k0_pay48 (F := Ideal) v9 v46 P.2.1 P.2.2 C.1 C.2.1 C.2.2 (k0_pay45 P.1 C.1) (k0_pay46 P.1 C.1) (ix2 r d)
      = Scalar.select (k0_pay47 (F := Ideal) v9 v46 (ix2 0 r))
        (Ideal.div (Ideal.exp2 (P.1 (ix2 0 r) - max (P.1 (ix2 0 r)) (C.1 (ix2 0 r))) * P.2.2 (ix2 d r) + Ideal.exp2 (C.1 (ix2 0 r) - max (P.1 (ix2 0 r)) (C.1 (ix2 0 r))) * C.2.2 (ix2 d r))
          (Ideal.exp2 (P.1 (ix2 0 r) - max (P.1 (ix2 0 r)) (C.1 (ix2 0 r))) * P.2.1 (ix2 0 r) + Ideal.exp2 (C.1 (ix2 0 r) - max (P.1 (ix2 0 r)) (C.1 (ix2 0 r))) * C.2.1 (ix2 0 r)))
        (FloatOps.ofBits (F := Ideal) .f32 0x00000000#32) := by
  pointwise [k0_pay48, k0_pay45, k0_pay46]
  rfl

theorem live_select {α : Type} (v9 : Elt Ideal .i32) (v46 : IVec S1x512 32) (r : Fin 512) (a b : α) :
    Scalar.select (k0_pay47 (F := Ideal) v9 v46 (ix2 0 r)) a b = if BitVec.toInt (v46 (ix2 0 r)) < BitVec.toInt v9 then a else b :=
  select_eq (p := BitVec.toInt (v46 (ix2 0 r)) < BitVec.toInt v9) (fun h => Affine.slt_holds (Affine.word _) (Affine.word v9) h) (fun h => Affine.slt_fails (Affine.word _) (Affine.word v9) h) a b

theorem lse8 (v9 : Elt Ideal .i32) (v46 : IVec S1x512 32) {x : Fin 512 → ℕ → EReal} {v : Fin 128 → ℕ → EReal} {n : ℕ} {P : Acc} (h : Inv x v n P) (r : Fin 512) :
    k0_pay8 (F := Ideal) P.1 P.2.1 (k0_pay47 v9 v46) (ix4 0 0 0 r) = lseV (BitVec.toInt (v46 (ix2 0 r))) (BitVec.toInt v9) (x r) n := by
  rw [pay8_apply, live_select, h.m r, h.l r, pzero]; rfl

theorem lse9 (v9 : Elt Ideal .i32) (v46 : IVec S1x512 32) {x : Fin 512 → ℕ → EReal} {v : Fin 128 → ℕ → EReal} {n : ℕ} {P : Acc} (h : Inv x v n P) (r : Fin 512) :
    k0_pay9 (F := Ideal) P.1 P.2.1 (k0_pay47 v9 v46) (ix4 0 0 0 r) = lseV (BitVec.toInt (v46 (ix2 0 r))) (BitVec.toInt v9) (x r) n := by
  rw [pay9_apply, live_select, h.m r, h.l r, pzero]; rfl

theorem out48 (v9 : Elt Ideal .i32) (v46 : IVec S1x512 32) {x y : Fin 512 → ℕ → EReal} {v u : Fin 128 → ℕ → EReal} {P C : Acc} (h : Inv x v 14336 P) (h' : Inv y u 2048 C) (r : Fin 512) (d : Fin 128) :
    k0_pay48 (F := Ideal) v9 v46 P.2.1 P.2.2 C.1 C.2.1 C.2.2 (k0_pay45 P.1 C.1) (k0_pay46 P.1 C.1) (ix2 r d)
      = outV (BitVec.toInt (v46 (ix2 0 r))) (BitVec.toInt v9) (x r) (v d) (y r) (u d) := by
  rw [pay48_apply, live_select, h.m r, h.l r, h.o d r, h'.m r, h'.l r, h'.o d r, pzero]; rfl

theorem Inv.sel {x : Fin 512 → ℕ → EReal} {v : Fin 128 → ℕ → EReal} {n : ℕ} {P Q : Acc} (h : Inv x v n P) (e : Q = P) : Inv x v n Q := e ▸ h

/-! ### The staged rows of one head -/

theorem whole_readCov (w : View sig .tc .vmem S512x128 .f32) (h0 : ∀ a, (![0, 0] : Fin 2 → ℕ) a + S512x128.size a ≤ S512x128.size a) (P : S512x128.Idx → EReal) (B : LoadRect S512x128) (x : B.shape.Idx) :
    w.readCov (Val := Elt Ideal) [⟨Rect.unit (s := S512x128) ![0, 0] S512x128.size h0, P⟩] B x = P (B.idx x) := by
  have hid : ∀ y : S512x128.Idx, (Rect.unit (s := S512x128) ![0, 0] S512x128.size h0).emb y = y := fun y => by
    funext a
    match a with
    | 0 => exact Fin.ext (by show 0 + 1 * (y 0).val = (y 0).val; omega)
    | 1 => exact Fin.ext (by show 0 + 1 * (y 1).val = (y 1).val; omega)
  have hc : ∃ p ∈ ([⟨Rect.unit (s := S512x128) ![0, 0] S512x128.size h0, P⟩] : List (View.Piece (Elt Ideal) S512x128 .f32)), B.idx x ∈ p.1.set := by
    refine ⟨_, List.mem_cons_self, ?_⟩
    rw [Rect.mem_set_unit]
    intro a
    match a with
    | 0 => exact ⟨Nat.zero_le _, by show (B.idx x 0).val < 0 + 512; have : (B.idx x 0).val < 512 := (B.idx x 0).isLt; omega⟩
    | 1 => exact ⟨Nat.zero_le _, by show (B.idx x 1).val < 0 + 128; have : (B.idx x 1).val < 128 := (B.idx x 1).isLt; omega⟩
  refine (View.read_writes_apply_eq_canon w _ (B.idx x) _ hc).trans ?_
  refine View.canon_apply_of_pieces (Val := Elt Ideal) (e := .f32) P _ ?_ _ hc
  intro p hp z
  obtain rfl := List.mem_singleton.mp hp
  exact congrArg P (hid z).symm

/-! ### A block's rows -/

theorem dead_le (i : grid0.Coords) (v9 : BitVec 32) (k : Fin k0_t3_loop.trips) (h : ¬ k0_cond3 i v9 k = 1#1) :
    v9.toInt ≤ (((i 2).val * 512 + k.val * 32 : ℕ) : Int) := by
  by_contra hn
  apply h
  have h2 : (i 2).val < 4 := (i 2).isLt
  have h3 : k.val < 16 := lt_of_lt_of_eq k.isLt trips3
  have h_c0 : Affine.IsInt 0#32 (0) := Affine.ofNat _ (by omega)
  have h_c1 : Affine.IsInt 1#32 (1) := Affine.ofNat _ (by omega)
  have h_32 : Affine.IsInt 32#32 (32) := Affine.ofNat _ (by omega)
  have h_512 : Affine.IsInt 512#32 (512) := Affine.ofNat _ (by omega)
  have h_i : Affine.IsInt (Scf.iv 0#32 1#32 k) (k.val : Int) := Affine.iv h_c0 h_c1 _ (by omega)
  have h_2 : Affine.IsInt (BitVec.ofNat 32 (i 2).val) ((i 2).val : Int) := Affine.ofNat _ (by omega)
  have h_a : Affine.IsInt _ (((i 2).val : Int) * 512) := Affine.muli h_2 h_512 (by omega)
  have h_b : Affine.IsInt _ ((k.val : Int) * 32) := Affine.muli h_i h_32 (by omega)
  have h_c : Affine.IsInt _ (((i 2).val : Int) * 512 + k.val * 32) := Affine.addi h_a h_b (by omega)
  have hh := Affine.slt_holds h_c (Affine.word v9) (by omega)
  unfold k0_cond3
  dsimp only
  rw [show Scalar.cmpi .slt (Scalar.addi (Scalar.muli (BitVec.ofNat 32 (i 2).val) 512#32) (Scalar.muli (Scf.iv 0#32 1#32 k) 32#32)) v9 = 1#1 from hh]
  decide

theorem off10_eq (k : Fin k0_t3_loop.trips) : k0_off10 k = ![0, 0, k.val * 512, 0] := by
  unfold k0_off10; simp only [Scalar.indexCast]; rw [iv_mul k 512 (by omega)]
theorem off11_eq (k : Fin k0_t3_loop.trips) : k0_off11 k = ![0, 0, 0, k.val * 512] := by
  unfold k0_off11; simp only [Scalar.indexCast]; rw [iv_mul k 512 (by omega)]

/-- A row's query and its scale in a block. -/
def qRow (arg5 : Memref sig .tc .vmem S1x1x8192x128 .fp8e4m3) (X_arg5 : BufTy.Contents (Elt Ideal) arg5.view.ty) (R : Fin 8192) (d : Fin 128) : EReal :=
  View.read (Elt Ideal) arg5.view X_arg5 (ix4 0 0 R d)
def qsRow (arg6 : Memref sig .tc .vmem S1x1x1x8192 .f32) (X_arg6 : BufTy.Contents (Elt Ideal) arg6.view.ty) (R : Fin 8192) : EReal :=
  View.read (Elt Ideal) arg6.view X_arg6 (ix4 0 0 0 R)

/-- A block row's lane in its tile. -/
def inTile (R : Fin 8192) : Fin 512 := ⟨R.val % 512, Nat.mod_lt _ (by decide)⟩

/-- A block row's prompt scores. -/
def rowP (arg5 : Memref sig .tc .vmem S1x1x8192x128 .fp8e4m3) (X_arg5 : BufTy.Contents (Elt Ideal) arg5.view.ty) (arg6 : Memref sig .tc .vmem S1x1x1x8192 .f32) (X_arg6 : BufTy.Contents (Elt Ideal) arg6.view.ty)
    (arg7 : Memref sig .tc .vmem S1x14336x128 .fp8e4m3) (X_arg7 : BufTy.Contents (Elt Ideal) arg7.view.ty) (arg18 : Memref sig .tc .vmem S14336x128 .f32) (X_arg18 : BufTy.Contents (Elt Ideal) arg18.view.ty) (v10 : BitVec 32) (R : Fin 8192) : ℕ → EReal :=
  score (keyP arg7 X_arg7) (kscP arg18 X_arg18 (inTile R)) (qRow arg5 X_arg5 R) (qsRow arg6 X_arg6 R) (v10.toInt - 1)

/-- A block row's completion scores. -/
def rowC (arg5 : Memref sig .tc .vmem S1x1x8192x128 .fp8e4m3) (X_arg5 : BufTy.Contents (Elt Ideal) arg5.view.ty) (arg6 : Memref sig .tc .vmem S1x1x1x8192 .f32) (X_arg6 : BufTy.Contents (Elt Ideal) arg6.view.ty)
    (arg11 : Memref sig .tc .vmem S1x1x2048x128 .fp8e4m3) (X_arg11 : BufTy.Contents (Elt Ideal) arg11.view.ty) (arg20 : Memref sig .tc .vmem S2048x128 .f32) (X_arg20 : BufTy.Contents (Elt Ideal) arg20.view.ty) (pos : ℤ) (R : Fin 8192) : ℕ → EReal :=
  score (keyC arg11 X_arg11) (kscC arg20 X_arg20 (inTile R)) (qRow arg5 X_arg5 R) (qsRow arg6 X_arg6 R) pos

/-- A tile's row in its block. -/
def inBlock (k : Fin k0_t3_loop.trips) (r : Fin 512) : Fin 8192 := ⟨k.val * 512 + r.val, by have : k.val < 16 := lt_of_lt_of_eq k.isLt trips3; omega⟩

theorem inTile_inBlock (k : Fin k0_t3_loop.trips) (r : Fin 512) : inTile (inBlock k r) = r :=
  Fin.ext (by show (k.val * 512 + r.val) % 512 = r.val; omega)

theorem v53_read (arg5 : Memref sig .tc .vmem S1x1x8192x128 .fp8e4m3) (X_arg5 : BufTy.Contents (Elt Ideal) arg5.view.ty) (k : Fin k0_t3_loop.trips) (h : ∀ a, k0_off10 k a + S1x1x512x128.size a ≤ S1x1x8192x128.size a) (r : Fin 512) (d : Fin 128) :
    View.readAt (Elt Ideal) arg5.view (Rect.unit (s := S1x1x8192x128) (k0_off10 k) S1x1x512x128.size h).toLoadRect X_arg5 (ix4 0 0 r d) = qRow arg5 X_arg5 (inBlock k r) d := by
  refine congrArg (View.read (Elt Ideal) arg5.view X_arg5) (a₂ := (ix4 0 0 (inBlock k r) d : S1x1x8192x128.Idx)) ?_
  have e := off10_eq k
  funext a
  match a with
  | 0 => exact Fin.ext (by show k0_off10 k 0 + 1 * 0 = 0; rw [e]; rfl)
  | 1 => exact Fin.ext (by show k0_off10 k 1 + 1 * 0 = 0; rw [e]; rfl)
  | 2 => exact Fin.ext (by show k0_off10 k 2 + 1 * r.val = k.val * 512 + r.val; rw [e]; show k.val * 512 + 1 * r.val = _; omega)
  | 3 => exact Fin.ext (by show k0_off10 k 3 + 1 * d.val = d.val; rw [e]; show 0 + 1 * d.val = _; omega)

theorem v56_read (arg6 : Memref sig .tc .vmem S1x1x1x8192 .f32) (X_arg6 : BufTy.Contents (Elt Ideal) arg6.view.ty) (k : Fin k0_t3_loop.trips) (h : ∀ a, k0_off11 k a + S1x1x1x512.size a ≤ S1x1x1x8192.size a) (r : Fin 512) :
    View.readAt (Elt Ideal) arg6.view (Rect.unit (s := S1x1x1x8192) (k0_off11 k) S1x1x1x512.size h).toLoadRect X_arg6 (ix4 0 0 0 r) = qsRow arg6 X_arg6 (inBlock k r) := by
  refine congrArg (View.read (Elt Ideal) arg6.view X_arg6) (a₂ := (ix4 0 0 0 (inBlock k r) : S1x1x1x8192.Idx)) ?_
  have e := off11_eq k
  funext a
  match a with
  | 0 => exact Fin.ext (by show k0_off11 k 0 + 1 * 0 = 0; rw [e]; rfl)
  | 1 => exact Fin.ext (by show k0_off11 k 1 + 1 * 0 = 0; rw [e]; rfl)
  | 2 => exact Fin.ext (by show k0_off11 k 2 + 1 * 0 = 0; rw [e]; rfl)
  | 3 => exact Fin.ext (by show k0_off11 k 3 + 1 * r.val = k.val * 512 + r.val; rw [e]; show k.val * 512 + 1 * r.val = _; omega)

theorem xP_row (arg5 : Memref sig .tc .vmem S1x1x8192x128 .fp8e4m3) (X_arg5 : BufTy.Contents (Elt Ideal) arg5.view.ty) (arg6 : Memref sig .tc .vmem S1x1x1x8192 .f32) (X_arg6 : BufTy.Contents (Elt Ideal) arg6.view.ty)
    (arg7 : Memref sig .tc .vmem S1x14336x128 .fp8e4m3) (X_arg7 : BufTy.Contents (Elt Ideal) arg7.view.ty) (arg18 : Memref sig .tc .vmem S14336x128 .f32) (X_arg18 : BufTy.Contents (Elt Ideal) arg18.view.ty) (v10 : BitVec 32)
    (k : Fin k0_t3_loop.trips) (h : ∀ a, k0_off10 k a + S1x1x512x128.size a ≤ S1x1x8192x128.size a) (h' : ∀ a, k0_off11 k a + S1x1x1x512.size a ≤ S1x1x1x8192.size a) (r : Fin 512) :
    xP arg7 X_arg7 arg18 X_arg18 v10 (View.readAt (Elt Ideal) arg5.view (Rect.unit (s := S1x1x8192x128) (k0_off10 k) S1x1x512x128.size h).toLoadRect X_arg5) (View.readAt (Elt Ideal) arg6.view (Rect.unit (s := S1x1x1x8192) (k0_off11 k) S1x1x1x512.size h').toLoadRect X_arg6) r
      = rowP arg5 X_arg5 arg6 X_arg6 arg7 X_arg7 arg18 X_arg18 v10 (inBlock k r) := by
  unfold xP rowP
  rw [inTile_inBlock]
  congr 1
  · funext d; exact v53_read arg5 X_arg5 k h r d
  · exact v56_read arg6 X_arg6 k h' r

theorem xC_row (arg5 : Memref sig .tc .vmem S1x1x8192x128 .fp8e4m3) (X_arg5 : BufTy.Contents (Elt Ideal) arg5.view.ty) (arg6 : Memref sig .tc .vmem S1x1x1x8192 .f32) (X_arg6 : BufTy.Contents (Elt Ideal) arg6.view.ty)
    (arg11 : Memref sig .tc .vmem S1x1x2048x128 .fp8e4m3) (X_arg11 : BufTy.Contents (Elt Ideal) arg11.view.ty) (arg20 : Memref sig .tc .vmem S2048x128 .f32) (X_arg20 : BufTy.Contents (Elt Ideal) arg20.view.ty) (v46 : IVec S1x512 32)
    (k : Fin k0_t3_loop.trips) (h : ∀ a, k0_off10 k a + S1x1x512x128.size a ≤ S1x1x8192x128.size a) (h' : ∀ a, k0_off11 k a + S1x1x1x512.size a ≤ S1x1x1x8192.size a) (r : Fin 512) :
    xC arg11 X_arg11 arg20 X_arg20 v46 (View.readAt (Elt Ideal) arg5.view (Rect.unit (s := S1x1x8192x128) (k0_off10 k) S1x1x512x128.size h).toLoadRect X_arg5) (View.readAt (Elt Ideal) arg6.view (Rect.unit (s := S1x1x1x8192) (k0_off11 k) S1x1x1x512.size h').toLoadRect X_arg6) r
      = rowC arg5 X_arg5 arg6 X_arg6 arg11 X_arg11 arg20 X_arg20 (BitVec.toInt (v46 (ix2 0 r))) (inBlock k r) := by
  unfold xC rowC
  rw [inTile_inBlock]
  congr 1
  · funext d; exact v53_read arg5 X_arg5 k h r d
  · exact v56_read arg6 X_arg6 k h' r

/-- What one block row gives at one column. -/
def rowOut (i : grid0.Coords) (arg5 : Memref sig .tc .vmem S1x1x8192x128 .fp8e4m3) (arg6 : Memref sig .tc .vmem S1x1x1x8192 .f32) (arg7 : Memref sig .tc .vmem S1x14336x128 .fp8e4m3) (arg11 : Memref sig .tc .vmem S1x1x2048x128 .fp8e4m3) (arg18 : Memref sig .tc .vmem S14336x128 .f32) (arg19 : Memref sig .tc .vmem S128x14336 .bf16) (arg20 : Memref sig .tc .vmem S2048x128 .f32) (arg21 : Memref sig .tc .vmem S128x2048 .bf16) (v9 v10 : BitVec 32) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (R : Fin 8192) (d : Fin 128) : EReal :=
  outV (((i 2).val * 512 + R.val / 16 : ℕ) : Int) v9.toInt (rowP arg5 X_arg5 arg6 X_arg6 arg7 X_arg7 arg18 X_arg18 v10 R) (valP arg19 X_arg19 d)
    (rowC arg5 X_arg5 arg6 X_arg6 arg11 X_arg11 arg20 X_arg20 (((i 2).val * 512 + R.val / 16 : ℕ) : Int) R) (valC arg21 X_arg21 d)

/-- The three output blocks, at an index. -/
def blk15 (i : grid0.Coords) (arg5 : Memref sig .tc .vmem S1x1x8192x128 .fp8e4m3) (arg6 : Memref sig .tc .vmem S1x1x1x8192 .f32) (arg7 : Memref sig .tc .vmem S1x14336x128 .fp8e4m3) (arg11 : Memref sig .tc .vmem S1x1x2048x128 .fp8e4m3) (arg18 : Memref sig .tc .vmem S14336x128 .f32) (arg19 : Memref sig .tc .vmem S128x14336 .bf16) (arg20 : Memref sig .tc .vmem S2048x128 .f32) (arg21 : Memref sig .tc .vmem S128x2048 .bf16) (v9 v10 : BitVec 32) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (y : S1x512x2048.Idx) : EReal :=
  rowOut i arg5 arg6 arg7 arg11 arg18 arg19 arg20 arg21 v9 v10 X_arg5 X_arg6 X_arg7 X_arg11 X_arg18 X_arg19 X_arg20 X_arg21 ⟨(y 1).val * 16 + (y 2).val / 128, by have h1 : (y 1).val < 512 := (y 1).isLt; have h2 : (y 2).val < 2048 := (y 2).isLt; omega⟩ ⟨(y 2).val % 128, Nat.mod_lt _ (by decide)⟩

def blk16 (i : grid0.Coords) (arg5 : Memref sig .tc .vmem S1x1x8192x128 .fp8e4m3) (arg6 : Memref sig .tc .vmem S1x1x1x8192 .f32) (arg7 : Memref sig .tc .vmem S1x14336x128 .fp8e4m3) (arg11 : Memref sig .tc .vmem S1x1x2048x128 .fp8e4m3) (arg18 : Memref sig .tc .vmem S14336x128 .f32) (arg19 : Memref sig .tc .vmem S128x14336 .bf16) (arg20 : Memref sig .tc .vmem S2048x128 .f32) (arg21 : Memref sig .tc .vmem S128x2048 .bf16) (v9 v10 : BitVec 32) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (y : S1x1x1x8192.Idx) : EReal :=
  lseV (((i 2).val * 512 + (y 3).val / 16 : ℕ) : Int) v9.toInt (rowP arg5 X_arg5 arg6 X_arg6 arg7 X_arg7 arg18 X_arg18 v10 (y 3)) 14336

def blk17 (i : grid0.Coords) (arg5 : Memref sig .tc .vmem S1x1x8192x128 .fp8e4m3) (arg6 : Memref sig .tc .vmem S1x1x1x8192 .f32) (arg7 : Memref sig .tc .vmem S1x14336x128 .fp8e4m3) (arg11 : Memref sig .tc .vmem S1x1x2048x128 .fp8e4m3) (arg18 : Memref sig .tc .vmem S14336x128 .f32) (arg19 : Memref sig .tc .vmem S128x14336 .bf16) (arg20 : Memref sig .tc .vmem S2048x128 .f32) (arg21 : Memref sig .tc .vmem S128x2048 .bf16) (v9 v10 : BitVec 32) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (y : S1x1x1x8192.Idx) : EReal :=
  lseV (((i 2).val * 512 + (y 3).val / 16 : ℕ) : Int) v9.toInt (rowC arg5 X_arg5 arg6 X_arg6 arg11 X_arg11 arg20 X_arg20 (((i 2).val * 512 + (y 3).val / 16 : ℕ) : Int) (y 3)) 2048

theorem inb15 (k : Fin k0_t3_loop.trips) (h : ℕ) (hh : h < 16) (off : Fin 3 → ℕ) (hoff : off = ![0, k.val * 32, 128 * h]) : ∀ a, off a + S1x32x128.size a ≤ S1x512x2048.size a := by
  have hk : k.val < 16 := lt_of_lt_of_eq k.isLt trips3
  subst hoff
  intro a
  match a with
  | 0 => exact Nat.le_refl 1
  | 1 => show k.val * 32 + 32 ≤ 512; omega
  | 2 => show 128 * h + 128 ≤ 2048; omega

theorem inb16 (k : Fin k0_t3_loop.trips) (off : Fin 4 → ℕ) (hoff : off = ![0, 0, 0, k.val * 512]) : ∀ a, off a + S1x1x1x512.size a ≤ S1x1x1x8192.size a := by
  have hk : k.val < 16 := lt_of_lt_of_eq k.isLt trips3
  subst hoff
  intro a
  match a with
  | 0 => exact Nat.le_refl 1
  | 1 => exact Nat.le_refl 1
  | 2 => exact Nat.le_refl 1
  | 3 => show k.val * 512 + 512 ≤ 8192; omega

theorem head_piece (i : grid0.Coords) (arg5 : Memref sig .tc .vmem S1x1x8192x128 .fp8e4m3) (arg6 : Memref sig .tc .vmem S1x1x1x8192 .f32) (arg7 : Memref sig .tc .vmem S1x14336x128 .fp8e4m3) (arg11 : Memref sig .tc .vmem S1x1x2048x128 .fp8e4m3) (arg18 : Memref sig .tc .vmem S14336x128 .f32) (arg19 : Memref sig .tc .vmem S128x14336 .bf16) (arg20 : Memref sig .tc .vmem S2048x128 .f32) (arg21 : Memref sig .tc .vmem S128x2048 .bf16) (v9 v10 : BitVec 32) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (k : Fin k0_t3_loop.trips) (h : ℕ) (hh : h < 16) (off : Fin 3 → ℕ) (hoff : off = ![0, k.val * 32, 128 * h])
    (pay : Vec Ideal S32x128 .f32 → FVec Ideal S1x32x128 .bf16) (hpay : ∀ v u d, pay v (ix3 0 u d) = v (ix2 u d)) (w : View sig .tc .vmem S512x128 .f32) (h0 : ∀ a, (![0, 0] : Fin 2 → ℕ) a + S512x128.size a ≤ S512x128.size a) (P : S512x128.Idx → EReal)
    (hP : ∀ r d, P (ix2 r d) = rowOut i arg5 arg6 arg7 arg11 arg18 arg19 arg20 arg21 v9 v10 X_arg5 X_arg6 X_arg7 X_arg11 X_arg18 X_arg19 X_arg20 X_arg21 (inBlock k r) d) (hB : ∀ a : Fin 2, (![32, 128] : Fin 2 → ℕ) a = 0 ∨ (![h, 0] : Fin 2 → ℕ) a + (![16, 1] : Fin 2 → ℕ) a * ((![32, 128] : Fin 2 → ℕ) a - 1) < S512x128.size a) (x : S1x32x128.Idx) :
    pay (w.readCov (Val := Elt Ideal) [⟨Rect.unit (s := S512x128) ![0, 0] S512x128.size h0, P⟩] (LoadRect.mk (s := S512x128) ![h, 0] ![32, 128] ![16, 1] hB)) x
      = blk15 i arg5 arg6 arg7 arg11 arg18 arg19 arg20 arg21 v9 v10 X_arg5 X_arg6 X_arg7 X_arg11 X_arg18 X_arg19 X_arg20 X_arg21 ((Rect.unit (s := S1x512x2048) off S1x32x128.size (inb15 k h hh off hoff)).emb x) := by
  subst hoff
  obtain ⟨u, d, rfl⟩ : ∃ (u : Fin 32) (d : Fin 128), x = ix3 0 u d := ⟨x 1, x 2, by
    funext a
    match a with
    | 0 => exact Subsingleton.elim (α := Fin 1) _ _
    | 1 => rfl
    | 2 => rfl⟩
  rw [hpay, whole_readCov]
  have hu := u.isLt
  have e : (LoadRect.mk (s := S512x128) ![h, 0] ![32, 128] ![16, 1] hB).idx (ix2 u d) = (ix2 (⟨u.val * 16 + h, by omega⟩ : Fin 512) d : S512x128.Idx) := by
    funext a
    match a with
    | 0 => exact Fin.ext (by show h + 16 * u.val = u.val * 16 + h; omega)
    | 1 => exact Fin.ext (by show 0 + 1 * d.val = d.val; omega)
  rw [e, hP]
  unfold blk15
  have hd := d.isLt
  congr 1
  · refine Fin.ext ?_
    show k.val * 512 + (u.val * 16 + h) = (k.val * 32 + 1 * u.val) * 16 + (128 * h + 1 * d.val) / 128
    omega
  · refine Fin.ext ?_
    show d.val = (128 * h + 1 * d.val) % 128
    omega

theorem lse_piece16 (i : grid0.Coords) (arg5 : Memref sig .tc .vmem S1x1x8192x128 .fp8e4m3) (arg6 : Memref sig .tc .vmem S1x1x1x8192 .f32) (arg7 : Memref sig .tc .vmem S1x14336x128 .fp8e4m3) (arg11 : Memref sig .tc .vmem S1x1x2048x128 .fp8e4m3) (arg18 : Memref sig .tc .vmem S14336x128 .f32) (arg19 : Memref sig .tc .vmem S128x14336 .bf16) (arg20 : Memref sig .tc .vmem S2048x128 .f32) (arg21 : Memref sig .tc .vmem S128x2048 .bf16) (v9 v10 : BitVec 32) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (k : Fin k0_t3_loop.trips) (off : Fin 4 → ℕ) (hoff : off = ![0, 0, 0, k.val * 512])
    (p : S1x1x1x512.Idx → EReal) (hp : ∀ r : Fin 512, p (ix4 0 0 0 r) = blk16 i arg5 arg6 arg7 arg11 arg18 arg19 arg20 arg21 v9 v10 X_arg5 X_arg6 X_arg7 X_arg11 X_arg18 X_arg19 X_arg20 X_arg21 (ix4 0 0 0 (inBlock k r))) (x : S1x1x1x512.Idx) :
    p x = blk16 i arg5 arg6 arg7 arg11 arg18 arg19 arg20 arg21 v9 v10 X_arg5 X_arg6 X_arg7 X_arg11 X_arg18 X_arg19 X_arg20 X_arg21 ((Rect.unit (s := S1x1x1x8192) off S1x1x1x512.size (inb16 k off hoff)).emb x) := by
  subst hoff
  obtain ⟨r, rfl⟩ : ∃ (r : Fin 512), x = ix4 0 0 0 r := ⟨x 3, by
    funext a
    match a with
    | 0 => exact Subsingleton.elim (α := Fin 1) _ _
    | 1 => exact Subsingleton.elim (α := Fin 1) _ _
    | 2 => exact Subsingleton.elim (α := Fin 1) _ _
    | 3 => rfl⟩
  rw [hp]
  refine congrArg (blk16 i arg5 arg6 arg7 arg11 arg18 arg19 arg20 arg21 v9 v10 X_arg5 X_arg6 X_arg7 X_arg11 X_arg18 X_arg19 X_arg20 X_arg21) ?_
  funext a
  match a with
  | 0 => rfl
  | 1 => rfl
  | 2 => rfl
  | 3 => exact Fin.ext (by show k.val * 512 + r.val = k.val * 512 + 1 * r.val; omega)

theorem lse_piece17 (i : grid0.Coords) (arg5 : Memref sig .tc .vmem S1x1x8192x128 .fp8e4m3) (arg6 : Memref sig .tc .vmem S1x1x1x8192 .f32) (arg7 : Memref sig .tc .vmem S1x14336x128 .fp8e4m3) (arg11 : Memref sig .tc .vmem S1x1x2048x128 .fp8e4m3) (arg18 : Memref sig .tc .vmem S14336x128 .f32) (arg19 : Memref sig .tc .vmem S128x14336 .bf16) (arg20 : Memref sig .tc .vmem S2048x128 .f32) (arg21 : Memref sig .tc .vmem S128x2048 .bf16) (v9 v10 : BitVec 32) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (k : Fin k0_t3_loop.trips) (off : Fin 4 → ℕ) (hoff : off = ![0, 0, 0, k.val * 512])
    (p : S1x1x1x512.Idx → EReal) (hp : ∀ r : Fin 512, p (ix4 0 0 0 r) = blk17 i arg5 arg6 arg7 arg11 arg18 arg19 arg20 arg21 v9 v10 X_arg5 X_arg6 X_arg7 X_arg11 X_arg18 X_arg19 X_arg20 X_arg21 (ix4 0 0 0 (inBlock k r))) (x : S1x1x1x512.Idx) :
    p x = blk17 i arg5 arg6 arg7 arg11 arg18 arg19 arg20 arg21 v9 v10 X_arg5 X_arg6 X_arg7 X_arg11 X_arg18 X_arg19 X_arg20 X_arg21 ((Rect.unit (s := S1x1x1x8192) off S1x1x1x512.size (inb16 k off hoff)).emb x) := by
  subst hoff
  obtain ⟨r, rfl⟩ : ∃ (r : Fin 512), x = ix4 0 0 0 r := ⟨x 3, by
    funext a
    match a with
    | 0 => exact Subsingleton.elim (α := Fin 1) _ _
    | 1 => exact Subsingleton.elim (α := Fin 1) _ _
    | 2 => exact Subsingleton.elim (α := Fin 1) _ _
    | 3 => rfl⟩
  rw [hp]
  refine congrArg (blk17 i arg5 arg6 arg7 arg11 arg18 arg19 arg20 arg21 v9 v10 X_arg5 X_arg6 X_arg7 X_arg11 X_arg18 X_arg19 X_arg20 X_arg21) ?_
  funext a
  match a with
  | 0 => rfl
  | 1 => rfl
  | 2 => rfl
  | 3 => exact Fin.ext (by show k.val * 512 + r.val = k.val * 512 + 1 * r.val; omega)

variable (c : Dev nD) (i : grid0.Coords) (arg3 : Memref sig .tc .smem S6 .i32) (harg3 : arg3.IsWhole) (arg4 : Memref sig .tc .smem S1 .i32) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x14336x128 .fp8e4m3) (harg7 : arg7.IsWhole) (arg8 : Memref sig .tc .vmem S1x128x14336 .fp8e4m3) (harg8 : arg8.IsWhole) (arg9 : Memref sig .tc .vmem S1x1x14336 .f32) (harg9 : arg9.IsWhole) (arg10 : Memref sig .tc .vmem S1x1x14336 .f32) (harg10 : arg10.IsWhole) (arg11 : Memref sig .tc .vmem S1x1x2048x128 .fp8e4m3) (harg11 : arg11.IsWhole) (arg12 : Memref sig .tc .vmem S1x1x128x2048 .fp8e4m3) (harg12 : arg12.IsWhole) (arg13 : Memref sig .tc .vmem S1x1x1x2048 .f32) (harg13 : arg13.IsWhole) (arg14 : Memref sig .tc .vmem S1x1x1x2048 .f32) (harg14 : arg14.IsWhole) (arg15 : Memref sig .tc .vmem S1x512x2048 .bf16) (harg15 : arg15.IsWhole) (arg16 : Memref sig .tc .vmem S1x1x1x8192 .f32) (harg16 : arg16.IsWhole) (arg17 : Memref sig .tc .vmem S1x1x1x8192 .f32) (harg17 : arg17.IsWhole) (arg18 : Memref sig .tc .vmem S14336x128 .f32) (harg18 : arg18.IsWhole) (arg19 : Memref sig .tc .vmem S128x14336 .bf16) (harg19 : arg19.IsWhole) (arg20 : Memref sig .tc .vmem S2048x128 .f32) (harg20 : arg20.IsWhole) (arg21 : Memref sig .tc .vmem S128x2048 .bf16) (harg21 : arg21.IsWhole) (arg22 : Memref sig .tc .vmem S512x128 .f32) (harg22 : arg22.IsWhole)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22

theorem t5_id (v9 : Elt Ideal .i32) (v10 : Elt Ideal .i32) (k0_hw1 : k0_chk1 i v9 v10) (k0_t3 : Fin k0_t3_loop.trips) (v14 : BitVec 32) (v16 : BitVec 32) (v46 : IVec S1x512 32) (k0_h3 : k0_cond3 i v9 k0_t3 = 1#1) (v53 : Vec Ideal S1x1x512x128 .fp8e4m3) (v56 : Vec Ideal S1x1x1x512 .f32) (X_arg7 : BufTy.Contents (Elt Ideal) arg7.view.ty) (X_arg18 : BufTy.Contents (Elt Ideal) arg18.view.ty) (X_arg19 : BufTy.Contents (Elt Ideal) arg19.view.ty) (init : FVec Ideal S1x512 .f32 × FVec Ideal S1x512 .f32 × FVec Ideal S128x512 .f32) (hle : BitVec.toInt v10 ≤ 14336) : st_k0_t5 (F := Ideal) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k0_t3 v14 v16 v46 k0_h3 v53 v56 X_arg7 X_arg18 X_arg19 (init.1, init.2.1, init.2.2) (k0_t5_loop v10).trips = init := by
  rw [Nat.le_zero.mp (t5_facts v10 hle).2, st_k0_t5_zero]

theorem t7_id (v9 : Elt Ideal .i32) (v10 : Elt Ideal .i32) (k0_hw1 : k0_chk1 i v9 v10) (k0_t3 : Fin k0_t3_loop.trips) (v14 : BitVec 32) (v16 : BitVec 32) (v46 : IVec S1x512 32) (k0_h3 : k0_cond3 i v9 k0_t3 = 1#1) (v53 : Vec Ideal S1x1x512x128 .fp8e4m3) (v56 : Vec Ideal S1x1x1x512 .f32) (X_arg11 : BufTy.Contents (Elt Ideal) arg11.view.ty) (X_arg20 : BufTy.Contents (Elt Ideal) arg20.view.ty) (X_arg21 : BufTy.Contents (Elt Ideal) arg21.view.ty) (init : FVec Ideal S1x512 .f32 × FVec Ideal S1x512 .f32 × FVec Ideal S128x512 .f32) : st_k0_t7 (F := Ideal) 𝒱₀ c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k0_t3 v14 v16 v46 k0_h3 v53 v56 X_arg11 X_arg20 X_arg21 (init.1, init.2.1, init.2.2) (k0_t7_loop i k0_t3).trips = init := by
  rw [t7_facts i k0_t3, st_k0_t7_zero]

end

theorem pay6_apply (v : Vec Ideal S32x128 .f32) (u : Fin 32) (d : Fin 128) : k0_pay6 (F := Ideal) v (ix3 0 u d) = v (ix2 u d) := by pointwise [k0_pay6]
theorem pay7_apply (v : Vec Ideal S32x128 .f32) (u : Fin 32) (d : Fin 128) : k0_pay7 (F := Ideal) v (ix3 0 u d) = v (ix2 u d) := by pointwise [k0_pay7]
theorem pay10_apply (x : S1x32x2048.Idx) : k0_pay10 (F := Ideal) x = 0 := pzero16
theorem pay11_apply (x : S1x1x1x512.Idx) : k0_pay11 (F := Ideal) x = 0 := pzero
theorem pay12_apply (x : S1x1x1x512.Idx) : k0_pay12 (F := Ideal) x = 0 := pzero

attribute [local irreducible] st_k0_t4 st_k0_t5 st_k0_t6 st_k0_t7

variable (arg2 : BitVec 32) (v9 : Elt Ideal .i32) (v10 : Elt Ideal .i32) (k0_hw1 : k0_chk1 i v9 v10) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21

set_option maxHeartbeats 1000000 in
theorem live16 (k : Fin k0_t3_loop.trips) (hle : BitVec.toInt v10 ≤ 14336) (h3 : k0_cond3 i v9 k = 1#1) :
    ∀ p ∈ (tripLive (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h3).2.1, ∀ x, p.2 x = blk16 i arg5 arg6 arg7 arg11 arg18 arg19 arg20 arg21 v9 v10 X_arg5 X_arg6 X_arg7 X_arg11 X_arg18 X_arg19 X_arg20 X_arg21 (p.1.emb x) := by
  unfold tripLive
  intro p hp
  obtain rfl := List.mem_singleton.mp hp
  intro x
  refine lse_piece16 i arg5 arg6 arg7 arg11 arg18 arg19 arg20 arg21 v9 v10 X_arg5 X_arg6 X_arg7 X_arg11 X_arg18 X_arg19 X_arg20 X_arg21 k _ (off40_eq k) _ (fun r => ?_) x
  refine Eq.trans (lse8 v9 (k0_pay5 i k) (Inv.sel (t4_end c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k _ _ (k0_pay5 i k) h3 _ _ X_arg7 X_arg18 X_arg19 hle) (t5_id c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k _ _ (k0_pay5 i k) h3 _ _ X_arg7 X_arg18 X_arg19 _ hle)) r) ?_
  rw [xP_row, pay5_toInt]
  unfold blk16
  have : (inBlock k r).val / 16 = k.val * 32 + r.val / 16 := by show (k.val * 512 + r.val) / 16 = _; omega
  show _ = lseV (((i 2).val * 512 + (inBlock k r).val / 16 : ℕ) : Int) _ _ _
  rw [this, ← Nat.add_assoc]
  rfl

end

theorem lim_lt (i : grid0.Coords) (k : Fin k0_t3_loop.trips) (r : Fin 512) : BitVec.toInt (k0_pay5 i k (ix2 0 r)) < (((i 2).val * 512 + k.val * 32 + 32 : ℕ) : ℤ) := by
  rw [pay5_toInt]
  have := r.isLt
  omega

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21

set_option maxHeartbeats 1000000 in
theorem live17 (k : Fin k0_t3_loop.trips) (hle : BitVec.toInt v10 ≤ 14336) (h3 : k0_cond3 i v9 k = 1#1) :
    ∀ p ∈ (tripLive (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h3).2.2.1, ∀ x, p.2 x = blk17 i arg5 arg6 arg7 arg11 arg18 arg19 arg20 arg21 v9 v10 X_arg5 X_arg6 X_arg7 X_arg11 X_arg18 X_arg19 X_arg20 X_arg21 (p.1.emb x) := by
  unfold tripLive
  intro p hp
  obtain rfl := List.mem_singleton.mp hp
  intro x
  refine lse_piece17 i arg5 arg6 arg7 arg11 arg18 arg19 arg20 arg21 v9 v10 X_arg5 X_arg6 X_arg7 X_arg11 X_arg18 X_arg19 X_arg20 X_arg21 k _ (off40_eq k) _ (fun r => ?_) x
  refine Eq.trans (lse9 v9 (k0_pay5 i k) (Inv.sel (t6_end c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k _ _ (k0_pay5 i k) h3 _ _ X_arg11 X_arg20 X_arg21 (lim_lt i k)) (t7_id c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k _ _ (k0_pay5 i k) h3 _ _ X_arg11 X_arg20 X_arg21 _)) r) ?_
  rw [xC_row, pay5_toInt]
  unfold blk17
  have : (inBlock k r).val / 16 = k.val * 32 + r.val / 16 := by show (k.val * 512 + r.val) / 16 = _; omega
  show _ = lseV (((i 2).val * 512 + (inBlock k r).val / 16 : ℕ) : Int) _ (rowC _ _ _ _ _ _ _ _ (((i 2).val * 512 + (inBlock k r).val / 16 : ℕ) : Int) _) _
  rw [this, ← Nat.add_assoc]
  rfl

end

theorem row_eq (i : grid0.Coords) (arg5 : Memref sig .tc .vmem S1x1x8192x128 .fp8e4m3) (arg6 : Memref sig .tc .vmem S1x1x1x8192 .f32) (arg7 : Memref sig .tc .vmem S1x14336x128 .fp8e4m3) (arg11 : Memref sig .tc .vmem S1x1x2048x128 .fp8e4m3) (arg18 : Memref sig .tc .vmem S14336x128 .f32) (arg19 : Memref sig .tc .vmem S128x14336 .bf16) (arg20 : Memref sig .tc .vmem S2048x128 .f32) (arg21 : Memref sig .tc .vmem S128x2048 .bf16) (v9 v10 : BitVec 32) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (k : Fin k0_t3_loop.trips) (h : ∀ a, k0_off10 k a + S1x1x512x128.size a ≤ S1x1x8192x128.size a) (h' : ∀ a, k0_off11 k a + S1x1x1x512.size a ≤ S1x1x1x8192.size a) (r : Fin 512) (d : Fin 128) :
    outV (BitVec.toInt (k0_pay5 i k (ix2 0 r))) (BitVec.toInt v9) (xP arg7 X_arg7 arg18 X_arg18 v10 (View.readAt (Elt Ideal) arg5.view (Rect.unit (s := S1x1x8192x128) (k0_off10 k) S1x1x512x128.size h).toLoadRect X_arg5) (View.readAt (Elt Ideal) arg6.view (Rect.unit (s := S1x1x1x8192) (k0_off11 k) S1x1x1x512.size h').toLoadRect X_arg6) r) (valP arg19 X_arg19 d)
      (xC arg11 X_arg11 arg20 X_arg20 (k0_pay5 i k) (View.readAt (Elt Ideal) arg5.view (Rect.unit (s := S1x1x8192x128) (k0_off10 k) S1x1x512x128.size h).toLoadRect X_arg5) (View.readAt (Elt Ideal) arg6.view (Rect.unit (s := S1x1x1x8192) (k0_off11 k) S1x1x1x512.size h').toLoadRect X_arg6) r) (valC arg21 X_arg21 d)
      = rowOut i arg5 arg6 arg7 arg11 arg18 arg19 arg20 arg21 v9 v10 X_arg5 X_arg6 X_arg7 X_arg11 X_arg18 X_arg19 X_arg20 X_arg21 (inBlock k r) d := by
  rw [xP_row, xC_row, pay5_toInt]
  unfold rowOut
  have : (inBlock k r).val / 16 = k.val * 32 + r.val / 16 := by show (k.val * 512 + r.val) / 16 = _; omega
  rw [this, ← Nat.add_assoc]

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21

set_option maxHeartbeats 4000000 in
theorem live15 (k : Fin k0_t3_loop.trips) (hle : BitVec.toInt v10 ≤ 14336) (h3 : k0_cond3 i v9 k = 1#1) :
    ∀ p ∈ (tripLive (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h3).1, ∀ x, p.2 x = blk15 i arg5 arg6 arg7 arg11 arg18 arg19 arg20 arg21 v9 v10 X_arg5 X_arg6 X_arg7 X_arg11 X_arg18 X_arg19 X_arg20 X_arg21 (p.1.emb x) := by
  unfold tripLive
  intro p hp
  simp only [List.mem_cons, List.not_mem_nil, or_false] at hp
  rcases hp with rfl | rfl | rfl | rfl | rfl | rfl | rfl | rfl | rfl | rfl | rfl | rfl | rfl | rfl | rfl | rfl <;> intro x
  on_goal 1 => refine head_piece i arg5 arg6 arg7 arg11 arg18 arg19 arg20 arg21 v9 v10 X_arg5 X_arg6 X_arg7 X_arg11 X_arg18 X_arg19 X_arg20 X_arg21 k 15 (by decide) _ (off39_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 2 => refine head_piece i arg5 arg6 arg7 arg11 arg18 arg19 arg20 arg21 v9 v10 X_arg5 X_arg6 X_arg7 X_arg11 X_arg18 X_arg19 X_arg20 X_arg21 k 14 (by decide) _ (off38_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 3 => refine head_piece i arg5 arg6 arg7 arg11 arg18 arg19 arg20 arg21 v9 v10 X_arg5 X_arg6 X_arg7 X_arg11 X_arg18 X_arg19 X_arg20 X_arg21 k 13 (by decide) _ (off37_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 4 => refine head_piece i arg5 arg6 arg7 arg11 arg18 arg19 arg20 arg21 v9 v10 X_arg5 X_arg6 X_arg7 X_arg11 X_arg18 X_arg19 X_arg20 X_arg21 k 12 (by decide) _ (off36_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 5 => refine head_piece i arg5 arg6 arg7 arg11 arg18 arg19 arg20 arg21 v9 v10 X_arg5 X_arg6 X_arg7 X_arg11 X_arg18 X_arg19 X_arg20 X_arg21 k 11 (by decide) _ (off35_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 6 => refine head_piece i arg5 arg6 arg7 arg11 arg18 arg19 arg20 arg21 v9 v10 X_arg5 X_arg6 X_arg7 X_arg11 X_arg18 X_arg19 X_arg20 X_arg21 k 10 (by decide) _ (off34_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 7 => refine head_piece i arg5 arg6 arg7 arg11 arg18 arg19 arg20 arg21 v9 v10 X_arg5 X_arg6 X_arg7 X_arg11 X_arg18 X_arg19 X_arg20 X_arg21 k 9 (by decide) _ (off33_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 8 => refine head_piece i arg5 arg6 arg7 arg11 arg18 arg19 arg20 arg21 v9 v10 X_arg5 X_arg6 X_arg7 X_arg11 X_arg18 X_arg19 X_arg20 X_arg21 k 8 (by decide) _ (off32_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 9 => refine head_piece i arg5 arg6 arg7 arg11 arg18 arg19 arg20 arg21 v9 v10 X_arg5 X_arg6 X_arg7 X_arg11 X_arg18 X_arg19 X_arg20 X_arg21 k 7 (by decide) _ (off31_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 10 => refine head_piece i arg5 arg6 arg7 arg11 arg18 arg19 arg20 arg21 v9 v10 X_arg5 X_arg6 X_arg7 X_arg11 X_arg18 X_arg19 X_arg20 X_arg21 k 6 (by decide) _ (off30_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 11 => refine head_piece i arg5 arg6 arg7 arg11 arg18 arg19 arg20 arg21 v9 v10 X_arg5 X_arg6 X_arg7 X_arg11 X_arg18 X_arg19 X_arg20 X_arg21 k 5 (by decide) _ (off29_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 12 => refine head_piece i arg5 arg6 arg7 arg11 arg18 arg19 arg20 arg21 v9 v10 X_arg5 X_arg6 X_arg7 X_arg11 X_arg18 X_arg19 X_arg20 X_arg21 k 4 (by decide) _ (off28_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 13 => refine head_piece i arg5 arg6 arg7 arg11 arg18 arg19 arg20 arg21 v9 v10 X_arg5 X_arg6 X_arg7 X_arg11 X_arg18 X_arg19 X_arg20 X_arg21 k 3 (by decide) _ (off27_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 14 => refine head_piece i arg5 arg6 arg7 arg11 arg18 arg19 arg20 arg21 v9 v10 X_arg5 X_arg6 X_arg7 X_arg11 X_arg18 X_arg19 X_arg20 X_arg21 k 2 (by decide) _ (off26_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 15 => refine head_piece i arg5 arg6 arg7 arg11 arg18 arg19 arg20 arg21 v9 v10 X_arg5 X_arg6 X_arg7 X_arg11 X_arg18 X_arg19 X_arg20 X_arg21 k 1 (by decide) _ (off25_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  on_goal 16 => refine head_piece i arg5 arg6 arg7 arg11 arg18 arg19 arg20 arg21 v9 v10 X_arg5 X_arg6 X_arg7 X_arg11 X_arg18 X_arg19 X_arg20 X_arg21 k 0 (by decide) _ (off24_eq k) (k0_pay6 (F := Ideal)) pay6_apply _ (fun a => by match a with | 0 => exact Nat.le_refl 512 | 1 => exact Nat.le_refl 128) _ (fun r d => ?_) (fun a => by match a with | 0 => exact Or.inr (by decide) | 1 => exact Or.inr (by decide)) x
  all_goals exact Eq.trans (out48 v9 (k0_pay5 i k) (Inv.sel (t4_end c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k _ _ (k0_pay5 i k) h3 _ _ X_arg7 X_arg18 X_arg19 hle) (t5_id c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k _ _ (k0_pay5 i k) h3 _ _ X_arg7 X_arg18 X_arg19 _ hle)) (Inv.sel (t6_end c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k _ _ (k0_pay5 i k) h3 _ _ X_arg11 X_arg20 X_arg21 (lim_lt i k)) (t7_id c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v10 k0_hw1 k _ _ (k0_pay5 i k) h3 _ _ X_arg11 X_arg20 X_arg21 _)) r d) (row_eq i arg5 arg6 arg7 arg11 arg18 arg19 arg20 arg21 v9 v10 X_arg5 X_arg6 X_arg7 X_arg11 X_arg18 X_arg19 X_arg20 X_arg21 k _ _ r d)

end

end Cert.Proof.KernelIdeal
-- ==== Proof.VBlock.lean ====
/-
  The three output blocks of a grid point at an index: every tile, live or dead, stores the value of the block function.
-/
module

public import proofs.«01_k».proof.Proof.VTile

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof

attribute [local irreducible] st_k0_t4 st_k0_t5 st_k0_t6 st_k0_t7

/-- A column vector at nothing but its last coordinate. -/
theorem idx4 (x : S1x1x1x512.Idx) : ∃ r : Fin 512, x = ix4 0 0 0 r := ⟨x 3, by
  funext a
  match a with
  | 0 => exact Subsingleton.elim (α := Fin 1) _ _
  | 1 => exact Subsingleton.elim (α := Fin 1) _ _
  | 2 => exact Subsingleton.elim (α := Fin 1) _ _
  | 3 => rfl⟩

theorem inb41 (k : Fin k0_t3_loop.trips) : ∀ a, k0_off41 k a + S1x32x2048.size a ≤ S1x512x2048.size a := by
  have hk : k.val < 16 := lt_of_lt_of_eq k.isLt trips3
  rw [off41_eq]
  intro a
  match a with
  | 0 => exact Nat.le_refl 1
  | 1 => show k.val * 32 + 32 ≤ 512; omega
  | 2 => exact Nat.le_refl 2048

variable (c : Dev nD) (i : grid0.Coords) (arg3 : Memref sig .tc .smem S6 .i32) (harg3 : arg3.IsWhole) (arg4 : Memref sig .tc .smem S1 .i32) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x14336x128 .fp8e4m3) (harg7 : arg7.IsWhole) (arg8 : Memref sig .tc .vmem S1x128x14336 .fp8e4m3) (harg8 : arg8.IsWhole) (arg9 : Memref sig .tc .vmem S1x1x14336 .f32) (harg9 : arg9.IsWhole) (arg10 : Memref sig .tc .vmem S1x1x14336 .f32) (harg10 : arg10.IsWhole) (arg11 : Memref sig .tc .vmem S1x1x2048x128 .fp8e4m3) (harg11 : arg11.IsWhole) (arg12 : Memref sig .tc .vmem S1x1x128x2048 .fp8e4m3) (harg12 : arg12.IsWhole) (arg13 : Memref sig .tc .vmem S1x1x1x2048 .f32) (harg13 : arg13.IsWhole) (arg14 : Memref sig .tc .vmem S1x1x1x2048 .f32) (harg14 : arg14.IsWhole) (arg15 : Memref sig .tc .vmem S1x512x2048 .bf16) (harg15 : arg15.IsWhole) (arg16 : Memref sig .tc .vmem S1x1x1x8192 .f32) (harg16 : arg16.IsWhole) (arg17 : Memref sig .tc .vmem S1x1x1x8192 .f32) (harg17 : arg17.IsWhole) (arg18 : Memref sig .tc .vmem S14336x128 .f32) (harg18 : arg18.IsWhole) (arg19 : Memref sig .tc .vmem S128x14336 .bf16) (harg19 : arg19.IsWhole) (arg20 : Memref sig .tc .vmem S2048x128 .f32) (harg20 : arg20.IsWhole) (arg21 : Memref sig .tc .vmem S128x2048 .bf16) (harg21 : arg21.IsWhole) (arg22 : Memref sig .tc .vmem S512x128 .f32) (harg22 : arg22.IsWhole)

variable (arg2 : BitVec 32) (v9 : Elt Ideal .i32) (v10 : Elt Ideal .i32) (k0_hw1 : k0_chk1 i v9 v10) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty)

section

include c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21

theorem dead15 (k : Fin k0_t3_loop.trips) (h3 : ¬ k0_cond3 i v9 k = 1#1) :
    ∀ p ∈ (tripDead (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h3).1, ∀ x, p.2 x = blk15 i arg5 arg6 arg7 arg11 arg18 arg19 arg20 arg21 v9 v10 X_arg5 X_arg6 X_arg7 X_arg11 X_arg18 X_arg19 X_arg20 X_arg21 (p.1.emb x) := by
  unfold tripDead
  intro p hp
  obtain rfl := List.mem_singleton.mp hp
  intro x
  refine Eq.trans (pay10_apply x) (Eq.symm ?_)
  unfold blk15 rowOut outV
  have h1 : (x 1).val < 32 := (x 1).isLt
  have h2 : (x 2).val < 2048 := (x 2).isLt
  have hl := dead_le i v9 k h3
  refine if_neg (not_lt.mpr (le_trans hl ?_))
  have e1 : (((Rect.unit (s := S1x512x2048) (k0_off41 k) S1x32x2048.size (inb41 k)).emb x) 1).val = k.val * 32 + (x 1).val := by
    exact (congrArg (fun n : ℕ => n + 1 * (x 1).val) (congrFun (off41_eq k) 1)).trans (show k.val * 32 + 1 * (x 1).val = _ by omega)
  have e2 : (((Rect.unit (s := S1x512x2048) (k0_off41 k) S1x32x2048.size (inb41 k)).emb x) 2).val = (x 2).val := by
    exact (congrArg (fun n : ℕ => n + 1 * (x 2).val) (congrFun (off41_eq k) 2)).trans (show 0 + 1 * (x 2).val = _ by omega)
  show _ ≤ (((i 2).val * 512 + ((((Rect.unit (s := S1x512x2048) (k0_off41 k) S1x32x2048.size (inb41 k)).emb x) 1).val * 16 + (((Rect.unit (s := S1x512x2048) (k0_off41 k) S1x32x2048.size (inb41 k)).emb x) 2).val / 128) / 16 : ℕ) : ℤ)
  rw [e1, e2]
  omega

theorem dead16 (k : Fin k0_t3_loop.trips) (h3 : ¬ k0_cond3 i v9 k = 1#1) :
    ∀ p ∈ (tripDead (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h3).2.1, ∀ x, p.2 x = blk16 i arg5 arg6 arg7 arg11 arg18 arg19 arg20 arg21 v9 v10 X_arg5 X_arg6 X_arg7 X_arg11 X_arg18 X_arg19 X_arg20 X_arg21 (p.1.emb x) := by
  unfold tripDead
  intro p hp
  obtain rfl := List.mem_singleton.mp hp
  intro x
  refine lse_piece16 i arg5 arg6 arg7 arg11 arg18 arg19 arg20 arg21 v9 v10 X_arg5 X_arg6 X_arg7 X_arg11 X_arg18 X_arg19 X_arg20 X_arg21 k _ (off42_eq k) _ (fun r => ?_) x
  refine Eq.trans (pay11_apply (ix4 0 0 0 r)) (Eq.symm ?_)
  unfold blk16 lseV
  have hl := dead_le i v9 k h3
  have hr := r.isLt
  refine if_neg (not_lt.mpr (le_trans hl ?_))
  show _ ≤ (((i 2).val * 512 + (k.val * 512 + r.val) / 16 : ℕ) : ℤ)
  omega

theorem dead17 (k : Fin k0_t3_loop.trips) (h3 : ¬ k0_cond3 i v9 k = 1#1) :
    ∀ p ∈ (tripDead (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h3).2.2.1, ∀ x, p.2 x = blk17 i arg5 arg6 arg7 arg11 arg18 arg19 arg20 arg21 v9 v10 X_arg5 X_arg6 X_arg7 X_arg11 X_arg18 X_arg19 X_arg20 X_arg21 (p.1.emb x) := by
  unfold tripDead
  intro p hp
  obtain rfl := List.mem_singleton.mp hp
  intro x
  refine lse_piece17 i arg5 arg6 arg7 arg11 arg18 arg19 arg20 arg21 v9 v10 X_arg5 X_arg6 X_arg7 X_arg11 X_arg18 X_arg19 X_arg20 X_arg21 k _ (off42_eq k) _ (fun r => ?_) x
  refine Eq.trans (pay12_apply (ix4 0 0 0 r)) (Eq.symm ?_)
  unfold blk17 lseV
  have hl := dead_le i v9 k h3
  have hr := r.isLt
  refine if_neg (not_lt.mpr (le_trans hl ?_))
  show _ ≤ (((i 2).val * 512 + (k.val * 512 + r.val) / 16 : ℕ) : ℤ)
  omega

theorem point15 (hle : BitVec.toInt v10 ≤ 14336) (y : S1x512x2048.Idx) :
    View.canon (pb_k0_t3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k0_t3_loop.trips).1 y = blk15 i arg5 arg6 arg7 arg11 arg18 arg19 arg20 arg21 v9 v10 X_arg5 X_arg6 X_arg7 X_arg11 X_arg18 X_arg19 X_arg20 X_arg21 y := by
  refine View.canon_apply_of_pieces (Val := Elt Ideal) (blk15 i arg5 arg6 arg7 arg11 arg18 arg19 arg20 arg21 v9 v10 X_arg5 X_arg6 X_arg7 X_arg11 X_arg18 X_arg19 X_arg20 X_arg21) _ (fun p hp => ?_) y (cover15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 y)
  obtain ⟨k, hk⟩ := (of_mem_pb (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 _ le_rfl).1 p hp
  unfold tripP at hk
  by_cases h3 : k0_cond3 i v9 k = 1#1
  · rw [dif_pos h3] at hk
    exact live15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k hle h3 p hk
  · rw [dif_neg h3] at hk
    exact dead15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h3 p hk

theorem point16 (hle : BitVec.toInt v10 ≤ 14336) (y : S1x1x1x8192.Idx) :
    View.canon (pb_k0_t3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k0_t3_loop.trips).2.1 y = blk16 i arg5 arg6 arg7 arg11 arg18 arg19 arg20 arg21 v9 v10 X_arg5 X_arg6 X_arg7 X_arg11 X_arg18 X_arg19 X_arg20 X_arg21 y := by
  refine View.canon_apply_of_pieces (Val := Elt Ideal) (blk16 i arg5 arg6 arg7 arg11 arg18 arg19 arg20 arg21 v9 v10 X_arg5 X_arg6 X_arg7 X_arg11 X_arg18 X_arg19 X_arg20 X_arg21) _ (fun p hp => ?_) y (cover16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 y)
  obtain ⟨k, hk⟩ := (of_mem_pb (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 _ le_rfl).2.1 p hp
  unfold tripP at hk
  by_cases h3 : k0_cond3 i v9 k = 1#1
  · rw [dif_pos h3] at hk
    exact live16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k hle h3 p hk
  · rw [dif_neg h3] at hk
    exact dead16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h3 p hk

theorem point17 (hle : BitVec.toInt v10 ≤ 14336) (y : S1x1x1x8192.Idx) :
    View.canon (pb_k0_t3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k0_t3_loop.trips).2.2 y = blk17 i arg5 arg6 arg7 arg11 arg18 arg19 arg20 arg21 v9 v10 X_arg5 X_arg6 X_arg7 X_arg11 X_arg18 X_arg19 X_arg20 X_arg21 y := by
  refine View.canon_apply_of_pieces (Val := Elt Ideal) (blk17 i arg5 arg6 arg7 arg11 arg18 arg19 arg20 arg21 v9 v10 X_arg5 X_arg6 X_arg7 X_arg11 X_arg18 X_arg19 X_arg20 X_arg21) _ (fun p hp => ?_) y (cover17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 y)
  obtain ⟨k, hk⟩ := (of_mem_pb (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 _ le_rfl).2.2 p hp
  unfold tripP at hk
  by_cases h3 : k0_cond3 i v9 k = 1#1
  · rw [dif_pos h3] at hk
    exact live17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k hle h3 p hk
  · rw [dif_neg h3] at hk
    exact dead17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v9 v10 k0_hw1 X_arg5 X_arg6 X_arg7 X_arg11 X_arg18 X_arg19 X_arg20 X_arg21 k h3 p hk

end

end Cert.Proof.KernelIdeal
-- ==== Proof.KHeld.lean ====
/-
  The kernel's input windows at an index of the arrays they are cut from, and those arrays at an index of the arguments.
-/
module

public import proofs.«01_k».proof.Proof.VBlock
public import proofs.«01_k».proof.Proof.IRun
public import Idealize.ShloMosaic.Lib.Pipeline.ValueKit
public import Idealize.ShloMosaic.Lib.Pipeline.Covers
public import Idealize.ShloMosaic.Lib.StableHlo.RunRead

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem
open Cert.Proof

section Held
variable (W : Dev nD → Valuation τ sig (Elt Ideal)) (a : (pcfg0 (F := Ideal)).Adm)
variable (hle : (wordP (F := Ideal) (Memref.whole main_arg10) (a.1 1)).toInt ≤ 14336)

set_option backward.isDefEq.respectTransparency.types false in
/-- What an input window's buffer holds at a point is the block the point's index names, fetched there or before. -/
theorem hd_eq (c : Dev nD) (w : Fin 13) (hw : ((cfg0 a).win w).isOut = false) :
    ∀ (n : ℕ) (hn : n < (cfg0 a).N) (d), hd W a c w ⟨n, hn⟩ = (dats W a hle 0 c).fetched w ⟨n, hn⟩ d := by
  intro n
  induction n with
  | zero =>
    intro hn d
    have hf : ((cfg0 a).win w).fetch ⟨0, hn⟩ = true := (((cfg0 a).win w).fetch_in hw _).mpr (Or.inl rfl)
    unfold hd
    rw [Pipeline.heldIn_of_fetch (cfg := cfg0 a) (arr0 W a c) w ⟨0, hn⟩ hf]
    exact Pipeline.fill_of_clip_none (cfg := cfg0 a) w _ (fun _ => rfl) _ _ _
  | succ n ih =>
    intro hn d
    by_cases hf : ((cfg0 a).win w).fetch ⟨n + 1, hn⟩ = true
    · unfold hd
      rw [Pipeline.heldIn_of_fetch (cfg := cfg0 a) (arr0 W a c) w ⟨n + 1, hn⟩ hf]
      exact Pipeline.fill_of_clip_none (cfg := cfg0 a) w _ (fun _ => rfl) _ _ _
    · have hf' := Bool.eq_false_iff.mpr hf
      have e : hd W a c w ⟨n + 1, hn⟩ = hd W a c w ⟨n, Nat.lt_of_succ_lt hn⟩ :=
        Pipeline.heldIn_of_not_fetch (cfg := cfg0 a) (arr0 W a c) w n hn hf'
      rw [e, ih (Nat.lt_of_succ_lt hn) d]
      obtain ⟨ht, hix⟩ := ((cfg0 a).win w).index_eq_of_fetch hw ⟨n + 1, hn⟩ hf'
      exact (dats W a hle 0 c).fetched_congr w hix.symm rfl d

theorem toNat_small {n : ℕ} (h : n < 100) : (BitVec.ofNat 32 n).toNat = n := by
  simp only [BitVec.toNat_ofNat]; omega

theorem c0_lt (t : Fin (cfg0 a).N) : (grid0.coords t 0).val < 4 := (grid0.coords t 0).isLt
theorem c1_lt (t : Fin (cfg0 a).N) : (grid0.coords t 1).val < 6 := (grid0.coords t 1).isLt
theorem c2_lt (t : Fin (cfg0 a).N) : (grid0.coords t 2).val < 4 := (grid0.coords t 2).isLt
theorem c0_nat (t : Fin (cfg0 a).N) : (BitVec.ofNat 32 (grid0.coords t 0).val).toNat = (grid0.coords t 0).val := toNat_small (by have := c0_lt a t; omega)
theorem c1_nat (t : Fin (cfg0 a).N) : (BitVec.ofNat 32 (grid0.coords t 1).val).toNat = (grid0.coords t 1).val := toNat_small (by have := c1_lt a t; omega)
theorem c2_nat (t : Fin (cfg0 a).N) : (BitVec.ofNat 32 (grid0.coords t 2).val).toNat = (grid0.coords t 2).val := toNat_small (by have := c2_lt a t; omega)

set_option backward.isDefEq.respectTransparency.types false in
include hle in
theorem held_q (c : Dev nD) (t : Fin (cfg0 a).N) (r : Fin 8192) (d : Fin 128) :
    (hd W a c 0 t : (spec0 0).block.Idx → EReal) (ix4 0 0 r d) = (W c (Proc.devRef .tc main_v2) : S4x6x32768x128.Idx → EReal) (ix4 (grid0.coords t 0) (grid0.coords t 1) ⟨(grid0.coords t 2).val * 8192 + r.val, by have : (grid0.coords t 2).val < 4 := (grid0.coords t 2).isLt; omega⟩ d) := by
  refine (congrFun (hd_eq W a hle c 0 rfl t.val t.isLt (fun _ => (0 : EReal))) _).trans ?_
  refine congrArg (W c (Proc.devRef .tc main_v2) : S4x6x32768x128.Idx → EReal) (funext fun x => Fin.ext ?_)
  match x with
  | 0 => exact show (BitVec.ofNat 32 (grid0.coords t 0).val).toNat * 1 + 1 * 0 = (grid0.coords t 0).val by rw [c0_nat a t]; omega
  | 1 => exact show (BitVec.ofNat 32 (grid0.coords t 1).val).toNat * 1 + 1 * 0 = (grid0.coords t 1).val by rw [c1_nat a t]; omega
  | 2 => exact show (BitVec.ofNat 32 (grid0.coords t 2).val).toNat * 8192 + 1 * r.val = (grid0.coords t 2).val * 8192 + r.val by rw [c2_nat a t]; omega
  | 3 => exact show 0 * 128 + 1 * d.val = d.val by omega

set_option backward.isDefEq.respectTransparency.types false in
include hle in
theorem held_qs (c : Dev nD) (t : Fin (cfg0 a).N) (r : Fin 8192) :
    (hd W a c 1 t : (spec0 1).block.Idx → EReal) (ix4 0 0 0 r) = (W c (Proc.devRef .tc main_v5) : S4x6x1x32768.Idx → EReal) (ix4 (grid0.coords t 0) (grid0.coords t 1) 0 ⟨(grid0.coords t 2).val * 8192 + r.val, by have : (grid0.coords t 2).val < 4 := (grid0.coords t 2).isLt; omega⟩) := by
  refine (congrFun (hd_eq W a hle c 1 rfl t.val t.isLt (fun _ => (0 : EReal))) _).trans ?_
  refine congrArg (W c (Proc.devRef .tc main_v5) : S4x6x1x32768.Idx → EReal) (funext fun x => Fin.ext ?_)
  match x with
  | 0 => exact show (BitVec.ofNat 32 (grid0.coords t 0).val).toNat * 1 + 1 * 0 = (grid0.coords t 0).val by rw [c0_nat a t]; omega
  | 1 => exact show (BitVec.ofNat 32 (grid0.coords t 1).val).toNat * 1 + 1 * 0 = (grid0.coords t 1).val by rw [c1_nat a t]; omega
  | 2 => exact show 0 * 1 + 1 * 0 = 0 by omega
  | 3 => exact show (BitVec.ofNat 32 (grid0.coords t 2).val).toNat * 8192 + 1 * r.val = (grid0.coords t 2).val * 8192 + r.val by rw [c2_nat a t]; omega

set_option backward.isDefEq.respectTransparency.types false in
include hle in
theorem held_pk (c : Dev nD) (t : Fin (cfg0 a).N) (n : Fin 14336) (d : Fin 128) :
    (hd W a c 2 t : (spec0 2).block.Idx → EReal) (ix3 0 n d) = (W c (Proc.devRef .tc main_v6) : S4x14336x128.Idx → EReal) (ix3 (grid0.coords t 0) n d) := by
  refine (congrFun (hd_eq W a hle c 2 rfl t.val t.isLt (fun _ => (0 : EReal))) _).trans ?_
  refine congrArg (W c (Proc.devRef .tc main_v6) : S4x14336x128.Idx → EReal) (funext fun x => Fin.ext ?_)
  match x with
  | 0 => exact show (BitVec.ofNat 32 (grid0.coords t 0).val).toNat * 1 + 1 * 0 = (grid0.coords t 0).val by rw [c0_nat a t]; omega
  | 1 => exact show 0 * 14336 + 1 * n.val = n.val by omega
  | 2 => exact show 0 * 128 + 1 * d.val = d.val by omega

set_option backward.isDefEq.respectTransparency.types false in
include hle in
theorem held_pv (c : Dev nD) (t : Fin (cfg0 a).N) (d : Fin 128) (n : Fin 14336) :
    (hd W a c 3 t : (spec0 3).block.Idx → EReal) (ix3 0 d n) = (W c (Proc.devRef .tc main_v7) : S4x128x14336.Idx → EReal) (ix3 (grid0.coords t 0) d n) := by
  refine (congrFun (hd_eq W a hle c 3 rfl t.val t.isLt (fun _ => (0 : EReal))) _).trans ?_
  refine congrArg (W c (Proc.devRef .tc main_v7) : S4x128x14336.Idx → EReal) (funext fun x => Fin.ext ?_)
  match x with
  | 0 => exact show (BitVec.ofNat 32 (grid0.coords t 0).val).toNat * 1 + 1 * 0 = (grid0.coords t 0).val by rw [c0_nat a t]; omega
  | 1 => exact show 0 * 128 + 1 * d.val = d.val by omega
  | 2 => exact show 0 * 14336 + 1 * n.val = n.val by omega

set_option backward.isDefEq.respectTransparency.types false in
include hle in
theorem held_pks (c : Dev nD) (t : Fin (cfg0 a).N) (n : Fin 14336) :
    (hd W a c 4 t : (spec0 4).block.Idx → EReal) (ix3 0 0 n) = (W c (Proc.devRef .tc main_v9) : S4x1x14336.Idx → EReal) (ix3 (grid0.coords t 0) 0 n) := by
  refine (congrFun (hd_eq W a hle c 4 rfl t.val t.isLt (fun _ => (0 : EReal))) _).trans ?_
  refine congrArg (W c (Proc.devRef .tc main_v9) : S4x1x14336.Idx → EReal) (funext fun x => Fin.ext ?_)
  match x with
  | 0 => exact show (BitVec.ofNat 32 (grid0.coords t 0).val).toNat * 1 + 1 * 0 = (grid0.coords t 0).val by rw [c0_nat a t]; omega
  | 1 => exact show 0 * 1 + 1 * 0 = 0 by omega
  | 2 => exact show 0 * 14336 + 1 * n.val = n.val by omega

set_option backward.isDefEq.respectTransparency.types false in
include hle in
theorem held_pvs (c : Dev nD) (t : Fin (cfg0 a).N) (n : Fin 14336) :
    (hd W a c 5 t : (spec0 5).block.Idx → EReal) (ix3 0 0 n) = (W c (Proc.devRef .tc main_v11) : S4x1x14336.Idx → EReal) (ix3 (grid0.coords t 0) 0 n) := by
  refine (congrFun (hd_eq W a hle c 5 rfl t.val t.isLt (fun _ => (0 : EReal))) _).trans ?_
  refine congrArg (W c (Proc.devRef .tc main_v11) : S4x1x14336.Idx → EReal) (funext fun x => Fin.ext ?_)
  match x with
  | 0 => exact show (BitVec.ofNat 32 (grid0.coords t 0).val).toNat * 1 + 1 * 0 = (grid0.coords t 0).val by rw [c0_nat a t]; omega
  | 1 => exact show 0 * 1 + 1 * 0 = 0 by omega
  | 2 => exact show 0 * 14336 + 1 * n.val = n.val by omega

set_option backward.isDefEq.respectTransparency.types false in
include hle in
theorem held_k (c : Dev nD) (t : Fin (cfg0 a).N) (n : Fin 2048) (d : Fin 128) :
    (hd W a c 6 t : (spec0 6).block.Idx → EReal) (ix4 0 0 n d) = (W c (Proc.devRef .tc main_v12) : S4x6x2048x128.Idx → EReal) (ix4 (grid0.coords t 0) (grid0.coords t 1) n d) := by
  refine (congrFun (hd_eq W a hle c 6 rfl t.val t.isLt (fun _ => (0 : EReal))) _).trans ?_
  refine congrArg (W c (Proc.devRef .tc main_v12) : S4x6x2048x128.Idx → EReal) (funext fun x => Fin.ext ?_)
  match x with
  | 0 => exact show (BitVec.ofNat 32 (grid0.coords t 0).val).toNat * 1 + 1 * 0 = (grid0.coords t 0).val by rw [c0_nat a t]; omega
  | 1 => exact show (BitVec.ofNat 32 (grid0.coords t 1).val).toNat * 1 + 1 * 0 = (grid0.coords t 1).val by rw [c1_nat a t]; omega
  | 2 => exact show 0 * 2048 + 1 * n.val = n.val by omega
  | 3 => exact show 0 * 128 + 1 * d.val = d.val by omega

set_option backward.isDefEq.respectTransparency.types false in
include hle in
theorem held_v (c : Dev nD) (t : Fin (cfg0 a).N) (d : Fin 128) (n : Fin 2048) :
    (hd W a c 7 t : (spec0 7).block.Idx → EReal) (ix4 0 0 d n) = (W c (Proc.devRef .tc main_v13) : S4x6x128x2048.Idx → EReal) (ix4 (grid0.coords t 0) (grid0.coords t 1) d n) := by
  refine (congrFun (hd_eq W a hle c 7 rfl t.val t.isLt (fun _ => (0 : EReal))) _).trans ?_
  refine congrArg (W c (Proc.devRef .tc main_v13) : S4x6x128x2048.Idx → EReal) (funext fun x => Fin.ext ?_)
  match x with
  | 0 => exact show (BitVec.ofNat 32 (grid0.coords t 0).val).toNat * 1 + 1 * 0 = (grid0.coords t 0).val by rw [c0_nat a t]; omega
  | 1 => exact show (BitVec.ofNat 32 (grid0.coords t 1).val).toNat * 1 + 1 * 0 = (grid0.coords t 1).val by rw [c1_nat a t]; omega
  | 2 => exact show 0 * 128 + 1 * d.val = d.val by omega
  | 3 => exact show 0 * 2048 + 1 * n.val = n.val by omega

set_option backward.isDefEq.respectTransparency.types false in
include hle in
theorem held_ks (c : Dev nD) (t : Fin (cfg0 a).N) (n : Fin 2048) :
    (hd W a c 8 t : (spec0 8).block.Idx → EReal) (ix4 0 0 0 n) = (W c (Proc.devRef .tc main_v15) : S4x6x1x2048.Idx → EReal) (ix4 (grid0.coords t 0) (grid0.coords t 1) 0 n) := by
  refine (congrFun (hd_eq W a hle c 8 rfl t.val t.isLt (fun _ => (0 : EReal))) _).trans ?_
  refine congrArg (W c (Proc.devRef .tc main_v15) : S4x6x1x2048.Idx → EReal) (funext fun x => Fin.ext ?_)
  match x with
  | 0 => exact show (BitVec.ofNat 32 (grid0.coords t 0).val).toNat * 1 + 1 * 0 = (grid0.coords t 0).val by rw [c0_nat a t]; omega
  | 1 => exact show (BitVec.ofNat 32 (grid0.coords t 1).val).toNat * 1 + 1 * 0 = (grid0.coords t 1).val by rw [c1_nat a t]; omega
  | 2 => exact show 0 * 1 + 1 * 0 = 0 by omega
  | 3 => exact show 0 * 2048 + 1 * n.val = n.val by omega

set_option backward.isDefEq.respectTransparency.types false in
include hle in
theorem held_vs (c : Dev nD) (t : Fin (cfg0 a).N) (n : Fin 2048) :
    (hd W a c 9 t : (spec0 9).block.Idx → EReal) (ix4 0 0 0 n) = (W c (Proc.devRef .tc main_v17) : S4x6x1x2048.Idx → EReal) (ix4 (grid0.coords t 0) (grid0.coords t 1) 0 n) := by
  refine (congrFun (hd_eq W a hle c 9 rfl t.val t.isLt (fun _ => (0 : EReal))) _).trans ?_
  refine congrArg (W c (Proc.devRef .tc main_v17) : S4x6x1x2048.Idx → EReal) (funext fun x => Fin.ext ?_)
  match x with
  | 0 => exact show (BitVec.ofNat 32 (grid0.coords t 0).val).toNat * 1 + 1 * 0 = (grid0.coords t 0).val by rw [c0_nat a t]; omega
  | 1 => exact show (BitVec.ofNat 32 (grid0.coords t 1).val).toNat * 1 + 1 * 0 = (grid0.coords t 1).val by rw [c1_nat a t]; omega
  | 2 => exact show 0 * 1 + 1 * 0 = 0 by omega
  | 3 => exact show 0 * 2048 + 1 * n.val = n.val by omega

end Held

section Host
variable (V : Valuation τ sig (Elt Ideal))
abbrev H0 := StableHlo.after (hostOps0 (F := Ideal)) V
abbrev E {s : Shape} (f : s.Idx → EReal) (i : s.Idx) : EReal := f i

theorem host_q (k : Fin 4) (b : Fin 6) (r : Fin 32768) (d : Fin 128) :
    E (s := S4x6x32768x128) (H0 V (Proc.devRef .tc main_v2)) (ix4 k b r d) = E (s := S6x2048x64x128) (V (Proc.devRef .tc main_arg0)) (ix4 b ⟨r.val / 16, by omega⟩ ⟨k.val * 16 + r.val % 16, by omega⟩ d) := by
  unfold H0
  after_reads_simp
  pointwise
  try rfl

theorem host_qs (k : Fin 4) (b : Fin 6) (r : Fin 32768) :
    E (s := S4x6x1x32768) (H0 V (Proc.devRef .tc main_v5)) (ix4 k b 0 r) = E (s := S6x2048x64) (V (Proc.devRef .tc main_arg1)) (ix3 b ⟨r.val / 16, by omega⟩ ⟨k.val * 16 + r.val % 16, by omega⟩) := by
  unfold H0
  after_reads_simp
  pointwise
  try rfl

theorem host_pk (k : Fin 4) (n : Fin 14336) (d : Fin 128) :
    E (s := S4x14336x128) (H0 V (Proc.devRef .tc main_v6)) (ix3 k n d) = E (s := S14336x4x128) (V (Proc.devRef .tc main_arg2)) (ix3 n k d) := by
  unfold H0
  after_reads_simp
  pointwise
  try rfl

theorem host_pv (k : Fin 4) (n : Fin 14336) (d : Fin 128) :
    E (s := S4x128x14336) (H0 V (Proc.devRef .tc main_v7)) (ix3 k d n) = E (s := S14336x4x128) (V (Proc.devRef .tc main_arg3)) (ix3 n k d) := by
  unfold H0
  after_reads_simp
  pointwise
  try rfl

theorem host_pks (k : Fin 4) (n : Fin 14336) :
    E (s := S4x1x14336) (H0 V (Proc.devRef .tc main_v9)) (ix3 k 0 n) = E (s := S14336x4) (V (Proc.devRef .tc main_arg4)) (ix2 n k) := by
  unfold H0
  after_reads_simp
  pointwise
  try rfl

theorem host_pvs (k : Fin 4) (n : Fin 14336) :
    E (s := S4x1x14336) (H0 V (Proc.devRef .tc main_v11)) (ix3 k 0 n) = E (s := S14336x4) (V (Proc.devRef .tc main_arg5)) (ix2 n k) := by
  unfold H0
  after_reads_simp
  pointwise
  try rfl

theorem host_k (k : Fin 4) (b : Fin 6) (n : Fin 2048) (d : Fin 128) :
    E (s := S4x6x2048x128) (H0 V (Proc.devRef .tc main_v12)) (ix4 k b n d) = E (s := S6x2048x4x128) (V (Proc.devRef .tc main_arg6)) (ix4 b n k d) := by
  unfold H0
  after_reads_simp
  pointwise
  try rfl

theorem host_v (k : Fin 4) (b : Fin 6) (n : Fin 2048) (d : Fin 128) :
    E (s := S4x6x128x2048) (H0 V (Proc.devRef .tc main_v13)) (ix4 k b d n) = E (s := S6x2048x4x128) (V (Proc.devRef .tc main_arg7)) (ix4 b n k d) := by
  unfold H0
  after_reads_simp
  pointwise
  try rfl

theorem host_ks (k : Fin 4) (b : Fin 6) (n : Fin 2048) :
    E (s := S4x6x1x2048) (H0 V (Proc.devRef .tc main_v15)) (ix4 k b 0 n) = E (s := S6x2048x4) (V (Proc.devRef .tc main_arg8)) (ix3 b n k) := by
  unfold H0
  after_reads_simp
  pointwise
  try rfl

theorem host_vs (k : Fin 4) (b : Fin 6) (n : Fin 2048) :
    E (s := S4x6x1x2048) (H0 V (Proc.devRef .tc main_v17)) (ix4 k b 0 n) = E (s := S6x2048x4) (V (Proc.devRef .tc main_arg9)) (ix3 b n k) := by
  unfold H0
  after_reads_simp
  pointwise
  try rfl

end Host
end Cert.Proof.KernelIdeal
-- ==== Proof.VFill.lean ====
/-
  The scratch the kernel fills once per key head, at an index: scaled key scales and values in natural units.
-/
module

public import proofs.«01_k».proof.Proof.KHeld
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof

/-- The kernel's constant, the score scale in base 2. -/
abbrev scl : EReal := Named.named (F := Ideal) (φ := .f32) κ "score_scale_log2e" 0x3E0293EE#32

theorem pay1_apply (v : S1x1x128.Idx → EReal) (a l : Fin 128) : k0_pay1 (F := Ideal) v (ix2 a l) = v (ix3 0 0 a) * scl := by
  pointwise [k0_pay1]
  try rfl
theorem pay3_apply (v : S1x1x1x128.Idx → EReal) (a l : Fin 128) : k0_pay3 (F := Ideal) v (ix2 a l) = v (ix4 0 0 0 a) * scl := by
  pointwise [k0_pay3]
  try rfl
theorem pay2_apply (v : S1x128x128.Idx → EReal) (w : S1x1x128.Idx → EReal) (d a : Fin 128) : k0_pay2 (F := Ideal) v w (ix2 d a) = v (ix3 0 d a) * w (ix3 0 0 a) := by
  pointwise [k0_pay2]
  try rfl
theorem pay4_apply (v : S1x1x128x128.Idx → EReal) (w : S1x1x1x128.Idx → EReal) (d a : Fin 128) : k0_pay4 (F := Ideal) v w (ix2 d a) = v (ix4 0 0 d a) * w (ix4 0 0 0 a) := by
  pointwise [k0_pay4]
  try rfl

/-- A chunk's lane is the array's. -/
theorem lane1 (off : Fin 3 → ℕ) (k n : ℕ) (hk : k = n / 128) (hoff : off = ![0, 0, k * 128]) (hin : ∀ a, off a + S1x1x128.size a ≤ S1x1x14336.size a) (hn : n < 14336) :
    (Rect.unit (s := S1x1x14336) off S1x1x128.size hin).toLoadRect.idx (ix3 0 0 ⟨n % 128, Nat.mod_lt _ (by decide)⟩ : S1x1x128.Idx) = (ix3 0 0 ⟨n, hn⟩ : S1x1x14336.Idx) := by
  subst hoff hk
  refine funext fun x => Fin.ext ?_
  match x with
  | 0 => rfl
  | 1 => rfl
  | 2 => exact show n / 128 * 128 + 1 * (n % 128) = n by omega
theorem lane3 (off : Fin 3 → ℕ) (k n : ℕ) (d : Fin 128) (hk : k = n / 128) (hoff : off = ![0, 0, k * 128]) (hin : ∀ a, off a + S1x128x128.size a ≤ S1x128x14336.size a) (hn : n < 14336) :
    (Rect.unit (s := S1x128x14336) off S1x128x128.size hin).toLoadRect.idx (ix3 0 d ⟨n % 128, Nat.mod_lt _ (by decide)⟩ : S1x128x128.Idx) = (ix3 0 d ⟨n, hn⟩ : S1x128x14336.Idx) := by
  subst hoff hk
  refine funext fun x => Fin.ext ?_
  match x with
  | 0 => rfl
  | 1 => exact show 0 + 1 * d.val = d.val by omega
  | 2 => exact show n / 128 * 128 + 1 * (n % 128) = n by omega
theorem lane5 (off : Fin 4 → ℕ) (k n : ℕ) (hk : k = n / 128) (hoff : off = ![0, 0, 0, k * 128]) (hin : ∀ a, off a + S1x1x1x128.size a ≤ S1x1x1x2048.size a) (hn : n < 2048) :
    (Rect.unit (s := S1x1x1x2048) off S1x1x1x128.size hin).toLoadRect.idx (ix4 0 0 0 ⟨n % 128, Nat.mod_lt _ (by decide)⟩ : S1x1x1x128.Idx) = (ix4 0 0 0 ⟨n, hn⟩ : S1x1x1x2048.Idx) := by
  subst hoff hk
  refine funext fun x => Fin.ext ?_
  match x with
  | 0 => rfl
  | 1 => rfl
  | 2 => rfl
  | 3 => exact show n / 128 * 128 + 1 * (n % 128) = n by omega
theorem lane7 (off : Fin 4 → ℕ) (k n : ℕ) (d : Fin 128) (hk : k = n / 128) (hoff : off = ![0, 0, 0, k * 128]) (hin : ∀ a, off a + S1x1x128x128.size a ≤ S1x1x128x2048.size a) (hn : n < 2048) :
    (Rect.unit (s := S1x1x128x2048) off S1x1x128x128.size hin).toLoadRect.idx (ix4 0 0 d ⟨n % 128, Nat.mod_lt _ (by decide)⟩ : S1x1x128x128.Idx) = (ix4 0 0 d ⟨n, hn⟩ : S1x1x128x2048.Idx) := by
  subst hoff hk
  refine funext fun x => Fin.ext ?_
  match x with
  | 0 => rfl
  | 1 => rfl
  | 2 => exact show 0 + 1 * d.val = d.val by omega
  | 3 => exact show n / 128 * 128 + 1 * (n % 128) = n by omega

theorem fill18_apply (B : S1x1x14336.Idx → EReal) (n : Fin 14336) (l : Fin 128) : fill18 (F := Ideal) B (ix2 n l) = B (ix3 0 0 n) * scl := by
  unfold fill18
  refine (pay1_apply _ ⟨n.val % 128, Nat.mod_lt _ (by decide)⟩ l).trans ?_
  exact congrArg (fun i => B i * scl) (lane1 (k0_off1 (chunk18 (ix2 n l))) (chunk18 (ix2 n l)).val n.val rfl (off1_eq (chunk18 (ix2 n l))) (off1_in (chunk18 (ix2 n l))) n.isLt)
theorem fill20_apply (B : S1x1x1x2048.Idx → EReal) (n : Fin 2048) (l : Fin 128) : fill20 (F := Ideal) B (ix2 n l) = B (ix4 0 0 0 n) * scl := by
  unfold fill20
  refine (pay3_apply _ ⟨n.val % 128, Nat.mod_lt _ (by decide)⟩ l).trans ?_
  exact congrArg (fun i => B i * scl) (lane5 (k0_off5 (chunk20 (ix2 n l))) (chunk20 (ix2 n l)).val n.val rfl (off5_eq (chunk20 (ix2 n l))) (off5_in (chunk20 (ix2 n l))) n.isLt)
theorem fill19_apply (A : S1x128x14336.Idx → EReal) (B : S1x1x14336.Idx → EReal) (d : Fin 128) (n : Fin 14336) : fill19 (F := Ideal) A B (ix2 d n) = A (ix3 0 d n) * B (ix3 0 0 n) := by
  unfold fill19
  refine (pay2_apply _ _ d ⟨n.val % 128, Nat.mod_lt _ (by decide)⟩).trans ?_
  exact congrArg₂ (fun i j => A i * B j) (lane3 (k0_off3 (chunk19 (ix2 d n))) (chunk19 (ix2 d n)).val n.val d rfl (off3_eq (chunk19 (ix2 d n))) (off3_in (chunk19 (ix2 d n))) n.isLt) (lane1 (k0_off1 (chunk19 (ix2 d n))) (chunk19 (ix2 d n)).val n.val rfl (off1_eq (chunk19 (ix2 d n))) (off1_in (chunk19 (ix2 d n))) n.isLt)
theorem fill21_apply (A : S1x1x128x2048.Idx → EReal) (B : S1x1x1x2048.Idx → EReal) (d : Fin 128) (n : Fin 2048) : fill21 (F := Ideal) A B (ix2 d n) = A (ix4 0 0 d n) * B (ix4 0 0 0 n) := by
  unfold fill21
  refine (pay4_apply _ _ d ⟨n.val % 128, Nat.mod_lt _ (by decide)⟩).trans ?_
  exact congrArg₂ (fun i j => A i * B j) (lane7 (k0_off7 (chunk21 (ix2 d n))) (chunk21 (ix2 d n)).val n.val d rfl (off7_eq (chunk21 (ix2 d n))) (off7_in (chunk21 (ix2 d n))) n.isLt) (lane5 (k0_off5 (chunk21 (ix2 d n))) (chunk21 (ix2 d n)).val n.val rfl (off5_eq (chunk21 (ix2 d n))) (off5_in (chunk21 (ix2 d n))) n.isLt)

/-- Where a block's row lies in the arguments. -/
def sOf (t : Fin (grid0.N)) (R : Fin 8192) : Fin 2048 := ⟨((grid0.coords t 2).val * 8192 + R.val) / 16, by have : (grid0.coords t 2).val < 4 := (grid0.coords t 2).isLt; omega⟩
def hOf (t : Fin (grid0.N)) (R : Fin 8192) : Fin 64 := ⟨(grid0.coords t 0).val * 16 + ((grid0.coords t 2).val * 8192 + R.val) % 16, by have : (grid0.coords t 0).val < 4 := (grid0.coords t 0).isLt; omega⟩
abbrev kOf (t : Fin (grid0.N)) : Fin 4 := grid0.coords t 0
abbrev bOf (t : Fin (grid0.N)) : Fin 6 := grid0.coords t 1

end Cert.Proof.KernelIdeal
-- ==== Proof.Spec.lean ====
/-
  Shared-prompt attention over plain functions of the arguments: what both programs compute at `Ideal`.
-/
module

public import proofs.«01_k».proof.Proof.Soft

@[expose] public section

noncomputable section

namespace Cert.Proof

open Idealize.ShloMosaic

/-- The arguments, over plain indices. -/
structure Inp where
  q : Fin 6 → Fin 2048 → Fin 64 → Fin 128 → EReal
  qs : Fin 6 → Fin 2048 → Fin 64 → EReal
  pk : Fin 14336 → Fin 4 → Fin 128 → EReal
  pv : Fin 14336 → Fin 4 → Fin 128 → EReal
  pks : Fin 14336 → Fin 4 → EReal
  pvs : Fin 14336 → Fin 4 → EReal
  k : Fin 6 → Fin 2048 → Fin 4 → Fin 128 → EReal
  v : Fin 6 → Fin 2048 → Fin 4 → Fin 128 → EReal
  ks : Fin 6 → Fin 2048 → Fin 4 → EReal
  vs : Fin 6 → Fin 2048 → Fin 4 → EReal
  plen : BitVec 32
  lens : Fin 6 → BitVec 32

variable (I : Inp)

/-- The score scale. -/
def SC : EReal := Ideal.ofBits FTy.f32 0x3DB504F3#32

/-- A query head's key head. -/
def hk (h : Fin 64) : Fin 4 := ⟨h.val / 16, by omega⟩

/-- The prompt's masked scores of a query. -/
def sP (b : Fin 6) (s : Fin 2048) (h : Fin 64) (n : ℕ) : EReal :=
  if hn : n < 14336 then
    if (n : ℤ) < I.plen.toInt then (∑ x, I.q b s h x * I.pk ⟨n, hn⟩ (hk h) x) * (I.qs b s h * (I.pks ⟨n, hn⟩ (hk h) * SC)) else ⊥
  else ⊥

/-- The completion's. -/
def sC (b : Fin 6) (s : Fin 2048) (h : Fin 64) (n : ℕ) : EReal :=
  if hn : n < 2048 then
    if n ≤ s.val then (∑ x, I.q b s h x * I.k b ⟨n, hn⟩ (hk h) x) * (I.qs b s h * (I.ks b ⟨n, hn⟩ (hk h) * SC)) else ⊥
  else ⊥

/-- The prompt's values. -/
def vP (h : Fin 64) (d : Fin 128) (n : ℕ) : EReal := if hn : n < 14336 then I.pv ⟨n, hn⟩ (hk h) d * I.pvs ⟨n, hn⟩ (hk h) else 0

/-- The completion's. -/
def vC (b : Fin 6) (h : Fin 64) (d : Fin 128) (n : ℕ) : EReal := if hn : n < 2048 then I.v b ⟨n, hn⟩ (hk h) d * I.vs b ⟨n, hn⟩ (hk h) else 0

/-- The log-sum-exp of the first `n` scores. -/
def lse (s : ℕ → EReal) (n : ℕ) : EReal :=
  (Finset.range n).sup s + Ideal.log (∑ k ∈ Finset.range n, Ideal.exp (s k - (Finset.range n).sup s))

/-- The two segments' weighted values over their weights. -/
def quot (s t v u : ℕ → EReal) : EReal :=
  Ideal.div
    ((∑ j ∈ Finset.range 14336, v j * Ideal.exp (s j - max ((Finset.range 14336).sup s) ((Finset.range 2048).sup t)))
      + ∑ j ∈ Finset.range 2048, u j * Ideal.exp (t j - max ((Finset.range 14336).sup s) ((Finset.range 2048).sup t)))
    ((∑ j ∈ Finset.range 14336, Ideal.exp (s j - max ((Finset.range 14336).sup s) ((Finset.range 2048).sup t)))
      + ∑ j ∈ Finset.range 2048, Ideal.exp (t j - max ((Finset.range 14336).sup s) ((Finset.range 2048).sup t)))

/-- A query is live: its position lies in its completion. -/
def Live (b : Fin 6) (s : Fin 2048) : Prop := (s.val : ℤ) < (I.lens b).toInt

instance (b : Fin 6) (s : Fin 2048) : Decidable (Live I b s) := inferInstanceAs (Decidable (_ < _))

def gO (b : Fin 6) (s : Fin 2048) (h : Fin 64) (d : Fin 128) : EReal :=
  if Live I b s then quot (sP I b s h) (sC I b s h) (vP I h d) (vC I b h d) else 0
def gP (b : Fin 6) (s : Fin 2048) (h : Fin 64) : EReal := if Live I b s then lse (sP I b s h) 14336 else 0
def gC (b : Fin 6) (s : Fin 2048) (h : Fin 64) : EReal := if Live I b s then lse (sC I b s h) 2048 else 0

/-- The second and third results, with the segments' lengths taken off. -/
def rP (b : Fin 6) (s : Fin 2048) (h : Fin 64) : EReal :=
  if Live I b s then lse (sP I b s h) 14336 - Ideal.log (FloatOps.sitofp (F := Ideal) FTy.f32 I.plen) else 0
def rC (b : Fin 6) (s : Fin 2048) (h : Fin 64) : EReal :=
  if Live I b s then lse (sC I b s h) 2048 - Ideal.log (1 + FloatOps.sitofp (F := Ideal) FTy.f32 (BitVec.ofNat 32 s.val)) else 0

end Cert.Proof
-- ==== Proof.KRow.lean ====
/-
  The kernel's three output blocks, and the arrays they tile, are shared-prompt attention of the arguments.
-/
module

public import proofs.«01_k».proof.Proof.VFill
public import proofs.«01_k».proof.Proof.Spec

@[expose] public section

set_option maxRecDepth 16384
set_option backward.isDefEq.respectTransparency.types false

noncomputable section

namespace Cert.Proof.KernelIdeal

open Cert.KernelIdeal Cert.KernelIdeal.Gen
open Idealize.ShloMosaic Idealize.ShloMosaic.TcCoe Idealize.ShloMosaic.Tactic
open Cert.Proof

variable (m : (ℓ : Loc nD τ sig) → Buf (Elt Ideal) ℓ) (hle : Fits m)

/-- The arguments of core `c`. -/
def inp (c : Dev nD) : Inp where
  q b s h d := E (s := S6x2048x64x128) (V0 m c (Proc.devRef .tc main_arg0)) (ix4 b s h d)
  qs b s h := E (s := S6x2048x64) (V0 m c (Proc.devRef .tc main_arg1)) (ix3 b s h)
  pk n k d := E (s := S14336x4x128) (V0 m c (Proc.devRef .tc main_arg2)) (ix3 n k d)
  pv n k d := E (s := S14336x4x128) (V0 m c (Proc.devRef .tc main_arg3)) (ix3 n k d)
  pks n k := E (s := S14336x4) (V0 m c (Proc.devRef .tc main_arg4)) (ix2 n k)
  pvs n k := E (s := S14336x4) (V0 m c (Proc.devRef .tc main_arg5)) (ix2 n k)
  k b n k d := E (s := S6x2048x4x128) (V0 m c (Proc.devRef .tc main_arg6)) (ix4 b n k d)
  v b n k d := E (s := S6x2048x4x128) (V0 m c (Proc.devRef .tc main_arg7)) (ix4 b n k d)
  ks b n k := E (s := S6x2048x4) (V0 m c (Proc.devRef .tc main_arg8)) (ix3 b n k)
  vs b n k := E (s := S6x2048x4) (V0 m c (Proc.devRef .tc main_arg9)) (ix3 b n k)
  plen := (V0 m c (Proc.devRef .tc main_arg10) : S1.Idx → BitVec 32) (ix1 0)
  lens b := (V0 m c (Proc.devRef .tc main_arg11) : S6.Idx → BitVec 32) (ix1 b)

theorem dev0 (c : Dev nD) : c = 0 := Subsingleton.elim c 0

theorem hk_hOf (t : Fin grid0.N) (R : Fin 8192) : hk (hOf t R) = kOf t := Fin.ext (by
  show ((grid0.coords t 0).val * 16 + ((grid0.coords t 2).val * 8192 + R.val) % 16) / 16 = (grid0.coords t 0).val
  omega)

theorem word_plen (c : Dev nD) : wordP (F := Ideal) (Memref.whole main_arg10) ((adm0 m).1 1) = (inp m c).plen := by
  obtain rfl := dev0 c
  show W1 m 0 (Proc.devRef .tc main_arg10) _ = _
  rw [W1_arg m 0 main_arg10 (by decide)]
  exact congrArg (V0 m 0 (Proc.devRef .tc main_arg10) : S1.Idx → BitVec 32) (funext fun x => by
    match x with
    | 0 => exact Subsingleton.elim (α := Fin 1) _ _)

theorem word_lens (c : Dev nD) (t : Fin grid0.N) : wordL (F := Ideal) (grid0.coords t) (Memref.whole main_arg11) ((adm0 m).1 0) = (inp m c).lens (bOf t) := by
  obtain rfl := dev0 c
  show W1 m 0 (Proc.devRef .tc main_arg11) _ = _
  rw [W1_arg m 0 main_arg11 (by decide)]
  refine congrArg (V0 m 0 (Proc.devRef .tc main_arg11) : S6.Idx → BitVec 32) (funext fun x => Fin.ext ?_)
  match x with
  | 0 =>
    have h1 : (grid0.coords t 1).val < 6 := (grid0.coords t 1).isLt
    have e1 : (BitVec.ofNat 32 (grid0.coords t 1).val).toNat = (grid0.coords t 1).val := toNat_small (by omega)
    exact show (BitVec.ofNat 32 (grid0.coords t 1).val).toNat + 1 * 0 = (grid0.coords t 1).val by omega

variable (c : Dev nD) (t : Fin (cfg0 (adm0 m)).N)

include hle

theorem rd_q (R : Fin 8192) (d : Fin 128) : qRow (spec0_0.stage ((cfg0 (adm0 m)).slots t 0)) (X5 (W1 m) (adm0 m) c t) R d = (inp m c).q (bOf t) (sOf t R) (hOf t R) d := by
  unfold qRow X5
  refine (congrFun (Memref.IsWhole.read_unread (hstage0_0 (((cfg0 (adm0 m)).slots t 0).cast nbuf0_0)) _) _).trans ?_
  exact (held_q (W1 m) (adm0 m) hle c t R d).trans (host_q (V0 m c) _ _ _ _)

theorem rd_qs (R : Fin 8192) : qsRow (spec0_1.stage ((cfg0 (adm0 m)).slots t 1)) (X6 (W1 m) (adm0 m) c t) R = (inp m c).qs (bOf t) (sOf t R) (hOf t R) := by
  unfold qsRow X6
  refine (congrFun (Memref.IsWhole.read_unread (hstage0_1 (((cfg0 (adm0 m)).slots t 1).cast nbuf0_1)) _) _).trans ?_
  exact (held_qs (W1 m) (adm0 m) hle c t R).trans (host_qs (V0 m c) _ _ _)

theorem rd_pk (n : ℕ) (hn : n < 14336) (d : Fin 128) : keyP (spec0_2.stage ((cfg0 (adm0 m)).slots t 2)) (X7 (W1 m) (adm0 m) c t) n d = (inp m c).pk ⟨n, hn⟩ (kOf t) d := by
  unfold keyP X7
  refine (dif_pos hn).trans ?_
  refine (congrFun (Memref.IsWhole.read_unread (hstage0_2 (((cfg0 (adm0 m)).slots t 2).cast nbuf0_2)) _) _).trans ?_
  exact (held_pk (W1 m) (adm0 m) hle c t ⟨n, hn⟩ d).trans (host_pk (V0 m c) _ _ _)

theorem rd_k (n : ℕ) (hn : n < 2048) (d : Fin 128) : keyC (spec0_6.stage ((cfg0 (adm0 m)).slots t 6)) (X11 (W1 m) (adm0 m) c t) n d = (inp m c).k (bOf t) ⟨n, hn⟩ (kOf t) d := by
  unfold keyC X11
  refine (dif_pos hn).trans ?_
  refine (congrFun (Memref.IsWhole.read_unread (hstage0_6 (((cfg0 (adm0 m)).slots t 6).cast nbuf0_6)) _) _).trans ?_
  exact (held_k (W1 m) (adm0 m) hle c t ⟨n, hn⟩ d).trans (host_k (V0 m c) _ _ _ _)

theorem rd_pks (r : Fin 512) (n : ℕ) (hn : n < 14336) : kscP (Memref.whole cc0_scratch0) (U18 (W1 m) (adm0 m) c t) r n = (inp m c).pks ⟨n, hn⟩ (kOf t) * scl := by
  unfold kscP U18
  refine (dif_pos hn).trans ?_
  refine (congrFun (Memref.IsWhole.read_unread (Memref.isWhole_whole cc0_scratch0) _) _).trans ?_
  refine (fill18_apply _ ⟨n, hn⟩ _).trans (congrArg (fun x : EReal => x * scl) ?_)
  exact (held_pks (W1 m) (adm0 m) hle c t ⟨n, hn⟩).trans (host_pks (V0 m c) _ _)

theorem rd_ks (r : Fin 512) (n : ℕ) (hn : n < 2048) : kscC (Memref.whole cc0_scratch2) (U20 (W1 m) (adm0 m) c t) r n = (inp m c).ks (bOf t) ⟨n, hn⟩ (kOf t) * scl := by
  unfold kscC U20
  refine (dif_pos hn).trans ?_
  refine (congrFun (Memref.IsWhole.read_unread (Memref.isWhole_whole cc0_scratch2) _) _).trans ?_
  refine (fill20_apply _ ⟨n, hn⟩ _).trans (congrArg (fun x : EReal => x * scl) ?_)
  exact (held_ks (W1 m) (adm0 m) hle c t ⟨n, hn⟩).trans (host_ks (V0 m c) _ _ _)

theorem rd_pv (R : Fin 8192) (d : Fin 128) : valP (Memref.whole cc0_scratch1) (U19 (W1 m) (adm0 m) c t) d = vP (inp m c) (hOf t R) d := by
  funext n
  unfold valP vP
  by_cases hn : n < 14336
  · rw [dif_pos hn, dif_pos hn, hk_hOf]
    unfold U19
    refine (congrFun (Memref.IsWhole.read_unread (Memref.isWhole_whole cc0_scratch1) _) _).trans ?_
    refine (fill19_apply _ _ d ⟨n, hn⟩).trans (congrArg₂ (fun x y : EReal => x * y) ?_ ?_)
    · exact (held_pv (W1 m) (adm0 m) hle c t d ⟨n, hn⟩).trans (host_pv (V0 m c) _ _ _)
    · exact (held_pvs (W1 m) (adm0 m) hle c t ⟨n, hn⟩).trans (host_pvs (V0 m c) _ _)
  · rw [dif_neg hn, dif_neg hn]

theorem rd_v (R : Fin 8192) (d : Fin 128) : valC (Memref.whole cc0_scratch3) (U21 (W1 m) (adm0 m) c t) d = vC (inp m c) (bOf t) (hOf t R) d := by
  funext n
  unfold valC vC
  by_cases hn : n < 2048
  · rw [dif_pos hn, dif_pos hn, hk_hOf]
    unfold U21
    refine (congrFun (Memref.IsWhole.read_unread (Memref.isWhole_whole cc0_scratch3) _) _).trans ?_
    refine (fill21_apply _ _ d ⟨n, hn⟩).trans (congrArg₂ (fun x y : EReal => x * y) ?_ ?_)
    · exact (held_v (W1 m) (adm0 m) hle c t d ⟨n, hn⟩).trans (host_v (V0 m c) _ _ _ _)
    · exact (held_vs (W1 m) (adm0 m) hle c t ⟨n, hn⟩).trans (host_vs (V0 m c) _ _ _)
  · rw [dif_neg hn, dif_neg hn]

omit hle

/-- The kernel's constant is the score scale in base 2. -/
theorem scl_eq : scl = SC * (Soft.L : EReal) := by
  have h : SC = ((11863283 / 134217728 : ℝ) : EReal) := by
    unfold SC
    simp [Ideal.ofBits, Ideal.ieee]
    rw [← EReal.coe_mul]
    norm_num
  rw [h, ← EReal.coe_mul]
  exact IdealRules.named_const.ideal_named_scalar _ _ _ _ rfl

theorem bot_mul_L : (⊥ : EReal) * (Soft.L : EReal) = ⊥ := EReal.bot_mul_coe_of_pos Soft.L_pos

theorem regroup (a b s p : EReal) : a * (p * scl) * s = a * (s * (p * SC)) * (Soft.L : EReal) := by
  rw [scl_eq]
  ac_rfl

include hle

/-- A row's prompt scores, in base 2. -/
theorem rowP_eq (R : Fin 8192) (n : ℕ) (hn : n < 14336) :
    rowP (spec0_0.stage ((cfg0 (adm0 m)).slots t 0)) (X5 (W1 m) (adm0 m) c t) (spec0_1.stage ((cfg0 (adm0 m)).slots t 1)) (X6 (W1 m) (adm0 m) c t) (spec0_2.stage ((cfg0 (adm0 m)).slots t 2)) (X7 (W1 m) (adm0 m) c t) (Memref.whole cc0_scratch0) (U18 (W1 m) (adm0 m) c t) (wordP (F := Ideal) (Memref.whole main_arg10) ((adm0 m).1 1)) R n
      = sP (inp m c) (bOf t) (sOf t R) (hOf t R) n * (Soft.L : EReal) := by
  unfold rowP score sP
  rw [dif_pos hn, word_plen m c]
  by_cases hp : (n : ℤ) < (inp m c).plen.toInt
  · rw [if_pos hp, if_pos (by omega), rd_pks m hle c t _ n hn, rd_qs m hle c t R, hk_hOf]
    rw [regroup _ 0]
    congr 2
    refine Finset.sum_congr rfl fun d _ => ?_
    rw [rd_pk m hle c t n hn d, rd_q m hle c t R d, mul_comm]
  · rw [if_neg hp, if_neg (by omega), bot_mul_L]

/-- A row's completion scores, in base 2. -/
theorem rowC_eq (R : Fin 8192) (n : ℕ) (hn : n < 2048) :
    rowC (spec0_0.stage ((cfg0 (adm0 m)).slots t 0)) (X5 (W1 m) (adm0 m) c t) (spec0_1.stage ((cfg0 (adm0 m)).slots t 1)) (X6 (W1 m) (adm0 m) c t) (spec0_6.stage ((cfg0 (adm0 m)).slots t 6)) (X11 (W1 m) (adm0 m) c t) (Memref.whole cc0_scratch2) (U20 (W1 m) (adm0 m) c t) (((grid0.coords t 2).val * 512 + R.val / 16 : ℕ) : ℤ) R n
      = sC (inp m c) (bOf t) (sOf t R) (hOf t R) n * (Soft.L : EReal) := by
  unfold rowC score sC
  have hs : (sOf t R).val = (grid0.coords t 2).val * 512 + R.val / 16 := by
    show ((grid0.coords t 2).val * 8192 + R.val) / 16 = _
    omega
  rw [dif_pos hn]
  by_cases hp : n ≤ (sOf t R).val
  · rw [if_pos hp, if_pos (by omega), rd_ks m hle c t _ n hn, rd_qs m hle c t R, hk_hOf]
    rw [regroup _ 0]
    congr 2
    refine Finset.sum_congr rfl fun d _ => ?_
    rw [rd_k m hle c t n hn d, rd_q m hle c t R d, mul_comm]
  · rw [if_neg hp, if_neg (by omega), bot_mul_L]

end Cert.Proof.KernelIdeal
-- ==== Proof.KArr.lean ====
/-
  The kernel's three output arrays and its results are shared-prompt attention of the arguments.
-/
module

public import proofs.«01_k».proof.Proof.KRow

@[expose] public section

set_option maxRecDepth 16384
set_option backward.isDefEq.respectTransparency.types false

noncomputable section

namespace Cert.Proof.KernelIdeal

open Cert.KernelIdeal Cert.KernelIdeal.Gen
open Idealize.ShloMosaic Idealize.ShloMosaic.TcCoe Idealize.ShloMosaic.Tactic
open Cert.Proof

theorem ln2_eq : ln2 = ((Real.log 2 : ℝ) : EReal) := IdealRules.named_const.ideal_named_scalar _ _ _ _ rfl

theorem congr3 {α β γ δ : Type} (f : α → β → γ → δ) {a a' : α} {b b' : β} {c c' : γ} (ha : a = a') (hb : b = b') (hc : c = c') : f a b c = f a' b' c' := by
  subst ha hb hc
  rfl

theorem M_congr {z : EReal} {x y : ℕ → EReal} {n : ℕ} (h : ∀ k, k < n → x k = y k) : Soft.M z x n = Soft.M z y n :=
  congrArg (max z) (Finset.sup_congr rfl fun k hk => h k (Finset.mem_range.1 hk))
theorem W_congr {w : EReal} {x y : ℕ → EReal} {n : ℕ} (h : ∀ k, k < n → x k = y k) : Soft.W x w n = Soft.W y w n :=
  Finset.sum_congr rfl fun k hk => by rw [h k (Finset.mem_range.1 hk)]
theorem O_congr {v : ℕ → EReal} {w : EReal} {x y : ℕ → EReal} {n : ℕ} (h : ∀ k, k < n → x k = y k) : Soft.O v x w n = Soft.O v y w n :=
  Finset.sum_congr rfl fun k hk => by rw [h k (Finset.mem_range.1 hk)]

/-- The kernel's log-sum-exp over scores in base 2 is the one over the scores. -/
theorem lseV_of (pos lim : ℤ) (x s : ℕ → EReal) (n : ℕ) (h : ∀ k, k < n → x k = s k * (Soft.L : EReal)) :
    lseV pos lim x n = if pos < lim then lse s n else 0 := by
  obtain ⟨z, hz⟩ := floor_coe
  unfold lseV lse
  rw [M_congr h, W_congr h, ln2_eq, hz, Soft.lse_eq z s n]

/-- And its merged quotient is the one over the scores. -/
theorem outV_of (pos lim : ℤ) (x s v y t u : ℕ → EReal) (h : ∀ k, k < 14336 → x k = s k * (Soft.L : EReal)) (h' : ∀ k, k < 2048 → y k = t k * (Soft.L : EReal)) :
    outV pos lim x v y u = if pos < lim then quot s t v u else 0 := by
  obtain ⟨z, hz⟩ := floor_coe
  unfold outV quot
  rw [M_congr h, W_congr h, O_congr h, M_congr h', W_congr h', O_congr h', hz, Soft.out_eq z s t v u 14336 2048]

variable (m : (ℓ : Loc nD τ sig) → Buf (Elt Ideal) ℓ) (hle : Fits m)
variable (c : Dev nD) (t : Fin (cfg0 (adm0 m)).N)

theorem pos_eq (R : Fin 8192) : (((grid0.coords t 2).val * 512 + R.val / 16 : ℕ) : ℤ) = ((sOf t R).val : ℤ) := by
  refine congrArg Nat.cast ?_
  show _ = ((grid0.coords t 2).val * 8192 + R.val) / 16
  omega

/-- A block's row of the first output. -/
def rowOf (y : S1x512x2048.Idx) : Fin 8192 := ⟨(y 1).val * 16 + (y 2).val / 128, by have h1 : (y 1).val < 512 := (y 1).isLt; have h2 : (y 2).val < 2048 := (y 2).isLt; omega⟩

include hle

theorem blk15_eq (y : S1x512x2048.Idx) :
    blk15 (grid0.coords t) (spec0_0.stage ((cfg0 (adm0 m)).slots t 0)) (spec0_1.stage ((cfg0 (adm0 m)).slots t 1)) (spec0_2.stage ((cfg0 (adm0 m)).slots t 2)) (spec0_6.stage ((cfg0 (adm0 m)).slots t 6)) (Memref.whole cc0_scratch0) (Memref.whole cc0_scratch1) (Memref.whole cc0_scratch2) (Memref.whole cc0_scratch3) (wordL (F := Ideal) (grid0.coords t) (Memref.whole main_arg11) ((adm0 m).1 0)) (wordP (F := Ideal) (Memref.whole main_arg10) ((adm0 m).1 1)) (X5 (W1 m) (adm0 m) c t) (X6 (W1 m) (adm0 m) c t) (X7 (W1 m) (adm0 m) c t) (X11 (W1 m) (adm0 m) c t) (U18 (W1 m) (adm0 m) c t) (U19 (W1 m) (adm0 m) c t) (U20 (W1 m) (adm0 m) c t) (U21 (W1 m) (adm0 m) c t) y = gO (inp m c) (bOf t) (sOf t (rowOf y)) (hOf t (rowOf y)) ⟨(y 2).val % 128, Nat.mod_lt _ (by decide)⟩ := by
  unfold blk15 rowOut gO Live
  refine (outV_of _ _ _ _ _ _ _ _ (rowP_eq m hle c t (rowOf y)) (rowC_eq m hle c t (rowOf y))).trans ?_
  rw [word_lens m c t, rd_pv m hle c t (rowOf y), rd_v m hle c t (rowOf y)]
  exact congrArg (fun p : ℤ => if p < ((inp m c).lens (bOf t)).toInt then _ else (0 : EReal)) (pos_eq m t (rowOf y))

theorem blk16_eq (y : S1x1x1x8192.Idx) :
    blk16 (grid0.coords t) (spec0_0.stage ((cfg0 (adm0 m)).slots t 0)) (spec0_1.stage ((cfg0 (adm0 m)).slots t 1)) (spec0_2.stage ((cfg0 (adm0 m)).slots t 2)) (spec0_6.stage ((cfg0 (adm0 m)).slots t 6)) (Memref.whole cc0_scratch0) (Memref.whole cc0_scratch1) (Memref.whole cc0_scratch2) (Memref.whole cc0_scratch3) (wordL (F := Ideal) (grid0.coords t) (Memref.whole main_arg11) ((adm0 m).1 0)) (wordP (F := Ideal) (Memref.whole main_arg10) ((adm0 m).1 1)) (X5 (W1 m) (adm0 m) c t) (X6 (W1 m) (adm0 m) c t) (X7 (W1 m) (adm0 m) c t) (X11 (W1 m) (adm0 m) c t) (U18 (W1 m) (adm0 m) c t) (U19 (W1 m) (adm0 m) c t) (U20 (W1 m) (adm0 m) c t) (U21 (W1 m) (adm0 m) c t) y = gP (inp m c) (bOf t) (sOf t (y 3)) (hOf t (y 3)) := by
  unfold blk16 gP Live
  refine (lseV_of _ _ _ _ _ (rowP_eq m hle c t (y 3))).trans ?_
  rw [word_lens m c t]
  exact congrArg (fun p : ℤ => if p < ((inp m c).lens (bOf t)).toInt then _ else (0 : EReal)) (pos_eq m t (y 3))

theorem blk17_eq (y : S1x1x1x8192.Idx) :
    blk17 (grid0.coords t) (spec0_0.stage ((cfg0 (adm0 m)).slots t 0)) (spec0_1.stage ((cfg0 (adm0 m)).slots t 1)) (spec0_2.stage ((cfg0 (adm0 m)).slots t 2)) (spec0_6.stage ((cfg0 (adm0 m)).slots t 6)) (Memref.whole cc0_scratch0) (Memref.whole cc0_scratch1) (Memref.whole cc0_scratch2) (Memref.whole cc0_scratch3) (wordL (F := Ideal) (grid0.coords t) (Memref.whole main_arg11) ((adm0 m).1 0)) (wordP (F := Ideal) (Memref.whole main_arg10) ((adm0 m).1 1)) (X5 (W1 m) (adm0 m) c t) (X6 (W1 m) (adm0 m) c t) (X7 (W1 m) (adm0 m) c t) (X11 (W1 m) (adm0 m) c t) (U18 (W1 m) (adm0 m) c t) (U19 (W1 m) (adm0 m) c t) (U20 (W1 m) (adm0 m) c t) (U21 (W1 m) (adm0 m) c t) y = gC (inp m c) (bOf t) (sOf t (y 3)) (hOf t (y 3)) := by
  unfold blk17 gC Live
  refine (lseV_of _ _ _ _ _ (rowC_eq m hle c t (y 3))).trans ?_
  rw [word_lens m c t]
  exact congrArg (fun p : ℤ => if p < ((inp m c).lens (bOf t)).toInt then _ else (0 : EReal)) (pos_eq m t (y 3))

omit hle

theorem nb10_0 : ((cfg0 (adm0 m)).win 10).nblk (0 : Fin 3) = 6 := by simp [Pipeline.Window.nblk]
theorem nb10_1 : ((cfg0 (adm0 m)).win 10).nblk (1 : Fin 3) = 4 := by simp [Pipeline.Window.nblk]
theorem nb10_2 : ((cfg0 (adm0 m)).win 10).nblk (2 : Fin 3) = 4 := by simp [Pipeline.Window.nblk]
theorem nb11_0 : ((cfg0 (adm0 m)).win 11).nblk (0 : Fin 4) = 4 := by simp [Pipeline.Window.nblk]
theorem nb11_1 : ((cfg0 (adm0 m)).win 11).nblk (1 : Fin 4) = 6 := by simp [Pipeline.Window.nblk]
theorem nb11_2 : ((cfg0 (adm0 m)).win 11).nblk (2 : Fin 4) = 1 := by simp [Pipeline.Window.nblk]
theorem nb11_3 : ((cfg0 (adm0 m)).win 11).nblk (3 : Fin 4) = 4 := by simp [Pipeline.Window.nblk]
theorem nb12_0 : ((cfg0 (adm0 m)).win 12).nblk (0 : Fin 4) = 4 := by simp [Pipeline.Window.nblk]
theorem nb12_1 : ((cfg0 (adm0 m)).win 12).nblk (1 : Fin 4) = 6 := by simp [Pipeline.Window.nblk]
theorem nb12_2 : ((cfg0 (adm0 m)).win 12).nblk (2 : Fin 4) = 1 := by simp [Pipeline.Window.nblk]
theorem nb12_3 : ((cfg0 (adm0 m)).win 12).nblk (3 : Fin 4) = 4 := by simp [Pipeline.Window.nblk]

/-- The first output array. -/
def G10 : S6x2048x8192.Idx → EReal := fun y => gO (inp m c) (y 0) (y 1) ⟨(y 2).val / 128, by have : (y 2).val < 8192 := (y 2).isLt; omega⟩ ⟨(y 2).val % 128, Nat.mod_lt _ (by decide)⟩
/-- A row of the other two. -/
def sRow (r : Fin 32768) : Fin 2048 := ⟨r.val / 16, by omega⟩
def hRow (k : Fin 4) (r : Fin 32768) : Fin 64 := ⟨k.val * 16 + r.val % 16, by omega⟩
def G11 : S4x6x1x32768.Idx → EReal := fun y => gP (inp m c) (y 1) (sRow (y 3)) (hRow (y 0) (y 3))
def G12 : S4x6x1x32768.Idx → EReal := fun y => gC (inp m c) (y 1) (sRow (y 3)) (hRow (y 0) (y 3))

include hle

theorem arr10 : (dats (W1 m) (adm0 m) hle 0 c).arrAt 10 (cfg0 (adm0 m)).N = (G10 m c : Buf (Elt Ideal) (((cfg0 (adm0 m)).win 10).arr.view.loc (c.tc : Thread nD τ))) := by
  refine (dats (W1 m) (adm0 m) hle 0 c).arrAt_eq_of_covers 10 _ ?_ ?_
  · refine ((cfg0 (adm0 m)).win 10).covers_of_indexMap_surj rfl (show ∀ x : Fin 3, 0 < S1x512x2048.size x by decide) fun β => ?_
    have h0 : (β (0 : Fin 3)).val < 6 := lt_of_lt_of_eq (β (0 : Fin 3)).isLt (nb10_0 m)
    have h1 : (β (1 : Fin 3)).val < 4 := lt_of_lt_of_eq (β (1 : Fin 3)).isLt (nb10_1 m)
    have h2 : (β (2 : Fin 3)).val < 4 := lt_of_lt_of_eq (β (2 : Fin 3)).isLt (nb10_2 m)
    refine ⟨(fun | 0 => ⟨_, h2⟩ | 1 => ⟨_, h0⟩ | 2 => ⟨_, h1⟩ : grid0.Coords), fun x => ?_⟩
    revert x
    show ∀ x : Fin 3, ((cfg0 (adm0 m)).win 10).indexMap _ x = (β x).val
    intro x
    match x with
    | 0 => exact toNat_small (n := (β (0 : Fin 3)).val) (by omega)
    | 1 => exact toNat_small (n := (β (1 : Fin 3)).val) (by omega)
    | 2 => exact toNat_small (n := (β (2 : Fin 3)).val) (by omega)
  · intro t _ y
    refine Eq.trans (b := View.canon (outs (W1 m) (adm0 m) hle c t).1 (((cfg0 (adm0 m)).win 10).xinj ((cfg0 (adm0 m)).grid.coords t) y)) rfl ?_
    unfold outs
    refine Eq.trans (point15 c (grid0.coords t) _ _ _ _ _ _ _ _ _ _ _ _ _ _ _ _ _ _ _ _ _ _ _ _ _ _ _ _ _ _ _ _ _ _ _ _ _ _ _ _ _ _ _ _ _ _ _ _ _ _ _ _ hle _) ?_
    refine Eq.trans (blk15_eq m hle c t _) ?_
    have hy1 : (y (1 : Fin 3)).val < 512 := (y (1 : Fin 3)).isLt
    have hy2 : (y (2 : Fin 3)).val < 2048 := (y (2 : Fin 3)).isLt
    have hy0 : (y (0 : Fin 3)).val < 1 := (y (0 : Fin 3)).isLt
    have f0 : ((((cfg0 (adm0 m)).win 10).blk t).view.emb y (0 : Fin 3)).val = (grid0.coords t 1).val :=
      show (BitVec.ofNat 32 (grid0.coords t 1).val).toNat * 1 + 1 * (y (0 : Fin 3)).val = _ by rw [c1_nat (adm0 m) t]; omega
    have f1 : ((((cfg0 (adm0 m)).win 10).blk t).view.emb y (1 : Fin 3)).val = (grid0.coords t 2).val * 512 + (y (1 : Fin 3)).val :=
      show (BitVec.ofNat 32 (grid0.coords t 2).val).toNat * 512 + 1 * (y (1 : Fin 3)).val = _ by rw [c2_nat (adm0 m) t]; omega
    have f2 : ((((cfg0 (adm0 m)).win 10).blk t).view.emb y (2 : Fin 3)).val = (grid0.coords t 0).val * 2048 + (y (2 : Fin 3)).val :=
      show (BitVec.ofNat 32 (grid0.coords t 0).val).toNat * 2048 + 1 * (y (2 : Fin 3)).val = _ by rw [c0_nat (adm0 m) t]; omega
    unfold G10
    congr 1
    · exact Fin.ext f0.symm
    · refine Fin.ext (Eq.trans ?_ f1.symm)
      show ((grid0.coords t 2).val * 8192 + ((y (1 : Fin 3)).val * 16 + (y (2 : Fin 3)).val / 128)) / 16 = _
      omega
    · refine Fin.ext (Eq.trans ?_ (congrArg (· / 128) f2.symm))
      show (grid0.coords t 0).val * 16 + ((grid0.coords t 2).val * 8192 + ((y (1 : Fin 3)).val * 16 + (y (2 : Fin 3)).val / 128)) % 16 = ((grid0.coords t 0).val * 2048 + (y (2 : Fin 3)).val) / 128
      omega
    · refine Fin.ext (Eq.trans ?_ (congrArg (· % 128) f2.symm))
      show (y (2 : Fin 3)).val % 128 = ((grid0.coords t 0).val * 2048 + (y (2 : Fin 3)).val) % 128
      omega

theorem arr11 : (dats (W1 m) (adm0 m) hle 0 c).arrAt 11 (cfg0 (adm0 m)).N = (G11 m c : Buf (Elt Ideal) (((cfg0 (adm0 m)).win 11).arr.view.loc (c.tc : Thread nD τ))) := by
  refine (dats (W1 m) (adm0 m) hle 0 c).arrAt_eq_of_covers 11 _ ?_ ?_
  · refine ((cfg0 (adm0 m)).win 11).covers_of_indexMap_surj rfl (show ∀ x : Fin 4, 0 < S1x1x1x8192.size x by decide) fun β => ?_
    have h0 : (β (0 : Fin 4)).val < 4 := lt_of_lt_of_eq (β (0 : Fin 4)).isLt (nb11_0 m)
    have h1 : (β (1 : Fin 4)).val < 6 := lt_of_lt_of_eq (β (1 : Fin 4)).isLt (nb11_1 m)
    have h2 : (β (2 : Fin 4)).val < 1 := lt_of_lt_of_eq (β (2 : Fin 4)).isLt (nb11_2 m)
    have h3 : (β (3 : Fin 4)).val < 4 := lt_of_lt_of_eq (β (3 : Fin 4)).isLt (nb11_3 m)
    refine ⟨(fun | 0 => ⟨_, h0⟩ | 1 => ⟨_, h1⟩ | 2 => ⟨_, h3⟩ : grid0.Coords), fun x => ?_⟩
    revert x
    show ∀ x : Fin 4, ((cfg0 (adm0 m)).win 11).indexMap _ x = (β x).val
    intro x
    match x with
    | 0 => exact toNat_small (n := (β (0 : Fin 4)).val) (by omega)
    | 1 => exact toNat_small (n := (β (1 : Fin 4)).val) (by omega)
    | 2 => exact show 0 = (β (2 : Fin 4)).val by omega
    | 3 => exact toNat_small (n := (β (3 : Fin 4)).val) (by omega)
  · intro t _ y
    refine Eq.trans (b := View.canon (outs (W1 m) (adm0 m) hle c t).2.1 (((cfg0 (adm0 m)).win 11).xinj ((cfg0 (adm0 m)).grid.coords t) y)) rfl ?_
    unfold outs
    refine Eq.trans (point16 c (grid0.coords t) _ _ _ _ _ _ _ _ _ _ _ _ _ _ _ _ _ _ _ _ _ _ _ _ _ _ _ _ _ _ _ _ _ _ _ _ _ _ _ _ _ _ _ _ _ _ _ _ _ _ _ _ hle _) ?_
    refine Eq.trans (blk16_eq m hle c t _) ?_
    have hy3 : (y (3 : Fin 4)).val < 8192 := (y (3 : Fin 4)).isLt
    have hy0 : (y (0 : Fin 4)).val < 1 := (y (0 : Fin 4)).isLt
    have hy1 : (y (1 : Fin 4)).val < 1 := (y (1 : Fin 4)).isLt
    have f0 : ((((cfg0 (adm0 m)).win 11).blk t).view.emb y (0 : Fin 4)).val = (grid0.coords t 0).val :=
      show (BitVec.ofNat 32 (grid0.coords t 0).val).toNat * 1 + 1 * (y (0 : Fin 4)).val = _ by rw [c0_nat (adm0 m) t]; omega
    have f1 : ((((cfg0 (adm0 m)).win 11).blk t).view.emb y (1 : Fin 4)).val = (grid0.coords t 1).val :=
      show (BitVec.ofNat 32 (grid0.coords t 1).val).toNat * 1 + 1 * (y (1 : Fin 4)).val = _ by rw [c1_nat (adm0 m) t]; omega
    have f3 : ((((cfg0 (adm0 m)).win 11).blk t).view.emb y (3 : Fin 4)).val = (grid0.coords t 2).val * 8192 + (y (3 : Fin 4)).val :=
      show (BitVec.ofNat 32 (grid0.coords t 2).val).toNat * 8192 + 1 * (y (3 : Fin 4)).val = _ by rw [c2_nat (adm0 m) t]; omega
    exact congr3 (gP (inp m c)) (Fin.ext f1.symm) (Fin.ext (congrArg (· / 16) f3.symm)) (Fin.ext (congrArg₂ (fun a b => a * 16 + b % 16) f0.symm f3.symm))

theorem arr12 : (dats (W1 m) (adm0 m) hle 0 c).arrAt 12 (cfg0 (adm0 m)).N = (G12 m c : Buf (Elt Ideal) (((cfg0 (adm0 m)).win 12).arr.view.loc (c.tc : Thread nD τ))) := by
  refine (dats (W1 m) (adm0 m) hle 0 c).arrAt_eq_of_covers 12 _ ?_ ?_
  · refine ((cfg0 (adm0 m)).win 12).covers_of_indexMap_surj rfl (show ∀ x : Fin 4, 0 < S1x1x1x8192.size x by decide) fun β => ?_
    have h0 : (β (0 : Fin 4)).val < 4 := lt_of_lt_of_eq (β (0 : Fin 4)).isLt (nb12_0 m)
    have h1 : (β (1 : Fin 4)).val < 6 := lt_of_lt_of_eq (β (1 : Fin 4)).isLt (nb12_1 m)
    have h2 : (β (2 : Fin 4)).val < 1 := lt_of_lt_of_eq (β (2 : Fin 4)).isLt (nb12_2 m)
    have h3 : (β (3 : Fin 4)).val < 4 := lt_of_lt_of_eq (β (3 : Fin 4)).isLt (nb12_3 m)
    refine ⟨(fun | 0 => ⟨_, h0⟩ | 1 => ⟨_, h1⟩ | 2 => ⟨_, h3⟩ : grid0.Coords), fun x => ?_⟩
    revert x
    show ∀ x : Fin 4, ((cfg0 (adm0 m)).win 12).indexMap _ x = (β x).val
    intro x
    match x with
    | 0 => exact toNat_small (n := (β (0 : Fin 4)).val) (by omega)
    | 1 => exact toNat_small (n := (β (1 : Fin 4)).val) (by omega)
    | 2 => exact show 0 = (β (2 : Fin 4)).val by omega
    | 3 => exact toNat_small (n := (β (3 : Fin 4)).val) (by omega)
  · intro t _ y
    refine Eq.trans (b := View.canon (outs (W1 m) (adm0 m) hle c t).2.2 (((cfg0 (adm0 m)).win 12).xinj ((cfg0 (adm0 m)).grid.coords t) y)) rfl ?_
    unfold outs
    refine Eq.trans (point17 c (grid0.coords t) _ _ _ _ _ _ _ _ _ _ _ _ _ _ _ _ _ _ _ _ _ _ _ _ _ _ _ _ _ _ _ _ _ _ _ _ _ _ _ _ _ _ _ _ _ _ _ _ _ _ _ _ hle _) ?_
    refine Eq.trans (blk17_eq m hle c t _) ?_
    have hy3 : (y (3 : Fin 4)).val < 8192 := (y (3 : Fin 4)).isLt
    have hy0 : (y (0 : Fin 4)).val < 1 := (y (0 : Fin 4)).isLt
    have hy1 : (y (1 : Fin 4)).val < 1 := (y (1 : Fin 4)).isLt
    have f0 : ((((cfg0 (adm0 m)).win 12).blk t).view.emb y (0 : Fin 4)).val = (grid0.coords t 0).val :=
      show (BitVec.ofNat 32 (grid0.coords t 0).val).toNat * 1 + 1 * (y (0 : Fin 4)).val = _ by rw [c0_nat (adm0 m) t]; omega
    have f1 : ((((cfg0 (adm0 m)).win 12).blk t).view.emb y (1 : Fin 4)).val = (grid0.coords t 1).val :=
      show (BitVec.ofNat 32 (grid0.coords t 1).val).toNat * 1 + 1 * (y (1 : Fin 4)).val = _ by rw [c1_nat (adm0 m) t]; omega
    have f3 : ((((cfg0 (adm0 m)).win 12).blk t).view.emb y (3 : Fin 4)).val = (grid0.coords t 2).val * 8192 + (y (3 : Fin 4)).val :=
      show (BitVec.ofNat 32 (grid0.coords t 2).val).toNat * 8192 + 1 * (y (3 : Fin 4)).val = _ by rw [c2_nat (adm0 m) t]; omega
    exact congr3 (gC (inp m c)) (Fin.ext f1.symm) (Fin.ext (congrArg (· / 16) f3.symm)) (Fin.ext (congrArg₂ (fun a b => a * 16 + b % 16) f0.symm f3.symm))

end Cert.Proof.KernelIdeal
-- ==== Proof.KTail.lean ====
/-
  The kernel's host operations after the region, at an index.
-/
module

public import proofs.«01_k».proof.Proof.KHeld
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof

variable (V : Valuation τ sig (Elt Ideal))

/-- The buffers at the end, from those the region leaves. -/
abbrev T3 := StableHlo.after (hostOps1_3 (F := Ideal)) (StableHlo.after hostOps1_2 (StableHlo.after hostOps1_1 (StableHlo.after hostOps1 V)))

theorem t_v18 : (T3 V (Proc.devRef .tc main_v18_0) : S6x2048x8192.Idx → EReal) = V (Proc.devRef .tc main_v18_0) := by
  unfold T3
  after_reads_simp

theorem t_v39 (b : Fin 6) (s : Fin 2048) (h : Fin 64) :
    E (s := S6x2048x64) (T3 V (Proc.devRef .tc main_v39)) (ix3 b s h)
      = Scalar.select (IntOp.cmpi CmpIPredicate.slt (BitVec.ofNat 32 s.val) ((V (Proc.devRef .tc main_arg11) : S6.Idx → BitVec 32) (ix1 b)))
        (E (s := S4x6x1x32768) (V (Proc.devRef .tc main_v18_1)) (ix4 ⟨h.val / 16, by omega⟩ b 0 ⟨s.val * 16 + h.val % 16, by omega⟩)
          - Ideal.log (FloatOps.sitofp (F := Ideal) FTy.f32 ((V (Proc.devRef .tc main_arg10) : S1.Idx → BitVec 32) (ix1 0))))
        0 := by
  unfold T3
  after_reads_simp
  simp only [StableHlo.TRef.toBuf, StableHlo.TRef.ofBuf, cast_eq, id]
  pointwise
  try rfl

theorem t_v45 (b : Fin 6) (s : Fin 2048) (h : Fin 64) :
    E (s := S6x2048x64) (T3 V (Proc.devRef .tc main_v45)) (ix3 b s h)
      = Scalar.select (IntOp.cmpi CmpIPredicate.slt (BitVec.ofNat 32 s.val) ((V (Proc.devRef .tc main_arg11) : S6.Idx → BitVec 32) (ix1 b)))
        (E (s := S4x6x1x32768) (V (Proc.devRef .tc main_v18_2)) (ix4 ⟨h.val / 16, by omega⟩ b 0 ⟨s.val * 16 + h.val % 16, by omega⟩)
          - Ideal.log (1 + FloatOps.sitofp (F := Ideal) FTy.f32 (BitVec.ofNat 32 s.val)))
        0 := by
  unfold T3
  after_reads_simp
  simp only [StableHlo.TRef.toBuf, StableHlo.TRef.ofBuf, cast_eq, id]
  pointwise
  try rfl

end Cert.Proof.KernelIdeal
-- ==== Proof.Sel.lean ====
/-
  Masks as conditions, and sums and maxima over the first `n` numbers.
-/
module

public import proofs.«01_k».proof.Proof.Spec
public import Idealize.ShloMosaic.Lib.Pointwise

@[expose] public section

noncomputable section

namespace Cert.Proof

open Idealize.ShloMosaic

theorem select_slt {α : Type} (a b : BitVec 32) (x y : α) :
    Scalar.select (IntOp.cmpi CmpIPredicate.slt a b) x y = if a.toInt < b.toInt then x else y := by
  have h : IntOp.cmpi CmpIPredicate.slt a b = if a.toInt < b.toInt then 1#1 else 0#1 := by
    simp only [IntOp.cmpi, BitVec.slt]
    by_cases h : a.toInt < b.toInt <;> simp [h]
  rw [h]
  split <;> rfl

theorem select_sle {α : Type} (a b : BitVec 32) (x y : α) :
    Scalar.select (IntOp.cmpi CmpIPredicate.sle a b) x y = if a.toInt ≤ b.toInt then x else y := by
  have h : IntOp.cmpi CmpIPredicate.sle a b = if a.toInt ≤ b.toInt then 1#1 else 0#1 := by
    simp only [IntOp.cmpi, BitVec.sle]
    by_cases h : a.toInt ≤ b.toInt <;> simp [h]
  rw [h]
  split <;> rfl

theorem toInt_small (n : ℕ) (h : n < 65536) : (BitVec.ofNat 32 n).toInt = n := by
  rw [BitVec.toInt_ofNat']
  rw [Int.bmod_eq_of_le] <;> push_cast <;> omega

theorem ninf_eq : Ideal.ofBits FTy.f32 0xFF800000#32 = (⊥ : EReal) := by
  simp [Ideal.ofBits, Ideal.ieee]

/-- The running maximum from minus infinity is the supremum. -/
theorem fold_max (n : ℕ) (f : ℕ → EReal) (g : Fin n → EReal) (h : ∀ x, g x = f x.val) :
    Finset.fold max (Ideal.ofBits FTy.f32 0xFF800000#32 : EReal) g Finset.univ = (Finset.range n).sup f := by
  rw [ninf_eq]
  show Finset.univ.sup g = _
  refine le_antisymm (Finset.sup_le fun x _ => ?_) (Finset.sup_le fun i hi => ?_)
  · rw [h x]
    exact Finset.le_sup (f := f) (Finset.mem_range.2 x.isLt)
  · exact (h ⟨i, Finset.mem_range.1 hi⟩).symm.le.trans (Finset.le_sup (f := g) (Finset.mem_univ _))

theorem sum_fin (n : ℕ) (f : ℕ → EReal) (g : Fin n → EReal) (h : ∀ x, g x = f x.val) :
    ∑ x, g x = ∑ k ∈ Finset.range n, f k := by
  rw [Finset.sum_range]
  exact Finset.sum_congr rfl fun x _ => h x

end Cert.Proof
-- ==== Proof.KFinal.lean ====
/-
  The kernel's three results.
-/
module

public import proofs.«01_k».proof.Proof.KArr
public import proofs.«01_k».proof.Proof.KTail
public import proofs.«01_k».proof.Proof.Sel

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof

variable (m : (ℓ : Loc nD τ sig) → Buf (Elt Ideal) ℓ) (hle : Fits m) (c : Dev nD)

theorem arr_inj : Function.Injective (Pipeline.arrRef spec0) := winFacts0.arr_inj

set_option backward.isDefEq.respectTransparency.types false in
theorem w2_10 : (W2 m hle c (Proc.devRef .tc main_v18_0) : S6x2048x8192.Idx → EReal) = G10 m c :=
  (Pipeline.afterRegion_arr (datsL m hle 0 c) (W1 m c) arr_inj 10).trans (arr10 m hle c)

set_option backward.isDefEq.respectTransparency.types false in
theorem w2_11 : (W2 m hle c (Proc.devRef .tc main_v18_1) : S4x6x1x32768.Idx → EReal) = G11 m c :=
  (Pipeline.afterRegion_arr (datsL m hle 0 c) (W1 m c) arr_inj 11).trans (arr11 m hle c)

set_option backward.isDefEq.respectTransparency.types false in
theorem w2_12 : (W2 m hle c (Proc.devRef .tc main_v18_2) : S4x6x1x32768.Idx → EReal) = G12 m c :=
  (Pipeline.afterRegion_arr (datsL m hle 0 c) (W1 m c) arr_inj 12).trans (arr12 m hle c)

theorem w2_plen : (W2 m hle c (Proc.devRef .tc main_arg10) : S1.Idx → BitVec 32) (ix1 0) = (inp m c).plen :=
  congrFun (W2_arg m hle c main_arg10 (by decide)) _

theorem w2_lens (b : Fin 6) : (W2 m hle c (Proc.devRef .tc main_arg11) : S6.Idx → BitVec 32) (ix1 b) = (inp m c).lens b :=
  congrFun (W2_arg m hle c main_arg11 (by decide)) _

theorem res0 (b : Fin 6) (s : Fin 2048) (e : Fin 8192) :
    E (s := S6x2048x8192) (W3 m hle c (Proc.devRef .tc main_v18_0)) (ix3 b s e)
      = gO (inp m c) b s ⟨e.val / 128, by omega⟩ ⟨e.val % 128, by omega⟩ :=
  (congrFun (t_v18 (W2 m hle c)) _).trans (congrFun (w2_10 m hle c) _)

theorem rows (s : Fin 2048) (h : Fin 64) (k : Fin 4) (r : Fin 32768) (hk : k.val = h.val / 16) (hr : r.val = s.val * 16 + h.val % 16) :
    sRow r = s ∧ hRow k r = h := by
  constructor <;> apply Fin.ext
  · show r.val / 16 = s.val
    omega
  · show k.val * 16 + r.val % 16 = h.val
    omega

theorem res1 (b : Fin 6) (s : Fin 2048) (h : Fin 64) :
    E (s := S6x2048x64) (W3 m hle c (Proc.devRef .tc main_v39)) (ix3 b s h) = rP (inp m c) b s h := by
  refine (t_v39 (W2 m hle c) b s h).trans ?_
  rw [w2_plen, w2_lens, select_slt, toInt_small s.val (by omega), w2_11]
  obtain ⟨e1, e2⟩ := rows s h ⟨h.val / 16, by omega⟩ ⟨s.val * 16 + h.val % 16, by omega⟩ rfl rfl
  unfold rP
  by_cases hl : (s.val : ℤ) < ((inp m c).lens b).toInt
  · rw [if_pos hl, if_pos (show Live (inp m c) b s from hl)]
    refine congrArg (fun a : EReal => a - _) ?_
    show gP (inp m c) b (sRow ⟨s.val * 16 + h.val % 16, by omega⟩) (hRow ⟨h.val / 16, by omega⟩ ⟨s.val * 16 + h.val % 16, by omega⟩) = _
    rw [e1, e2]
    exact if_pos hl
  · rw [if_neg hl, if_neg (show ¬ Live (inp m c) b s from hl)]

theorem res2 (b : Fin 6) (s : Fin 2048) (h : Fin 64) :
    E (s := S6x2048x64) (W3 m hle c (Proc.devRef .tc main_v45)) (ix3 b s h) = rC (inp m c) b s h := by
  refine (t_v45 (W2 m hle c) b s h).trans ?_
  rw [w2_lens, select_slt, toInt_small s.val (by omega), w2_12]
  obtain ⟨e1, e2⟩ := rows s h ⟨h.val / 16, by omega⟩ ⟨s.val * 16 + h.val % 16, by omega⟩ rfl rfl
  unfold rC
  by_cases hl : (s.val : ℤ) < ((inp m c).lens b).toInt
  · rw [if_pos hl, if_pos (show Live (inp m c) b s from hl)]
    refine congrArg (fun a : EReal => a - _) ?_
    show gC (inp m c) b (sRow ⟨s.val * 16 + h.val % 16, by omega⟩) (hRow ⟨h.val / 16, by omega⟩ ⟨s.val * 16 + h.val % 16, by omega⟩) = _
    rw [e1, e2]
    exact if_pos hl
  · rw [if_neg hl, if_neg (show ¬ Live (inp m c) b s from hl)]

end Cert.Proof.KernelIdeal
-- ==== Proof.RVal.lean ====
/-
  The reference's host operations read at an index: its masked scores, its log-sum-exps and its quotient.
-/
module

public import proofs.«01_k».proof.Proof.Gen.ReferenceIdeal.Frame
public import Idealize.ShloMosaic.Lib.Pointwise
public import Idealize.ShloMosaic.Lib.StableHlo.RunRead

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic

variable (V : Valuation τ sig (Elt Ideal))

/-- The buffers after the prompt's scores. -/
abbrev X1 := StableHlo.after hostOps1_1 (StableHlo.after hostOps1 V)
/-- After the completion's scores. -/
abbrev X2 := StableHlo.after hostOps1_3 (StableHlo.after hostOps1_2 V)
/-- After the quotient. -/
abbrev X3 := StableHlo.after hostOps1_4 V
/-- At the end. -/
abbrev X4 := StableHlo.after hostOps1_9 (StableHlo.after hostOps1_8 (StableHlo.after hostOps1_7 (StableHlo.after hostOps1_6 (StableHlo.after hostOps1_5 V))))

/-- A buffer's entry, as an extended real. -/
abbrev E {s : Shape} (f : s.Idx → EReal) (i : s.Idx) : EReal := f i

abbrev ninf : EReal := Ideal.ofBits FTy.f32 0xFF800000#32

theorem r_v2 (k : Fin 4) (b : Fin 6) (s : Fin 2048) (g : Fin 16) (d : Fin 128) :
    (X1 V (Proc.devRef .tc main_v2) : S4x6x2048x16x128.Idx → EReal) (ix5 k b s g d)
      = E (s := S6x2048x64x128) (V (Proc.devRef .tc main_v0_0)) (ix4 b s ⟨k.val * 16 + g.val, by omega⟩ d) := by
  unfold X1
  after_reads_simp
  pointwise

theorem r_v5 (k : Fin 4) (b : Fin 6) (s : Fin 2048) (g : Fin 16) :
    (X1 V (Proc.devRef .tc main_v5) : S4x6x2048x16x1.Idx → EReal) (ix5 k b s g 0)
      = E (s := S6x2048x64) (V (Proc.devRef .tc main_arg1)) (ix3 b s ⟨k.val * 16 + g.val, by omega⟩) := by
  unfold X1
  after_reads_simp
  pointwise

theorem r_v11 (k : Fin 4) (n : Fin 14336) :
    (X1 V (Proc.devRef .tc main_v11) : S4x1x1x1x14336.Idx → EReal) (ix5 k 0 0 0 n)
      = E (s := S14336x4) (V (Proc.devRef .tc main_arg5)) (ix2 n k) := by
  unfold X1
  after_reads_simp
  pointwise

theorem r_v21 (k : Fin 4) (b : Fin 6) (s : Fin 2048) (g : Fin 16) (n : Fin 14336) :
    (X1 V (Proc.devRef .tc main_v21) : S4x6x2048x16x14336.Idx → EReal) (ix5 k b s g n)
      = Scalar.select (IntOp.cmpi CmpIPredicate.slt (BitVec.ofNat 32 n.val) ((V (Proc.devRef .tc main_arg10) : S1.Idx → BitVec 32) (ix1 0)))
      ((∑ x : Fin 128, E (s := S6x2048x64x128) (V (Proc.devRef .tc main_v0_0)) (ix4 b s ⟨k.val * 16 + g.val, by omega⟩ x) * E (s := S14336x4x128) (V (Proc.devRef .tc main_v0_1)) (ix3 n k x)) *
        (E (s := S6x2048x64) (V (Proc.devRef .tc main_arg1)) (ix3 b s ⟨k.val * 16 + g.val, by omega⟩) *
          (E (s := S14336x4) (V (Proc.devRef .tc main_arg4)) (ix2 n k) * Ideal.ofBits FTy.f32 0x3DB504F3#32)))
      ninf := by
  unfold X1
  after_reads_simp
  simp only [StableHlo.TRef.toBuf, StableHlo.TRef.ofBuf, cast_eq, id]
  pointwise
  try rfl

theorem r_v51 (k : Fin 4) (b : Fin 6) (s : Fin 2048) (g : Fin 16) (n : Fin 2048) :
    (X2 V (Proc.devRef .tc main_v51) : S4x6x2048x16x2048.Idx → EReal) (ix5 k b s g n)
      = Scalar.select (IntOp.cmpi CmpIPredicate.sle (BitVec.ofNat 32 n.val) (BitVec.ofNat 32 s.val))
      ((∑ x : Fin 128, E (s := S4x6x2048x16x128) (V (Proc.devRef .tc main_v2)) (ix5 k b s g x) * E (s := S6x2048x4x128) (V (Proc.devRef .tc main_v0_3)) (ix4 b n k x)) *
        (E (s := S4x6x2048x16x1) (V (Proc.devRef .tc main_v5)) (ix5 k b s g 0) *
          (E (s := S6x2048x4) (V (Proc.devRef .tc main_arg8)) (ix3 b n k) * Ideal.ofBits FTy.f32 0x3DB504F3#32)))
      ninf := by
  unfold X2
  after_reads_simp
  simp only [StableHlo.TRef.toBuf, StableHlo.TRef.ofBuf, cast_eq, id]
  pointwise
  try rfl

/-- A row's maximum, from the least value. -/
abbrev top5 {n : ℕ} (x : Fin n → EReal) : EReal := Finset.fold max ninf x Finset.univ

theorem r_v23 (k : Fin 4) (b : Fin 6) (s : Fin 2048) (g : Fin 16) :
    (X2 V (Proc.devRef .tc main_v23) : S4x6x2048x16x1.Idx → EReal) (ix5 k b s g 0)
      = top5 fun x => E (s := S4x6x2048x16x14336) (V (Proc.devRef .tc main_v21)) (ix5 k b s g x) := by
  unfold X2
  after_reads_simp
  pointwise
  try rfl

theorem sum_last_P (T : S4x6x2048x16x14336.Idx → EReal) (z : S_.Idx → EReal) (hz : z ix0 = 0) (k : Fin 4) (b : Fin 6) (s : Fin 2048) (g : Fin 16) :
    Host.reduceAdd (F := Ideal) (φ := .f32) T z reducesTo_S4x6x2048x16x14336_S4x6x2048x16_d4 h_S_ (ix4 k b s g) = ∑ n, T (ix5 k b s g n) := by
  pointwise
  have e : (Shape.Idx.first h_S_ : S_.Idx) = ix0 := funext fun a => Fin.elim0 a
  rw [e, hz, zero_add]

theorem sum_last_C (T : S4x6x2048x16x2048.Idx → EReal) (z : S_.Idx → EReal) (hz : z ix0 = 0) (k : Fin 4) (b : Fin 6) (s : Fin 2048) (g : Fin 16) :
    Host.reduceAdd (F := Ideal) (φ := .f32) T z reducesTo_S4x6x2048x16x2048_S4x6x2048x16_d4 h_S_ (ix4 k b s g) = ∑ n, T (ix5 k b s g n) := by
  pointwise
  have e : (Shape.Idx.first h_S_ : S_.Idx) = ix0 := funext fun a => Fin.elim0 a
  rw [e, hz, zero_add]

theorem lse_last (T : S4x6x2048x16x1.Idx → EReal) (U : S4x6x2048x16.Idx → EReal) (k : Fin 4) (b : Fin 6) (s : Fin 2048) (g : Fin 16) :
    addf (F := Ideal) (φ := .f32) T (Host.log (F := Ideal) (φ := .f32) (broadcastInDim S4x6x2048x16x1 ![0, 1, 2, 3] bcast_S4x6x2048x16_S4x6x2048x16x1_0_1_2_3 U)) (ix5 k b s g 0)
      = T (ix5 k b s g 0) + Ideal.log (U (ix4 k b s g)) := by
  pointwise
  try rfl

theorem s_v27 :
    (X2 V (Proc.devRef .tc main_v27) : S4x6x2048x16.Idx → EReal)
      = Host.reduceAdd (F := Ideal) (φ := .f32) (X2 V (Proc.devRef .tc main_v26) : S4x6x2048x16x14336.Idx → EReal) (X2 V (Proc.devRef .tc main_cst_2) : S_.Idx → EReal) reducesTo_S4x6x2048x16x14336_S4x6x2048x16_d4 h_S_ := by
  unfold X2
  after_reads_simp
  try rfl

theorem s_v30 :
    (X2 V (Proc.devRef .tc main_v30) : S4x6x2048x16x1.Idx → EReal)
      = addf (F := Ideal) (φ := .f32) (X2 V (Proc.devRef .tc main_v23) : S4x6x2048x16x1.Idx → EReal)
        (Host.log (F := Ideal) (φ := .f32) (broadcastInDim S4x6x2048x16x1 ![0, 1, 2, 3] bcast_S4x6x2048x16_S4x6x2048x16x1_0_1_2_3 (X2 V (Proc.devRef .tc main_v27) : S4x6x2048x16.Idx → EReal))) := by
  unfold X2
  after_reads_simp
  try rfl

theorem r_v26 (k : Fin 4) (b : Fin 6) (s : Fin 2048) (g : Fin 16) (n : Fin 14336) :
    E (s := S4x6x2048x16x14336) (X2 V (Proc.devRef .tc main_v26)) (ix5 k b s g n)
      = Ideal.exp (E (s := S4x6x2048x16x14336) (V (Proc.devRef .tc main_v21)) (ix5 k b s g n) -
              top5 fun x => E (s := S4x6x2048x16x14336) (V (Proc.devRef .tc main_v21)) (ix5 k b s g x)) := by
  unfold X2
  after_reads_simp
  pointwise
  try rfl

theorem r_cst_2 : E (s := S_) (X2 V (Proc.devRef .tc main_cst_2)) ix0 = 0 := by
  unfold X2
  after_reads_simp
  pointwise
  try rfl

theorem r_v30 (k : Fin 4) (b : Fin 6) (s : Fin 2048) (g : Fin 16) :
    (X2 V (Proc.devRef .tc main_v30) : S4x6x2048x16x1.Idx → EReal) (ix5 k b s g 0)
      = top5 (fun x => E (s := S4x6x2048x16x14336) (V (Proc.devRef .tc main_v21)) (ix5 k b s g x)) +
      Ideal.log
        (∑ y, Ideal.exp (E (s := S4x6x2048x16x14336) (V (Proc.devRef .tc main_v21)) (ix5 k b s g y) -
              top5 fun x => E (s := S4x6x2048x16x14336) (V (Proc.devRef .tc main_v21)) (ix5 k b s g x))) := by
  refine (congrFun (s_v30 V) _).trans ?_
  refine (lse_last _ _ k b s g).trans ?_
  rw [s_v27 V]
  refine (congrArg₂ (fun a b : EReal => a + b) (r_v23 V k b s g) (congrArg Ideal.log ((sum_last_P _ _ (r_cst_2 V) k b s g).trans (Finset.sum_congr rfl fun y _ => r_v26 V k b s g y)))).trans ?_
  rfl

theorem r_v37 (k : Fin 4) (b : Fin 6) (n : Fin 2048) :
    (X2 V (Proc.devRef .tc main_v37) : S4x6x1x1x2048.Idx → EReal) (ix5 k b 0 0 n)
      = E (s := S6x2048x4) (V (Proc.devRef .tc main_arg9)) (ix3 b n k) := by
  unfold X2
  after_reads_simp
  pointwise

theorem r_v53 (k : Fin 4) (b : Fin 6) (s : Fin 2048) (g : Fin 16) :
    E (s := S4x6x2048x16x1) (X3 V (Proc.devRef .tc main_v53)) (ix5 k b s g 0)
      = top5 fun x => E (s := S4x6x2048x16x2048) (V (Proc.devRef .tc main_v51)) (ix5 k b s g x) := by
  unfold X3
  after_reads_simp
  pointwise
  try rfl

theorem s_v57 :
    (X3 V (Proc.devRef .tc main_v57) : S4x6x2048x16.Idx → EReal)
      = Host.reduceAdd (F := Ideal) (φ := .f32) (X3 V (Proc.devRef .tc main_v56) : S4x6x2048x16x2048.Idx → EReal) (X3 V (Proc.devRef .tc main_cst_6) : S_.Idx → EReal) reducesTo_S4x6x2048x16x2048_S4x6x2048x16_d4 h_S_ := by
  unfold X3
  after_reads_simp
  try rfl

theorem s_v60 :
    (X3 V (Proc.devRef .tc main_v60) : S4x6x2048x16x1.Idx → EReal)
      = addf (F := Ideal) (φ := .f32) (X3 V (Proc.devRef .tc main_v53) : S4x6x2048x16x1.Idx → EReal)
        (Host.log (F := Ideal) (φ := .f32) (broadcastInDim S4x6x2048x16x1 ![0, 1, 2, 3] bcast_S4x6x2048x16_S4x6x2048x16x1_0_1_2_3 (X3 V (Proc.devRef .tc main_v57) : S4x6x2048x16.Idx → EReal))) := by
  unfold X3
  after_reads_simp
  try rfl

theorem r_v56 (k : Fin 4) (b : Fin 6) (s : Fin 2048) (g : Fin 16) (n : Fin 2048) :
    E (s := S4x6x2048x16x2048) (X3 V (Proc.devRef .tc main_v56)) (ix5 k b s g n)
      = Ideal.exp (E (s := S4x6x2048x16x2048) (V (Proc.devRef .tc main_v51)) (ix5 k b s g n) -
              top5 fun x => E (s := S4x6x2048x16x2048) (V (Proc.devRef .tc main_v51)) (ix5 k b s g x)) := by
  unfold X3
  after_reads_simp
  pointwise
  try rfl

theorem r_cst_6 : E (s := S_) (X3 V (Proc.devRef .tc main_cst_6)) ix0 = 0 := by
  unfold X3
  after_reads_simp
  pointwise
  try rfl

theorem r_v60 (k : Fin 4) (b : Fin 6) (s : Fin 2048) (g : Fin 16) :
    (X3 V (Proc.devRef .tc main_v60) : S4x6x2048x16x1.Idx → EReal) (ix5 k b s g 0)
      = top5 (fun x => E (s := S4x6x2048x16x2048) (V (Proc.devRef .tc main_v51)) (ix5 k b s g x)) +
      Ideal.log
        (∑ y, Ideal.exp (E (s := S4x6x2048x16x2048) (V (Proc.devRef .tc main_v51)) (ix5 k b s g y) -
              top5 fun x => E (s := S4x6x2048x16x2048) (V (Proc.devRef .tc main_v51)) (ix5 k b s g x))) := by
  refine (congrFun (s_v60 V) _).trans ?_
  refine (lse_last _ _ k b s g).trans ?_
  rw [s_v57 V]
  refine (congrArg₂ (fun a b : EReal => a + b) (r_v53 V k b s g) (congrArg Ideal.log ((sum_last_C _ _ (r_cst_6 V) k b s g).trans (Finset.sum_congr rfl fun y _ => r_v56 V k b s g y)))).trans ?_
  rfl

theorem r_v31 :
    (X2 V (Proc.devRef .tc main_v31) : S4x6x2048x16.Idx → EReal)
      = shapeCast S4x6x2048x16 (X2 V (Proc.devRef .tc main_v30) : S4x6x2048x16x1.Idx → EReal) shapeCasts_S4x6x2048x16x1_S4x6x2048x16 := by
  unfold X2
  after_reads_simp
  try rfl

theorem r_v61 :
    (X3 V (Proc.devRef .tc main_v61) : S4x6x2048x16.Idx → EReal)
      = shapeCast S4x6x2048x16 (X3 V (Proc.devRef .tc main_v60) : S4x6x2048x16x1.Idx → EReal) shapeCasts_S4x6x2048x16x1_S4x6x2048x16 := by
  unfold X3
  after_reads_simp
  try rfl

theorem drop1 (T : S4x6x2048x16x1.Idx → EReal) (k : Fin 4) (b : Fin 6) (s : Fin 2048) (g : Fin 16) :
    shapeCast S4x6x2048x16 T shapeCasts_S4x6x2048x16x1_S4x6x2048x16 (ix4 k b s g) = T (ix5 k b s g 0) := by
  pointwise

theorem r_v91 (b : Fin 6) (s : Fin 2048) :
    (X3 V (Proc.devRef .tc main_v91) : S6x2048.Idx → BitVec 1) (ix2 b s)
      = IntOp.cmpi CmpIPredicate.slt (BitVec.ofNat 32 s.val) ((V (Proc.devRef .tc main_arg11) : S6.Idx → BitVec 32) (ix1 b)) := by
  unfold X3
  after_reads_simp
  pointwise
  try rfl

theorem r_v92 (b : Fin 6) (s : Fin 2048) :
    (X3 V (Proc.devRef .tc main_v92) : S6x2048x1x1x1.Idx → BitVec 1) (ix5 b s 0 0 0)
      = IntOp.cmpi CmpIPredicate.slt (BitVec.ofNat 32 s.val) ((V (Proc.devRef .tc main_arg11) : S6.Idx → BitVec 32) (ix1 b)) := by
  unfold X3
  after_reads_simp
  pointwise
  try rfl

theorem r_v85 (b : Fin 6) (s : Fin 2048) (k : Fin 4) (g : Fin 16) (d : Fin 128) :
    (X3 V (Proc.devRef .tc main_v85) : S6x2048x4x16x128.Idx → EReal) (ix5 b s k g d)
      = Ideal.div
        ((∑ x, Ideal.exp (E (s := S4x6x2048x16x14336) (V (Proc.devRef .tc main_v21)) (ix5 k b s g x) -
              max (E (s := S4x6x2048x16x1) (V (Proc.devRef .tc main_v23)) (ix5 k b s g 0)) (top5 fun x => E (s := S4x6x2048x16x2048) (V (Proc.devRef .tc main_v51)) (ix5 k b s g x)))
            * E (s := S4x1x1x1x14336) (V (Proc.devRef .tc main_v11)) (ix5 k 0 0 0 x) * E (s := S14336x4x128) (V (Proc.devRef .tc main_v0_2)) (ix3 x k d))
          + ∑ x, Ideal.exp (E (s := S4x6x2048x16x2048) (V (Proc.devRef .tc main_v51)) (ix5 k b s g x) -
              max (E (s := S4x6x2048x16x1) (V (Proc.devRef .tc main_v23)) (ix5 k b s g 0)) (top5 fun x => E (s := S4x6x2048x16x2048) (V (Proc.devRef .tc main_v51)) (ix5 k b s g x)))
            * E (s := S4x6x1x1x2048) (V (Proc.devRef .tc main_v37)) (ix5 k b 0 0 x) * E (s := S6x2048x4x128) (V (Proc.devRef .tc main_v0_4)) (ix4 b x k d))
        ((∑ x, Ideal.exp (E (s := S4x6x2048x16x14336) (V (Proc.devRef .tc main_v21)) (ix5 k b s g x) -
              max (E (s := S4x6x2048x16x1) (V (Proc.devRef .tc main_v23)) (ix5 k b s g 0)) (top5 fun x => E (s := S4x6x2048x16x2048) (V (Proc.devRef .tc main_v51)) (ix5 k b s g x))))
          + ∑ x, Ideal.exp (E (s := S4x6x2048x16x2048) (V (Proc.devRef .tc main_v51)) (ix5 k b s g x) -
              max (E (s := S4x6x2048x16x1) (V (Proc.devRef .tc main_v23)) (ix5 k b s g 0)) (top5 fun x => E (s := S4x6x2048x16x2048) (V (Proc.devRef .tc main_v51)) (ix5 k b s g x)))) := by
  unfold X3
  after_reads_simp
  pointwise
  try rfl

theorem r_v95 (b : Fin 6) (s : Fin 2048) (e : Fin 8192) :
    (X4 V (Proc.devRef .tc main_v95) : S6x2048x8192.Idx → EReal) (ix3 b s e)
      = Scalar.select ((V (Proc.devRef .tc main_v92) : S6x2048x1x1x1.Idx → BitVec 1) (ix5 b s 0 0 0))
        (E (s := S6x2048x4x16x128) (V (Proc.devRef .tc main_v85)) (ix5 b s ⟨e.val / 2048, by omega⟩ ⟨e.val / 128 % 16, by omega⟩ ⟨e.val % 128, by omega⟩))
        (E (s := S_) (V (Proc.devRef .tc main_cst_9)) ix0) := by
  unfold X4
  after_reads_simp
  simp only [StableHlo.TRef.toBuf, StableHlo.TRef.ofBuf, cast_eq, id]
  pointwise
  try rfl

theorem r_cst9 : E (s := S_) (X3 V (Proc.devRef .tc main_cst_9)) ix0 = 0 := by
  unfold X3
  after_reads_simp
  pointwise
  try rfl

theorem r_v109 (b : Fin 6) (s : Fin 2048) (h : Fin 64) :
    (X4 V (Proc.devRef .tc main_v109) : S6x2048x64.Idx → EReal) (ix3 b s h)
      = Scalar.select ((V (Proc.devRef .tc main_v91) : S6x2048.Idx → BitVec 1) (ix2 b s))
        (E (s := S4x6x2048x16) (V (Proc.devRef .tc main_v31)) (ix4 ⟨h.val / 16, by omega⟩ b s ⟨h.val % 16, by omega⟩)
          - Ideal.log (FloatOps.sitofp (F := Ideal) FTy.f32 ((V (Proc.devRef .tc main_arg10) : S1.Idx → BitVec 32) (ix1 0))))
        0 := by
  unfold X4
  after_reads_simp
  simp only [StableHlo.TRef.toBuf, StableHlo.TRef.ofBuf, cast_eq, id]
  pointwise
  try rfl

theorem r_v115 (b : Fin 6) (s : Fin 2048) (h : Fin 64) :
    (X4 V (Proc.devRef .tc main_v115) : S6x2048x64.Idx → EReal) (ix3 b s h)
      = Scalar.select ((V (Proc.devRef .tc main_v91) : S6x2048.Idx → BitVec 1) (ix2 b s))
        (E (s := S4x6x2048x16) (V (Proc.devRef .tc main_v61)) (ix4 ⟨h.val / 16, by omega⟩ b s ⟨h.val % 16, by omega⟩)
          - Ideal.log (1 + FloatOps.sitofp (F := Ideal) FTy.f32 (BitVec.ofNat 32 s.val)))
        0 := by
  unfold X4
  after_reads_simp
  simp only [StableHlo.TRef.toBuf, StableHlo.TRef.ofBuf, cast_eq, id]
  pointwise
  try rfl

end Cert.Proof.ReferenceIdeal
-- ==== Proof.RFin.lean ====
/-
  The reference's three results, over what its first region leaves.
-/
module

public import proofs.«01_k».proof.Proof.RVal
public import proofs.«01_k».proof.Proof.Sel

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Cert.Proof

variable (V : Valuation τ sig (Elt Ideal))

/-- The arguments, the quantized ones as the region hands them on. -/
def inpV : Inp where
  q b s h d := E (s := S6x2048x64x128) (V (Proc.devRef .tc main_v0_0)) (ix4 b s h d)
  qs b s h := E (s := S6x2048x64) (V (Proc.devRef .tc main_arg1)) (ix3 b s h)
  pk n k d := E (s := S14336x4x128) (V (Proc.devRef .tc main_v0_1)) (ix3 n k d)
  pv n k d := E (s := S14336x4x128) (V (Proc.devRef .tc main_v0_2)) (ix3 n k d)
  pks n k := E (s := S14336x4) (V (Proc.devRef .tc main_arg4)) (ix2 n k)
  pvs n k := E (s := S14336x4) (V (Proc.devRef .tc main_arg5)) (ix2 n k)
  k b n k d := E (s := S6x2048x4x128) (V (Proc.devRef .tc main_v0_3)) (ix4 b n k d)
  v b n k d := E (s := S6x2048x4x128) (V (Proc.devRef .tc main_v0_4)) (ix4 b n k d)
  ks b n k := E (s := S6x2048x4) (V (Proc.devRef .tc main_arg8)) (ix3 b n k)
  vs b n k := E (s := S6x2048x4) (V (Proc.devRef .tc main_arg9)) (ix3 b n k)
  plen := (V (Proc.devRef .tc main_arg10) : S1.Idx → BitVec 32) (ix1 0)
  lens b := (V (Proc.devRef .tc main_arg11) : S6.Idx → BitVec 32) (ix1 b)

theorem p1_v0_2 : X1 V (Proc.devRef .tc main_v0_2) = V (Proc.devRef .tc main_v0_2) := by
  unfold X1
  after_reads_simp

theorem p1_v0_3 : X1 V (Proc.devRef .tc main_v0_3) = V (Proc.devRef .tc main_v0_3) := by
  unfold X1
  after_reads_simp

theorem p1_v0_4 : X1 V (Proc.devRef .tc main_v0_4) = V (Proc.devRef .tc main_v0_4) := by
  unfold X1
  after_reads_simp

theorem p1_arg8 : X1 V (Proc.devRef .tc main_arg8) = V (Proc.devRef .tc main_arg8) := by
  unfold X1
  after_reads_simp

theorem p1_arg9 : X1 V (Proc.devRef .tc main_arg9) = V (Proc.devRef .tc main_arg9) := by
  unfold X1
  after_reads_simp

theorem p1_arg10 : X1 V (Proc.devRef .tc main_arg10) = V (Proc.devRef .tc main_arg10) := by
  unfold X1
  after_reads_simp

theorem p1_arg11 : X1 V (Proc.devRef .tc main_arg11) = V (Proc.devRef .tc main_arg11) := by
  unfold X1
  after_reads_simp

theorem p2_v21 : X2 V (Proc.devRef .tc main_v21) = V (Proc.devRef .tc main_v21) := by
  unfold X2
  after_reads_simp

theorem p2_v11 : X2 V (Proc.devRef .tc main_v11) = V (Proc.devRef .tc main_v11) := by
  unfold X2
  after_reads_simp

theorem p2_v0_2 : X2 V (Proc.devRef .tc main_v0_2) = V (Proc.devRef .tc main_v0_2) := by
  unfold X2
  after_reads_simp

theorem p2_v0_4 : X2 V (Proc.devRef .tc main_v0_4) = V (Proc.devRef .tc main_v0_4) := by
  unfold X2
  after_reads_simp

theorem p2_arg10 : X2 V (Proc.devRef .tc main_arg10) = V (Proc.devRef .tc main_arg10) := by
  unfold X2
  after_reads_simp

theorem p2_arg11 : X2 V (Proc.devRef .tc main_arg11) = V (Proc.devRef .tc main_arg11) := by
  unfold X2
  after_reads_simp

theorem p3_v31 : X3 V (Proc.devRef .tc main_v31) = V (Proc.devRef .tc main_v31) := by
  unfold X3
  after_reads_simp

theorem p3_arg10 : X3 V (Proc.devRef .tc main_arg10) = V (Proc.devRef .tc main_arg10) := by
  unfold X3
  after_reads_simp

/-- A query head from its group. -/
def hd (k : Fin 4) (g : Fin 16) : Fin 64 := ⟨k.val * 16 + g.val, by omega⟩

theorem hk_hd (k : Fin 4) (g : Fin 16) : hk (hd k g) = k := by
  apply Fin.ext
  show (k.val * 16 + g.val) / 16 = k.val
  omega

theorem s_eq (k : Fin 4) (b : Fin 6) (s : Fin 2048) (g : Fin 16) (n : Fin 14336) :
    E (s := S4x6x2048x16x14336) (X1 V (Proc.devRef .tc main_v21)) (ix5 k b s g n) = sP (inpV V) b s (hd k g) n.val := by
  refine (r_v21 V k b s g n).trans ?_
  rw [select_slt, toInt_small n.val (by omega), show ninf = ⊥ from ninf_eq]
  unfold sP
  rw [dif_pos n.isLt, hk_hd]
  rfl

theorem t_eq (k : Fin 4) (b : Fin 6) (s : Fin 2048) (g : Fin 16) (n : Fin 2048) :
    E (s := S4x6x2048x16x2048) (X2 (X1 V) (Proc.devRef .tc main_v51)) (ix5 k b s g n) = sC (inpV V) b s (hd k g) n.val := by
  refine (r_v51 (X1 V) k b s g n).trans ?_
  rw [select_sle, toInt_small n.val (by omega), toInt_small s.val (by omega), show ninf = ⊥ from ninf_eq, p1_v0_3, p1_arg8]
  unfold sC
  rw [dif_pos n.isLt, hk_hd]
  refine if_congr (by exact_mod_cast Iff.rfl) ?_ rfl
  refine congrArg₂ (fun a b : EReal => a * b) (Finset.sum_congr rfl fun x _ => ?_) ?_
  · exact congrArg (fun a : EReal => a * _) (r_v2 V k b s g x)
  · exact congrArg (fun a : EReal => a * _) (r_v5 V k b s g)

theorem quot_of (s t v u : ℕ → EReal) (A P P' : Fin 14336 → EReal) (B Q Q' : Fin 2048 → EReal) (M : EReal)
    (hA : ∀ x, A x = s x.val) (hB : ∀ x, B x = t x.val) (hP : ∀ x, P' x * P x = v x.val) (hQ : ∀ x, Q' x * Q x = u x.val)
    (hM : M = (Finset.range 14336).sup s) :
    Ideal.div ((∑ x, Ideal.exp (A x - max M (top5 fun x => B x)) * P x * P' x) + ∑ x, Ideal.exp (B x - max M (top5 fun x => B x)) * Q x * Q' x)
        ((∑ x, Ideal.exp (A x - max M (top5 fun x => B x))) + ∑ x, Ideal.exp (B x - max M (top5 fun x => B x)))
      = quot s t v u := by
  have hB' : (top5 fun x => B x) = (Finset.range 2048).sup t := fold_max 2048 t _ hB
  rw [hB', hM]
  unfold quot
  refine congrArg₂ Ideal.div (congrArg₂ (fun a b : EReal => a + b) (sum_fin 14336 _ _ fun x => ?_) (sum_fin 2048 _ _ fun x => ?_))
    (congrArg₂ (fun a b : EReal => a + b) (sum_fin 14336 _ _ fun x => ?_) (sum_fin 2048 _ _ fun x => ?_))
  · rw [hA, ← hP, mul_assoc, mul_comm (P x), mul_comm]
  · rw [hB, ← hQ, mul_assoc, mul_comm (Q x), mul_comm]
  · rw [hA]
  · rw [hB]

theorem lse_of (n : ℕ) (s : ℕ → EReal) (A : Fin n → EReal) (hA : ∀ x, A x = s x.val) :
    top5 (fun x => A x) + Ideal.log (∑ y, Ideal.exp (A y - top5 fun x => A x)) = lse s n := by
  have h : (top5 fun x => A x) = (Finset.range n).sup s := fold_max n s _ hA
  rw [h]
  unfold lse
  refine congrArg (fun a : EReal => _ + Ideal.log a) (sum_fin n _ _ fun x => ?_)
  rw [hA]

theorem q_eq (b : Fin 6) (s : Fin 2048) (k : Fin 4) (g : Fin 16) (d : Fin 128) :
    E (s := S6x2048x4x16x128) (X3 (X2 (X1 V)) (Proc.devRef .tc main_v85)) (ix5 b s k g d)
      = quot (sP (inpV V) b s (hd k g)) (sC (inpV V) b s (hd k g)) (vP (inpV V) (hd k g) d) (vC (inpV V) b (hd k g) d) := by
  refine (r_v85 (X2 (X1 V)) b s k g d).trans ?_
  refine quot_of _ _ _ _ (fun x => E (s := S4x6x2048x16x14336) (X2 (X1 V) (Proc.devRef .tc main_v21)) (ix5 k b s g x))
    (fun x => E (s := S4x1x1x1x14336) (X2 (X1 V) (Proc.devRef .tc main_v11)) (ix5 k 0 0 0 x))
    (fun x => E (s := S14336x4x128) (X2 (X1 V) (Proc.devRef .tc main_v0_2)) (ix3 x k d))
    (fun x => E (s := S4x6x2048x16x2048) (X2 (X1 V) (Proc.devRef .tc main_v51)) (ix5 k b s g x))
    (fun x => E (s := S4x6x1x1x2048) (X2 (X1 V) (Proc.devRef .tc main_v37)) (ix5 k b 0 0 x))
    (fun x => E (s := S6x2048x4x128) (X2 (X1 V) (Proc.devRef .tc main_v0_4)) (ix4 b x k d))
    (E (s := S4x6x2048x16x1) (X2 (X1 V) (Proc.devRef .tc main_v23)) (ix5 k b s g 0)) (fun x => ?_) (fun x => t_eq V k b s g x) (fun x => ?_) (fun x => ?_) ?_
  · rw [p2_v21]
    exact s_eq V k b s g x
  · rw [p2_v0_2, p1_v0_2, p2_v11]
    unfold vP
    rw [dif_pos x.isLt, hk_hd]
    exact congrArg (fun a : EReal => _ * a) (r_v11 V k x)
  · rw [p2_v0_4, p1_v0_4]
    unfold vC
    rw [dif_pos x.isLt, hk_hd]
    refine congrArg (fun a : EReal => _ * a) ((r_v37 (X1 V) k b x).trans ?_)
    rw [p1_arg9]
    rfl
  · exact (r_v23 (X1 V) k b s g).trans (fold_max 14336 _ _ fun x => s_eq V k b s g x)

theorem l31 (k : Fin 4) (b : Fin 6) (s : Fin 2048) (g : Fin 16) :
    E (s := S4x6x2048x16) (X3 (X2 (X1 V)) (Proc.devRef .tc main_v31)) (ix4 k b s g) = lse (sP (inpV V) b s (hd k g)) 14336 := by
  rw [p3_v31]
  refine (congrFun (r_v31 (X1 V)) _).trans ((drop1 _ k b s g).trans ((r_v30 (X1 V) k b s g).trans ?_))
  exact lse_of 14336 _ (fun x => E (s := S4x6x2048x16x14336) (X1 V (Proc.devRef .tc main_v21)) (ix5 k b s g x)) fun x => s_eq V k b s g x

theorem l61 (k : Fin 4) (b : Fin 6) (s : Fin 2048) (g : Fin 16) :
    E (s := S4x6x2048x16) (X3 (X2 (X1 V)) (Proc.devRef .tc main_v61)) (ix4 k b s g) = lse (sC (inpV V) b s (hd k g)) 2048 := by
  refine (congrFun (r_v61 (X2 (X1 V))) _).trans ((drop1 _ k b s g).trans ((r_v60 (X2 (X1 V)) k b s g).trans ?_))
  exact lse_of 2048 _ (fun x => E (s := S4x6x2048x16x2048) (X2 (X1 V) (Proc.devRef .tc main_v51)) (ix5 k b s g x)) fun x => t_eq V k b s g x

theorem res0 (b : Fin 6) (s : Fin 2048) (e : Fin 8192) :
    E (s := S6x2048x8192) (X4 (X3 (X2 (X1 V))) (Proc.devRef .tc main_v95)) (ix3 b s e)
      = gO (inpV V) b s ⟨e.val / 128, by omega⟩ ⟨e.val % 128, by omega⟩ := by
  refine (r_v95 (X3 (X2 (X1 V))) b s e).trans ?_
  rw [r_v92, p2_arg11, p1_arg11, select_slt, toInt_small s.val (by omega), r_cst9]
  unfold gO
  refine if_congr Iff.rfl ?_ rfl
  refine (q_eq V b s _ _ _).trans ?_
  rw [show hd ⟨e.val / 2048, by omega⟩ ⟨e.val / 128 % 16, by omega⟩ = (⟨e.val / 128, by omega⟩ : Fin 64) from Fin.ext (by
    show e.val / 2048 * 16 + e.val / 128 % 16 = e.val / 128
    omega)]

theorem hd_split (h : Fin 64) : hd ⟨h.val / 16, by omega⟩ ⟨h.val % 16, by omega⟩ = h := by
  apply Fin.ext
  show h.val / 16 * 16 + h.val % 16 = h.val
  omega

theorem res1 (b : Fin 6) (s : Fin 2048) (h : Fin 64) :
    E (s := S6x2048x64) (X4 (X3 (X2 (X1 V))) (Proc.devRef .tc main_v109)) (ix3 b s h) = rP (inpV V) b s h := by
  refine (r_v109 (X3 (X2 (X1 V))) b s h).trans ?_
  rw [r_v91, p2_arg11, p1_arg11, select_slt, toInt_small s.val (by omega), p3_arg10, p2_arg10, p1_arg10, l31, hd_split]
  rfl

theorem res2 (b : Fin 6) (s : Fin 2048) (h : Fin 64) :
    E (s := S6x2048x64) (X4 (X3 (X2 (X1 V))) (Proc.devRef .tc main_v115)) (ix3 b s h) = rC (inpV V) b s h := by
  refine (r_v115 (X3 (X2 (X1 V))) b s h).trans ?_
  rw [r_v91, p2_arg11, p1_arg11, select_slt, toInt_small s.val (by omega), l61, hd_split]
  rfl

end Cert.Proof.ReferenceIdeal
-- ==== Proof.RArr.lean ====
/-
  The reference's first region hands on the quantized arguments unchanged at `Ideal`.
-/
module

public import proofs.«01_k».proof.Proof.RVal
public import proofs.«01_k».proof.Proof.Spec
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Cert.Proof

variable (m : (ℓ : Loc nD τ sig) → Buf (Elt Ideal) ℓ) (c : Dev nD)

theorem idx0 : ∀ t, win0_0.index t = ![0, 0, 0, 0] :=
  (by decide +kernel : ∀ t : Fin grid0.N, _)

theorem iblk0 : iblk m c 0 t0_0 = m ((c : Thread nD τ).loc main_arg0) := by
  blk_ext! [iblk, V, idx0 t0_0]

theorem final5 : ((dats m 0 c).arrAt 5 cfg0.N : S6x2048x64x128.Idx → EReal) = m ((c : Thread nD τ).loc main_arg0) := by
  refine (dats m 0 c).arrAt_eq_of_after_last 5 t0_0 (by decide +kernel) _ fun j => ?_
  blk_simp
  rw [after0_5]
  unfold out0_5
  frame_out
  rw [iblk0]
  rfl

theorem idx1 : ∀ t, win0_1.index t = ![0, 0, 0] :=
  (by decide +kernel : ∀ t : Fin grid0.N, _)

theorem iblk1 : iblk m c 1 t0_0 = m ((c : Thread nD τ).loc main_arg2) := by
  blk_ext! [iblk, V, idx1 t0_0]

theorem final6 : ((dats m 0 c).arrAt 6 cfg0.N : S14336x4x128.Idx → EReal) = m ((c : Thread nD τ).loc main_arg2) := by
  refine (dats m 0 c).arrAt_eq_of_after_last 6 t0_0 (by decide +kernel) _ fun j => ?_
  blk_simp
  rw [after0_6]
  unfold out0_6
  frame_out
  rw [iblk1]
  rfl

theorem idx2 : ∀ t, win0_2.index t = ![0, 0, 0] :=
  (by decide +kernel : ∀ t : Fin grid0.N, _)

theorem iblk2 : iblk m c 2 t0_0 = m ((c : Thread nD τ).loc main_arg3) := by
  blk_ext! [iblk, V, idx2 t0_0]

theorem final7 : ((dats m 0 c).arrAt 7 cfg0.N : S14336x4x128.Idx → EReal) = m ((c : Thread nD τ).loc main_arg3) := by
  refine (dats m 0 c).arrAt_eq_of_after_last 7 t0_0 (by decide +kernel) _ fun j => ?_
  blk_simp
  rw [after0_7]
  unfold out0_7
  frame_out
  rw [iblk2]
  rfl

theorem idx3 : ∀ t, win0_3.index t = ![0, 0, 0, 0] :=
  (by decide +kernel : ∀ t : Fin grid0.N, _)

theorem iblk3 : iblk m c 3 t0_0 = m ((c : Thread nD τ).loc main_arg6) := by
  blk_ext! [iblk, V, idx3 t0_0]

theorem final8 : ((dats m 0 c).arrAt 8 cfg0.N : S6x2048x4x128.Idx → EReal) = m ((c : Thread nD τ).loc main_arg6) := by
  refine (dats m 0 c).arrAt_eq_of_after_last 8 t0_0 (by decide +kernel) _ fun j => ?_
  blk_simp
  rw [after0_8]
  unfold out0_8
  frame_out
  rw [iblk3]
  rfl

theorem idx4 : ∀ t, win0_4.index t = ![0, 0, 0, 0] :=
  (by decide +kernel : ∀ t : Fin grid0.N, _)

theorem iblk4 : iblk m c 4 t0_0 = m ((c : Thread nD τ).loc main_arg7) := by
  blk_ext! [iblk, V, idx4 t0_0]

theorem final9 : ((dats m 0 c).arrAt 9 cfg0.N : S6x2048x4x128.Idx → EReal) = m ((c : Thread nD τ).loc main_arg7) := by
  refine (dats m 0 c).arrAt_eq_of_after_last 9 t0_0 (by decide +kernel) _ fun j => ?_
  blk_simp
  rw [after0_9]
  unfold out0_9
  frame_out
  rw [iblk4]
  rfl

end Cert.Proof.ReferenceIdeal
-- ==== Proof.RRun.lean ====
/-
  The reference's run: its three results and its arguments at the end.
-/
module

public import proofs.«01_k».proof.Proof.RFin
public import proofs.«01_k».proof.Proof.RArr

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic Idealize.SL.Sem
open Cert.Proof

variable (m : (ℓ : Loc nD τ sig) → Buf (Elt Ideal) ℓ) (ρ : Dev nD → PrngReg) (c : Dev nD)

/-- The buffers after the region. -/
def VR : Valuation τ sig (Elt Ideal) :=
  Pipeline.withArrays spec0 c (V0 m c) fun w => (dats m 0 c).arrAt w cfg0.N

/-- The buffers at the end. -/
def VE : Valuation τ sig (Elt Ideal) := X4 (X3 (X2 (X1 (VR m c))))

theorem arr_inj : Function.Injective (Pipeline.arrRef spec0) := winFacts0.arr_inj

theorem vr_v0_0 : (VR m c (Proc.devRef .tc main_v0_0) : S6x2048x64x128.Idx → EReal) = m ((c : Thread nD τ).loc main_arg0) :=
  (Pipeline.withArrays_arr spec0 arr_inj c (V0 m c) (fun w => (dats m 0 c).arrAt w cfg0.N) 5).trans (final5 m c)

theorem vr_v0_1 : (VR m c (Proc.devRef .tc main_v0_1) : S14336x4x128.Idx → EReal) = m ((c : Thread nD τ).loc main_arg2) :=
  (Pipeline.withArrays_arr spec0 arr_inj c (V0 m c) (fun w => (dats m 0 c).arrAt w cfg0.N) 6).trans (final6 m c)

theorem vr_v0_2 : (VR m c (Proc.devRef .tc main_v0_2) : S14336x4x128.Idx → EReal) = m ((c : Thread nD τ).loc main_arg3) :=
  (Pipeline.withArrays_arr spec0 arr_inj c (V0 m c) (fun w => (dats m 0 c).arrAt w cfg0.N) 7).trans (final7 m c)

theorem vr_v0_3 : (VR m c (Proc.devRef .tc main_v0_3) : S6x2048x4x128.Idx → EReal) = m ((c : Thread nD τ).loc main_arg6) :=
  (Pipeline.withArrays_arr spec0 arr_inj c (V0 m c) (fun w => (dats m 0 c).arrAt w cfg0.N) 8).trans (final8 m c)

theorem vr_v0_4 : (VR m c (Proc.devRef .tc main_v0_4) : S6x2048x4x128.Idx → EReal) = m ((c : Thread nD τ).loc main_arg7) :=
  (Pipeline.withArrays_arr spec0 arr_inj c (V0 m c) (fun w => (dats m 0 c).arrAt w cfg0.N) 9).trans (final9 m c)

theorem vr_arg1 : VR m c (Proc.devRef .tc main_arg1) = m ((c : Thread nD τ).loc main_arg1) :=
  Pipeline.withArrays_of_ne spec0 c (V0 m c) (fun w => (dats m 0 c).arrAt w cfg0.N) main_arg1 (by decide)

theorem vr_arg4 : VR m c (Proc.devRef .tc main_arg4) = m ((c : Thread nD τ).loc main_arg4) :=
  Pipeline.withArrays_of_ne spec0 c (V0 m c) (fun w => (dats m 0 c).arrAt w cfg0.N) main_arg4 (by decide)

theorem vr_arg5 : VR m c (Proc.devRef .tc main_arg5) = m ((c : Thread nD τ).loc main_arg5) :=
  Pipeline.withArrays_of_ne spec0 c (V0 m c) (fun w => (dats m 0 c).arrAt w cfg0.N) main_arg5 (by decide)

theorem vr_arg8 : VR m c (Proc.devRef .tc main_arg8) = m ((c : Thread nD τ).loc main_arg8) :=
  Pipeline.withArrays_of_ne spec0 c (V0 m c) (fun w => (dats m 0 c).arrAt w cfg0.N) main_arg8 (by decide)

theorem vr_arg9 : VR m c (Proc.devRef .tc main_arg9) = m ((c : Thread nD τ).loc main_arg9) :=
  Pipeline.withArrays_of_ne spec0 c (V0 m c) (fun w => (dats m 0 c).arrAt w cfg0.N) main_arg9 (by decide)

theorem vr_arg10 : VR m c (Proc.devRef .tc main_arg10) = m ((c : Thread nD τ).loc main_arg10) :=
  Pipeline.withArrays_of_ne spec0 c (V0 m c) (fun w => (dats m 0 c).arrAt w cfg0.N) main_arg10 (by decide)

theorem vr_arg11 : VR m c (Proc.devRef .tc main_arg11) = m ((c : Thread nD τ).loc main_arg11) :=
  Pipeline.withArrays_of_ne spec0 c (V0 m c) (fun w => (dats m 0 c).arrAt w cfg0.N) main_arg11 (by decide)

/-- The arguments. -/
def inpR : Inp where
  q b s h d := E (s := S6x2048x64x128) (m ((c : Thread nD τ).loc main_arg0)) (ix4 b s h d)
  qs b s h := E (s := S6x2048x64) (m ((c : Thread nD τ).loc main_arg1)) (ix3 b s h)
  pk n k d := E (s := S14336x4x128) (m ((c : Thread nD τ).loc main_arg2)) (ix3 n k d)
  pv n k d := E (s := S14336x4x128) (m ((c : Thread nD τ).loc main_arg3)) (ix3 n k d)
  pks n k := E (s := S14336x4) (m ((c : Thread nD τ).loc main_arg4)) (ix2 n k)
  pvs n k := E (s := S14336x4) (m ((c : Thread nD τ).loc main_arg5)) (ix2 n k)
  k b n k d := E (s := S6x2048x4x128) (m ((c : Thread nD τ).loc main_arg6)) (ix4 b n k d)
  v b n k d := E (s := S6x2048x4x128) (m ((c : Thread nD τ).loc main_arg7)) (ix4 b n k d)
  ks b n k := E (s := S6x2048x4) (m ((c : Thread nD τ).loc main_arg8)) (ix3 b n k)
  vs b n k := E (s := S6x2048x4) (m ((c : Thread nD τ).loc main_arg9)) (ix3 b n k)
  plen := (m ((c : Thread nD τ).loc main_arg10) : S1.Idx → BitVec 32) (ix1 0)
  lens b := (m ((c : Thread nD τ).loc main_arg11) : S6.Idx → BitVec 32) (ix1 b)

theorem inp_ext {I J : Inp} (h0 : I.q = J.q) (h1 : I.qs = J.qs) (h2 : I.pk = J.pk) (h3 : I.pv = J.pv) (h4 : I.pks = J.pks) (h5 : I.pvs = J.pvs)
    (h6 : I.k = J.k) (h7 : I.v = J.v) (h8 : I.ks = J.ks) (h9 : I.vs = J.vs) (h10 : I.plen = J.plen) (h11 : I.lens = J.lens) : I = J := by
  cases I
  cases J
  simp only at h0 h1 h2 h3 h4 h5 h6 h7 h8 h9 h10 h11
  subst_vars
  rfl

theorem inpV_eq : inpV (VR m c) = inpR m c :=
  inp_ext
    (funext fun b => funext fun s => funext fun h => funext fun d => congrFun (vr_v0_0 m c) _)
    (funext fun b => funext fun s => funext fun h => congrFun (vr_arg1 m c) _)
    (funext fun n => funext fun k => funext fun d => congrFun (vr_v0_1 m c) _)
    (funext fun n => funext fun k => funext fun d => congrFun (vr_v0_2 m c) _)
    (funext fun n => funext fun k => congrFun (vr_arg4 m c) _)
    (funext fun n => funext fun k => congrFun (vr_arg5 m c) _)
    (funext fun b => funext fun n => funext fun k => funext fun d => congrFun (vr_v0_3 m c) _)
    (funext fun b => funext fun n => funext fun k => funext fun d => congrFun (vr_v0_4 m c) _)
    (funext fun b => funext fun n => funext fun k => congrFun (vr_arg8 m c) _)
    (funext fun b => funext fun n => funext fun k => congrFun (vr_arg9 m c) _)
    (congrFun (vr_arg10 m c) _) (funext fun b => congrFun (vr_arg11 m c) _)

theorem tail_eq (b : Ref sig .tc) :
    Pipeline.afterTail₀ cfgs (dats m) 0 (V0 m) [hostOps1, hostOps1_1, hostOps1_2, hostOps1_3, hostOps1_4, hostOps1_5, hostOps1_6, hostOps1_7, hostOps1_8, hostOps1_9] c b
      = VE m c (Proc.devRef .tc b) := by
  unfold Pipeline.afterTail₀
  rw [List.flatten_cons, List.flatten_cons, List.flatten_cons, List.flatten_cons, List.flatten_cons, List.flatten_cons, List.flatten_cons, List.flatten_cons, List.flatten_cons, List.flatten_cons,
    List.flatten_nil, List.append_nil, StableHlo.after_append, StableHlo.after_append, StableHlo.after_append, StableHlo.after_append, StableHlo.after_append, StableHlo.after_append,
    StableHlo.after_append, StableHlo.after_append, StableHlo.after_append]
  rfl

theorem run : θ_run (defs (F := Ideal)) (onTc (τ := τ) (main (F := Ideal))) ⟨m, fun _ => 0, ρ⟩ (fun r => ∀ c : Dev nD,
    r.2.mem ((c.tc : Thread nD τ).loc main_v95) = VE m c (Proc.devRef .tc main_v95)
    ∧ r.2.mem ((c.tc : Thread nD τ).loc main_v109) = VE m c (Proc.devRef .tc main_v109)
    ∧ r.2.mem ((c.tc : Thread nD τ).loc main_v115) = VE m c (Proc.devRef .tc main_v115)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) :=
  (θ_run defs _ _).mono (fun _ h c => ⟨
      (((h c).2 main_v95 (Pipeline.mem_restRefs_of main_v95 (by decide) (by decide))).trans (tail_eq m c main_v95)),
      (((h c).2 main_v109 (Pipeline.mem_restRefs_of main_v109 (by decide) (by decide))).trans (tail_eq m c main_v109)),
      (((h c).2 main_v115 (Pipeline.mem_restRefs_of main_v115 (by decide) (by decide))).trans (tail_eq m c main_v115)),
      ((h c).1 0).trans (((dats m 0 c).arrAt_in 0 rfl _).trans (V_main_arg0 m c)),
      (((h c).2 main_arg1 (Pipeline.mem_restRefs_of main_arg1 (by decide) (by decide))).trans (W_main_arg1 m (dats m) c)),
      ((h c).1 1).trans (((dats m 0 c).arrAt_in 1 rfl _).trans (V_main_arg2 m c)),
      ((h c).1 2).trans (((dats m 0 c).arrAt_in 2 rfl _).trans (V_main_arg3 m c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 3).trans (((dats m 0 c).arrAt_in 3 rfl _).trans (V_main_arg6 m c)),
      ((h c).1 4).trans (((dats m 0 c).arrAt_in 4 rfl _).trans (V_main_arg7 m c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.Proof.ReferenceIdeal
-- ==== Proof.Alg.lean ====
/-
  At `Ideal` the kernel and the reference end with equal results.
-/
module

public import proofs.«01_k».proof.Proof.Frames
public import proofs.«01_k».proof.Proof.KFinal
public import proofs.«01_k».proof.Proof.RRun

@[expose] public section

set_option maxRecDepth 16384

noncomputable section

namespace Cert.Proof

open Idealize.ShloMosaic Idealize.ShloMosaic.TcCoe Idealize.ShloMosaic.Tactic Idealize.SL.Sem

theorem algebraic : Cert.algebraic_KernelIdeal_ReferenceIdeal := by
  intro m ρ m' ρ' hpre hagree
  have hle := fits_KernelIdeal hpre
  have hin : ∀ c : Dev Cert.KernelIdeal.nD, ReferenceIdeal.inpV (ReferenceIdeal.VR m' c) = KernelIdeal.inp m c := fun c => by
    obtain ⟨h0, h1, h2, h3, h4, h5, h6, h7, h8, h9, h10, h11⟩ := hagree c
    refine (ReferenceIdeal.inpV_eq m' c).trans ?_
    exact ReferenceIdeal.inp_ext
      (funext fun b => funext fun s => funext fun h => funext fun d => congrFun h0 _)
      (funext fun b => funext fun s => funext fun h => congrFun h1 _)
      (funext fun n => funext fun k => funext fun d => congrFun h2 _)
      (funext fun n => funext fun k => funext fun d => congrFun h3 _)
      (funext fun n => funext fun k => congrFun h4 _)
      (funext fun n => funext fun k => congrFun h5 _)
      (funext fun b => funext fun n => funext fun k => funext fun d => congrFun h6 _)
      (funext fun b => funext fun n => funext fun k => funext fun d => congrFun h7 _)
      (funext fun b => funext fun n => funext fun k => congrFun h8 _)
      (funext fun b => funext fun n => funext fun k => congrFun h9 _)
      (congrFun h10 _) (funext fun b => congrFun h11 _)
  refine ⟨fun c => KernelIdeal.W3 m hle c (Proc.devRef .tc Cert.KernelIdeal.main_v18_0), fun c => KernelIdeal.W3 m hle c (Proc.devRef .tc Cert.KernelIdeal.main_v39),
    fun c => KernelIdeal.W3 m hle c (Proc.devRef .tc Cert.KernelIdeal.main_v45), ?_, ?_⟩
  · refine (θ_run Cert.KernelIdeal.defs _ _).mono (fun _ h c => ⟨?_, ?_, ?_, ?_, ?_, ?_, ?_, ?_, ?_, ?_, ?_, ?_, ?_, ?_, ?_⟩) (KernelIdeal.run_main m ρ hle)
    · exact h.1 c _ (Pipeline.devRef_mem_ucRefs (by decide))
    · exact h.1 c _ (Pipeline.devRef_mem_ucRefs (by decide))
    · exact h.1 c _ (Pipeline.devRef_mem_ucRefs (by decide))
    · exact (h.1 c _ (KernelIdeal.arg_uc Cert.KernelIdeal.main_arg0 (by decide))).trans (KernelIdeal.W3_arg m hle c Cert.KernelIdeal.main_arg0 (by decide))
    · exact (h.1 c _ (KernelIdeal.arg_uc Cert.KernelIdeal.main_arg1 (by decide))).trans (KernelIdeal.W3_arg m hle c Cert.KernelIdeal.main_arg1 (by decide))
    · exact (h.1 c _ (KernelIdeal.arg_uc Cert.KernelIdeal.main_arg2 (by decide))).trans (KernelIdeal.W3_arg m hle c Cert.KernelIdeal.main_arg2 (by decide))
    · exact (h.1 c _ (KernelIdeal.arg_uc Cert.KernelIdeal.main_arg3 (by decide))).trans (KernelIdeal.W3_arg m hle c Cert.KernelIdeal.main_arg3 (by decide))
    · exact (h.1 c _ (KernelIdeal.arg_uc Cert.KernelIdeal.main_arg4 (by decide))).trans (KernelIdeal.W3_arg m hle c Cert.KernelIdeal.main_arg4 (by decide))
    · exact (h.1 c _ (KernelIdeal.arg_uc Cert.KernelIdeal.main_arg5 (by decide))).trans (KernelIdeal.W3_arg m hle c Cert.KernelIdeal.main_arg5 (by decide))
    · exact (h.1 c _ (KernelIdeal.arg_uc Cert.KernelIdeal.main_arg6 (by decide))).trans (KernelIdeal.W3_arg m hle c Cert.KernelIdeal.main_arg6 (by decide))
    · exact (h.1 c _ (KernelIdeal.arg_uc Cert.KernelIdeal.main_arg7 (by decide))).trans (KernelIdeal.W3_arg m hle c Cert.KernelIdeal.main_arg7 (by decide))
    · exact (h.1 c _ (KernelIdeal.arg_uc Cert.KernelIdeal.main_arg8 (by decide))).trans (KernelIdeal.W3_arg m hle c Cert.KernelIdeal.main_arg8 (by decide))
    · exact (h.1 c _ (KernelIdeal.arg_uc Cert.KernelIdeal.main_arg9 (by decide))).trans (KernelIdeal.W3_arg m hle c Cert.KernelIdeal.main_arg9 (by decide))
    · exact (h.1 c _ (KernelIdeal.arg_uc Cert.KernelIdeal.main_arg10 (by decide))).trans (KernelIdeal.W3_arg m hle c Cert.KernelIdeal.main_arg10 (by decide))
    · exact (h.1 c _ (KernelIdeal.arg_uc Cert.KernelIdeal.main_arg11 (by decide))).trans (KernelIdeal.W3_arg m hle c Cert.KernelIdeal.main_arg11 (by decide))
  · refine (θ_run Cert.ReferenceIdeal.defs _ _).mono (fun _ h c => ?_) (ReferenceIdeal.run m' ρ')
    obtain ⟨r0, r1, r2, hargs⟩ := h c
    refine ⟨r0.trans (funext fun y => ?_), r1.trans (funext fun y => ?_), r2.trans (funext fun y => ?_), hargs⟩
    · have k := KernelIdeal.res0 m hle c (y 0) (y 1) (y 2)
      have r := ReferenceIdeal.res0 (ReferenceIdeal.VR m' c) (y 0) (y 1) (y 2)
      rw [hin c] at r
      have hy : y = (ix3 (y 0) (y 1) (y 2) : Cert.KernelIdeal.S6x2048x8192.Idx) := by
        funext a
        fin_cases a <;> rfl
      rw [hy]
      exact r.trans k.symm
    · have k := KernelIdeal.res1 m hle c (y 0) (y 1) (y 2)
      have r := ReferenceIdeal.res1 (ReferenceIdeal.VR m' c) (y 0) (y 1) (y 2)
      rw [hin c] at r
      have hy : y = (ix3 (y 0) (y 1) (y 2) : Cert.KernelIdeal.S6x2048x64.Idx) := by
        funext a
        fin_cases a <;> rfl
      rw [hy]
      exact r.trans k.symm
    · have k := KernelIdeal.res2 m hle c (y 0) (y 1) (y 2)
      have r := ReferenceIdeal.res2 (ReferenceIdeal.VR m' c) (y 0) (y 1) (y 2)
      rw [hin c] at r
      have hy : y = (ix3 (y 0) (y 1) (y 2) : Cert.KernelIdeal.S6x2048x64.Idx) := by
        funext a
        fin_cases a <;> rfl
      rw [hy]
      exact r.trans k.symm

end Cert.Proof
-- ==== Proof.lean ====
module

public import proofs.«01_k».proof.Defs
public import proofs.«01_k».proof.Proof.Frames
public import proofs.«01_k».proof.Proof.Alg

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_prompt_fits.Gen.facts,
  frame_p, frame_pi, frame_ri, fun m ρ _ => Cert.ReferenceIdeal.Gen.frame m ρ, preserves, algebraic⟩

end Cert.Proof

end
